-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_fwd [hPre_finite_fwd : Cert.Pre_finite_fwd.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_fwd.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_fwd [hPre_finite_fwd : Cert.Pre_finite_fwd.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_fwd.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_fwd [hKernel3Ideal : Cert.Kernel3Ideal.Facts] [hPre_finite_fwd : Cert.Pre_finite_fwd.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_fwd m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_fwd [hReference3Ideal : Cert.Reference3Ideal.Facts] [hPre_finite_fwd : Cert.Pre_finite_fwd.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_fwd m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v73_1)) (v2 : (c : Dev Cert.KernelIdeal.nD) → Buf (Elt Ideal) ((c.tc : Thread Cert.KernelIdeal.nD Cert.KernelIdeal.τ).loc Cert.KernelIdeal.main_v73_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_v73_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "masked" .f32 0xF149F2CA#32 ⊥
  ∧ IdealRules.named_const.Statement Cert.Kernel3Ideal.κ "per_ln2" .f32 0x3FB8AA3B#32 (((Real.log 2)⁻¹ : ℝ) : EReal)

def algebraic_Kernel3Ideal_Reference3Ideal_pre_finite_fwd [hKernel3Ideal : Cert.Kernel3Ideal.Facts] [hReference3Ideal : Cert.Reference3Ideal.Facts] [hPre_finite_fwd : Cert.Pre_finite_fwd.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_fwd m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v29)) (v1 : (c : Dev Cert.Kernel4Ideal.nD) → Buf (Elt Ideal) ((c.tc : Thread Cert.Kernel4Ideal.nD Cert.Kernel4Ideal.τ).loc Cert.Kernel4Ideal.main_v30)) (v2 : (c : Dev Cert.Kernel4Ideal.nD) → Buf (Elt Ideal) ((c.tc : Thread Cert.Kernel4Ideal.nD Cert.Kernel4Ideal.τ).loc Cert.Kernel4Ideal.main_v31)) (v3 : (c : Dev Cert.Kernel4Ideal.nD) → Buf (Elt Ideal) ((c.tc : Thread Cert.Kernel4Ideal.nD Cert.Kernel4Ideal.τ).loc Cert.Kernel4Ideal.main_v32)) (v4 : (c : Dev Cert.Kernel4Ideal.nD) → Buf (Elt Ideal) ((c.tc : Thread Cert.Kernel4Ideal.nD Cert.Kernel4Ideal.τ).loc Cert.Kernel4Ideal.main_v33)) (v5 : (c : Dev Cert.Kernel4Ideal.nD) → Buf (Elt Ideal) ((c.tc : Thread Cert.Kernel4Ideal.nD Cert.Kernel4Ideal.τ).loc Cert.Kernel4Ideal.main_v34)) (v6 : (c : Dev Cert.Kernel4Ideal.nD) → Buf (Elt Ideal) ((c.tc : Thread Cert.Kernel4Ideal.nD Cert.Kernel4Ideal.τ).loc Cert.Kernel4Ideal.main_v35)) (v7 : (c : Dev Cert.Kernel4Ideal.nD) → Buf (Elt Ideal) ((c.tc : Thread Cert.Kernel4Ideal.nD Cert.Kernel4Ideal.τ).loc Cert.Kernel4Ideal.main_v36)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29) = v0 c
          ∧ r.2.mem ((c.tc : Thread Cert.Kernel4Ideal.nD Cert.Kernel4Ideal.τ).loc Cert.Kernel4Ideal.main_v30) = v1 c
          ∧ r.2.mem ((c.tc : Thread Cert.Kernel4Ideal.nD Cert.Kernel4Ideal.τ).loc Cert.Kernel4Ideal.main_v31) = v2 c
          ∧ r.2.mem ((c.tc : Thread Cert.Kernel4Ideal.nD Cert.Kernel4Ideal.τ).loc Cert.Kernel4Ideal.main_v32) = v3 c
          ∧ r.2.mem ((c.tc : Thread Cert.Kernel4Ideal.nD Cert.Kernel4Ideal.τ).loc Cert.Kernel4Ideal.main_v33) = v4 c
          ∧ r.2.mem ((c.tc : Thread Cert.Kernel4Ideal.nD Cert.Kernel4Ideal.τ).loc Cert.Kernel4Ideal.main_v34) = v5 c
          ∧ r.2.mem ((c.tc : Thread Cert.Kernel4Ideal.nD Cert.Kernel4Ideal.τ).loc Cert.Kernel4Ideal.main_v35) = v6 c
          ∧ r.2.mem ((c.tc : Thread Cert.Kernel4Ideal.nD Cert.Kernel4Ideal.τ).loc Cert.Kernel4Ideal.main_v36) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v27) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_v32) = v4 c
          ∧ r.2.mem ((c.tc : Thread Cert.Reference4Ideal.nD Cert.Reference4Ideal.τ).loc Cert.Reference4Ideal.main_v33) = v5 c
          ∧ r.2.mem ((c.tc : Thread Cert.Reference4Ideal.nD Cert.Reference4Ideal.τ).loc Cert.Reference4Ideal.main_v34) = v6 c
          ∧ r.2.mem ((c.tc : Thread Cert.Reference4Ideal.nD Cert.Reference4Ideal.τ).loc Cert.Reference4Ideal.main_v39) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v16)) (v1 : (c : Dev Cert.Kernel5Ideal.nD) → Buf (Elt Ideal) ((c.tc : Thread Cert.Kernel5Ideal.nD Cert.Kernel5Ideal.τ).loc Cert.Kernel5Ideal.main_v18_0)) (v2 : (c : Dev Cert.Kernel5Ideal.nD) → Buf (Elt Ideal) ((c.tc : Thread Cert.Kernel5Ideal.nD Cert.Kernel5Ideal.τ).loc Cert.Kernel5Ideal.main_v18_1)) (v3 : (c : Dev Cert.Kernel5Ideal.nD) → Buf (Elt Ideal) ((c.tc : Thread Cert.Kernel5Ideal.nD Cert.Kernel5Ideal.τ).loc Cert.Kernel5Ideal.main_v20_0)) (v4 : (c : Dev Cert.Kernel5Ideal.nD) → Buf (Elt Ideal) ((c.tc : Thread Cert.Kernel5Ideal.nD Cert.Kernel5Ideal.τ).loc Cert.Kernel5Ideal.main_v20_1)) (v5 : (c : Dev Cert.Kernel5Ideal.nD) → Buf (Elt Ideal) ((c.tc : Thread Cert.Kernel5Ideal.nD Cert.Kernel5Ideal.τ).loc Cert.Kernel5Ideal.main_v20_2)) (v6 : (c : Dev Cert.Kernel5Ideal.nD) → Buf (Elt Ideal) ((c.tc : Thread Cert.Kernel5Ideal.nD Cert.Kernel5Ideal.τ).loc Cert.Kernel5Ideal.main_v23_0)) (v7 : (c : Dev Cert.Kernel5Ideal.nD) → Buf (Elt Ideal) ((c.tc : Thread Cert.Kernel5Ideal.nD Cert.Kernel5Ideal.τ).loc Cert.Kernel5Ideal.main_v23_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_v18_0) = v1 c
          ∧ r.2.mem ((c.tc : Thread Cert.Kernel5Ideal.nD Cert.Kernel5Ideal.τ).loc Cert.Kernel5Ideal.main_v18_1) = v2 c
          ∧ r.2.mem ((c.tc : Thread Cert.Kernel5Ideal.nD Cert.Kernel5Ideal.τ).loc Cert.Kernel5Ideal.main_v20_0) = v3 c
          ∧ r.2.mem ((c.tc : Thread Cert.Kernel5Ideal.nD Cert.Kernel5Ideal.τ).loc Cert.Kernel5Ideal.main_v20_1) = v4 c
          ∧ r.2.mem ((c.tc : Thread Cert.Kernel5Ideal.nD Cert.Kernel5Ideal.τ).loc Cert.Kernel5Ideal.main_v20_2) = v5 c
          ∧ r.2.mem ((c.tc : Thread Cert.Kernel5Ideal.nD Cert.Kernel5Ideal.τ).loc Cert.Kernel5Ideal.main_v23_0) = v6 c
          ∧ r.2.mem ((c.tc : Thread Cert.Kernel5Ideal.nD Cert.Kernel5Ideal.τ).loc Cert.Kernel5Ideal.main_v23_1) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v21) = v3 c
          ∧ r.2.mem ((c.tc : Thread Cert.Reference5Ideal.nD Cert.Reference5Ideal.τ).loc Cert.Reference5Ideal.main_v34) = v4 c
          ∧ r.2.mem ((c.tc : Thread Cert.Reference5Ideal.nD Cert.Reference5Ideal.τ).loc Cert.Reference5Ideal.main_v70) = v5 c
          ∧ r.2.mem ((c.tc : Thread Cert.Reference5Ideal.nD Cert.Reference5Ideal.τ).loc Cert.Reference5Ideal.main_v47) = v6 c
          ∧ r.2.mem ((c.tc : Thread Cert.Reference5Ideal.nD Cert.Reference5Ideal.τ).loc Cert.Reference5Ideal.main_v54) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_fwd (hKernel3Ideal := hKernel3Ideal) (hPre_finite_fwd := hPre_finite_fwd)
    ∧ quiescent_Reference3Ideal (hReference3Ideal := hReference3Ideal)
    ∧ quiescent_Reference3Ideal_pre_finite_fwd (hReference3Ideal := hReference3Ideal) (hPre_finite_fwd := hPre_finite_fwd)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_fwd (hKernel3Ideal := hKernel3Ideal) (hReference3Ideal := hReference3Ideal) (hPre_finite_fwd := hPre_finite_fwd)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x4096x128 : Shape := ⟨3, ![8, 4096, 128]⟩
abbrev S8x4096x64 : Shape := ⟨3, ![8, 4096, 64]⟩
abbrev S4096x64 : Shape := ⟨2, ![4096, 64]⟩
abbrev S4096x1024 : Shape := ⟨2, ![4096, 1024]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S8x4096x128 .f32) (main_arg5 : FVec F S4096x1024 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S8x4096x128 .f32 := Host.absf main_arg4
  let main_cst_6 : FVec F S_ .f32 := constant S_ .f32 0x7F800000#32
  let main_v20 : FVec F S8x4096x128 .f32 := broadcastInDim S8x4096x128 ![] bcast_S_S8x4096x128 main_cst_6
  let main_v21 : IVec S8x4096x128 1 := cmpf .olt main_v19 main_v20
  let main_c_7 : IVec S_ 1 := constantI S_ 1 1#1
  let main_v22 : IVec S_ 1 := (fun x v => Host.reduce IntOp.andi x v reducesTo_S8x4096x128_S_d0_1_2 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S8x4096x128 .f32) (main_arg1 : FVec F S8x4096x64 .f32) (main_arg2 : FVec F S8x4096x128 .f32) (main_arg3 : FVec F S4096x64 .f32) (main_arg4 : FVec F S8x4096x128 .f32) (main_arg5 : FVec F S4096x1024 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x128 .f32 := Host.absf main_arg2
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  let main_c_3 : IVec S_ 1 := constantI S_ 1 1#1
  let main_v12 : IVec S_ 1 := (fun x v => Host.reduce IntOp.andi x v reducesTo_S8x4096x128_S_d0_1_2 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_arg5 main_v13 main_v16
-- ==== Pre_finite_fwd.lean ====
abbrev S8x4096x128 : Shape := ⟨3, ![8, 4096, 128]⟩
abbrev S8x4096x64 : Shape := ⟨3, ![8, 4096, 64]⟩
abbrev S4096x64 : Shape := ⟨2, ![4096, 64]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg4 : FVec F S8x4096x128 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S8x4096x128 .f32 := Host.absf main_arg4
  let main_cst_6 : FVec F S_ .f32 := constant S_ .f32 0x7F800000#32
  let main_v20 : FVec F S8x4096x128 .f32 := broadcastInDim S8x4096x128 ![] bcast_S_S8x4096x128 main_cst_6
  let main_v21 : IVec S8x4096x128 1 := cmpf .olt main_v19 main_v20
  let main_c_7 : IVec S_ 1 := constantI S_ 1 1#1
  let main_v22 : IVec S_ 1 := (fun x v => Host.reduce IntOp.andi x v reducesTo_S8x4096x128_S_d0_1_2 h_S_) main_v21 main_c_7
  let main_v23 : IVec S_ 1 := andi main_v18 main_v22
  main_v23

def fn {F : FTy → Type} [FloatOps F] (main_arg0 : FVec F S8x4096x128 .f32) (main_arg1 : FVec F S8x4096x64 .f32) (main_arg2 : FVec F S8x4096x128 .f32) (main_arg3 : FVec F S4096x64 .f32) (main_arg4 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x128 .f32 := Host.absf main_arg2
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  let main_c_3 : IVec S_ 1 := constantI S_ 1 1#1
  let main_v12 : IVec S_ 1 := (fun x v => Host.reduce IntOp.andi x v reducesTo_S8x4096x128_S_d0_1_2 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_v13 main_v16
-- ==== Kernel.lean ====
abbrev S8x4096x128 : Shape := ⟨3, ![8, 4096, 128]⟩
abbrev S8x4096x64 : Shape := ⟨3, ![8, 4096, 64]⟩
abbrev S4096x64 : Shape := ⟨2, ![4096, 64]⟩
abbrev S4096x1024 : Shape := ⟨2, ![4096, 1024]⟩
abbrev S_ : Shape := ⟨0, ![]⟩
abbrev S1x4096x64 : Shape := ⟨3, ![1, 4096, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x4096x256 : Shape := ⟨3, ![8, 4096, 256]⟩
abbrev S4096x8x256 : Shape := ⟨3, ![4096, 8, 256]⟩
abbrev S4096x2048 : Shape := ⟨2, ![4096, 2048]⟩
abbrev S4096x8x128 : Shape := ⟨3, ![4096, 8, 128]⟩
abbrev S4096x256 : Shape := ⟨2, ![4096, 256]⟩
abbrev S4096x128 : Shape := ⟨2, ![4096, 128]⟩
abbrev S512x256 : Shape := ⟨2, ![512, 256]⟩
abbrev S512x128 : Shape := ⟨2, ![512, 128]⟩
abbrev S1024x256 : Shape := ⟨2, ![1024, 256]⟩
abbrev S1024x512 : Shape := ⟨2, ![1024, 512]⟩
abbrev S1024x128 : Shape := ⟨2, ![1024, 128]⟩
abbrev S1024x1 : Shape := ⟨2, ![1024, 1]⟩
abbrev S512x512 : Shape := ⟨2, ![512, 512]⟩
abbrev S512x1 : Shape := ⟨2, ![512, 1]⟩

abbrev nBuf : Space → Nat
  | .hbm => 101
  | .vmem => 17
  | .smem => 0
  | _ => 0

abbrev bufTy : (tb : Table) → Fin (tcTables nBuf tb) → BufTy
  | .hbm, ⟨0, _⟩ => ⟨S8x4096x128, .f32⟩
  | .hbm, ⟨1, _⟩ => ⟨S8x4096x64, .f32⟩
  | .hbm, ⟨2, _⟩ => ⟨S8x4096x128, .f32⟩
  | .hbm, ⟨3, _⟩ => ⟨S4096x64, .f32⟩
  | .hbm, ⟨4, _⟩ => ⟨S8x4096x128, .f32⟩
  | .hbm, ⟨5, _⟩ => ⟨S4096x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096x64, .f32⟩
  | .hbm, ⟨14, _⟩ => ⟨S1x4096x64, .f32⟩
  | .hbm, ⟨15, _⟩ => ⟨S8x4096x64, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S8x4096x4096, .i1⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x128, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x256, .f32⟩
  | .hbm, ⟨49, _⟩ => ⟨S_, .f32⟩
  | .hbm, ⟨50, _⟩ => ⟨S8x4096x256, .f32⟩
  | .hbm, ⟨51, _⟩ => ⟨S8x4096x256, .f32⟩
  | .hbm, ⟨52, _⟩ => ⟨S4096x8x256, .f32⟩
  | .hbm, ⟨53, _⟩ => ⟨S4096x2048, .f32⟩
  | .hbm, ⟨54, _⟩ => ⟨S4096x2048, .bf16⟩
  | .hbm, ⟨55, _⟩ => ⟨S8x4096x256, .f32⟩
  | .hbm, ⟨56, _⟩ => ⟨S4096x8x256, .f32⟩
  | .hbm, ⟨57, _⟩ => ⟨S4096x2048, .f32⟩
  | .hbm, ⟨58, _⟩ => ⟨S4096x2048, .bf16⟩
  | .hbm, ⟨59, _⟩ => ⟨S_, .f32⟩
  | .hbm, ⟨60, _⟩ => ⟨S8x4096x128, .f32⟩
  | .hbm, ⟨61, _⟩ => ⟨S8x4096x256, .f32⟩
  | .hbm, ⟨62, _⟩ => ⟨S4096x8x256, .f32⟩
  | .hbm, ⟨63, _⟩ => ⟨S4096x2048, .f32⟩
  | .hbm, ⟨64, _⟩ => ⟨S4096x2048, .bf16⟩
  | .hbm, ⟨65, _⟩ => ⟨S4096x8x128, .f32⟩
  | .hbm, ⟨66, _⟩ => ⟨S8x4096x128, .f32⟩
  | .hbm, ⟨67, _⟩ => ⟨S8x4096x128, .bf16⟩
  | .hbm, ⟨68, _⟩ => ⟨S8x4096x128, .f32⟩
  | .hbm, ⟨69, _⟩ => ⟨S8x4096x128, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S8x4096x1, .bf16⟩
  | .hbm, ⟨74, _⟩ => ⟨S8x4096x1, .f32⟩
  | .hbm, ⟨75, _⟩ => ⟨S8x4096x128, .i32⟩
  | .hbm, ⟨76, _⟩ => ⟨S_, .i32⟩
  | .hbm, ⟨77, _⟩ => ⟨S8x4096x128, .i32⟩
  | .hbm, ⟨78, _⟩ => ⟨S8x4096x128, .i1⟩
  | .hbm, ⟨79, _⟩ => ⟨S8x4096x1, .f32⟩
  | .hbm, ⟨80, _⟩ => ⟨S_, .i32⟩
  | .hbm, ⟨81, _⟩ => ⟨S8x4096x128, .i32⟩
  | .hbm, ⟨82, _⟩ => ⟨S8x4096x128, .i1⟩
  | .hbm, ⟨83, _⟩ => ⟨S8x4096x1, .f32⟩
  | .hbm, ⟨84, _⟩ => ⟨S_, .f32⟩
  | .hbm, ⟨85, _⟩ => ⟨S_, .f32⟩
  | .hbm, ⟨86, _⟩ => ⟨S8x4096x128, .f32⟩
  | .hbm, ⟨87, _⟩ => ⟨S8x4096x128, .f32⟩
  | .hbm, ⟨88, _⟩ => ⟨S8x4096x128, .f32⟩
  | .hbm, ⟨89, _⟩ => ⟨S8x4096x128, .f32⟩
  | .hbm, ⟨90, _⟩ => ⟨S8x4096x128, .f32⟩
  | .hbm, ⟨91, _⟩ => ⟨S8x4096x256, .f32⟩
  | .hbm, ⟨92, _⟩ => ⟨S4096x8x256, .f32⟩
  | .hbm, ⟨93, _⟩ => ⟨S4096x2048, .f32⟩
  | .hbm, ⟨94, _⟩ => ⟨S4096x2048, .bf16⟩
  | .hbm, ⟨95, _⟩ => ⟨S8x4096x128, .f32⟩
  | .hbm, ⟨96, _⟩ => ⟨S4096x8x128, .f32⟩
  | .hbm, ⟨97, _⟩ => ⟨S4096x1024, .f32⟩
  | .hbm, ⟨98, _⟩ => ⟨S4096x2048, .bf16⟩
  | .hbm, ⟨99, _⟩ => ⟨S4096x2048, .bf16⟩
  | .hbm, ⟨100, _⟩ => ⟨S4096x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x128, .f32⟩
  | .local _ .vmem, ⟨9, _⟩ => ⟨S4096x128, .f32⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x128, .bf16⟩
  | .local _ .vmem, ⟨15, _⟩ => ⟨S4096x128, .bf16⟩
  | .local _ .vmem, ⟨16, _⟩ => ⟨S4096x256, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v64 : Ref sig .tc := ⟨.hbm, 88, rfl⟩
abbrev main_call2_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73_0 : Ref sig .tc := ⟨.hbm, 98, rfl⟩
abbrev main_v73_1 : Ref sig .tc := ⟨.hbm, 99, rfl⟩
abbrev main_v73_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x4096x128 : Shape := ⟨3, ![8, 4096, 128]⟩
abbrev S8x4096x64 : Shape := ⟨3, ![8, 4096, 64]⟩
abbrev S4096x64 : Shape := ⟨2, ![4096, 64]⟩
abbrev S4096x1024 : Shape := ⟨2, ![4096, 1024]⟩
abbrev S8x4096x192 : Shape := ⟨3, ![8, 4096, 192]⟩
abbrev S1x4096x64 : Shape := ⟨3, ![1, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x128 : Shape := ⟨3, ![4096, 8, 128]⟩
abbrev S8x128x4096 : Shape := ⟨3, ![8, 128, 4096]⟩
abbrev S8x4096x256 : Shape := ⟨3, ![8, 4096, 256]⟩
abbrev S4096x8x256 : Shape := ⟨3, ![4096, 8, 256]⟩
abbrev S4096x2048 : Shape := ⟨2, ![4096, 2048]⟩

abbrev nBuf : Space → Nat
  | .hbm => 118
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x64, .f32⟩
  | .hbm, ⟨2, _⟩ => ⟨S8x4096x128, .f32⟩
  | .hbm, ⟨3, _⟩ => ⟨S4096x64, .f32⟩
  | .hbm, ⟨4, _⟩ => ⟨S8x4096x128, .f32⟩
  | .hbm, ⟨5, _⟩ => ⟨S4096x1024, .f32⟩
  | .hbm, ⟨6, _⟩ => ⟨S8x4096x192, .f32⟩
  | .hbm, ⟨7, _⟩ => ⟨S1x4096x64, .f32⟩
  | .hbm, ⟨8, _⟩ => ⟨S8x4096x64, .f32⟩
  | .hbm, ⟨9, _⟩ => ⟨S8x4096x192, .f32⟩
  | .hbm, ⟨10, _⟩ => ⟨S8x4096x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .i1⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x128, .f32⟩
  | .hbm, ⟨69, _⟩ => ⟨S4096x8x128, .f32⟩
  | .hbm, ⟨70, _⟩ => ⟨S4096x1024, .f32⟩
  | .hbm, ⟨71, _⟩ => ⟨S4096x8x128, .f32⟩
  | .hbm, ⟨72, _⟩ => ⟨S8x4096x128, .f32⟩
  | .hbm, ⟨73, _⟩ => ⟨S8x128x4096, .f32⟩
  | .hbm, ⟨74, _⟩ => ⟨S8x4096x128, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096, .f32⟩
  | .hbm, ⟨87, _⟩ => ⟨S8x4096x4096, .f32⟩
  | .hbm, ⟨88, _⟩ => ⟨S8x4096x4096, .f32⟩
  | .hbm, ⟨89, _⟩ => ⟨S8x4096x4096, .f32⟩
  | .hbm, ⟨90, _⟩ => ⟨S_, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S8x4096x4096, .f32⟩
  | .hbm, ⟨95, _⟩ => ⟨S8x4096x192, .f32⟩
  | .hbm, ⟨96, _⟩ => ⟨S8x4096x192, .f32⟩
  | .hbm, ⟨97, _⟩ => ⟨S_, .f32⟩
  | .hbm, ⟨98, _⟩ => ⟨S8x4096x64, .f32⟩
  | .hbm, ⟨99, _⟩ => ⟨S_, .f32⟩
  | .hbm, ⟨100, _⟩ => ⟨S_, .f32⟩
  | .hbm, ⟨101, _⟩ => ⟨S8x4096x192, .f32⟩
  | .hbm, ⟨102, _⟩ => ⟨S8x4096x192, .f32⟩
  | .hbm, ⟨103, _⟩ => ⟨S8x4096x256, .f32⟩
  | .hbm, ⟨104, _⟩ => ⟨S_, .f32⟩
  | .hbm, ⟨105, _⟩ => ⟨S_, .f32⟩
  | .hbm, ⟨106, _⟩ => ⟨S8x4096x192, .f32⟩
  | .hbm, ⟨107, _⟩ => ⟨S8x4096x192, .f32⟩
  | .hbm, ⟨108, _⟩ => ⟨S8x4096x256, .f32⟩
  | .hbm, ⟨109, _⟩ => ⟨S4096x8x256, .f32⟩
  | .hbm, ⟨110, _⟩ => ⟨S4096x2048, .f32⟩
  | .hbm, ⟨111, _⟩ => ⟨S4096x2048, .bf16⟩
  | .hbm, ⟨112, _⟩ => ⟨S4096x8x256, .f32⟩
  | .hbm, ⟨113, _⟩ => ⟨S4096x2048, .f32⟩
  | .hbm, ⟨114, _⟩ => ⟨S4096x2048, .bf16⟩
  | .hbm, ⟨115, _⟩ => ⟨S4096x8x128, .f32⟩
  | .hbm, ⟨116, _⟩ => ⟨S4096x1024, .f32⟩
  | .hbm, ⟨117, _⟩ => ⟨S4096x1024, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call0_v0 : Ref sig .tc := ⟨.hbm, 24, rfl⟩
abbrev main_v15_1 : Ref sig .tc := ⟨.hbm, 25, rfl⟩
abbrev main_call0_v2 : Ref sig .tc := ⟨.hbm, 26, rfl⟩
abbrev main_v15_0 : Ref sig .tc := ⟨.hbm, 27, rfl⟩
abbrev main_call0_cst : Ref sig .tc := ⟨.hbm, 28, rfl⟩
abbrev main_v15_2 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4x3072x1024 : Shape := ⟨3, ![4, 3072, 1024]⟩
abbrev S1024x4x1024 : Shape := ⟨3, ![1024, 4, 1024]⟩
abbrev S4x1024x1024 : Shape := ⟨3, ![4, 1024, 1024]⟩
abbrev S_ : Shape := ⟨0, ![]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 23
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4x3072x1024, .f32⟩
  | .hbm, ⟨5, _⟩ => ⟨S4x3072x1024, .bf16⟩
  | .hbm, ⟨6, _⟩ => ⟨S1024x4x1024, .f32⟩
  | .hbm, ⟨7, _⟩ => ⟨S4x1024x1024, .f32⟩
  | .hbm, ⟨8, _⟩ => ⟨S4x1024x1024, .f32⟩
  | .hbm, ⟨9, _⟩ => ⟨S4x1024x1024, .bf16⟩
  | .hbm, ⟨10, _⟩ => ⟨S_, .bf16⟩
  | .hbm, ⟨11, _⟩ => ⟨S4x1024x1024, .bf16⟩
  | .hbm, ⟨12, _⟩ => ⟨S4x1024x1024, .bf16⟩
  | .hbm, ⟨13, _⟩ => ⟨S4x3072x1024, .bf16⟩
  | .hbm, ⟨14, _⟩ => ⟨S4096x1024, .bf16⟩
  | .hbm, ⟨15, _⟩ => ⟨S4096x1024, .bf16⟩
  | .hbm, ⟨16, _⟩ => ⟨S4096x4096, .bf16⟩
  | .hbm, ⟨17, _⟩ => ⟨S4096x4096, .bf16⟩
  | .hbm, ⟨18, _⟩ => ⟨S4x3072x1024, .f32⟩
  | .hbm, ⟨19, _⟩ => ⟨S4x3072x1024, .bf16⟩
  | .hbm, ⟨20, _⟩ => ⟨S4096x4096, .bf16⟩
  | .hbm, ⟨21, _⟩ => ⟨S4x3072x1024, .f32⟩
  | .hbm, ⟨22, _⟩ => ⟨S4x3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S4096x512, .bf16⟩
  | .local _ .vmem, ⟨9, _⟩ => ⟨S4096x512, .bf16⟩
  | .local _ .vmem, ⟨10, _⟩ => ⟨S4096x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S2048x1024, .bf16⟩
  | .local _ .vmem, ⟨16, _⟩ => ⟨S2048x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S2048x1024, .bf16⟩
  | .local _ .vmem, ⟨20, _⟩ => ⟨S2048x1024, .bf16⟩
  | .local _ .vmem, ⟨21, _⟩ => ⟨S2048x1024, .bf16⟩
  | .local _ .vmem, ⟨22, _⟩ => ⟨S2048x1024, .bf16⟩
  | .local _ .vmem, ⟨23, _⟩ => ⟨S4096x512, .bf16⟩
  | .local _ .vmem, ⟨24, _⟩ => ⟨S4096x512, .bf16⟩
  | .local _ .vmem, ⟨25, _⟩ => ⟨S4096x1024, .bf16⟩
  | .local _ .vmem, ⟨26, _⟩ => ⟨S4096x1024, .bf16⟩
  | .local _ .vmem, ⟨27, _⟩ => ⟨S1x512x1024, .f32⟩
  | .local _ .vmem, ⟨28, _⟩ => ⟨S1x512x1024, .f32⟩
  | .local _ .vmem, ⟨29, _⟩ => ⟨S1x512x1024, .bf16⟩
  | .local _ .vmem, ⟨30, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_10 : BitVec 32 := 0#32
  let c0_i32_11 : BitVec 32 := 0#32
  ![v16.toNat, v27.toNat, c0_i32_10.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_10 : BitVec 32 := 0#32
  let c0_i32_11 : BitVec 32 := 0#32
  ![v16.toNat, v27.toNat, c0_i32_10.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg1.toNat, c2_i32.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== Reference2Ideal.lean ====
abbrev S4096x1024 : Shape := ⟨2, ![4096, 1024]⟩
abbrev S1024x4096 : Shape := ⟨2, ![1024, 4096]⟩
abbrev S4x3072x1024 : Shape := ⟨3, ![4, 3072, 1024]⟩
abbrev S4096x4096 : Shape := ⟨2, ![4096, 4096]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4x3072x1024, .f32⟩
  | .hbm, ⟨5, _⟩ => ⟨S4x3072x1024, .bf16⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S1024x4096, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S1024x4096, .f32⟩
  | .hbm, ⟨29, _⟩ => ⟨S1024x4x1024, .f32⟩
  | .hbm, ⟨30, _⟩ => ⟨S4x1024x1024, .f32⟩
  | .hbm, ⟨31, _⟩ => ⟨S4x1024x1024, .f32⟩
  | .hbm, ⟨32, _⟩ => ⟨S4x1024x1024, .f32⟩
  | .hbm, ⟨33, _⟩ => ⟨S4x3072x1024, .f32⟩
  | .hbm, ⟨34, _⟩ => ⟨S4x1024x1024, .bf16⟩
  | .hbm, ⟨35, _⟩ => ⟨S4x1024x1024, .bf16⟩
  | .hbm, ⟨36, _⟩ => ⟨S4x1024x1024, .bf16⟩
  | .hbm, ⟨37, _⟩ => ⟨S4x3072x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel3.lean ====
abbrev S8x4096x128 : Shape := ⟨3, ![8, 4096, 128]⟩
abbrev S8x4096x64 : Shape := ⟨3, ![8, 4096, 64]⟩
abbrev S4096x64 : Shape := ⟨2, ![4096, 64]⟩
abbrev S_ : Shape := ⟨0, ![]⟩
abbrev S1x4096x64 : Shape := ⟨3, ![1, 4096, 64]⟩
abbrev S8x4096x256 : Shape := ⟨3, ![8, 4096, 256]⟩
abbrev S4096x8x256 : Shape := ⟨3, ![4096, 8, 256]⟩
abbrev S4096x2048 : Shape := ⟨2, ![4096, 2048]⟩
abbrev S4096x1024 : Shape := ⟨2, ![4096, 1024]⟩
abbrev S4096x256 : Shape := ⟨2, ![4096, 256]⟩
abbrev S4096x128 : Shape := ⟨2, ![4096, 128]⟩
abbrev S1024x256 : Shape := ⟨2, ![1024, 256]⟩
abbrev S4096x1 : Shape := ⟨2, ![4096, 1]⟩
abbrev S4096 : Shape := ⟨1, ![4096]⟩
abbrev S3072x256 : Shape := ⟨2, ![3072, 256]⟩
abbrev S3072x1024 : Shape := ⟨2, ![3072, 1024]⟩
abbrev S3072x1 : Shape := ⟨2, ![3072, 1]⟩
abbrev S3072 : Shape := ⟨1, ![3072]⟩
abbrev S1024x1 : Shape := ⟨2, ![1024, 1]⟩
abbrev S2048x256 : Shape := ⟨2, ![2048, 256]⟩
abbrev S2048x1024 : Shape := ⟨2, ![2048, 1024]⟩
abbrev S2048x1 : Shape := ⟨2, ![2048, 1]⟩
abbrev S2048 : Shape := ⟨1, ![2048]⟩
abbrev S1024x1024 : Shape := ⟨2, ![1024, 1024]⟩
abbrev S1024 : Shape := ⟨1, ![1024]⟩

abbrev nBuf : Space → Nat
  | .hbm => 34
  | .vmem => 10
  | .smem => 0
  | _ => 0

abbrev bufTy : (tb : Table) → Fin (tcTables nBuf tb) → BufTy
  | .hbm, ⟨0, _⟩ => ⟨S8x4096x128, .f32⟩
  | .hbm, ⟨1, _⟩ => ⟨S8x4096x64, .f32⟩
  | .hbm, ⟨2, _⟩ => ⟨S8x4096x128, .f32⟩
  | .hbm, ⟨3, _⟩ => ⟨S4096x64, .f32⟩
  | .hbm, ⟨4, _⟩ => ⟨S8x4096x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x64, .f32⟩
  | .hbm, ⟨13, _⟩ => ⟨S1x4096x64, .f32⟩
  | .hbm, ⟨14, _⟩ => ⟨S8x4096x64, .f32⟩
  | .hbm, ⟨15, _⟩ => ⟨S8x4096x256, .f32⟩
  | .hbm, ⟨16, _⟩ => ⟨S_, .f32⟩
  | .hbm, ⟨17, _⟩ => ⟨S8x4096x256, .f32⟩
  | .hbm, ⟨18, _⟩ => ⟨S8x4096x256, .f32⟩
  | .hbm, ⟨19, _⟩ => ⟨S4096x8x256, .f32⟩
  | .hbm, ⟨20, _⟩ => ⟨S4096x2048, .f32⟩
  | .hbm, ⟨21, _⟩ => ⟨S4096x2048, .bf16⟩
  | .hbm, ⟨22, _⟩ => ⟨S8x4096x256, .f32⟩
  | .hbm, ⟨23, _⟩ => ⟨S4096x8x256, .f32⟩
  | .hbm, ⟨24, _⟩ => ⟨S4096x2048, .f32⟩
  | .hbm, ⟨25, _⟩ => ⟨S4096x2048, .bf16⟩
  | .hbm, ⟨26, _⟩ => ⟨S_, .f32⟩
  | .hbm, ⟨27, _⟩ => ⟨S8x4096x128, .f32⟩
  | .hbm, ⟨28, _⟩ => ⟨S8x4096x256, .f32⟩
  | .hbm, ⟨29, _⟩ => ⟨S4096x8x256, .f32⟩
  | .hbm, ⟨30, _⟩ => ⟨S4096x2048, .f32⟩
  | .hbm, ⟨31, _⟩ => ⟨S4096x2048, .bf16⟩
  | .hbm, ⟨32, _⟩ => ⟨S4096x1024, .bf16⟩
  | .hbm, ⟨33, _⟩ => ⟨S4096x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  c0_i32
@[reducible] def k0_t1_loop (i : grid0.Coords) : Scf.Loop 32 :=
  let c0_i32_4 : BitVec 32 := 0#32
  let arg1 : BitVec 32 := BitVec.ofNat 32 (i 1).val
  let c4_i32 : BitVec 32 := 4#32
  let v0 : BitVec 32 := Scalar.muli arg1 c4_i32
  let v10 : BitVec 32 := Scalar.subi v0 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let c1_i32_5 : BitVec 32 := 1#32
  ⟨c0_i32_4, v14, c1_i32_5⟩
def k0_mult2 (i : grid0.Coords) (k0_t1 : Fin (k0_t1_loop i).trips) : BitVec 32 :=
  let c0_i32_4 : BitVec 32 := 0#32
  let c1_i32_5 : BitVec 32 := 1#32
  let arg7 : BitVec 32 := Scf.iv c0_i32_4 c1_i32_5 k0_t1
  let c1_i32_60 : BitVec 32 := 1#32
  let v200 : BitVec 32 := Scalar.addi arg7 c1_i32_60
  let c1024_i32_61 : BitVec 32 := 1024#32
  let v201 : BitVec 32 := Scalar.muli v200 c1024_i32_61
  v201
def k0_off1 (i : grid0.Coords) (k0_t1 : Fin (k0_t1_loop i).trips) : Fin 2 → Nat :=
  let c0_i32_4 : BitVec 32 := 0#32
  let c1_i32_5 : BitVec 32 := 1#32
  let arg7 : BitVec 32 := Scf.iv c0_i32_4 c1_i32_5 k0_t1
  let c1_i32_60 : BitVec 32 := 1#32
  let v200 : BitVec 32 := Scalar.addi arg7 c1_i32_60
  let c1024_i32_61 : BitVec 32 := 1024#32
  let v201 : BitVec 32 := Scalar.muli v200 c1024_i32_61
  let v202 : BitVec 32 := v201
  let v205 : Index := Scalar.indexCast v202
  let c0_64 : Index := 0#32
  ![v205.toNat, 0]
def k0_mult3 (i : grid0.Coords) (k0_t1 : Fin (k0_t1_loop i).trips) : BitVec 32 :=
  let c0_i32_4 : BitVec 32 := 0#32
  let c1_i32_5 : BitVec 32 := 1#32
  let arg7 : BitVec 32 := Scf.iv c0_i32_4 c1_i32_5 k0_t1
  let c1024_i32_66 : BitVec 32 := 1024#32
  let v209 : BitVec 32 := Scalar.muli arg7 c1024_i32_66
  v209
def k0_off2 (i : grid0.Coords) (k0_t1 : Fin (k0_t1_loop i).trips) : Fin 2 → Nat :=
  let c0_i32_4 : BitVec 32 := 0#32
  let c1_i32_5 : BitVec 32 := 1#32
  let arg7 : BitVec 32 := Scf.iv c0_i32_4 c1_i32_5 k0_t1
  let c1024_i32_66 : BitVec 32 := 1024#32
  let v209 : BitVec 32 := Scalar.muli arg7 c1024_i32_66
  let v210 : BitVec 32 := v209
  let v222 : Index := Scalar.indexCast v210
  let c0_68 : Index := 0#32
  ![v222.toNat, 0]
@[reducible] def k0_t2_loop (i : grid0.Coords) : Scf.Loop 32 :=
  let c0_i32_4 : BitVec 32 := 0#32
  let arg1 : BitVec 32 := BitVec.ofNat 32 (i 1).val
  let c4_i32 : BitVec 32 := 4#32
  let v0 : BitVec 32 := Scalar.muli arg1 c4_i32
  let v10 : BitVec 32 := Scalar.subi v0 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let v11 : BitVec 32 := Scalar.addi c0_i32_4 v10
  let c1_i32_6 : BitVec 32 := 1#32
  ⟨v14, v11, c1_i32_6⟩
def k0_mult4 (i : grid0.Coords) (k0_t2 : Fin (k0_t2_loop i).trips) : BitVec 32 :=
  let c0_i32_4 : BitVec 32 := 0#32
  let arg1 : BitVec 32 := BitVec.ofNat 32 (i 1).val
  let c4_i32 : BitVec 32 := 4#32
  let v0 : BitVec 32 := Scalar.muli arg1 c4_i32
  let v10 : BitVec 32 := Scalar.subi v0 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let c1_i32_6 : BitVec 32 := 1#32
  let arg7 : BitVec 32 := Scf.iv v14 c1_i32_6 k0_t2
  let c1_i32_60 : BitVec 32 := 1#32
  let v200 : BitVec 32 := Scalar.addi arg7 c1_i32_60
  let c1024_i32_61 : BitVec 32 := 1024#32
  let v201 : BitVec 32 := Scalar.muli v200 c1024_i32_61
  v201
def k0_off3 (i : grid0.Coords) (k0_t2 : Fin (k0_t2_loop i).trips) : Fin 2 → Nat :=
  let c0_i32_4 : BitVec 32 := 0#32
  let arg1 : BitVec 32 := BitVec.ofNat 32 (i 1).val
  let c4_i32 : BitVec 32 := 4#32
  let v0 : BitVec 32 := Scalar.muli arg1 c4_i32
  let v10 : BitVec 32 := Scalar.subi v0 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let c1_i32_6 : BitVec 32 := 1#32
  let arg7 : BitVec 32 := Scf.iv v14 c1_i32_6 k0_t2
  let c1_i32_60 : BitVec 32 := 1#32
  let v200 : BitVec 32 := Scalar.addi arg7 c1_i32_60
  let c1024_i32_61 : BitVec 32 := 1024#32
  let v201 : BitVec 32 := Scalar.muli v200 c1024_i32_61
  let v202 : BitVec 32 := v201
  let v205 : Index := Scalar.indexCast v202
  let c0_64 : Index := 0#32
  ![v205.toNat, 0]
def k0_mult5 (i : grid0.Coords) (k0_t2 : Fin (k0_t2_loop i).trips) : BitVec 32 :=
  let c0_i32_4 : BitVec 32 := 0#32
  let arg1 : BitVec 32 := BitVec.ofNat 32 (i 1).val
  let c4_i32 : BitVec 32 := 4#32
  let v0 : BitVec 32 := Scalar.muli arg1 c4_i32
  let v10 : BitVec 32 := Scalar.subi v0 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let c1_i32_6 : BitVec 32 := 1#32
  let arg7 : BitVec 32 := Scf.iv v14 c1_i32_6 k0_t2
  let c1024_i32_66 : BitVec 32 := 1024#32
  let v209 : BitVec 32 := Scalar.muli arg7 c1024_i32_66
  v209
def k0_off4 (i : grid0.Coords) (k0_t2 : Fin (k0_t2_loop i).trips) : Fin 2 → Nat :=
  let c0_i32_4 : BitVec 32 := 0#32
  let arg1 : BitVec 32 := BitVec.ofNat 32 (i 1).val
  let c4_i32 : BitVec 32 := 4#32
  let v0 : BitVec 32 := Scalar.muli arg1 c4_i32
  let v10 : BitVec 32 := Scalar.subi v0 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let c1_i32_6 : BitVec 32 := 1#32
  let arg7 : BitVec 32 := Scf.iv v14 c1_i32_6 k0_t2
  let c1024_i32_66 : BitVec 32 := 1024#32
  let v209 : BitVec 32 := Scalar.muli arg7 c1024_i32_66
  let v210 : BitVec 32 := v209
  let v222 : Index := Scalar.indexCast v210
  let c0_68 : Index := 0#32
  ![v222.toNat, 0]
def k0_mult6 (i : grid0.Coords) : BitVec 32 :=
  let arg1 : BitVec 32 := BitVec.ofNat 32 (i 1).val
  let c4_i32 : BitVec 32 := 4#32
  let v0 : BitVec 32 := Scalar.muli arg1 c4_i32
  let c0_i32_7 : BitVec 32 := 0#32
  let v17 : BitVec 32 := Scalar.addi v0 c0_i32_7
  let c1024_i32 : BitVec 32 := 1024#32
  let v18 : BitVec 32 := Scalar.muli v17 c1024_i32
  v18
def k0_off5 (i : grid0.Coords) (c0_i32_7 : BitVec 32) : Fin 2 → Nat :=
  let arg1 : BitVec 32 := BitVec.ofNat 32 (i 1).val
  let c4_i32 : BitVec 32 := 4#32
  let v0 : BitVec 32 := Scalar.muli arg1 c4_i32
  let v17 : BitVec 32 := Scalar.addi v0 c0_i32_7
  let c1024_i32 : BitVec 32 := 1024#32
  let v18 : BitVec 32 := Scalar.muli v17 c1024_i32
  let v19 : BitVec 32 := v18
  let v43 : Index := Scalar.indexCast v19
  let c0_12 : Index := 0#32
  ![v43.toNat, 0]
def k0_mult7 (i : grid0.Coords) : BitVec 32 :=
  let arg1 : BitVec 32 := BitVec.ofNat 32 (i 1).val
  let c4_i32 : BitVec 32 := 4#32
  let v0 : BitVec 32 := Scalar.muli arg1 c4_i32
  let c0_i32_14 : BitVec 32 := 0#32
  let v48 : BitVec 32 := Scalar.addi v0 c0_i32_14
  let c1_i32_15 : BitVec 32 := 1#32
  let v49 : BitVec 32 := Scalar.addi v48 c1_i32_15
  let c1024_i32_16 : BitVec 32 := 1024#32
  let v50 : BitVec 32 := Scalar.muli v49 c1024_i32_16
  v50
def k0_off6 (i : grid0.Coords) (c0_i32_14 : BitVec 32) : Fin 2 → Nat :=
  let arg1 : BitVec 32 := BitVec.ofNat 32 (i 1).val
  let c4_i32 : BitVec 32 := 4#32
  let v0 : BitVec 32 := Scalar.muli arg1 c4_i32
  let v48 : BitVec 32 := Scalar.addi v0 c0_i32_14
  let c1_i32_15 : BitVec 32 := 1#32
  let v49 : BitVec 32 := Scalar.addi v48 c1_i32_15
  let c1024_i32_16 : BitVec 32 := 1024#32
  let v50 : BitVec 32 := Scalar.muli v49 c1024_i32_16
  let v51 : BitVec 32 := v50
  let v54 : Index := Scalar.indexCast v51
  let c0_18 : Index := 0#32
  ![v54.toNat, 0]
def k0_mult8 (i : grid0.Coords) : BitVec 32 :=
  let arg1 : BitVec 32 := BitVec.ofNat 32 (i 1).val
  let c4_i32 : BitVec 32 := 4#32
  let v0 : BitVec 32 := Scalar.muli arg1 c4_i32
  let c1_i32_20 : BitVec 32 := 1#32
  let v58 : BitVec 32 := Scalar.addi v0 c1_i32_20
  let c1024_i32_21 : BitVec 32 := 1024#32
  let v59 : BitVec 32 := Scalar.muli v58 c1024_i32_21
  v59
def k0_mult9 (i : grid0.Coords) : BitVec 32 :=
  let arg1 : BitVec 32 := BitVec.ofNat 32 (i 1).val
  let c4_i32 : BitVec 32 := 4#32
  let v0 : BitVec 32 := Scalar.muli arg1 c4_i32
  let c1_i32_29 : BitVec 32 := 1#32
  let v95 : BitVec 32 := Scalar.addi v0 c1_i32_29
  let c1_i32_30 : BitVec 32 := 1#32
  let v96 : BitVec 32 := Scalar.addi v95 c1_i32_30
  let c1024_i32_31 : BitVec 32 := 1024#32
  let v97 : BitVec 32 := Scalar.muli v96 c1024_i32_31
  v97
def k0_mult10 (i : grid0.Coords) : BitVec 32 :=
  let arg1 : BitVec 32 := BitVec.ofNat 32 (i 1).val
  let c4_i32 : BitVec 32 := 4#32
  let v0 : BitVec 32 := Scalar.muli arg1 c4_i32
  let c2_i32 : BitVec 32 := 2#32
  let v105 : BitVec 32 := Scalar.addi v0 c2_i32
  let c1024_i32_35 : BitVec 32 := 1024#32
  let v106 : BitVec 32 := Scalar.muli v105 c1024_i32_35
  v106
def k0_mult11 (i : grid0.Coords) : BitVec 32 :=
  let arg1 : BitVec 32 := BitVec.ofNat 32 (i 1).val
  let c4_i32 : BitVec 32 := 4#32
  let v0 : BitVec 32 := Scalar.muli arg1 c4_i32
  let c2_i32_42 : BitVec 32 := 2#32
  let v142 : BitVec 32 := Scalar.addi v0 c2_i32_42
  let c1_i32_43 : BitVec 32 := 1#32
  let v143 : BitVec 32 := Scalar.addi v142 c1_i32_43
  let c1024_i32_44 : BitVec 32 := 1024#32
  let v144 : BitVec 32 := Scalar.muli v143 c1024_i32_44
  v144
def k0_mult12 (i : grid0.Coords) : BitVec 32 :=
  let arg1 : BitVec 32 := BitVec.ofNat 32 (i 1).val
  let c4_i32 : BitVec 32 := 4#32
  let v0 : BitVec 32 := Scalar.muli arg1 c4_i32
  let c3_i32 : BitVec 32 := 3#32
  let v152 : BitVec 32 := Scalar.addi v0 c3_i32
  let c1024_i32_48 : BitVec 32 := 1024#32
  let v153 : BitVec 32 := Scalar.muli v152 c1024_i32_48
  v153
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "masked" => some ⊥
  | "per_ln2" => some (((Real.log 2)⁻¹ : ℝ) : EReal)
  | _ => none
-- ==== Reference3Ideal.lean ====
abbrev S8x4096x128 : Shape := ⟨3, ![8, 4096, 128]⟩
abbrev S8x4096x64 : Shape := ⟨3, ![8, 4096, 64]⟩
abbrev S4096x64 : Shape := ⟨2, ![4096, 64]⟩
abbrev S8x4096x192 : Shape := ⟨3, ![8, 4096, 192]⟩
abbrev S1x4096x64 : Shape := ⟨3, ![1, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x128 : Shape := ⟨3, ![4096, 8, 128]⟩
abbrev S4096x1024 : Shape := ⟨2, ![4096, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x64, .f32⟩
  | .hbm, ⟨2, _⟩ => ⟨S8x4096x128, .f32⟩
  | .hbm, ⟨3, _⟩ => ⟨S4096x64, .f32⟩
  | .hbm, ⟨4, _⟩ => ⟨S8x4096x128, .f32⟩
  | .hbm, ⟨5, _⟩ => ⟨S8x4096x192, .f32⟩
  | .hbm, ⟨6, _⟩ => ⟨S1x4096x64, .f32⟩
  | .hbm, ⟨7, _⟩ => ⟨S8x4096x64, .f32⟩
  | .hbm, ⟨8, _⟩ => ⟨S8x4096x192, .f32⟩
  | .hbm, ⟨9, _⟩ => ⟨S8x4096x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x1, .f32⟩
  | .hbm, ⟨32, _⟩ => ⟨S_, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x128, .f32⟩
  | .hbm, ⟨37, _⟩ => ⟨S4096x8x128, .f32⟩
  | .hbm, ⟨38, _⟩ => ⟨S4096x1024, .f32⟩
  | .hbm, ⟨39, _⟩ => ⟨S8x4096x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S4096, .i32⟩
  | .hbm, ⟨47, _⟩ => ⟨S1x4096, .i32⟩
  | .hbm, ⟨48, _⟩ => ⟨S4096x1, .i32⟩
  | .hbm, ⟨49, _⟩ => ⟨S4096x4096, .i32⟩
  | .hbm, ⟨50, _⟩ => ⟨S4096x4096, .i32⟩
  | .hbm, ⟨51, _⟩ => ⟨S4096x4096, .i1⟩
  | .hbm, ⟨52, _⟩ => ⟨S_, .f32⟩
  | .hbm, ⟨53, _⟩ => ⟨S_, .f32⟩
  | .hbm, ⟨54, _⟩ => ⟨S8x4096x4096, .i1⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S8x4096x4096, .f32⟩
  | .hbm, ⟨70, _⟩ => ⟨S8x4096x4096, .f32⟩
  | .hbm, ⟨71, _⟩ => ⟨S8x4096x128, .f32⟩
  | .hbm, ⟨72, _⟩ => ⟨S4096x8x128, .f32⟩
  | .hbm, ⟨73, _⟩ => ⟨S4096x1024, .f32⟩
  | .hbm, ⟨74, _⟩ => ⟨S4096x1024, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel4.lean ====
abbrev S4096x1024 : Shape := ⟨2, ![4096, 1024]⟩
abbrev S1024x4800 : Shape := ⟨2, ![1024, 4800]⟩
abbrev S4096x384 : Shape := ⟨2, ![4096, 384]⟩
abbrev S384x1536 : Shape := ⟨2, ![384, 1536]⟩
abbrev S4096x256 : Shape := ⟨2, ![4096, 256]⟩
abbrev S256x1024 : Shape := ⟨2, ![256, 1024]⟩
abbrev S4096x1536 : Shape := ⟨2, ![4096, 1536]⟩
abbrev S4096x4800 : Shape := ⟨2, ![4096, 4800]⟩
abbrev S4800x1024 : Shape := ⟨2, ![4800, 1024]⟩
abbrev S704x1024 : Shape := ⟨2, ![704, 1024]⟩
abbrev S_ : Shape := ⟨0, ![]⟩
abbrev S320x1024 : Shape := ⟨2, ![320, 1024]⟩
abbrev S5120x1024 : Shape := ⟨2, ![5120, 1024]⟩
abbrev S384x8x192 : Shape := ⟨3, ![384, 8, 192]⟩
abbrev S384x8x64 : Shape := ⟨3, ![384, 8, 64]⟩
abbrev S384x8x256 : Shape := ⟨3, ![384, 8, 256]⟩
abbrev S384x2048 : Shape := ⟨2, ![384, 2048]⟩
abbrev S256x2048 : Shape := ⟨2, ![256, 2048]⟩
abbrev S4096x8x192 : Shape := ⟨3, ![4096, 8, 192]⟩
abbrev S4096x8x64 : Shape := ⟨3, ![4096, 8, 64]⟩
abbrev S4096x8x256 : Shape := ⟨3, ![4096, 8, 256]⟩
abbrev S4096x2048 : Shape := ⟨2, ![4096, 2048]⟩
abbrev S4096x4096 : Shape := ⟨2, ![4096, 4096]⟩
abbrev S4096x704 : Shape := ⟨2, ![4096, 704]⟩
abbrev S4096x320 : Shape := ⟨2, ![4096, 320]⟩
abbrev S4096x5120 : Shape := ⟨2, ![4096, 5120]⟩
abbrev S8x128 : Shape := ⟨2, ![8, 128]⟩
abbrev S1024x1024 : Shape := ⟨2, ![1024, 1024]⟩
abbrev S2560x1024 : Shape := ⟨2, ![2560, 1024]⟩
abbrev S1024x2560 : Shape := ⟨2, ![1024, 2560]⟩
abbrev S1024x384 : Shape := ⟨2, ![1024, 384]⟩
abbrev S1024x2048 : Shape := ⟨2, ![1024, 2048]⟩
abbrev S1024x256 : Shape := ⟨2, ![1024, 256]⟩
abbrev S384x1024 : Shape := ⟨2, ![384, 1024]⟩

abbrev nBuf : Space → Nat
  | .hbm => 53
  | .vmem => 39
  | .smem => 0
  | _ => 0

abbrev bufTy : (tb : Table) → Fin (tcTables nBuf tb) → BufTy
  | .hbm, ⟨0, _⟩ => ⟨S4096x1024, .f32⟩
  | .hbm, ⟨1, _⟩ => ⟨S1024x4800, .f32⟩
  | .hbm, ⟨2, _⟩ => ⟨S4096x384, .f32⟩
  | .hbm, ⟨3, _⟩ => ⟨S384x1536, .f32⟩
  | .hbm, ⟨4, _⟩ => ⟨S4096x256, .f32⟩
  | .hbm, ⟨5, _⟩ => ⟨S256x1024, .f32⟩
  | .hbm, ⟨6, _⟩ => ⟨S256x1024, .f32⟩
  | .hbm, ⟨7, _⟩ => ⟨S4096x1536, .f32⟩
  | .hbm, ⟨8, _⟩ => ⟨S4096x1024, .f32⟩
  | .hbm, ⟨9, _⟩ => ⟨S4096x1024, .f32⟩
  | .hbm, ⟨10, _⟩ => ⟨S4096x4800, .f32⟩
  | .hbm, ⟨11, _⟩ => ⟨S4096x1024, .bf16⟩
  | .hbm, ⟨12, _⟩ => ⟨S4096x384, .bf16⟩
  | .hbm, ⟨13, _⟩ => ⟨S4096x256, .bf16⟩
  | .hbm, ⟨14, _⟩ => ⟨S4800x1024, .f32⟩
  | .hbm, ⟨15, _⟩ => ⟨S4096x1024, .f32⟩
  | .hbm, ⟨16, _⟩ => ⟨S704x1024, .f32⟩
  | .hbm, ⟨17, _⟩ => ⟨S_, .f32⟩
  | .hbm, ⟨18, _⟩ => ⟨S320x1024, .f32⟩
  | .hbm, ⟨19, _⟩ => ⟨S5120x1024, .f32⟩
  | .hbm, ⟨20, _⟩ => ⟨S5120x1024, .bf16⟩
  | .hbm, ⟨21, _⟩ => ⟨S384x8x192, .f32⟩
  | .hbm, ⟨22, _⟩ => ⟨S_, .f32⟩
  | .hbm, ⟨23, _⟩ => ⟨S384x8x64, .f32⟩
  | .hbm, ⟨24, _⟩ => ⟨S384x8x256, .f32⟩
  | .hbm, ⟨25, _⟩ => ⟨S384x2048, .f32⟩
  | .hbm, ⟨26, _⟩ => ⟨S384x2048, .bf16⟩
  | .hbm, ⟨27, _⟩ => ⟨S256x2048, .f32⟩
  | .hbm, ⟨28, _⟩ => ⟨S256x2048, .bf16⟩
  | .hbm, ⟨29, _⟩ => ⟨S4096x8x192, .f32⟩
  | .hbm, ⟨30, _⟩ => ⟨S_, .f32⟩
  | .hbm, ⟨31, _⟩ => ⟨S4096x8x64, .f32⟩
  | .hbm, ⟨32, _⟩ => ⟨S4096x8x256, .f32⟩
  | .hbm, ⟨33, _⟩ => ⟨S4096x2048, .f32⟩
  | .hbm, ⟨34, _⟩ => ⟨S4096x2048, .bf16⟩
  | .hbm, ⟨35, _⟩ => ⟨S4096x2048, .f32⟩
  | .hbm, ⟨36, _⟩ => ⟨S4096x2048, .bf16⟩
  | .hbm, ⟨37, _⟩ => ⟨S4096x4096, .f32⟩
  | .hbm, ⟨38, _⟩ => ⟨S4096x704, .f32⟩
  | .hbm, ⟨39, _⟩ => ⟨S_, .f32⟩
  | .hbm, ⟨40, _⟩ => ⟨S4096x320, .f32⟩
  | .hbm, ⟨41, _⟩ => ⟨S4096x5120, .f32⟩
  | .hbm, ⟨42, _⟩ => ⟨S4096x5120, .bf16⟩
  | .hbm, ⟨43, _⟩ => ⟨S_, .f32⟩
  | .hbm, ⟨44, _⟩ => ⟨S8x128, .f32⟩
  | .hbm, ⟨45, _⟩ => ⟨S4096x5120, .bf16⟩
  | .hbm, ⟨46, _⟩ => ⟨S4096x2048, .bf16⟩
  | .hbm, ⟨47, _⟩ => ⟨S4096x2048, .bf16⟩
  | .hbm, ⟨48, _⟩ => ⟨S384x2048, .f32⟩
  | .hbm, ⟨49, _⟩ => ⟨S4096x384, .bf16⟩
  | .hbm, ⟨50, _⟩ => ⟨S256x2048, .f32⟩
  | .hbm, ⟨51, _⟩ => ⟨S4096x256, .bf16⟩
  | .hbm, ⟨52, _⟩ => ⟨S5120x1024, .f32⟩
  | .local _ .vmem, ⟨0, _⟩ => ⟨S1024x1024, .bf16⟩
  | .local _ .vmem, ⟨1, _⟩ => ⟨S1024x1024, .bf16⟩
  | .local _ .vmem, ⟨2, _⟩ => ⟨S2560x1024, .bf16⟩
  | .local _ .vmem, ⟨3, _⟩ => ⟨S2560x1024, .bf16⟩
  | .local _ .vmem, ⟨4, _⟩ => ⟨S1024x2560, .bf16⟩
  | .local _ .vmem, ⟨5, _⟩ => ⟨S1024x2560, .bf16⟩
  | .local _ .vmem, ⟨6, _⟩ => ⟨S1024x384, .bf16⟩
  | .local _ .vmem, ⟨7, _⟩ => ⟨S1024x384, .bf16⟩
  | .local _ .vmem, ⟨8, _⟩ => ⟨S384x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x256, .bf16⟩
  | .local _ .vmem, ⟨12, _⟩ => ⟨S1024x256, .bf16⟩
  | .local _ .vmem, ⟨13, _⟩ => ⟨S256x2048, .bf16⟩
  | .local _ .vmem, ⟨14, _⟩ => ⟨S1024x2048, .bf16⟩
  | .local _ .vmem, ⟨15, _⟩ => ⟨S1024x2048, .bf16⟩
  | .local _ .vmem, ⟨16, _⟩ => ⟨S4096x384, .bf16⟩
  | .local _ .vmem, ⟨17, _⟩ => ⟨S4096x1024, .bf16⟩
  | .local _ .vmem, ⟨18, _⟩ => ⟨S4096x1024, .bf16⟩
  | .local _ .vmem, ⟨19, _⟩ => ⟨S384x1024, .f32⟩
  | .local _ .vmem, ⟨20, _⟩ => ⟨S384x1024, .f32⟩
  | .local _ .vmem, ⟨21, _⟩ => ⟨S1024x2048, .bf16⟩
  | .local _ .vmem, ⟨22, _⟩ => ⟨S1024x2048, .bf16⟩
  | .local _ .vmem, ⟨23, _⟩ => ⟨S384x2048, .bf16⟩
  | .local _ .vmem, ⟨24, _⟩ => ⟨S1024x384, .bf16⟩
  | .local _ .vmem, ⟨25, _⟩ => ⟨S1024x384, .bf16⟩
  | .local _ .vmem, ⟨26, _⟩ => ⟨S4096x256, .bf16⟩
  | .local _ .vmem, ⟨27, _⟩ => ⟨S4096x2048, .bf16⟩
  | .local _ .vmem, ⟨28, _⟩ => ⟨S256x2048, .f32⟩
  | .local _ .vmem, ⟨29, _⟩ => ⟨S1024x2048, .bf16⟩
  | .local _ .vmem, ⟨30, _⟩ => ⟨S1024x2048, .bf16⟩
  | .local _ .vmem, ⟨31, _⟩ => ⟨S256x2048, .bf16⟩
  | .local _ .vmem, ⟨32, _⟩ => ⟨S1024x256, .bf16⟩
  | .local _ .vmem, ⟨33, _⟩ => ⟨S1024x256, .bf16⟩
  | .local _ .vmem, ⟨34, _⟩ => ⟨S4096x1024, .bf16⟩
  | .local _ .vmem, ⟨35, _⟩ => ⟨S4096x1024, .bf16⟩
  | .local _ .vmem, ⟨36, _⟩ => ⟨S4096x1024, .bf16⟩
  | .local _ .vmem, ⟨37, _⟩ => ⟨S1024x1024, .f32⟩
  | .local _ .vmem, ⟨38, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg2_0 : Ref sig .tc := ⟨.vmem, 37, rfl⟩
abbrev cc7_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem2_0 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem2_0 : DmaSem sig := 37
abbrev cc7_sem2_1 : DmaSem sig := 38

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S384x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S256x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x384 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S384x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S384x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x384 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x256 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S4096x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S256x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S256x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![5, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S4096x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S4096x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference4Ideal.lean ====
abbrev S4096x1024 : Shape := ⟨2, ![4096, 1024]⟩
abbrev S1024x4800 : Shape := ⟨2, ![1024, 4800]⟩
abbrev S4096x384 : Shape := ⟨2, ![4096, 384]⟩
abbrev S384x1536 : Shape := ⟨2, ![384, 1536]⟩
abbrev S4096x256 : Shape := ⟨2, ![4096, 256]⟩
abbrev S256x1024 : Shape := ⟨2, ![256, 1024]⟩
abbrev S4096x1536 : Shape := ⟨2, ![4096, 1536]⟩
abbrev S4096x4800 : Shape := ⟨2, ![4096, 4800]⟩
abbrev S4800x1024 : Shape := ⟨2, ![4800, 1024]⟩
abbrev S1536x384 : Shape := ⟨2, ![1536, 384]⟩
abbrev S1024x256 : Shape := ⟨2, ![1024, 256]⟩
abbrev S4096x4096 : Shape := ⟨2, ![4096, 4096]⟩
abbrev S4096x704 : Shape := ⟨2, ![4096, 704]⟩
abbrev S_ : Shape := ⟨0, ![]⟩
abbrev S4096x320 : Shape := ⟨2, ![4096, 320]⟩
abbrev S4096x5120 : Shape := ⟨2, ![4096, 5120]⟩
abbrev S4096x8x192 : Shape := ⟨3, ![4096, 8, 192]⟩
abbrev S4096x8x64 : Shape := ⟨3, ![4096, 8, 64]⟩
abbrev S4096x8x256 : Shape := ⟨3, ![4096, 8, 256]⟩
abbrev S4096x2048 : Shape := ⟨2, ![4096, 2048]⟩
abbrev S384x8x192 : Shape := ⟨3, ![384, 8, 192]⟩
abbrev S384x8x64 : Shape := ⟨3, ![384, 8, 64]⟩
abbrev S384x8x256 : Shape := ⟨3, ![384, 8, 256]⟩
abbrev S384x2048 : Shape := ⟨2, ![384, 2048]⟩
abbrev S256x2048 : Shape := ⟨2, ![256, 2048]⟩
abbrev S1024x4096 : Shape := ⟨2, ![1024, 4096]⟩
abbrev S1024x704 : Shape := ⟨2, ![1024, 704]⟩
abbrev S1024x320 : Shape := ⟨2, ![1024, 320]⟩
abbrev S1024x5120 : Shape := ⟨2, ![1024, 5120]⟩
abbrev S5120x1024 : Shape := ⟨2, ![5120, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4800, .f32⟩
  | .hbm, ⟨2, _⟩ => ⟨S4096x384, .f32⟩
  | .hbm, ⟨3, _⟩ => ⟨S384x1536, .f32⟩
  | .hbm, ⟨4, _⟩ => ⟨S4096x256, .f32⟩
  | .hbm, ⟨5, _⟩ => ⟨S256x1024, .f32⟩
  | .hbm, ⟨6, _⟩ => ⟨S256x1024, .f32⟩
  | .hbm, ⟨7, _⟩ => ⟨S4096x1536, .f32⟩
  | .hbm, ⟨8, _⟩ => ⟨S4096x1024, .f32⟩
  | .hbm, ⟨9, _⟩ => ⟨S4096x1024, .f32⟩
  | .hbm, ⟨10, _⟩ => ⟨S4096x4800, .f32⟩
  | .hbm, ⟨11, _⟩ => ⟨S4096x4800, .f32⟩
  | .hbm, ⟨12, _⟩ => ⟨S4096x1536, .f32⟩
  | .hbm, ⟨13, _⟩ => ⟨S4096x1024, .f32⟩
  | .hbm, ⟨14, _⟩ => ⟨S4096x1024, .f32⟩
  | .hbm, ⟨15, _⟩ => ⟨S4800x1024, .f32⟩
  | .hbm, ⟨16, _⟩ => ⟨S1024x4800, .f32⟩
  | .hbm, ⟨17, _⟩ => ⟨S1536x384, .f32⟩
  | .hbm, ⟨18, _⟩ => ⟨S384x1536, .f32⟩
  | .hbm, ⟨19, _⟩ => ⟨S4096x384, .f32⟩
  | .hbm, ⟨20, _⟩ => ⟨S1024x256, .f32⟩
  | .hbm, ⟨21, _⟩ => ⟨S256x1024, .f32⟩
  | .hbm, ⟨22, _⟩ => ⟨S4096x256, .f32⟩
  | .hbm, ⟨23, _⟩ => ⟨S1024x256, .f32⟩
  | .hbm, ⟨24, _⟩ => ⟨S256x1024, .f32⟩
  | .hbm, ⟨25, _⟩ => ⟨S4096x256, .f32⟩
  | .hbm, ⟨26, _⟩ => ⟨S4096x256, .f32⟩
  | .hbm, ⟨27, _⟩ => ⟨S4096x4096, .f32⟩
  | .hbm, ⟨28, _⟩ => ⟨S4096x704, .f32⟩
  | .hbm, ⟨29, _⟩ => ⟨S_, .f32⟩
  | .hbm, ⟨30, _⟩ => ⟨S4096x320, .f32⟩
  | .hbm, ⟨31, _⟩ => ⟨S4096x5120, .f32⟩
  | .hbm, ⟨32, _⟩ => ⟨S4096x5120, .bf16⟩
  | .hbm, ⟨33, _⟩ => ⟨S4096x8x192, .f32⟩
  | .hbm, ⟨34, _⟩ => ⟨S_, .f32⟩
  | .hbm, ⟨35, _⟩ => ⟨S4096x8x64, .f32⟩
  | .hbm, ⟨36, _⟩ => ⟨S4096x8x256, .f32⟩
  | .hbm, ⟨37, _⟩ => ⟨S4096x2048, .f32⟩
  | .hbm, ⟨38, _⟩ => ⟨S4096x2048, .bf16⟩
  | .hbm, ⟨39, _⟩ => ⟨S4096x2048, .f32⟩
  | .hbm, ⟨40, _⟩ => ⟨S4096x2048, .bf16⟩
  | .hbm, ⟨41, _⟩ => ⟨S384x8x192, .f32⟩
  | .hbm, ⟨42, _⟩ => ⟨S_, .f32⟩
  | .hbm, ⟨43, _⟩ => ⟨S384x8x64, .f32⟩
  | .hbm, ⟨44, _⟩ => ⟨S384x8x256, .f32⟩
  | .hbm, ⟨45, _⟩ => ⟨S384x2048, .f32⟩
  | .hbm, ⟨46, _⟩ => ⟨S4096x384, .bf16⟩
  | .hbm, ⟨47, _⟩ => ⟨S256x2048, .f32⟩
  | .hbm, ⟨48, _⟩ => ⟨S4096x256, .bf16⟩
  | .hbm, ⟨49, _⟩ => ⟨S1024x4096, .f32⟩
  | .hbm, ⟨50, _⟩ => ⟨S1024x704, .f32⟩
  | .hbm, ⟨51, _⟩ => ⟨S_, .f32⟩
  | .hbm, ⟨52, _⟩ => ⟨S1024x320, .f32⟩
  | .hbm, ⟨53, _⟩ => ⟨S1024x5120, .f32⟩
  | .hbm, ⟨54, _⟩ => ⟨S5120x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x2048 : Shape := ⟨2, ![4096, 2048]⟩
abbrev S1x1024 : Shape := ⟨2, ![1, 1024]⟩
abbrev S4x3072x1024 : Shape := ⟨3, ![4, 3072, 1024]⟩
abbrev S_ : Shape := ⟨0, ![]⟩
abbrev S4096x5120 : Shape := ⟨2, ![4096, 5120]⟩
abbrev S4x256x1024 : Shape := ⟨3, ![4, 256, 1024]⟩
abbrev S4x1024x1024 : Shape := ⟨3, ![4, 1024, 1024]⟩
abbrev S4x12x256x1024 : Shape := ⟨4, ![4, 12, 256, 1024]⟩
abbrev S4x1x256x1024 : Shape := ⟨4, ![4, 1, 256, 1024]⟩
abbrev S512x1024 : Shape := ⟨2, ![512, 1024]⟩
abbrev S512 : Shape := ⟨1, ![512]⟩
abbrev S512x1 : Shape := ⟨2, ![512, 1]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 48
  | .vmem => 53
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x2048, .f32⟩
  | .hbm, ⟨4, _⟩ => ⟨S4096x1024, .f32⟩
  | .hbm, ⟨5, _⟩ => ⟨S1024x1024, .f32⟩
  | .hbm, ⟨6, _⟩ => ⟨S1x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4x3072x1024, .f32⟩
  | .hbm, ⟨14, _⟩ => ⟨S4x3072x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S_, .f32⟩
  | .hbm, ⟨21, _⟩ => ⟨S4096x1024, .f32⟩
  | .hbm, ⟨22, _⟩ => ⟨S4096x5120, .f32⟩
  | .hbm, ⟨23, _⟩ => ⟨S4096x5120, .bf16⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x1024x1024, .f32⟩
  | .hbm, ⟨29, _⟩ => ⟨S_, .f32⟩
  | .hbm, ⟨30, _⟩ => ⟨S4x256x1024, .f32⟩
  | .hbm, ⟨31, _⟩ => ⟨S4x3072x1024, .f32⟩
  | .hbm, ⟨32, _⟩ => ⟨S4x3072x1024, .bf16⟩
  | .hbm, ⟨33, _⟩ => ⟨S4x12x256x1024, .bf16⟩
  | .hbm, ⟨34, _⟩ => ⟨S4096x1024, .bf16⟩
  | .hbm, ⟨35, _⟩ => ⟨S4x12x256x1024, .bf16⟩
  | .hbm, ⟨36, _⟩ => ⟨S4096x1024, .bf16⟩
  | .hbm, ⟨37, _⟩ => ⟨S4096x1024, .bf16⟩
  | .hbm, ⟨38, _⟩ => ⟨S4x12x256x1024, .bf16⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4x3072x1024, .f32⟩
  | .hbm, ⟨43, _⟩ => ⟨S4x3072x1024, .bf16⟩
  | .hbm, ⟨44, _⟩ => ⟨S4x3072x1024, .f32⟩
  | .hbm, ⟨45, _⟩ => ⟨S4x3072x1024, .bf16⟩
  | .hbm, ⟨46, _⟩ => ⟨S4x3072x1024, .f32⟩
  | .hbm, ⟨47, _⟩ => ⟨S4x3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S4x1x256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S4x1x256x1024, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .bf16⟩
  | .local _ .vmem, ⟨32, _⟩ => ⟨S4096x256, .bf16⟩
  | .local _ .vmem, ⟨33, _⟩ => ⟨S4096x256, .bf16⟩
  | .local _ .vmem, ⟨34, _⟩ => ⟨S4096x1024, .bf16⟩
  | .local _ .vmem, ⟨35, _⟩ => ⟨S1x256x1024, .f32⟩
  | .local _ .vmem, ⟨36, _⟩ => ⟨S1x256x1024, .f32⟩
  | .local _ .vmem, ⟨37, _⟩ => ⟨S1x256x1024, .bf16⟩
  | .local _ .vmem, ⟨38, _⟩ => ⟨S1x256x1024, .bf16⟩
  | .local _ .vmem, ⟨39, _⟩ => ⟨S4096x256, .bf16⟩
  | .local _ .vmem, ⟨40, _⟩ => ⟨S4096x256, .bf16⟩
  | .local _ .vmem, ⟨41, _⟩ => ⟨S4096x1024, .bf16⟩
  | .local _ .vmem, ⟨42, _⟩ => ⟨S1x256x1024, .f32⟩
  | .local _ .vmem, ⟨43, _⟩ => ⟨S1x256x1024, .f32⟩
  | .local _ .vmem, ⟨44, _⟩ => ⟨S1x256x1024, .bf16⟩
  | .local _ .vmem, ⟨45, _⟩ => ⟨S1x256x1024, .bf16⟩
  | .local _ .vmem, ⟨46, _⟩ => ⟨S4096x256, .bf16⟩
  | .local _ .vmem, ⟨47, _⟩ => ⟨S4096x256, .bf16⟩
  | .local _ .vmem, ⟨48, _⟩ => ⟨S4096x1024, .bf16⟩
  | .local _ .vmem, ⟨49, _⟩ => ⟨S1x256x1024, .f32⟩
  | .local _ .vmem, ⟨50, _⟩ => ⟨S1x256x1024, .f32⟩
  | .local _ .vmem, ⟨51, _⟩ => ⟨S1x256x1024, .bf16⟩
  | .local _ .vmem, ⟨52, _⟩ => ⟨S1x256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v21_0 : Ref sig .tc := ⟨.hbm, 42, rfl⟩
abbrev main_v21_1 : Ref sig .tc := ⟨.hbm, 43, rfl⟩
abbrev main_v22_0 : Ref sig .tc := ⟨.hbm, 44, rfl⟩
abbrev main_v22_1 : Ref sig .tc := ⟨.hbm, 45, rfl⟩
abbrev main_v23_0 : Ref sig .tc := ⟨.hbm, 46, rfl⟩
abbrev main_v23_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem2_1 : DmaSem sig := 36
abbrev cc3_sem3_0 : DmaSem sig := 37
abbrev cc3_sem3_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem2_1 : DmaSem sig := 43
abbrev cc4_sem3_0 : DmaSem sig := 44
abbrev cc4_sem3_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem2_1 : DmaSem sig := 50
abbrev cc5_sem3_0 : DmaSem sig := 51
abbrev cc5_sem3_1 : DmaSem sig := 52

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c6_i32 : BitVec 32 := 6#32
  let c0_i32_0 : BitVec 32 := 0#32
  let c0_i32_1 : BitVec 32 := 0#32
  let c0_i32_2 : BitVec 32 := 0#32
  ![c0_i32.toNat, c6_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4x1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, true, false]

abbrev stage1_6 : Fin 2 → Memref sig .tc .vmem S1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c7_i32 : BitVec 32 := 7#32
  let c0_i32_0 : BitVec 32 := 0#32
  let c0_i32_1 : BitVec 32 := 0#32
  let c0_i32_2 : BitVec 32 := 0#32
  ![c0_i32.toNat, c7_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4x1x256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, true, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let c0_i32 : BitVec 32 := 0#32
  let c0_i32_0 : BitVec 32 := 0#32
  ![arg0.toNat, c7_i32.toNat, c0_i32.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let c0_i32 : BitVec 32 := 0#32
  let c0_i32_0 : BitVec 32 := 0#32
  ![arg0.toNat, c7_i32.toNat, c0_i32.toNat]

abbrev stage3_0 : Fin 2 → Memref sig .tc .vmem S4096x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1x256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 2 → Memref sig .tc .vmem S1x256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_4 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  ![arg0.toNat, c4_i32.toNat, c0_i32.toNat]

def cc4_transform_5 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  ![arg0.toNat, c4_i32.toNat, c0_i32.toNat]

abbrev stage4_0 : Fin 2 → Memref sig .tc .vmem S4096x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1x256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false, false]

abbrev stage4_3 : Fin 2 → Memref sig .tc .vmem S1x256x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  ![arg0.toNat, c6_i32.toNat, c0_i32.toNat]

def cc5_transform_5 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  ![arg0.toNat, c6_i32.toNat, c0_i32.toNat]

abbrev stage5_0 : Fin 2 → Memref sig .tc .vmem S4096x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1x256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false, false]

abbrev stage5_3 : Fin 2 → Memref sig .tc .vmem S1x256x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false, false]
-- ==== Reference5Ideal.lean ====
abbrev S4096x1024 : Shape := ⟨2, ![4096, 1024]⟩
abbrev S1024x1024 : Shape := ⟨2, ![1024, 1024]⟩
abbrev S4096x2048 : Shape := ⟨2, ![4096, 2048]⟩
abbrev S1x1024 : Shape := ⟨2, ![1, 1024]⟩
abbrev S4x3072x1024 : Shape := ⟨3, ![4, 3072, 1024]⟩
abbrev S_ : Shape := ⟨0, ![]⟩
abbrev S4096 : Shape := ⟨1, ![4096]⟩
abbrev S4096x1 : Shape := ⟨2, ![4096, 1]⟩
abbrev S4x256x1024 : Shape := ⟨3, ![4, 256, 1024]⟩
abbrev S4x1024x1024 : Shape := ⟨3, ![4, 1024, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x2048, .f32⟩
  | .hbm, ⟨4, _⟩ => ⟨S4096x1024, .f32⟩
  | .hbm, ⟨5, _⟩ => ⟨S1024x1024, .f32⟩
  | .hbm, ⟨6, _⟩ => ⟨S1x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4x3072x1024, .f32⟩
  | .hbm, ⟨14, _⟩ => ⟨S4x3072x1024, .bf16⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1024x1024, .f32⟩
  | .hbm, ⟨58, _⟩ => ⟨S1024x1024, .f32⟩
  | .hbm, ⟨59, _⟩ => ⟨S4x256x1024, .f32⟩
  | .hbm, ⟨60, _⟩ => ⟨S1024x1024, .f32⟩
  | .hbm, ⟨61, _⟩ => ⟨S1024x1024, .f32⟩
  | .hbm, ⟨62, _⟩ => ⟨S4x256x1024, .f32⟩
  | .hbm, ⟨63, _⟩ => ⟨S1024x1024, .f32⟩
  | .hbm, ⟨64, _⟩ => ⟨S1024x1024, .f32⟩
  | .hbm, ⟨65, _⟩ => ⟨S4x256x1024, .f32⟩
  | .hbm, ⟨66, _⟩ => ⟨S4x1024x1024, .f32⟩
  | .hbm, ⟨67, _⟩ => ⟨S4x256x1024, .f32⟩
  | .hbm, ⟨68, _⟩ => ⟨S4x1024x1024, .f32⟩
  | .hbm, ⟨69, _⟩ => ⟨S4x3072x1024, .f32⟩
  | .hbm, ⟨70, _⟩ => ⟨S4x1024x1024, .bf16⟩
  | .hbm, ⟨71, _⟩ => ⟨S4x256x1024, .bf16⟩
  | .hbm, ⟨72, _⟩ => ⟨S4x256x1024, .bf16⟩
  | .hbm, ⟨73, _⟩ => ⟨S4x256x1024, .bf16⟩
  | .hbm, ⟨74, _⟩ => ⟨S4x256x1024, .bf16⟩
  | .hbm, ⟨75, _⟩ => ⟨S4x1024x1024, .bf16⟩
  | .hbm, ⟨76, _⟩ => ⟨S4x3072x1024, .bf16⟩
  | .hbm, ⟨77, _⟩ => ⟨S4096x1024, .bf16⟩
  | .hbm, ⟨78, _⟩ => ⟨S4096x1024, .bf16⟩
  | .hbm, ⟨79, _⟩ => ⟨S4096x1024, .bf16⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Proof.Reals.lean ====
/-
  Real entries: what it means that an array of extended reals holds the real numbers of a function of the row and the
  column, and what sums, products and the scalar operations of the ideal instance do to real numbers. The two programs
  of this certificate compute with real numbers only (but for the masked scores of the host lines, which are `⊥`), so
  their values are found in `ℝ`, where sums may be rearranged.
-/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.Reals

open Idealize.ShloMosaic

/-- `x` holds, at row `i` and column `j`, the real number `f i j`. -/
def Is2 {a b : ℕ} (x : (⟨2, ![a, b]⟩ : Shape).Idx → EReal) (f : ℕ → ℕ → ℝ) : Prop :=
  ∀ (i : Fin a) (j : Fin b), x (ix2 i j) = ((f i j : ℝ) : EReal)

/-- A sum of real numbers, taken in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same, over the indices below `n`, as a sum over a range. -/
theorem coe_sum_fin {n : ℕ} (f : ℕ → ℝ) : (∑ i : Fin n, ((f i : ℝ) : EReal)) = ((∑ i ∈ Finset.range n, f i : ℝ) : EReal) := by
  rw [coe_sum, Finset.sum_range]

/-- The power of two of a real number is the real power. -/
theorem exp2_coe (r : ℝ) : Ideal.exp2 (r : EReal) = ((Real.rpow 2 r : ℝ) : EReal) := rfl

/-- The exponential of a real number is the real exponential. -/
theorem exp_coe (r : ℝ) : Ideal.exp (r : EReal) = ((Real.exp r : ℝ) : EReal) := rfl

/-- Two positions counted from one start compare as their counts do. -/
theorem cmpi_sle_offset (k : BitVec 32) (hk : k.toNat ≤ 4096) (j i : ℕ) (hj : j < 4096) (hi : i < 4096) :
    IntOp.cmpi .sle (IntOp.addi k (BitVec.ofNat 32 j)) (IntOp.addi k (BitVec.ofNat 32 i)) = if j ≤ i then 1#1 else 0#1 := by
  have e : ∀ n < 4096, (IntOp.addi k (BitVec.ofNat 32 n)).toNat = k.toNat + n := by
    intro n hn
    show (k + BitVec.ofNat 32 n).toNat = _
    rw [BitVec.toNat_add, BitVec.toNat_ofNat]
    omega
  rw [WordCmp.cmpi_sle_of_lt (by rw [e j hj]; omega) (by rw [e i hi]; omega), e j hj, e i hi]
  by_cases h : j ≤ i
  · rw [if_pos h, decide_eq_true (by omega)]; rfl
  · rw [if_neg h, decide_eq_false (by omega)]; rfl

end Cert.Reals

end
-- ==== Proof.Tile.lean ====
/-
  One tile of the call's body: the printed operations of a block of rows against a block of keys, named for any float
  values, and what each holds over the real numbers. The tiles have two heights: 1024 rows, or the 512 below a diagonal
  that begins in the middle of a block.
-/
module

public import proofs.«01_k».proof.Proof.Reals

@[expose] public section

set_option maxRecDepth 16384

noncomputable section

namespace Cert.KernelIdeal.Tile

open Idealize.ShloMosaic Cert.KernelIdeal.Gen Cert.Reals

section Text
variable {F : FTy → Type} [FloatOps F]

/-- The powers of two of a tile of 1024 rows and 512 columns: the product of the queries' and the keys' rows less the
rows' log-sums. -/
def score1 (k : FVec F S512x256 .bf16) (q : FVec F S1024x256 .bf16) (l : FVec F S1024x128 .f32) : FVec F S1024x512 .f32 :=
  exp2 (subf (matmul dot_S1024x256_S512x256_S1024x512_1_1_0_0_n_n none q k (constant S1024x512 .f32 0x00000000#32))
    (broadcastTo S1024x512 (extractStridedSlice S1024x1 ![0, 0] l slices_S1024x128_o0_0_S1024x1) broadcasts_S1024x1_S1024x512))

/-- The tile on the diagonal: zero where the column is beyond the row. -/
def mask1 (k0 : BitVec 32) (s : FVec F S1024x512 .f32) : FVec F S1024x512 .f32 :=
  select (cmpi .sle (addi (broadcast S1024x512 k0) (iota .tc S1024x512 32 [1] iota_S1024x512_d1_w32))
    (addi (broadcast S1024x512 k0) (iota .tc S1024x512 32 [0] iota_S1024x512_d0_w32))) s
    (broadcast S1024x512 (FloatOps.ofBits .f32 0x00000000#32))

/-- A tile's term of the gradient of the values. -/
def dv1 (p : FVec F S1024x512 .f32) (d : FVec F S1024x256 .bf16) : FVec F S512x128 .f32 :=
  matmul dot_S1024x512_S1024x128_S512x128_0_0_1_1_n_n none (truncf .bf16 p bitsLt_bf16_f32)
    (extractStridedSlice S1024x128 ![0, 0] d slices_S1024x256_o0_0_S1024x128) (constant S512x128 .f32 0x00000000#32)

/-- A tile's gradient of the scores. -/
def ds1 (v : FVec F S512x256 .bf16) (p : FVec F S1024x512 .f32) (d : FVec F S1024x256 .bf16) : FVec F S1024x512 .bf16 :=
  truncf .bf16 (mulf p (matmul dot_S1024x256_S512x256_S1024x512_1_1_0_0_n_n none d v (constant S1024x512 .f32 0x00000000#32)))
    bitsLt_bf16_f32

/-- A tile's term of the gradient of the keys. -/
def dk1 (g : FVec F S1024x512 .bf16) (q : FVec F S1024x256 .bf16) : FVec F S512x256 .f32 :=
  matmul dot_S1024x512_S1024x256_S512x256_0_0_1_1_n_n none g q (constant S512x256 .f32 0x00000000#32)

/-- A tile's term of the gradient of the queries. -/
def dq1 (g : FVec F S1024x512 .bf16) (k : FVec F S512x256 .bf16) : FVec F S1024x256 .f32 :=
  matmul dot_S1024x512_S512x256_S1024x256_1_0_0_1_n_n none g k (constant S1024x256 .f32 0x00000000#32)

/-- The powers of two of a tile of 512 rows and 512 columns: the product of the queries' and the keys' rows less the
rows' log-sums. -/
def score2 (k : FVec F S512x256 .bf16) (q : FVec F S512x256 .bf16) (l : FVec F S512x128 .f32) : FVec F S512x512 .f32 :=
  exp2 (subf (matmul dot_S512x256_S512x256_S512x512_1_1_0_0_n_n none q k (constant S512x512 .f32 0x00000000#32))
    (broadcastTo S512x512 (extractStridedSlice S512x1 ![0, 0] l slices_S512x128_o0_0_S512x1) broadcasts_S512x1_S512x512))

/-- The tile on the diagonal: zero where the column is beyond the row. -/
def mask2 (k0 : BitVec 32) (s : FVec F S512x512 .f32) : FVec F S512x512 .f32 :=
  select (cmpi .sle (addi (broadcast S512x512 k0) (iota .tc S512x512 32 [1] iota_S512x512_d1_w32))
    (addi (broadcast S512x512 k0) (iota .tc S512x512 32 [0] iota_S512x512_d0_w32))) s
    (broadcast S512x512 (FloatOps.ofBits .f32 0x00000000#32))

/-- A tile's term of the gradient of the values. -/
def dv2 (p : FVec F S512x512 .f32) (d : FVec F S512x256 .bf16) : FVec F S512x128 .f32 :=
  matmul dot_S512x512_S512x128_S512x128_0_0_1_1_n_n none (truncf .bf16 p bitsLt_bf16_f32)
    (extractStridedSlice S512x128 ![0, 0] d slices_S512x256_o0_0_S512x128) (constant S512x128 .f32 0x00000000#32)

/-- A tile's gradient of the scores. -/
def ds2 (v : FVec F S512x256 .bf16) (p : FVec F S512x512 .f32) (d : FVec F S512x256 .bf16) : FVec F S512x512 .bf16 :=
  truncf .bf16 (mulf p (matmul dot_S512x256_S512x256_S512x512_1_1_0_0_n_n none d v (constant S512x512 .f32 0x00000000#32)))
    bitsLt_bf16_f32

/-- A tile's term of the gradient of the keys. -/
def dk2 (g : FVec F S512x512 .bf16) (q : FVec F S512x256 .bf16) : FVec F S512x256 .f32 :=
  matmul dot_S512x512_S512x256_S512x256_0_0_1_1_n_n none g q (constant S512x256 .f32 0x00000000#32)

/-- A tile's term of the gradient of the queries. -/
def dq2 (g : FVec F S512x512 .bf16) (k : FVec F S512x256 .bf16) : FVec F S512x256 .f32 :=
  matmul dot_S512x512_S512x256_S512x256_1_0_0_1_n_n none g k (constant S512x256 .f32 0x00000000#32)

/-! The same equations from the text to its name. -/

theorem score1_eq (k : FVec F S512x256 .bf16) (q : FVec F S1024x256 .bf16) (l : FVec F S1024x128 .f32) :
  exp2 (subf (matmul dot_S1024x256_S512x256_S1024x512_1_1_0_0_n_n none q k (constant S1024x512 .f32 0x00000000#32))
    (broadcastTo S1024x512 (extractStridedSlice S1024x1 ![0, 0] l slices_S1024x128_o0_0_S1024x1) broadcasts_S1024x1_S1024x512))
    = score1 k q l := rfl

theorem dv1_eq (p : FVec F S1024x512 .f32) (d : FVec F S1024x256 .bf16) :
  matmul dot_S1024x512_S1024x128_S512x128_0_0_1_1_n_n none (truncf .bf16 p bitsLt_bf16_f32)
    (extractStridedSlice S1024x128 ![0, 0] d slices_S1024x256_o0_0_S1024x128) (constant S512x128 .f32 0x00000000#32)
    = dv1 p d := rfl

theorem ds1_eq (v : FVec F S512x256 .bf16) (p : FVec F S1024x512 .f32) (d : FVec F S1024x256 .bf16) :
  truncf .bf16 (mulf p (matmul dot_S1024x256_S512x256_S1024x512_1_1_0_0_n_n none d v (constant S1024x512 .f32 0x00000000#32)))
    bitsLt_bf16_f32
    = ds1 v p d := rfl

theorem dk1_eq (g : FVec F S1024x512 .bf16) (q : FVec F S1024x256 .bf16) :
  matmul dot_S1024x512_S1024x256_S512x256_0_0_1_1_n_n none g q (constant S512x256 .f32 0x00000000#32)
    = dk1 g q := rfl

theorem dq1_eq (g : FVec F S1024x512 .bf16) (k : FVec F S512x256 .bf16) :
  matmul dot_S1024x512_S512x256_S1024x256_1_0_0_1_n_n none g k (constant S1024x256 .f32 0x00000000#32)
    = dq1 g k := rfl

theorem score2_eq (k : FVec F S512x256 .bf16) (q : FVec F S512x256 .bf16) (l : FVec F S512x128 .f32) :
  exp2 (subf (matmul dot_S512x256_S512x256_S512x512_1_1_0_0_n_n none q k (constant S512x512 .f32 0x00000000#32))
    (broadcastTo S512x512 (extractStridedSlice S512x1 ![0, 0] l slices_S512x128_o0_0_S512x1) broadcasts_S512x1_S512x512))
    = score2 k q l := rfl

theorem dv2_eq (p : FVec F S512x512 .f32) (d : FVec F S512x256 .bf16) :
  matmul dot_S512x512_S512x128_S512x128_0_0_1_1_n_n none (truncf .bf16 p bitsLt_bf16_f32)
    (extractStridedSlice S512x128 ![0, 0] d slices_S512x256_o0_0_S512x128) (constant S512x128 .f32 0x00000000#32)
    = dv2 p d := rfl

theorem ds2_eq (v : FVec F S512x256 .bf16) (p : FVec F S512x512 .f32) (d : FVec F S512x256 .bf16) :
  truncf .bf16 (mulf p (matmul dot_S512x256_S512x256_S512x512_1_1_0_0_n_n none d v (constant S512x512 .f32 0x00000000#32)))
    bitsLt_bf16_f32
    = ds2 v p d := rfl

theorem dk2_eq (g : FVec F S512x512 .bf16) (q : FVec F S512x256 .bf16) :
  matmul dot_S512x512_S512x256_S512x256_0_0_1_1_n_n none g q (constant S512x256 .f32 0x00000000#32)
    = dk2 g q := rfl

theorem dq2_eq (g : FVec F S512x512 .bf16) (k : FVec F S512x256 .bf16) :
  matmul dot_S512x512_S512x256_S512x256_1_0_0_1_n_n none g k (constant S512x256 .f32 0x00000000#32)
    = dq2 g k := rfl

end Text

section Value

variable {k v : FVec Ideal S512x256 .bf16} {q d : FVec Ideal S1024x256 .bf16} {l : FVec Ideal S1024x128 .f32}
  {p : FVec Ideal S1024x512 .f32} {g : FVec Ideal S1024x512 .bf16} {K V Q D L P G : ℕ → ℕ → ℝ}

/-- The powers of two hold the powers of the row's and the column's product less the row's log-sum. -/
theorem score1_real (hk : Is2 k K) (hq : Is2 q Q) (hl : Is2 l L) :
    Is2 (score1 k q l) (fun i j => Real.rpow 2 ((∑ t ∈ Finset.range 256, Q i t * K j t) - L i 0)) := by
  intro i j
  unfold score1
  pointwise
  simp only [hk _ _, hq _ _, hl _ _, ← EReal.coe_mul]
  rw [coe_sum_fin (fun t => Q i t * K j t), ← EReal.coe_sub]
  exact exp2_coe _

/-- The mask keeps a column that is not beyond the row. -/
theorem mask1_real (k0 : BitVec 32) (hk0 : k0.toNat ≤ 4096) (hp : Is2 p P) :
    Is2 (mask1 k0 p) (fun i j => if j ≤ i then P i j else 0) := by
  intro i j
  unfold mask1
  pointwise
  rw [cmpi_sle_offset k0 hk0 j i (by omega) (by omega)]
  by_cases h : (j : ℕ) ≤ i
  · rw [if_pos h, if_pos h]; exact hp i j
  · rw [if_neg h, if_neg h]; rfl

/-- A tile's term of the gradient of the values holds the sum over the tile's rows. -/
theorem dv1_real (hp : Is2 p P) (hd : Is2 d D) :
    Is2 (dv1 p d) (fun j t => ∑ i ∈ Finset.range 1024, P i j * D i t) := by
  intro i j
  unfold dv1
  pointwise
  simp only [hp _ _, hd _ _, ← EReal.coe_mul]
  exact coe_sum_fin (fun x => P x i * D x j)

/-- A tile's gradient of the scores: the probability times the row's and the column's product. -/
theorem ds1_real (hv : Is2 v V) (hp : Is2 p P) (hd : Is2 d D) :
    Is2 (ds1 v p d) (fun i j => P i j * ∑ t ∈ Finset.range 256, D i t * V j t) := by
  intro i j
  unfold ds1
  pointwise
  simp only [hp _ _, hd _ _, hv _ _, ← EReal.coe_mul]
  rw [coe_sum_fin (fun t => D i t * V j t), ← EReal.coe_mul]

/-- A tile's term of the gradient of the keys holds the sum over the tile's rows. -/
theorem dk1_real (hg : Is2 g G) (hq : Is2 q Q) :
    Is2 (dk1 g q) (fun j t => ∑ i ∈ Finset.range 1024, G i j * Q i t) := by
  intro i j
  unfold dk1
  pointwise
  simp only [hg _ _, hq _ _, ← EReal.coe_mul]
  exact coe_sum_fin (fun x => G x i * Q x j)

/-- A tile's term of the gradient of the queries holds the sum over the tile's columns. -/
theorem dq1_real (hg : Is2 g G) (hk : Is2 k K) :
    Is2 (dq1 g k) (fun i t => ∑ j ∈ Finset.range 512, G i j * K j t) := by
  intro i j
  unfold dq1
  pointwise
  simp only [hg _ _, hk _ _, ← EReal.coe_mul]
  exact coe_sum_fin (fun x => G i x * K x j)

end Value

section ValueHalf

variable {k v : FVec Ideal S512x256 .bf16} {q d : FVec Ideal S512x256 .bf16} {l : FVec Ideal S512x128 .f32}
  {p : FVec Ideal S512x512 .f32} {g : FVec Ideal S512x512 .bf16} {K V Q D L P G : ℕ → ℕ → ℝ}

/-- The powers of two hold the powers of the row's and the column's product less the row's log-sum. -/
theorem score2_real (hk : Is2 k K) (hq : Is2 q Q) (hl : Is2 l L) :
    Is2 (score2 k q l) (fun i j => Real.rpow 2 ((∑ t ∈ Finset.range 256, Q i t * K j t) - L i 0)) := by
  intro i j
  unfold score2
  pointwise
  simp only [hk _ _, hq _ _, hl _ _, ← EReal.coe_mul]
  rw [coe_sum_fin (fun t => Q i t * K j t), ← EReal.coe_sub]
  exact exp2_coe _

/-- The mask keeps a column that is not beyond the row. -/
theorem mask2_real (k0 : BitVec 32) (hk0 : k0.toNat ≤ 4096) (hp : Is2 p P) :
    Is2 (mask2 k0 p) (fun i j => if j ≤ i then P i j else 0) := by
  intro i j
  unfold mask2
  pointwise
  rw [cmpi_sle_offset k0 hk0 j i (by omega) (by omega)]
  by_cases h : (j : ℕ) ≤ i
  · rw [if_pos h, if_pos h]; exact hp i j
  · rw [if_neg h, if_neg h]; rfl

/-- A tile's term of the gradient of the values holds the sum over the tile's rows. -/
theorem dv2_real (hp : Is2 p P) (hd : Is2 d D) :
    Is2 (dv2 p d) (fun j t => ∑ i ∈ Finset.range 512, P i j * D i t) := by
  intro i j
  unfold dv2
  pointwise
  simp only [hp _ _, hd _ _, ← EReal.coe_mul]
  exact coe_sum_fin (fun x => P x i * D x j)

/-- A tile's gradient of the scores: the probability times the row's and the column's product. -/
theorem ds2_real (hv : Is2 v V) (hp : Is2 p P) (hd : Is2 d D) :
    Is2 (ds2 v p d) (fun i j => P i j * ∑ t ∈ Finset.range 256, D i t * V j t) := by
  intro i j
  unfold ds2
  pointwise
  simp only [hp _ _, hd _ _, hv _ _, ← EReal.coe_mul]
  rw [coe_sum_fin (fun t => D i t * V j t), ← EReal.coe_mul]

/-- A tile's term of the gradient of the keys holds the sum over the tile's rows. -/
theorem dk2_real (hg : Is2 g G) (hq : Is2 q Q) :
    Is2 (dk2 g q) (fun j t => ∑ i ∈ Finset.range 512, G i j * Q i t) := by
  intro i j
  unfold dk2
  pointwise
  simp only [hg _ _, hq _ _, ← EReal.coe_mul]
  exact coe_sum_fin (fun x => G x i * Q x j)

/-- A tile's term of the gradient of the queries holds the sum over the tile's columns. -/
theorem dq2_real (hg : Is2 g G) (hk : Is2 k K) :
    Is2 (dq2 g k) (fun i t => ∑ j ∈ Finset.range 512, G i j * K j t) := by
  intro i j
  unfold dq2
  pointwise
  simp only [hg _ _, hk _ _, ← EReal.coe_mul]
  exact coe_sum_fin (fun x => G i x * K x j)

end ValueHalf

attribute [irreducible] score1 dv1 ds1 dk1 dq1 score2 dv2 ds2 dk2 dq2

end Cert.KernelIdeal.Tile

end
-- ==== Proof.Block.lean ====
/-
  One head of the backward pass, in real numbers. `prob` and `dscore` are the probability and the gradient of the score
  of a row and a column, as the tiles compute them from the head's operands; this file says what a tile of them holds at
  its place in the head, what a sum over tiles holds, and what a scratch array holds into which tiles are added.
-/
module

public import proofs.«01_k».proof.Proof.Tile
public import Idealize.ShloMosaic.Lib.Pipeline.Value

@[expose] public section

set_option maxRecDepth 16384

noncomputable section

namespace Cert.KernelIdeal.Block

open Idealize.ShloMosaic Idealize.SL.Sem Cert.KernelIdeal.Gen Cert.KernelIdeal.Tile Cert.Reals

/-! ## Arrays and their parts -/

section Parts

variable {a b n : ℕ} {f g : ℕ → ℕ → ℝ}

/-- What an array holds may be named by any function that agrees within its bounds. -/
theorem congr_real {x : (⟨2, ![a, b]⟩ : Shape).Idx → EReal} (hx : Is2 x f)
    (h : ∀ i < a, ∀ j < b, f i j = g i j) : Is2 x g :=
  fun i j => by rw [hx i j, h i i.isLt j j.isLt]

/-- The place in the array of an index of the rows from `r0` on. -/
theorem emb_rows (r0 : ℕ) (inb : ∀ k, (![r0, 0] : Fin 2 → ℕ) k + (![n, b] : Fin 2 → ℕ) k ≤ (⟨2, ![a, b]⟩ : Shape).size k)
    (i : Fin n) (j : Fin b) (h : r0 + i < a) :
    (Rect.unit (s := ⟨2, ![a, b]⟩) ![r0, 0] ![n, b] inb).idx (ix2 i j) = ix2 ⟨r0 + i, h⟩ j := by
  funext k
  apply Fin.ext
  fin_cases k
  · show r0 + 1 * (i : ℕ) = r0 + i; omega
  · show 0 + 1 * (j : ℕ) = j; omega

/-- The rows from `r0` on of an array hold the array's function from there on. -/
theorem rows_real {x : (⟨2, ![a, b]⟩ : Shape).Idx → EReal} (hx : Is2 x f) (r0 : ℕ)
    (inb : ∀ k, (![r0, 0] : Fin 2 → ℕ) k + (![n, b] : Fin 2 → ℕ) k ≤ (⟨2, ![a, b]⟩ : Shape).size k) :
    Is2 (a := n) (b := b) (fun i => x ((Rect.unit (s := ⟨2, ![a, b]⟩) ![r0, 0] ![n, b] inb).idx i)) (fun i j => f (r0 + i) j) := by
  intro i j
  have h : r0 + (i : ℕ) < a := by
    have h0 : r0 + n ≤ a := inb 0
    have := i.isLt
    omega
  show x ((Rect.unit (s := ⟨2, ![a, b]⟩) ![r0, 0] ![n, b] inb).idx (ix2 i j)) = _
  rw [emb_rows r0 inb i j h, hx]

/-- A load of the rows from `r0` on of a buffer that holds a head's operand; -/
theorem load_real {sig' : RefSig} {κ : Kind} {sp : Space} (arg : Memref sig' κ sp (⟨2, ![a, b]⟩ : Shape) .bf16)
    (harg : arg.IsWhole) {x : Vec Ideal (⟨2, ![a, b]⟩ : Shape) .bf16} (hx : Is2 x f) (r0 : ℕ)
    (inb : ∀ k, (![r0, 0] : Fin 2 → ℕ) k + (![n, b] : Fin 2 → ℕ) k ≤ (⟨2, ![a, b]⟩ : Shape).size k) :
    Is2 (a := n) (b := b) (View.readAt (Elt Ideal) arg.view (Rect.unit (s := ⟨2, ![a, b]⟩) ![r0, 0] ![n, b] inb).toLoadRect (harg.unread x))
      (fun i j => f (r0 + i) j) := by
  rw [View.readAt_eq_ld, harg.read_unread]
  exact rows_real hx r0 inb

/-- the same, of the buffer that holds the log-sums. -/
theorem load_real_f32 {sig' : RefSig} {κ : Kind} {sp : Space} (arg : Memref sig' κ sp (⟨2, ![a, b]⟩ : Shape) .f32)
    (harg : arg.IsWhole) {x : Vec Ideal (⟨2, ![a, b]⟩ : Shape) .f32} (hx : Is2 x f) (r0 : ℕ)
    (inb : ∀ k, (![r0, 0] : Fin 2 → ℕ) k + (![n, b] : Fin 2 → ℕ) k ≤ (⟨2, ![a, b]⟩ : Shape).size k) :
    Is2 (a := n) (b := b) (View.readAt (Elt Ideal) arg.view (Rect.unit (s := ⟨2, ![a, b]⟩) ![r0, 0] ![n, b] inb).toLoadRect (harg.unread x))
      (fun i j => f (r0 + i) j) := by
  rw [View.readAt_eq_ld, harg.read_unread]
  exact rows_real hx r0 inb

/-- A block stored at the rows from `r0` on agrees with the function the whole result is to hold. -/
theorem piece_real {w : (⟨2, ![n, b]⟩ : Shape).Idx → EReal} (r0 : ℕ)
    (inb : ∀ k, (![r0, 0] : Fin 2 → ℕ) k + (![n, b] : Fin 2 → ℕ) k ≤ (⟨2, ![a, b]⟩ : Shape).size k)
    (hw : Is2 w (fun i j => f (r0 + i) j)) (x : (⟨2, ![n, b]⟩ : Shape).Idx) :
    w x = (fun y : (⟨2, ![a, b]⟩ : Shape).Idx => ((f (y 0) (y 1) : ℝ) : EReal)) ((Rect.unit (s := ⟨2, ![a, b]⟩) ![r0, 0] ![n, b] inb).emb x) := by
  obtain ⟨i, j, rfl⟩ : ∃ (i : Fin n) (j : Fin b), x = ix2 i j := ⟨x 0, x 1, by funext k; fin_cases k <;> rfl⟩
  have h : r0 + (i : ℕ) < a := by
    have h0 : r0 + n ≤ a := inb 0
    have := i.isLt
    omega
  show _ = (fun y : (⟨2, ![a, b]⟩ : Shape).Idx => ((f (y 0) (y 1) : ℝ) : EReal)) ((Rect.unit (s := ⟨2, ![a, b]⟩) ![r0, 0] ![n, b] inb).idx (ix2 i j))
  rw [emb_rows r0 inb i j h, hw]
  rfl

end Parts

/-! ## The probabilities and the gradients of the scores -/

/-- The probability of column `c` in row `r`: a power of two, zero beyond the diagonal. -/
def prob (Q K L : ℕ → ℕ → ℝ) (r c : ℕ) : ℝ :=
  if c ≤ r then Real.rpow 2 ((∑ t ∈ Finset.range 256, Q r t * K c t) - L r 0) else 0

/-- The gradient of the score of row `r` and column `c`. -/
def dscore (Q K V D L : ℕ → ℕ → ℝ) (r c : ℕ) : ℝ :=
  prob Q K L r c * ∑ t ∈ Finset.range 256, D r t * V c t

section Tiles

variable {Q K V D L f g : ℕ → ℕ → ℝ} {r0 k0 : ℕ}

section Rows1024

variable {k v : FVec Ideal S512x256 .bf16} {q d : FVec Ideal S1024x256 .bf16} {l : FVec Ideal S1024x128 .f32}
  {p : FVec Ideal S1024x512 .f32} {ds : FVec Ideal S1024x512 .bf16}

/-- A tile of 1024 rows on the diagonal; -/
theorem prob1_diag (w : BitVec 32) (hw : w.toNat ≤ 4096) (hk : Is2 k fun i t => K (k0 + i) t) (hq : Is2 q fun i t => Q (k0 + i) t)
    (hl : Is2 l fun i t => L (k0 + i) t) : Is2 (mask1 w (score1 k q l)) fun i j => prob Q K L (k0 + i) (k0 + j) :=
  congr_real (mask1_real w hw (score1_real hk hq hl)) fun i _ j _ => by
    unfold prob
    simp only [Nat.add_le_add_iff_left]

/-- a tile below the diagonal. -/
theorem prob1_below (hr : k0 + 512 ≤ r0) (hk : Is2 k fun i t => K (k0 + i) t) (hq : Is2 q fun i t => Q (r0 + i) t)
    (hl : Is2 l fun i t => L (r0 + i) t) : Is2 (score1 k q l) fun i j => prob Q K L (r0 + i) (k0 + j) :=
  congr_real (score1_real hk hq hl) fun i _ j hj => by
    unfold prob
    rw [if_pos (by omega)]

/-- The gradient of the scores of a tile. -/
theorem dscore1 (hv : Is2 v fun i t => V (k0 + i) t) (hp : Is2 p fun i j => prob Q K L (r0 + i) (k0 + j))
    (hd : Is2 d fun i t => D (r0 + i) t) : Is2 (ds1 v p d) fun i j => dscore Q K V D L (r0 + i) (k0 + j) :=
  ds1_real hv hp hd

end Rows1024

section Rows512

variable {k v : FVec Ideal S512x256 .bf16} {q d : FVec Ideal S512x256 .bf16} {l : FVec Ideal S512x128 .f32}
  {p : FVec Ideal S512x512 .f32} {ds : FVec Ideal S512x512 .bf16}

/-- A tile of 512 rows on the diagonal. -/
theorem prob2_diag (w : BitVec 32) (hw : w.toNat ≤ 4096) (hk : Is2 k fun i t => K (k0 + i) t) (hq : Is2 q fun i t => Q (k0 + i) t)
    (hl : Is2 l fun i t => L (k0 + i) t) : Is2 (mask2 w (score2 k q l)) fun i j => prob Q K L (k0 + i) (k0 + j) :=
  congr_real (mask2_real w hw (score2_real hk hq hl)) fun i _ j _ => by
    unfold prob
    simp only [Nat.add_le_add_iff_left]

/-- The gradient of its scores. -/
theorem dscore2 (hv : Is2 v fun i t => V (k0 + i) t) (hp : Is2 p fun i j => prob Q K L (r0 + i) (k0 + j))
    (hd : Is2 d fun i t => D (r0 + i) t) : Is2 (ds2 v p d) fun i j => dscore Q K V D L (r0 + i) (k0 + j) :=
  ds2_real hv hp hd

end Rows512

/-! ## Sums over the rows: the gradients of the keys and of the values -/

/-- The sum over the rows from `k0` up to `b` of a row's and a column's number times the row's entry. -/
def rowSum (f g : ℕ → ℕ → ℝ) (k0 b c t : ℕ) : ℝ := ∑ r ∈ Finset.Ico k0 b, f r c * g r t

/-- A further run of rows. -/
theorem rowSum_add (h : k0 ≤ r0) (n c t : ℕ) :
    rowSum f g k0 r0 c t + ∑ i ∈ Finset.range n, f (r0 + i) c * g (r0 + i) t = rowSum f g k0 (r0 + n) c t := by
  unfold rowSum
  rw [← Finset.sum_Ico_consecutive _ h (Nat.le_add_right r0 n), Finset.sum_Ico_eq_sum_range _ r0, Nat.add_sub_cancel_left]

/-- Zeros hold the sum over no row. -/
theorem zeros_rows {b : ℕ} : Is2 (broadcast (⟨2, ![512, b]⟩ : Shape) (FloatOps.ofBits (F := Ideal) .f32 0x00000000#32)) fun j t => rowSum f g k0 k0 (k0 + j) t := by
  intro i j
  show FloatOps.ofBits (F := Ideal) .f32 0x00000000#32 = _
  rw [show FloatOps.ofBits (F := Ideal) .f32 0x00000000#32 = 0 from Ideal.ofBits_zero_f32]
  simp [rowSum]

/-- The sum of two arrays of real numbers. -/
theorem addf_real {a b : ℕ} {x y : FVec Ideal (⟨2, ![a, b]⟩ : Shape) .f32} (hx : Is2 x f) (hy : Is2 y g) :
    Is2 (addf x y) fun i j => f i j + g i j := by
  intro i j
  show (x (ix2 i j) : EReal) + y (ix2 i j) = _
  rw [hx i j, hy i j, EReal.coe_add]

/-- A narrower width holds the same numbers. -/
theorem truncf_real {a b : ℕ} {x : FVec Ideal (⟨2, ![a, b]⟩ : Shape) .f32} (hx : Is2 x f) :
    Is2 (truncf .bf16 x bitsLt_bf16_f32) f := hx

section Sums

variable {p : FVec Ideal S1024x512 .f32} {p' : FVec Ideal S512x512 .f32} {ds : FVec Ideal S1024x512 .bf16} {ds' : FVec Ideal S512x512 .bf16}
  {q d : FVec Ideal S1024x256 .bf16} {q' d' : FVec Ideal S512x256 .bf16} {x : FVec Ideal S512x128 .f32} {y : FVec Ideal S512x256 .f32}

/-- The gradient of the values after one more tile of 1024 rows, -/
theorem dv_add1 (hr : k0 ≤ r0) (hx : Is2 x fun j t => rowSum f g k0 r0 (k0 + j) t) (hp : Is2 p fun i j => f (r0 + i) (k0 + j))
    (hd : Is2 d fun i t => g (r0 + i) t) : Is2 (addf x (dv1 p d)) fun j t => rowSum f g k0 (r0 + 1024) (k0 + j) t :=
  congr_real (addf_real hx (dv1_real hp hd)) fun _ _ _ _ => rowSum_add hr 1024 _ _

/-- or of 512 rows; -/
theorem dv_add2 (hr : k0 ≤ r0) (hx : Is2 x fun j t => rowSum f g k0 r0 (k0 + j) t) (hp : Is2 p' fun i j => f (r0 + i) (k0 + j))
    (hd : Is2 d' fun i t => g (r0 + i) t) : Is2 (addf x (dv2 p' d')) fun j t => rowSum f g k0 (r0 + 512) (k0 + j) t :=
  congr_real (addf_real hx (dv2_real hp hd)) fun _ _ _ _ => rowSum_add hr 512 _ _

/-- the gradient of the keys after one more tile of 1024 rows, -/
theorem dk_add1 (hr : k0 ≤ r0) (hx : Is2 y fun j t => rowSum f g k0 r0 (k0 + j) t) (hs : Is2 ds fun i j => f (r0 + i) (k0 + j))
    (hq : Is2 q fun i t => g (r0 + i) t) : Is2 (addf y (dk1 ds q)) fun j t => rowSum f g k0 (r0 + 1024) (k0 + j) t :=
  congr_real (addf_real hx (dk1_real hs hq)) fun _ _ _ _ => rowSum_add hr 1024 _ _

/-- or of 512 rows. -/
theorem dk_add2 (hr : k0 ≤ r0) (hx : Is2 y fun j t => rowSum f g k0 r0 (k0 + j) t) (hs : Is2 ds' fun i j => f (r0 + i) (k0 + j))
    (hq : Is2 q' fun i t => g (r0 + i) t) : Is2 (addf y (dk2 ds' q')) fun j t => rowSum f g k0 (r0 + 512) (k0 + j) t :=
  congr_real (addf_real hx (dk2_real hs hq)) fun _ _ _ _ => rowSum_add hr 512 _ _

end Sums

/-- Rows before a column's own have a zero there, so the sum from a block's first row on is the sum over all rows. -/
theorem rowSum_full (hf : ∀ r c, r < c → f r c = 0) (c t : ℕ) (hk : k0 ≤ c) (hk' : k0 ≤ 4096) :
    rowSum f g k0 4096 c t = ∑ r ∈ Finset.range 4096, f r c * g r t := by
  unfold rowSum
  rw [Finset.range_eq_Ico, ← Finset.sum_Ico_consecutive _ (Nat.zero_le k0) hk', Finset.sum_eq_zero (s := Finset.Ico 0 k0), zero_add]
  intro r hr
  rw [hf r c (by have := (Finset.mem_Ico.mp hr).2; omega), zero_mul]

/-- So a finished block, narrowed, holds the sums over all rows. -/
theorem rows_end {b : ℕ} {x : FVec Ideal (⟨2, ![512, b]⟩ : Shape) .f32} (hf : ∀ r c, r < c → f r c = 0) (hk : k0 ≤ 4096)
    (hx : Is2 x fun j t => rowSum f g k0 4096 (k0 + j) t) :
    Is2 (truncf .bf16 x bitsLt_bf16_f32) fun j t => ∑ r ∈ Finset.range 4096, f r (k0 + j) * g r t :=
  congr_real (truncf_real hx) fun j _ t _ => rowSum_full hf (k0 + j) t (Nat.le_add_right k0 j) hk

/-- Beyond the diagonal the probability is zero, -/
theorem prob_zero (r c : ℕ) (h : r < c) : prob Q K L r c = 0 := by unfold prob; rw [if_neg (by omega)]

/-- and so is the gradient of the score. -/
theorem dscore_zero (r c : ℕ) (h : r < c) : dscore Q K V D L r c = 0 := by unfold dscore; rw [prob_zero r c h, zero_mul]

end Tiles

/-! ## The scratch array: the gradient of the queries

The tiles are added in the order of the columns and, within 512 columns from `k0` on, of the rows: at any time the rows
before `k0` are finished, those up to some row `R` have the columns from `k0` on already, the others not yet. -/

/-- How many columns row `r` has had. -/
def had (k0 R r : ℕ) : ℕ := if r < k0 then 4096 else if r < R then k0 + 512 else k0

section Scratch

variable {f g : ℕ → ℕ → ℝ}

/-- The stores `L` fill the scratch array, and row `r` of it holds the sum over the columns it has had. -/
def Holds (f g : ℕ → ℕ → ℝ) (k0 R : ℕ) (L : List (View.Piece (Elt Ideal) S4096x256 .f32)) : Prop :=
  (∀ y, ∃ p ∈ L, y ∈ p.1.set) ∧ Is2 (View.canon L) fun r t => ∑ c ∈ Finset.range (had k0 R r), f r c * g c t

/-- The rows from `r0` on, read back from the scratch array. -/
theorem Holds.read {L : List (View.Piece (Elt Ideal) S4096x256 .f32)} {k0 R : ℕ} (h : Holds f g k0 R L) {n : ℕ} (r0 : ℕ)
    (inb : ∀ k, (![r0, 0] : Fin 2 → ℕ) k + (![n, 256] : Fin 2 → ℕ) k ≤ S4096x256.size k)
    {sig' : RefSig} {κ : Kind} {sp : Space} (v : View sig' κ sp S4096x256 .f32) :
    Is2 (a := n) (b := 256) (v.readCov L (Rect.unit (s := S4096x256) ![r0, 0] ![n, 256] inb).toLoadRect)
      fun i t => ∑ c ∈ Finset.range (had k0 R (r0 + i)), f (r0 + i) c * g c t := by
  rw [View.readCov_eq_canon v L _ fun j => h.1 _]
  exact rows_real h.2 r0 inb

/-- Zeros hold the sum over no column. -/
theorem holds_zeros (inb : ∀ k, (![0, 0] : Fin 2 → ℕ) k + S4096x256.size k ≤ S4096x256.size k) :
    Holds f g 0 0 [⟨Rect.unit ![0, 0] S4096x256.size inb, broadcast S4096x256 (FloatOps.ofBits (F := Ideal) .f32 0x00000000#32)⟩] := by
  have hz : (![0, 0] : Fin 2 → ℕ) = fun _ => 0 := by funext k; fin_cases k <;> rfl
  refine ⟨fun y => ⟨_, List.mem_cons_self, View.mem_set_unit_zero hz inb y⟩, fun i j => ?_⟩
  rw [View.canon_unit_zero hz]
  show FloatOps.ofBits (F := Ideal) .f32 0x00000000#32 = _
  rw [show FloatOps.ofBits (F := Ideal) .f32 0x00000000#32 = 0 from Ideal.ofBits_zero_f32]
  simp [had]

/-- A tile added at the rows from `r0` on, which come next. -/
theorem Holds.add {L : List (View.Piece (Elt Ideal) S4096x256 .f32)} {k0 r0 n : ℕ} (h : Holds f g k0 r0 L) (hr : k0 ≤ r0)
    (inb : ∀ k, (![r0, 0] : Fin 2 → ℕ) k + (![n, 256] : Fin 2 → ℕ) k ≤ S4096x256.size k)
    {w : (⟨2, ![n, 256]⟩ : Shape).Idx → EReal}
    (hw : Is2 w fun i t => ∑ c ∈ Finset.range (had k0 r0 (r0 + i)), f (r0 + i) c * g c t
      + ∑ j ∈ Finset.range 512, f (r0 + i) (k0 + j) * g (k0 + j) t) :
    Holds f g k0 (r0 + n) (⟨Rect.unit ![r0, 0] ![n, 256] inb, w⟩ :: L) := by
  have hn : r0 + n ≤ 4096 := inb 0
  refine ⟨fun y => ?_, fun i j => ?_⟩
  · obtain ⟨p, hp, hy⟩ := h.1 y
    exact ⟨p, List.mem_cons_of_mem _ hp, hy⟩
  · by_cases hi : r0 ≤ (i : ℕ) ∧ (i : ℕ) < r0 + n
    · obtain ⟨k, hk⟩ : ∃ k : Fin n, r0 + (k : ℕ) = i := ⟨⟨i - r0, by omega⟩, by show r0 + (i - r0 : ℕ) = i; omega⟩
      have e : (ix2 i j : S4096x256.Idx) = (Rect.unit (s := S4096x256) ![r0, 0] ![n, 256] inb).emb (ix2 k j) := by
        have hlt : r0 + (k : ℕ) < 4096 := by have := k.isLt; omega
        refine Eq.trans ?_ (emb_rows r0 inb k j hlt).symm
        congr 1
        exact Fin.ext hk.symm
      rw [e, View.canon_cons_emb, hw k j]
      simp only [hk]
      rw [show had k0 r0 i = k0 from by unfold had; rw [if_neg (by omega), if_neg (by omega)],
        show had k0 (r0 + n) i = k0 + 512 from by unfold had; rw [if_neg (by omega), if_pos hi.2], Finset.sum_range_add]
    · have hm : (ix2 i j : S4096x256.Idx) ∉ (Rect.unit (s := S4096x256) ![r0, 0] ![n, 256] inb).set := by
        intro hm
        have := Rect.mem_set_unit.mp hm 0
        exact hi this
      have hc := View.canon_cons_of_not_mem (Val := Elt Ideal) (e := .f32) ⟨Rect.unit (s := S4096x256) ![r0, 0] ![n, 256] inb, w⟩ L hm
      rw [hc, h.2 i j]
      have : had k0 r0 i = had k0 (r0 + n) i := by
        unfold had
        by_cases h1 : (i : ℕ) < k0
        · rw [if_pos h1, if_pos h1]
        · by_cases h2 : (i : ℕ) < r0
          · rw [if_neg h1, if_neg h1, if_pos h2, if_pos (by omega)]
          · rw [if_neg h1, if_neg h1, if_neg h2, if_neg (by omega)]
      simp only [this]

/-- A tile of 1024 rows, read back, added to and stored, as the body does it; -/
theorem Holds.add1 {L : List (View.Piece (Elt Ideal) S4096x256 .f32)} {k0 r0 : ℕ} (h : Holds f g k0 r0 L) (hr : k0 ≤ r0)
    (inb : ∀ k, (![r0, 0] : Fin 2 → ℕ) k + (![1024, 256] : Fin 2 → ℕ) k ≤ S4096x256.size k)
    {sig' : RefSig} {κ : Kind} {sp : Space} (v : View sig' κ sp S4096x256 .f32)
    {ds : FVec Ideal S1024x512 .bf16} {k : FVec Ideal S512x256 .bf16}
    (hs : Is2 ds fun i j => f (r0 + i) (k0 + j)) (hk : Is2 k fun j t => g (k0 + j) t) :
    Holds f g k0 (r0 + 1024) (⟨Rect.unit ![r0, 0] ![1024, 256] inb,
      addf (v.readCov L (Rect.unit (s := S4096x256) ![r0, 0] ![1024, 256] inb).toLoadRect) (dq1 ds k)⟩ :: L) :=
  h.add hr inb (addf_real (h.read r0 inb v) (dq1_real hs hk))

/-- the same of 512 rows. -/
theorem Holds.add2 {L : List (View.Piece (Elt Ideal) S4096x256 .f32)} {k0 r0 : ℕ} (h : Holds f g k0 r0 L) (hr : k0 ≤ r0)
    (inb : ∀ k, (![r0, 0] : Fin 2 → ℕ) k + (![512, 256] : Fin 2 → ℕ) k ≤ S4096x256.size k)
    {sig' : RefSig} {κ : Kind} {sp : Space} (v : View sig' κ sp S4096x256 .f32)
    {ds : FVec Ideal S512x512 .bf16} {k : FVec Ideal S512x256 .bf16}
    (hs : Is2 ds fun i j => f (r0 + i) (k0 + j)) (hk : Is2 k fun j t => g (k0 + j) t) :
    Holds f g k0 (r0 + 512) (⟨Rect.unit ![r0, 0] ![512, 256] inb,
      addf (v.readCov L (Rect.unit (s := S4096x256) ![r0, 0] ![512, 256] inb).toLoadRect) (dq2 ds k)⟩ :: L) :=
  h.add hr inb (addf_real (h.read r0 inb v) (dq2_real hs hk))

/-- With the last row of 512 columns the next columns begin. -/
theorem Holds.next {L : List (View.Piece (Elt Ideal) S4096x256 .f32)} {k0 : ℕ} (h : Holds f g k0 4096 L)
    (hf : ∀ r c, r < c → f r c = 0) (hk : k0 + 512 ≤ 4096) : Holds f g (k0 + 512) (k0 + 512) L := by
  refine ⟨h.1, congr_real h.2 fun r _ t _ => ?_⟩
  unfold had
  by_cases h1 : r < k0
  · rw [if_pos h1, if_pos (by omega)]
  · by_cases h2 : r < k0 + 512
    · rw [if_neg h1, if_pos (by omega), if_pos h2]
      exact Finset.sum_subset (Finset.range_subset_range.mpr hk) fun c _ hc => by
        rw [hf r c (by have := Finset.mem_range.not.mp hc; omega), zero_mul]
    · rw [if_neg h1, if_pos (by omega), if_neg h2, if_neg h2]

/-- At the end the scratch array holds the sum over all columns. -/
theorem Holds.all {L : List (View.Piece (Elt Ideal) S4096x256 .f32)} (h : Holds f g 3584 4096 L) :
    Is2 (View.canon L) fun r t => ∑ c ∈ Finset.range 4096, f r c * g c t :=
  congr_real h.2 fun r hr t _ => by
    have : had 3584 4096 r = 4096 := by unfold had; rw [if_pos hr]; simp
    rw [this]

end Scratch

end Cert.KernelIdeal.Block

end
-- ==== Proof.Head.lean ====
/-
  What the body of one head leaves in its three results, given the real numbers its five operands hold: the gradients of
  the values and of the keys, a piece of 512 rows at a time, and the gradient of the queries, added tile by tile into the
  scratch array.
-/
module

public import proofs.«01_k».proof.Proof.Block
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Head

open Idealize.ShloMosaic Idealize.SL.Sem Cert.KernelIdeal.Gen Cert.KernelIdeal.Tile Cert.KernelIdeal.Block Cert.Reals

variable (c : Dev nD) (i : grid0.Coords) (arg1 : Memref sig .tc .vmem S4096x256 .bf16) (harg1 : arg1.IsWhole)
  (arg2 : Memref sig .tc .vmem S4096x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S4096x128 .f32) (harg5 : arg5.IsWhole)
  (arg6 : Memref sig .tc .vmem S4096x256 .bf16) (harg6 : arg6.IsWhole) (arg7 : Memref sig .tc .vmem S4096x256 .bf16) (harg7 : arg7.IsWhole)
  (arg8 : Memref sig .tc .vmem S4096x128 .bf16) (harg8 : arg8.IsWhole) (arg9 : Memref sig .tc .vmem S4096x256 .f32) (harg9 : arg9.IsWhole)
  {x0 x1 x2 x3 : Vec Ideal S4096x256 .bf16} {x4 : Vec Ideal S4096x128 .f32} {Q K V D L : ℕ → ℕ → ℝ}
  (hq : Is2 x0 Q) (hk : Is2 x1 K) (hv : Is2 x2 V) (hd : Is2 x3 D) (hl : Is2 x4 L)

set_option maxHeartbeats 4000000 in
include hq hk hv hd hl in
/-- Each piece of the gradient of the values holds the sums over the rows of probability times cotangent. -/
theorem dv_pieces : ∀ p ∈ (kernelRun0_A (F := Ideal) c i arg1 harg1 arg2 harg2 arg3 harg3 arg4 harg4 arg5 harg5 arg6 harg6 arg7 harg7 arg8 harg8 arg9 harg9 x0 x1 x2 x3 x4).2.2.1,
    ∀ x, p.2 x = (fun y : S4096x128.Idx => ((∑ r ∈ Finset.range 4096, prob Q K L r (y 0) * D r (y 1) : ℝ) : EReal)) (p.1.emb x) := by
  unfold kernelRun0_A
  dsimp only
  iterate 8 rw [List.forall_mem_cons]
  refine ⟨?_, ?_, ?_, ?_, ?_, ?_, ?_, ?_, by simp⟩
  all_goals
    refine piece_real (f := fun c t => ∑ r ∈ Finset.range 4096, prob Q K L r c * D r t) _ (by decide) ?_
    sl_unfold_words
    unfold_payloads
    simp only [shapeCast_self, score1_eq, dv1_eq, score2_eq, dv2_eq]
    refine rows_end (f := prob Q K L) (g := D) prob_zero (by decide) ?_
    repeat' first
      | with_reducible exact zeros_rows
      | with_reducible refine dv_add1 (by omega) ?_ ?_ ?_
      | with_reducible refine dv_add2 (by omega) ?_ ?_ ?_
      | with_reducible exact load_real arg4 harg4 hd _ _
      | with_reducible exact load_real arg1 harg1 hq _ _
      | with_reducible exact load_real arg2 harg2 hk _ _
      | with_reducible exact load_real arg3 harg3 hv _ _
      | with_reducible exact load_real_f32 arg5 harg5 hl _ _
      | with_reducible refine dscore1 ?_ ?_ ?_
      | with_reducible refine dscore2 ?_ ?_ ?_
      | with_reducible refine prob1_below (by omega) ?_ ?_ ?_
      | refine prob1_diag _ (by decide) ?_ ?_ ?_
      | refine prob2_diag _ (by decide) ?_ ?_ ?_

set_option maxHeartbeats 4000000 in
include hq hk hv hd hl in
/-- Each piece of the gradient of the keys holds the sums over the rows of the score's gradient times the query. -/
theorem dk_pieces : ∀ p ∈ (kernelRun0_A (F := Ideal) c i arg1 harg1 arg2 harg2 arg3 harg3 arg4 harg4 arg5 harg5 arg6 harg6 arg7 harg7 arg8 harg8 arg9 harg9 x0 x1 x2 x3 x4).2.1,
    ∀ x, p.2 x = (fun y : S4096x256.Idx => ((∑ r ∈ Finset.range 4096, dscore Q K V D L r (y 0) * Q r (y 1) : ℝ) : EReal)) (p.1.emb x) := by
  unfold kernelRun0_A
  dsimp only
  iterate 8 rw [List.forall_mem_cons]
  refine ⟨?_, ?_, ?_, ?_, ?_, ?_, ?_, ?_, by simp⟩
  all_goals
    refine piece_real (f := fun c t => ∑ r ∈ Finset.range 4096, dscore Q K V D L r c * Q r t) _ (by decide) ?_
    sl_unfold_words
    unfold_payloads
    simp only [shapeCast_self, score1_eq, ds1_eq, dk1_eq, score2_eq, ds2_eq, dk2_eq]
    refine rows_end (f := dscore Q K V D L) (g := Q) dscore_zero (by decide) ?_
    repeat' first
      | with_reducible exact zeros_rows
      | with_reducible refine dk_add1 (by omega) ?_ ?_ ?_
      | with_reducible refine dk_add2 (by omega) ?_ ?_ ?_
      | with_reducible exact load_real arg4 harg4 hd _ _
      | with_reducible exact load_real arg1 harg1 hq _ _
      | with_reducible exact load_real arg2 harg2 hk _ _
      | with_reducible exact load_real arg3 harg3 hv _ _
      | with_reducible exact load_real_f32 arg5 harg5 hl _ _
      | with_reducible refine dscore1 ?_ ?_ ?_
      | with_reducible refine dscore2 ?_ ?_ ?_
      | with_reducible refine prob1_below (by omega) ?_ ?_ ?_
      | refine prob1_diag _ (by decide) ?_ ?_ ?_
      | refine prob2_diag _ (by decide) ?_ ?_ ?_

end Cert.KernelIdeal.Head

end
-- ==== Proof.HeadQ.lean ====
/-
  The gradient of the queries: the twenty tiles of a head, added one after the other into the scratch array, from which
  the result is read at the end.
-/
module

public import proofs.«01_k».proof.Proof.Block
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Head

open Idealize.ShloMosaic Idealize.SL.Sem Cert.KernelIdeal.Gen Cert.KernelIdeal.Tile Cert.KernelIdeal.Block Cert.Reals

variable (c : Dev nD) (i : grid0.Coords) (arg1 : Memref sig .tc .vmem S4096x256 .bf16) (harg1 : arg1.IsWhole)
  (arg2 : Memref sig .tc .vmem S4096x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S4096x128 .f32) (harg5 : arg5.IsWhole)
  (arg6 : Memref sig .tc .vmem S4096x256 .bf16) (harg6 : arg6.IsWhole) (arg7 : Memref sig .tc .vmem S4096x256 .bf16) (harg7 : arg7.IsWhole)
  (arg8 : Memref sig .tc .vmem S4096x128 .bf16) (harg8 : arg8.IsWhole) (arg9 : Memref sig .tc .vmem S4096x256 .f32) (harg9 : arg9.IsWhole)
  {x0 x1 x2 x3 : Vec Ideal S4096x256 .bf16} {x4 : Vec Ideal S4096x128 .f32} {Q K V D L : ℕ → ℕ → ℝ}
  (hq : Is2 x0 Q) (hk : Is2 x1 K) (hv : Is2 x2 V) (hd : Is2 x3 D) (hl : Is2 x4 L)

set_option maxHeartbeats 4000000 in
include hq hk hv hd hl in
/-- The stores into the scratch array, one tile after the other: each adds its tile to the rows it reads back. -/
theorem dq_steps :
    (Holds (dscore Q K V D L) K 0 0 (kernelRun0_A.sl.HS0_1 (F := Ideal)) → Holds (dscore Q K V D L) K 0 1024 (kernelRun0_A.sl.HS0_2 (F := Ideal) c arg1 harg1 arg2 harg2 arg3 harg3 arg4 harg4 arg5 harg5 arg9 x0 x1 x2 x3 x4)) ∧
    (Holds (dscore Q K V D L) K 0 1024 (kernelRun0_A.sl.HS0_2 (F := Ideal) c arg1 harg1 arg2 harg2 arg3 harg3 arg4 harg4 arg5 harg5 arg9 x0 x1 x2 x3 x4) → Holds (dscore Q K V D L) K 0 2048 (kernelRun0_A.sl.HS0_3 (F := Ideal) c arg1 harg1 arg2 harg2 arg3 harg3 arg4 harg4 arg5 harg5 arg9 x0 x1 x2 x3 x4)) ∧
    (Holds (dscore Q K V D L) K 0 2048 (kernelRun0_A.sl.HS0_3 (F := Ideal) c arg1 harg1 arg2 harg2 arg3 harg3 arg4 harg4 arg5 harg5 arg9 x0 x1 x2 x3 x4) → Holds (dscore Q K V D L) K 0 3072 (kernelRun0_A.sl.HS0_4 (F := Ideal) c arg1 harg1 arg2 harg2 arg3 harg3 arg4 harg4 arg5 harg5 arg9 x0 x1 x2 x3 x4)) ∧
    (Holds (dscore Q K V D L) K 0 3072 (kernelRun0_A.sl.HS0_4 (F := Ideal) c arg1 harg1 arg2 harg2 arg3 harg3 arg4 harg4 arg5 harg5 arg9 x0 x1 x2 x3 x4) → Holds (dscore Q K V D L) K 0 4096 (kernelRun0_A.sl.HS0_5 (F := Ideal) c arg1 harg1 arg2 harg2 arg3 harg3 arg4 harg4 arg5 harg5 arg9 x0 x1 x2 x3 x4)) ∧
    (Holds (dscore Q K V D L) K 512 512 (kernelRun0_A.sl.HS0_5 (F := Ideal) c arg1 harg1 arg2 harg2 arg3 harg3 arg4 harg4 arg5 harg5 arg9 x0 x1 x2 x3 x4) → Holds (dscore Q K V D L) K 512 1024 (kernelRun0_A.sl.HS0_6 (F := Ideal) c arg1 harg1 arg2 harg2 arg3 harg3 arg4 harg4 arg5 harg5 arg9 x0 x1 x2 x3 x4)) ∧
    (Holds (dscore Q K V D L) K 512 1024 (kernelRun0_A.sl.HS0_6 (F := Ideal) c arg1 harg1 arg2 harg2 arg3 harg3 arg4 harg4 arg5 harg5 arg9 x0 x1 x2 x3 x4) → Holds (dscore Q K V D L) K 512 2048 (kernelRun0_A.sl.HS0_7 (F := Ideal) c arg1 harg1 arg2 harg2 arg3 harg3 arg4 harg4 arg5 harg5 arg9 x0 x1 x2 x3 x4)) ∧
    (Holds (dscore Q K V D L) K 512 2048 (kernelRun0_A.sl.HS0_7 (F := Ideal) c arg1 harg1 arg2 harg2 arg3 harg3 arg4 harg4 arg5 harg5 arg9 x0 x1 x2 x3 x4) → Holds (dscore Q K V D L) K 512 3072 (kernelRun0_A.sl.HS0_8 (F := Ideal) c arg1 harg1 arg2 harg2 arg3 harg3 arg4 harg4 arg5 harg5 arg9 x0 x1 x2 x3 x4)) ∧
    (Holds (dscore Q K V D L) K 512 3072 (kernelRun0_A.sl.HS0_8 (F := Ideal) c arg1 harg1 arg2 harg2 arg3 harg3 arg4 harg4 arg5 harg5 arg9 x0 x1 x2 x3 x4) → Holds (dscore Q K V D L) K 512 4096 (kernelRun0_A.sl.HS0_9 (F := Ideal) c arg1 harg1 arg2 harg2 arg3 harg3 arg4 harg4 arg5 harg5 arg9 x0 x1 x2 x3 x4)) ∧
    (Holds (dscore Q K V D L) K 1024 1024 (kernelRun0_A.sl.HS0_9 (F := Ideal) c arg1 harg1 arg2 harg2 arg3 harg3 arg4 harg4 arg5 harg5 arg9 x0 x1 x2 x3 x4) → Holds (dscore Q K V D L) K 1024 2048 (kernelRun0_A.sl.HS0_10 (F := Ideal) c arg1 harg1 arg2 harg2 arg3 harg3 arg4 harg4 arg5 harg5 arg9 x0 x1 x2 x3 x4)) ∧
    (Holds (dscore Q K V D L) K 1024 2048 (kernelRun0_A.sl.HS0_10 (F := Ideal) c arg1 harg1 arg2 harg2 arg3 harg3 arg4 harg4 arg5 harg5 arg9 x0 x1 x2 x3 x4) → Holds (dscore Q K V D L) K 1024 3072 (kernelRun0_A.sl.HS0_11 (F := Ideal) c arg1 harg1 arg2 harg2 arg3 harg3 arg4 harg4 arg5 harg5 arg9 x0 x1 x2 x3 x4)) ∧
    (Holds (dscore Q K V D L) K 1024 3072 (kernelRun0_A.sl.HS0_11 (F := Ideal) c arg1 harg1 arg2 harg2 arg3 harg3 arg4 harg4 arg5 harg5 arg9 x0 x1 x2 x3 x4) → Holds (dscore Q K V D L) K 1024 4096 (kernelRun0_A.sl.HS0_12 (F := Ideal) c arg1 harg1 arg2 harg2 arg3 harg3 arg4 harg4 arg5 harg5 arg9 x0 x1 x2 x3 x4)) ∧
    (Holds (dscore Q K V D L) K 1536 1536 (kernelRun0_A.sl.HS0_12 (F := Ideal) c arg1 harg1 arg2 harg2 arg3 harg3 arg4 harg4 arg5 harg5 arg9 x0 x1 x2 x3 x4) → Holds (dscore Q K V D L) K 1536 2048 (kernelRun0_A.sl.HS0_13 (F := Ideal) c arg1 harg1 arg2 harg2 arg3 harg3 arg4 harg4 arg5 harg5 arg9 x0 x1 x2 x3 x4)) ∧
    (Holds (dscore Q K V D L) K 1536 2048 (kernelRun0_A.sl.HS0_13 (F := Ideal) c arg1 harg1 arg2 harg2 arg3 harg3 arg4 harg4 arg5 harg5 arg9 x0 x1 x2 x3 x4) → Holds (dscore Q K V D L) K 1536 3072 (kernelRun0_A.sl.HS0_14 (F := Ideal) c arg1 harg1 arg2 harg2 arg3 harg3 arg4 harg4 arg5 harg5 arg9 x0 x1 x2 x3 x4)) ∧
    (Holds (dscore Q K V D L) K 1536 3072 (kernelRun0_A.sl.HS0_14 (F := Ideal) c arg1 harg1 arg2 harg2 arg3 harg3 arg4 harg4 arg5 harg5 arg9 x0 x1 x2 x3 x4) → Holds (dscore Q K V D L) K 1536 4096 (kernelRun0_A.sl.HS0_15 (F := Ideal) c arg1 harg1 arg2 harg2 arg3 harg3 arg4 harg4 arg5 harg5 arg9 x0 x1 x2 x3 x4)) ∧
    (Holds (dscore Q K V D L) K 2048 2048 (kernelRun0_A.sl.HS0_15 (F := Ideal) c arg1 harg1 arg2 harg2 arg3 harg3 arg4 harg4 arg5 harg5 arg9 x0 x1 x2 x3 x4) → Holds (dscore Q K V D L) K 2048 3072 (kernelRun0_A.sl.HS0_16 (F := Ideal) c arg1 harg1 arg2 harg2 arg3 harg3 arg4 harg4 arg5 harg5 arg9 x0 x1 x2 x3 x4)) ∧
    (Holds (dscore Q K V D L) K 2048 3072 (kernelRun0_A.sl.HS0_16 (F := Ideal) c arg1 harg1 arg2 harg2 arg3 harg3 arg4 harg4 arg5 harg5 arg9 x0 x1 x2 x3 x4) → Holds (dscore Q K V D L) K 2048 4096 (kernelRun0_A.sl.HS0_17 (F := Ideal) c arg1 harg1 arg2 harg2 arg3 harg3 arg4 harg4 arg5 harg5 arg9 x0 x1 x2 x3 x4)) ∧
    (Holds (dscore Q K V D L) K 2560 2560 (kernelRun0_A.sl.HS0_17 (F := Ideal) c arg1 harg1 arg2 harg2 arg3 harg3 arg4 harg4 arg5 harg5 arg9 x0 x1 x2 x3 x4) → Holds (dscore Q K V D L) K 2560 3072 (kernelRun0_A.sl.HS0_18 (F := Ideal) c arg1 harg1 arg2 harg2 arg3 harg3 arg4 harg4 arg5 harg5 arg9 x0 x1 x2 x3 x4)) ∧
    (Holds (dscore Q K V D L) K 2560 3072 (kernelRun0_A.sl.HS0_18 (F := Ideal) c arg1 harg1 arg2 harg2 arg3 harg3 arg4 harg4 arg5 harg5 arg9 x0 x1 x2 x3 x4) → Holds (dscore Q K V D L) K 2560 4096 (kernelRun0_A.sl.HS0_19 (F := Ideal) c arg1 harg1 arg2 harg2 arg3 harg3 arg4 harg4 arg5 harg5 arg9 x0 x1 x2 x3 x4)) ∧
    (Holds (dscore Q K V D L) K 3072 3072 (kernelRun0_A.sl.HS0_19 (F := Ideal) c arg1 harg1 arg2 harg2 arg3 harg3 arg4 harg4 arg5 harg5 arg9 x0 x1 x2 x3 x4) → Holds (dscore Q K V D L) K 3072 4096 (kernelRun0_A.sl.HS0_20 (F := Ideal) c arg1 harg1 arg2 harg2 arg3 harg3 arg4 harg4 arg5 harg5 arg9 x0 x1 x2 x3 x4)) ∧
    (Holds (dscore Q K V D L) K 3584 3584 (kernelRun0_A.sl.HS0_20 (F := Ideal) c arg1 harg1 arg2 harg2 arg3 harg3 arg4 harg4 arg5 harg5 arg9 x0 x1 x2 x3 x4) → Holds (dscore Q K V D L) K 3584 4096 (kernelRun0_A.sl.HS0_21 (F := Ideal) c arg1 harg1 arg2 harg2 arg3 harg3 arg4 harg4 arg5 harg5 arg9 x0 x1 x2 x3 x4)) := by
  refine ⟨?_, ?_, ?_, ?_, ?_, ?_, ?_, ?_, ?_, ?_, ?_, ?_, ?_, ?_, ?_, ?_, ?_, ?_, ?_, ?_⟩
  all_goals
    first
      | unfold kernelRun0_A.sl.HS0_21 kernelRun0_A.sl.v666; generalize kernelRun0_A.sl.HS0_20 c arg1 harg1 arg2 harg2 arg3 harg3 arg4 harg4 arg5 harg5 arg9 x0 x1 x2 x3 x4 = S
      | unfold kernelRun0_A.sl.HS0_20 kernelRun0_A.sl.v621; generalize kernelRun0_A.sl.HS0_19 c arg1 harg1 arg2 harg2 arg3 harg3 arg4 harg4 arg5 harg5 arg9 x0 x1 x2 x3 x4 = S
      | unfold kernelRun0_A.sl.HS0_19 kernelRun0_A.sl.v576; generalize kernelRun0_A.sl.HS0_18 c arg1 harg1 arg2 harg2 arg3 harg3 arg4 harg4 arg5 harg5 arg9 x0 x1 x2 x3 x4 = S
      | unfold kernelRun0_A.sl.HS0_18 kernelRun0_A.sl.v550; generalize kernelRun0_A.sl.HS0_17 c arg1 harg1 arg2 harg2 arg3 harg3 arg4 harg4 arg5 harg5 arg9 x0 x1 x2 x3 x4 = S
      | unfold kernelRun0_A.sl.HS0_17 kernelRun0_A.sl.r_63 kernelRun0_A.sl.v505; generalize kernelRun0_A.sl.HS0_16 c arg1 harg1 arg2 harg2 arg3 harg3 arg4 harg4 arg5 harg5 arg9 x0 x1 x2 x3 x4 = S
      | unfold kernelRun0_A.sl.HS0_16 kernelRun0_A.sl.v479; generalize kernelRun0_A.sl.HS0_15 c arg1 harg1 arg2 harg2 arg3 harg3 arg4 harg4 arg5 harg5 arg9 x0 x1 x2 x3 x4 = S
      | unfold kernelRun0_A.sl.HS0_15 kernelRun0_A.sl.r_54 kernelRun0_A.sl.v434; generalize kernelRun0_A.sl.HS0_14 c arg1 harg1 arg2 harg2 arg3 harg3 arg4 harg4 arg5 harg5 arg9 x0 x1 x2 x3 x4 = S
      | unfold kernelRun0_A.sl.HS0_14 kernelRun0_A.sl.v408; generalize kernelRun0_A.sl.HS0_13 c arg1 harg1 arg2 harg2 arg3 harg3 arg4 harg4 arg5 harg5 arg9 x0 x1 x2 x3 x4 = S
      | unfold kernelRun0_A.sl.HS0_13 kernelRun0_A.sl.v382; generalize kernelRun0_A.sl.HS0_12 c arg1 harg1 arg2 harg2 arg3 harg3 arg4 harg4 arg5 harg5 arg9 x0 x1 x2 x3 x4 = S
      | unfold kernelRun0_A.sl.HS0_12 kernelRun0_A.sl.v337; generalize kernelRun0_A.sl.HS0_11 c arg1 harg1 arg2 harg2 arg3 harg3 arg4 harg4 arg5 harg5 arg9 x0 x1 x2 x3 x4 = S
      | unfold kernelRun0_A.sl.HS0_11 kernelRun0_A.sl.v311; generalize kernelRun0_A.sl.HS0_10 c arg1 harg1 arg2 harg2 arg3 harg3 arg4 harg4 arg5 harg5 arg9 x0 x1 x2 x3 x4 = S
      | unfold kernelRun0_A.sl.HS0_10 kernelRun0_A.sl.v285; generalize kernelRun0_A.sl.HS0_9 c arg1 harg1 arg2 harg2 arg3 harg3 arg4 harg4 arg5 harg5 arg9 x0 x1 x2 x3 x4 = S
      | unfold kernelRun0_A.sl.HS0_9 kernelRun0_A.sl.v240; generalize kernelRun0_A.sl.HS0_8 c arg1 harg1 arg2 harg2 arg3 harg3 arg4 harg4 arg5 harg5 arg9 x0 x1 x2 x3 x4 = S
      | unfold kernelRun0_A.sl.HS0_8 kernelRun0_A.sl.r_27 kernelRun0_A.sl.v214; generalize kernelRun0_A.sl.HS0_7 c arg1 harg1 arg2 harg2 arg3 harg3 arg4 harg4 arg5 harg5 arg9 x0 x1 x2 x3 x4 = S
      | unfold kernelRun0_A.sl.HS0_7 kernelRun0_A.sl.v188; generalize kernelRun0_A.sl.HS0_6 c arg1 harg1 arg2 harg2 arg3 harg3 arg4 harg4 arg5 harg5 arg9 x0 x1 x2 x3 x4 = S
      | unfold kernelRun0_A.sl.HS0_6 kernelRun0_A.sl.v162; generalize kernelRun0_A.sl.HS0_5 c arg1 harg1 arg2 harg2 arg3 harg3 arg4 harg4 arg5 harg5 arg9 x0 x1 x2 x3 x4 = S
      | unfold kernelRun0_A.sl.HS0_5 kernelRun0_A.sl.v117; generalize kernelRun0_A.sl.HS0_4 c arg1 harg1 arg2 harg2 arg3 harg3 arg4 harg4 arg5 harg5 arg9 x0 x1 x2 x3 x4 = S
      | unfold kernelRun0_A.sl.HS0_4 kernelRun0_A.sl.v91; generalize kernelRun0_A.sl.HS0_3 c arg1 harg1 arg2 harg2 arg3 harg3 arg4 harg4 arg5 harg5 arg9 x0 x1 x2 x3 x4 = S
      | unfold kernelRun0_A.sl.HS0_3 kernelRun0_A.sl.v65; generalize kernelRun0_A.sl.HS0_2 c arg1 harg1 arg2 harg2 arg3 harg3 arg4 harg4 arg5 harg5 arg9 x0 x1 x2 x3 x4 = S
      | unfold kernelRun0_A.sl.HS0_2 kernelRun0_A.sl.v39; generalize kernelRun0_A.sl.HS0_1 (F := Ideal) = S
    intro h
    sl_unfold_words
    unfold_payloads
    simp only [shapeCast_self, score1_eq, ds1_eq, dq1_eq, score2_eq, ds2_eq, dq2_eq]
    first
      | with_reducible refine h.add1 (by decide) _ arg9.view ?_ ?_
      | with_reducible refine h.add2 (by decide) _ arg9.view ?_ ?_
    all_goals
      repeat' first
        | with_reducible exact load_real arg4 harg4 hd _ _
        | with_reducible exact load_real arg1 harg1 hq _ _
        | with_reducible exact load_real arg2 harg2 hk _ _
        | with_reducible exact load_real arg3 harg3 hv _ _
        | with_reducible exact load_real_f32 arg5 harg5 hl _ _
        | with_reducible refine dscore1 ?_ ?_ ?_
        | with_reducible refine dscore2 ?_ ?_ ?_
        | with_reducible refine prob1_below (by omega) ?_ ?_ ?_
        | refine prob1_diag _ (by decide) ?_ ?_ ?_
        | refine prob2_diag _ (by decide) ?_ ?_ ?_

include hq hk hv hd hl in
/-- After the last tile the scratch array holds the sums over all columns of the score's gradient times the key. -/
theorem dq_scratch : Holds (dscore Q K V D L) K 3584 4096 (kernelRun0_A.sl.HS0_21 (F := Ideal) c arg1 harg1 arg2 harg2 arg3 harg3 arg4 harg4 arg5 harg5 arg9 x0 x1 x2 x3 x4) := by
  obtain ⟨s2, s3, s4, s5, s6, s7, s8, s9, s10, s11, s12, s13, s14, s15, s16, s17, s18, s19, s20, s21⟩ :=
    dq_steps c arg1 harg1 arg2 harg2 arg3 harg3 arg4 harg4 arg5 harg5 arg9 hq hk hv hd hl
  have z : Holds (dscore Q K V D L) K 0 0 (kernelRun0_A.sl.HS0_1 (F := Ideal)) := by
    unfold kernelRun0_A.sl.HS0_1
    unfold_payloads
    simp only [shapeCast_self]
    exact holds_zeros _
  have t0 := (s5 (s4 (s3 (s2 z)))).next dscore_zero (by omega)
  have t1 := (s9 (s8 (s7 (s6 t0)))).next dscore_zero (by omega)
  have t2 := (s12 (s11 (s10 t1))).next dscore_zero (by omega)
  have t3 := (s15 (s14 (s13 t2))).next dscore_zero (by omega)
  have t4 := (s17 (s16 t3)).next dscore_zero (by omega)
  have t5 := (s19 (s18 t4)).next dscore_zero (by omega)
  exact s21 ((s20 t5).next dscore_zero (by omega))

include hq hk hv hd hl in
/-- The gradient of the queries: the scratch array, narrowed. -/
theorem dq_pieces : ∀ p ∈ (kernelRun0_A (F := Ideal) c i arg1 harg1 arg2 harg2 arg3 harg3 arg4 harg4 arg5 harg5 arg6 harg6 arg7 harg7 arg8 harg8 arg9 harg9 x0 x1 x2 x3 x4).1,
    ∀ x, p.2 x = (fun y : S4096x256.Idx => ((∑ c ∈ Finset.range 4096, dscore Q K V D L (y 0) c * K c (y 1) : ℝ) : EReal)) (p.1.emb x) := by
  have h := dq_scratch c arg1 harg1 arg2 harg2 arg3 harg3 arg4 harg4 arg5 harg5 arg9 hq hk hv hd hl
  unfold kernelRun0_A
  dsimp only
  rw [List.forall_mem_cons]
  refine ⟨?_, by simp⟩
  unfold kernelRun0_A.sl.v676
  unfold_payloads
  generalize kernelRun0_A.sl.HS0_21 (F := Ideal) c arg1 harg1 arg2 harg2 arg3 harg3 arg4 harg4 arg5 harg5 arg9 x0 x1 x2 x3 x4 = S at h ⊢
  refine piece_real (f := fun r t => ∑ c ∈ Finset.range 4096, dscore Q K V D L r c * K c t) 0 (by decide) ?_
  refine congr_real (truncf_real (h.read 0 (by decide) arg9.view)) fun r hr t _ => ?_
  simp only [Nat.zero_add]
  rw [show had 3584 4096 r = 4096 from by unfold had; rw [if_pos hr]; simp]

end Cert.KernelIdeal.Head

end
-- ==== Proof.Arrays.lean ====
/-
  From one head to the whole arrays: the operands hold the heads side by side, 256 columns each (128 for the logarithms),
  the body runs once for each head on its columns, and the results hold each head's gradients in its columns.
-/
module

public import proofs.«01_k».proof.Proof.Head
public import proofs.«01_k».proof.Proof.HeadQ
public import proofs.«01_k».proof.Proof.Gen.KernelIdeal.Value

@[expose] public section

set_option maxRecDepth 16384

noncomputable section

namespace Cert.KernelIdeal.Arrays

open Idealize.ShloMosaic Idealize.ShloMosaic.TcCoe Idealize.SL.Sem Cert.KernelIdeal Cert.KernelIdeal.Gen Cert.KernelIdeal.Block Cert.KernelIdeal.Head Cert.Reals
open Idealize.ShloMosaic.Pipeline (Dat)

/-! ## One head -/

section head

variable (c : Dev nD) (i : grid0.Coords) (arg1 : Memref sig .tc .vmem S4096x256 .bf16) (harg1 : arg1.IsWhole)
  (arg2 : Memref sig .tc .vmem S4096x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S4096x128 .f32) (harg5 : arg5.IsWhole)
  (arg6 : Memref sig .tc .vmem S4096x256 .bf16) (harg6 : arg6.IsWhole) (arg7 : Memref sig .tc .vmem S4096x256 .bf16) (harg7 : arg7.IsWhole)
  (arg8 : Memref sig .tc .vmem S4096x128 .bf16) (harg8 : arg8.IsWhole) (arg9 : Memref sig .tc .vmem S4096x256 .f32) (harg9 : arg9.IsWhole)
  {x0 x1 x2 x3 : Vec Ideal S4096x256 .bf16} {x4 : Vec Ideal S4096x128 .f32} {Q K V D L : ℕ → ℕ → ℝ}
  (hq : Is2 x0 Q) (hk : Is2 x1 K) (hv : Is2 x2 V) (hd : Is2 x3 D) (hl : Is2 x4 L)

include hq hk hv hd hl in
/-- A head's gradient of the queries: the gradient of its scores times its keys. -/
theorem out_dq (y : S4096x256.Idx) :
    out0_A_5 (F := Ideal) c i arg1 harg1 arg2 harg2 arg3 harg3 arg4 harg4 arg5 harg5 arg6 harg6 arg7 harg7 arg8 harg8 arg9 harg9 x0 x1 x2 x3 x4 y
      = ((∑ k ∈ Finset.range 4096, dscore Q K V D L (y 0) k * K k (y 1) : ℝ) : EReal) := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4)]
  exact View.canon_apply_of_pieces (fun y : S4096x256.Idx => ((∑ k ∈ Finset.range 4096, dscore Q K V D L (y 0) k * K k (y 1) : ℝ) : EReal)) _
    (dq_pieces c i arg1 harg1 arg2 harg2 arg3 harg3 arg4 harg4 arg5 harg5 arg6 harg6 arg7 harg7 arg8 harg8 arg9 harg9 hq hk hv hd hl) y
    (cover0_A_5 c i arg1 harg1 arg2 harg2 arg3 harg3 arg4 harg4 arg5 harg5 arg6 harg6 arg7 harg7 arg8 harg8 arg9 harg9 x0 x1 x2 x3 x4 y)

include hq hk hv hd hl in
/-- A head's gradient of the keys: the gradient of its scores, transposed, times its queries. -/
theorem out_dk (y : S4096x256.Idx) :
    out0_A_6 (F := Ideal) c i arg1 harg1 arg2 harg2 arg3 harg3 arg4 harg4 arg5 harg5 arg6 harg6 arg7 harg7 arg8 harg8 arg9 harg9 x0 x1 x2 x3 x4 y
      = ((∑ r ∈ Finset.range 4096, dscore Q K V D L r (y 0) * Q r (y 1) : ℝ) : EReal) := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4)]
  exact View.canon_apply_of_pieces (fun y : S4096x256.Idx => ((∑ r ∈ Finset.range 4096, dscore Q K V D L r (y 0) * Q r (y 1) : ℝ) : EReal)) _
    (dk_pieces c i arg1 harg1 arg2 harg2 arg3 harg3 arg4 harg4 arg5 harg5 arg6 harg6 arg7 harg7 arg8 harg8 arg9 harg9 hq hk hv hd hl) y
    (cover0_A_6 c i arg1 harg1 arg2 harg2 arg3 harg3 arg4 harg4 arg5 harg5 arg6 harg6 arg7 harg7 arg8 harg8 arg9 harg9 x0 x1 x2 x3 x4 y)

include hq hk hv hd hl in
/-- A head's gradient of the values: its probabilities, transposed, times its cotangents. -/
theorem out_dv (y : S4096x128.Idx) :
    out0_A_7 (F := Ideal) c i arg1 harg1 arg2 harg2 arg3 harg3 arg4 harg4 arg5 harg5 arg6 harg6 arg7 harg7 arg8 harg8 arg9 harg9 x0 x1 x2 x3 x4 y
      = ((∑ r ∈ Finset.range 4096, prob Q K L r (y 0) * D r (y 1) : ℝ) : EReal) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4)]
  exact View.canon_apply_of_pieces (fun y : S4096x128.Idx => ((∑ r ∈ Finset.range 4096, prob Q K L r (y 0) * D r (y 1) : ℝ) : EReal)) _
    (dv_pieces c i arg1 harg1 arg2 harg2 arg3 harg3 arg4 harg4 arg5 harg5 arg6 harg6 arg7 harg7 arg8 harg8 arg9 harg9 hq hk hv hd hl) y
    (cover0_A_7 c i arg1 harg1 arg2 harg2 arg3 harg3 arg4 harg4 arg5 harg5 arg6 harg6 arg7 harg7 arg8 harg8 arg9 harg9 x0 x1 x2 x3 x4 y)

end head

/-! ## The heads side by side -/

/-- The array of the heads' matrices side by side, each `w` columns wide: column `s` of head `h` is column `w h + s`. -/
def beside (w : ℕ) (f : ℕ → ℕ → ℕ → ℝ) (r col : ℕ) : ℝ := f (col / w) r (col % w)

/-- In head `h`'s columns the array holds head `h`'s matrix. -/
theorem beside_at {w : ℕ} (f : ℕ → ℕ → ℕ → ℝ) (h r s : ℕ) (hs : s < w) : beside w f r (h * w + s) = f h r s := by
  unfold beside
  rw [show (h * w + s) / w = h by rw [Nat.mul_comm, Nat.mul_add_div (by omega), Nat.div_eq_of_lt hs, Nat.add_zero],
    show (h * w + s) % w = s by rw [Nat.mul_comm, Nat.mul_add_mod, Nat.mod_eq_of_lt hs]]

/-- Every head's gradient of its queries, in real numbers: the gradient of its scores times its keys. -/
def headdq (Q K U D L : ℕ → ℕ → ℕ → ℝ) (h r s : ℕ) : ℝ :=
  ∑ k ∈ Finset.range 4096, dscore (Q h) (K h) (U h) (D h) (L h) r k * K h k s

/-- Every head's gradient of its keys: the gradient of its scores, transposed, times its queries. -/
def headdk (Q K U D L : ℕ → ℕ → ℕ → ℝ) (h k s : ℕ) : ℝ :=
  ∑ r ∈ Finset.range 4096, dscore (Q h) (K h) (U h) (D h) (L h) r k * Q h r s

/-- Every head's gradient of its values: its probabilities, transposed, times its cotangents. -/
def headdv (Q K D L : ℕ → ℕ → ℕ → ℝ) (h k s : ℕ) : ℝ :=
  ∑ r ∈ Finset.range 4096, prob (Q h) (K h) (L h) r k * D h r s

section arrays

variable (m : (ℓ : Loc nD τ sig) → Buf (Elt Ideal) ℓ) (c : Dev nD)

/-- The block of every window at point `t` starts at row 0 and at head `t`'s columns. -/
theorem index_eq : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val) := by
  decide +kernel

/-- What an array of real numbers holds at any index. -/
theorem is2_at {a b : ℕ} {x : (⟨2, ![a, b]⟩ : Shape).Idx → EReal} {f : ℕ → ℕ → ℝ} (h : Is2 x f) (i : (⟨2, ![a, b]⟩ : Shape).Idx) :
    x i = ((f (i 0) (i 1) : ℝ) : EReal) := by
  have e : i = ix2 (i 0) (i 1) := by funext k; fin_cases k <;> rfl
  exact (congrArg x e).trans (h (i 0) (i 1))

/-- An index of an array, found at row `r` and column `s` of the block whose index is head `h`, is head `h`'s entry `r`, `s`. -/
theorem beside_block {w : ℕ} (f : ℕ → ℕ → ℕ → ℝ) (a b h r s : ℕ) (n : ℕ) (ha : a = 0) (hb : b = h) (hs : s < w) :
    beside w f (a * n + 1 * r) (b * w + 1 * s) = f h r s := by
  subst ha hb
  rw [Nat.zero_mul, Nat.zero_add, Nat.one_mul, Nat.one_mul, beside_at _ _ _ _ hs]

/-- The queries' block at point `t` is head `t`'s matrix. -/
theorem block0 {f : ℕ → ℕ → ℕ → ℝ} (h : Is2 (V m c (Pipeline.arrRef spec0 0) : S4096x2048.Idx → EReal) (beside 256 f)) (t : Fin cfg0.N) :
    Is2 (iblk m c 0 t : S4096x256.Idx → EReal) (f t) := by
  intro r s
  unfold iblk
  rw [View.read_apply]
  exact (is2_at h _).trans (congrArg _ (beside_block f _ _ _ _ _ _ (index_eq t).1.1 (index_eq t).1.2 s.isLt))

/-- The keys' block at point `t` is head `t`'s matrix. -/
theorem block1 {f : ℕ → ℕ → ℕ → ℝ} (h : Is2 (V m c (Pipeline.arrRef spec0 1) : S4096x2048.Idx → EReal) (beside 256 f)) (t : Fin cfg0.N) :
    Is2 (iblk m c 1 t : S4096x256.Idx → EReal) (f t) := by
  intro r s
  unfold iblk
  rw [View.read_apply]
  exact (is2_at h _).trans (congrArg _ (beside_block f _ _ _ _ _ _ (index_eq t).2.1.1 (index_eq t).2.1.2 s.isLt))

/-- The values' block at point `t` is head `t`'s matrix. -/
theorem block2 {f : ℕ → ℕ → ℕ → ℝ} (h : Is2 (V m c (Pipeline.arrRef spec0 2) : S4096x2048.Idx → EReal) (beside 256 f)) (t : Fin cfg0.N) :
    Is2 (iblk m c 2 t : S4096x256.Idx → EReal) (f t) := by
  intro r s
  unfold iblk
  rw [View.read_apply]
  exact (is2_at h _).trans (congrArg _ (beside_block f _ _ _ _ _ _ (index_eq t).2.2.1.1 (index_eq t).2.2.1.2 s.isLt))

/-- The cotangents' block at point `t` is head `t`'s matrix. -/
theorem block3 {f : ℕ → ℕ → ℕ → ℝ} (h : Is2 (V m c (Pipeline.arrRef spec0 3) : S4096x2048.Idx → EReal) (beside 256 f)) (t : Fin cfg0.N) :
    Is2 (iblk m c 3 t : S4096x256.Idx → EReal) (f t) := by
  intro r s
  unfold iblk
  rw [View.read_apply]
  exact (is2_at h _).trans (congrArg _ (beside_block f _ _ _ _ _ _ (index_eq t).2.2.2.1.1 (index_eq t).2.2.2.1.2 s.isLt))

/-- The logarithms' block at point `t` is head `t`'s matrix. -/
theorem block4 {f : ℕ → ℕ → ℕ → ℝ} (h : Is2 (V m c (Pipeline.arrRef spec0 4) : S4096x1024.Idx → EReal) (beside 128 f)) (t : Fin cfg0.N) :
    Is2 (iblk m c 4 t : S4096x128.Idx → EReal) (f t) := by
  intro r s
  unfold iblk
  rw [View.read_apply]
  exact (is2_at h _).trans (congrArg _ (beside_block f _ _ _ _ _ _ (index_eq t).2.2.2.2.1.1 (index_eq t).2.2.2.2.1.2 s.isLt))

variable {Q K U D L : ℕ → ℕ → ℕ → ℝ}
  (hq : Is2 (V m c (Pipeline.arrRef spec0 0) : S4096x2048.Idx → EReal) (beside 256 Q))
  (hk : Is2 (V m c (Pipeline.arrRef spec0 1) : S4096x2048.Idx → EReal) (beside 256 K))
  (hv : Is2 (V m c (Pipeline.arrRef spec0 2) : S4096x2048.Idx → EReal) (beside 256 U))
  (hd : Is2 (V m c (Pipeline.arrRef spec0 3) : S4096x2048.Idx → EReal) (beside 256 D))
  (hl : Is2 (V m c (Pipeline.arrRef spec0 4) : S4096x1024.Idx → EReal) (beside 128 L))

include hq hk hv hd hl in
/-- The gradient of the queries after the run: each head's in its columns. -/
theorem final_dq : ((dats m 0 c).arrAt 5 cfg0.N : S4096x2048.Idx → EReal)
    = fun i => ((beside 256 (headdq Q K U D L) (i 0) (i 1) : ℝ) : EReal) :=
    (dats m 0 c).arrAt_eq_of_cover 5 _ (fun t _ => by
      rw [Value.flushed5_A]
      funext y
      rw [View.read_apply]
      refine (out_dq c _ _ _ _ _ _ _ _ _ _ _ _ _ _ _ _ _ _ _ (block0 m c hq t) (block1 m c hk t) (block2 m c hv t) (block3 m c hd t) (block4 m c hl t) y).trans ?_
      exact (congrArg (fun r : ℝ => (r : EReal)) (beside_block (w := 256) (headdq Q K U D L) (win0_5.index t 0) (win0_5.index t 1) t (y 0).val (y 1).val 4096 (index_eq t).2.2.2.2.2.1.1 (index_eq t).2.2.2.2.2.1.2 (y 1).isLt)).symm)
    fun i => by
      obtain ⟨t, ht'⟩ : ∃ t : Fin grid0.N, t.val = (i 1).val / 256 :=
        ⟨⟨(i 1).val / 256, by have : (i 1).val < 2048 := (i 1).isLt; rw [N_0]; omega⟩, rfl⟩
      refine ⟨t, Gen.flush0_5 t, ?_⟩
      have es : ((cfg0.win 5).blk t).view.set = ((View.whole main_v73_0).slice (win0_5.rect t)).set := rfl
      rw [es, View.set_slice_whole, Rect.mem_set_unit]
      intro a
      have h0 : (i 0 : ℕ) < 4096 := (i 0).isLt
      have ht := (index_eq t).2.2.2.2.2.1
      match a with
      | ⟨0, _⟩ =>
        show win0_5.index t 0 * 4096 ≤ (i 0 : ℕ) ∧ (i 0 : ℕ) < win0_5.index t 0 * 4096 + 4096
        rw [ht.1]; omega
      | ⟨1, _⟩ =>
        show win0_5.index t 1 * 256 ≤ (i 1 : ℕ) ∧ (i 1 : ℕ) < win0_5.index t 1 * 256 + 256
        rw [ht.2, ht']; omega

include hq hk hv hd hl in
/-- The gradient of the keys after the run: each head's in its columns. -/
theorem final_dk : ((dats m 0 c).arrAt 6 cfg0.N : S4096x2048.Idx → EReal)
    = fun i => ((beside 256 (headdk Q K U D L) (i 0) (i 1) : ℝ) : EReal) :=
    (dats m 0 c).arrAt_eq_of_cover 6 _ (fun t _ => by
      rw [Value.flushed6_A]
      funext y
      rw [View.read_apply]
      refine (out_dk c _ _ _ _ _ _ _ _ _ _ _ _ _ _ _ _ _ _ _ (block0 m c hq t) (block1 m c hk t) (block2 m c hv t) (block3 m c hd t) (block4 m c hl t) y).trans ?_
      exact (congrArg (fun r : ℝ => (r : EReal)) (beside_block (w := 256) (headdk Q K U D L) (win0_6.index t 0) (win0_6.index t 1) t (y 0).val (y 1).val 4096 (index_eq t).2.2.2.2.2.2.1.1 (index_eq t).2.2.2.2.2.2.1.2 (y 1).isLt)).symm)
    fun i => by
      obtain ⟨t, ht'⟩ : ∃ t : Fin grid0.N, t.val = (i 1).val / 256 :=
        ⟨⟨(i 1).val / 256, by have : (i 1).val < 2048 := (i 1).isLt; rw [N_0]; omega⟩, rfl⟩
      refine ⟨t, Gen.flush0_6 t, ?_⟩
      have es : ((cfg0.win 6).blk t).view.set = ((View.whole main_v73_1).slice (win0_6.rect t)).set := rfl
      rw [es, View.set_slice_whole, Rect.mem_set_unit]
      intro a
      have h0 : (i 0 : ℕ) < 4096 := (i 0).isLt
      have ht := (index_eq t).2.2.2.2.2.2.1
      match a with
      | ⟨0, _⟩ =>
        show win0_6.index t 0 * 4096 ≤ (i 0 : ℕ) ∧ (i 0 : ℕ) < win0_6.index t 0 * 4096 + 4096
        rw [ht.1]; omega
      | ⟨1, _⟩ =>
        show win0_6.index t 1 * 256 ≤ (i 1 : ℕ) ∧ (i 1 : ℕ) < win0_6.index t 1 * 256 + 256
        rw [ht.2, ht']; omega

include hq hk hv hd hl in
/-- The gradient of the values after the run: each head's in its columns. -/
theorem final_dv : ((dats m 0 c).arrAt 7 cfg0.N : S4096x1024.Idx → EReal)
    = fun i => ((beside 128 (headdv Q K D L) (i 0) (i 1) : ℝ) : EReal) :=
    (dats m 0 c).arrAt_eq_of_cover 7 _ (fun t _ => by
      rw [Value.flushed7_A]
      funext y
      rw [View.read_apply]
      refine (out_dv c _ _ _ _ _ _ _ _ _ _ _ _ _ _ _ _ _ _ _ (block0 m c hq t) (block1 m c hk t) (block2 m c hv t) (block3 m c hd t) (block4 m c hl t) y).trans ?_
      exact (congrArg (fun r : ℝ => (r : EReal)) (beside_block (w := 128) (headdv Q K D L) (win0_7.index t 0) (win0_7.index t 1) t (y 0).val (y 1).val 4096 (index_eq t).2.2.2.2.2.2.2.1 (index_eq t).2.2.2.2.2.2.2.2 (y 1).isLt)).symm)
    fun i => by
      obtain ⟨t, ht'⟩ : ∃ t : Fin grid0.N, t.val = (i 1).val / 128 :=
        ⟨⟨(i 1).val / 128, by have : (i 1).val < 1024 := (i 1).isLt; rw [N_0]; omega⟩, rfl⟩
      refine ⟨t, Gen.flush0_7 t, ?_⟩
      have es : ((cfg0.win 7).blk t).view.set = ((View.whole main_v73_2).slice (win0_7.rect t)).set := rfl
      rw [es, View.set_slice_whole, Rect.mem_set_unit]
      intro a
      have h0 : (i 0 : ℕ) < 4096 := (i 0).isLt
      have ht := (index_eq t).2.2.2.2.2.2.2
      match a with
      | ⟨0, _⟩ =>
        show win0_7.index t 0 * 4096 ≤ (i 0 : ℕ) ∧ (i 0 : ℕ) < win0_7.index t 0 * 4096 + 4096
        rw [ht.1]; omega
      | ⟨1, _⟩ =>
        show win0_7.index t 1 * 128 ≤ (i 1 : ℕ) ∧ (i 1 : ℕ) < win0_7.index t 1 * 128 + 128
        rw [ht.2, ht']; omega

end arrays

end Cert.KernelIdeal.Arrays
-- ==== Proof.Lines.lean ====
/-
  The host lines before the call, named: the scores of the attention, their mask, the rows' greatest scores, the
  exponentials and their sums (which the reference's own attention spells in the same operations), the output and the
  logarithms the forward pass saves, and the five operands laid out for the call.
-/
module

public import proofs.«01_k».proof.Proof.Reals
public import proofs.«01_k».proof.Proof.Gen.KernelIdeal.Frame
public import Idealize.ShloMosaic.Lib.StableHlo.RunRead
public import Idealize.ShloMosaic.Lib.Tactic

@[expose] public section

set_option maxRecDepth 16384

noncomputable section

namespace Cert.KernelIdeal.Lines

open Idealize.ShloMosaic Idealize.ShloMosaic.TcCoe Idealize.SL.Sem Cert.KernelIdeal Cert.KernelIdeal.Gen

abbrev Sc := FVec Ideal S_ .f32
abbrev Scores := FVec Ideal S8x4096x4096 .f32
abbrev Rows := FVec Ideal S8x4096x1 .f32
abbrev Head128 := FVec Ideal S8x4096x128 .f32
abbrev Head64 := FVec Ideal S8x4096x64 .f32
abbrev Head256 := FVec Ideal S8x4096x256 .f32

/-- One over the square root of 192. -/
def scale : Sc := Host.divf (constant S_ .f32 0x3F800000#32) (Host.sqrt (constant S_ .f32 0x43400000#32))

/-- The logarithm of two. -/
def ln2 : Sc := Host.log (constant S_ .f32 0x40000000#32)

/-- Which keys a row sees: those up to its own position. -/
def causal : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The scores with `-∞` where a row does not see the key. -/
def masked (x : Scores) : Scores :=
  select (broadcastInDim S8x4096x4096 ![1, 2] bcast_S4096x4096_S8x4096x4096_1_2 causal) x
    (broadcastInDim S8x4096x4096 ![] bcast_S_S8x4096x4096 (id (constant S_ .f32 0xFF800000#32)))

/-- A value for every row, as a column. -/
def column (x : FVec Ideal S8x4096 .f32) : Rows := broadcastInDim S8x4096x1 ![0, 1] bcast_S8x4096_S8x4096x1_0_1 x

/-- A column repeated over all keys. -/
def across (x : Rows) : Scores := broadcastInDim S8x4096x4096 ![0, 1, 2] bcast_S8x4096x1_S8x4096x4096_0_1_2 x

/-- The greatest score of every row. -/
def greatest (x : Scores) : FVec Ideal S8x4096 .f32 :=
  Host.reduce FloatOps.maximumf x (constant S_ .f32 0xFF800000#32) reducesTo_S8x4096x4096_S8x4096_d2 h_S_

/-- The exponentials of the scores over the rows' greatest. -/
def expo (x : Scores) (top : Rows) : Scores := Host.exp (subf x (across top))

/-- The sum of every row. -/
def total (e : Scores) : Rows :=
  column (Host.reduceAdd e (constant S_ .f32 0x00000000#32) reducesTo_S8x4096x4096_S8x4096_d2 h_S_)

/-- The forward pass's output: the probabilities times the values. -/
def output (e : Scores) (l : Rows) (v : Head128) : Head128 :=
  Host.dotGeneral dot_S8x4096x4096_S8x4096x128_S8x4096x128_2_1_1_2_0_0 none (Host.divf e (across l)) v

/-- The cotangent of the attention, a matrix for every head. -/
def cotangent (ct : FVec Ideal S4096x1024 .f32) : Head128 :=
  transpose S8x4096x128 [1, 0, 2] (shapeCast S4096x8x128 ct shapeCasts_S4096x1024_S4096x8x128) transposes_S4096x8x128_S8x4096x128_1_0_2

/-- The rotated keys, shared by the heads. -/
def sharedKeys (kr : FVec Ideal S4096x64 .f32) : Head64 :=
  broadcastInDim S8x4096x64 ![0, 1, 2] bcast_S1x4096x64_S8x4096x64_0_1_2 (broadcastInDim S1x4096x64 ![1, 2] bcast_S4096x64_S1x4096x64_1_2 kr)

/-- The columns of zeros behind a head's columns. -/
def zeros64 : Head64 := broadcastInDim S8x4096x64 ![] bcast_S_S8x4096x64 (constant S_ .f32 0x00000000#32)

/-- The scores: the two products' sum, scaled. -/
def scores (qn : Head128) (qr : Head64) (kn : Head128) (kr : FVec Ideal S4096x64 .f32) : Scores :=
  mulf (addf (Host.dotGeneral dot_S8x4096x128_S8x4096x128_S8x4096x4096_2_2_1_1_0_0 none qn kn)
      (Host.dotGeneral dot_S8x4096x64_S4096x64_S8x4096x4096_2_1_01_0_n_n none qr kr))
    (broadcastInDim S8x4096x4096 ![] bcast_S_S8x4096x4096 scale)

/-- The logarithms the forward pass saves, in base two. -/
def logs (top l : Rows) : Rows :=
  Host.divf (addf top (Host.log l)) (broadcastInDim S8x4096x1 ![] bcast_S_S8x4096x1 ln2)

/-- The heads' matrices side by side. -/
def wide (x : Head256) : FVec Ideal S4096x2048 .bf16 :=
  truncf .bf16 (shapeCast S4096x2048 (transpose S4096x8x256 [1, 0, 2] x transposes_S8x4096x256_S4096x8x256_1_0_2) shapeCasts_S4096x8x256_S4096x2048) bitsLt_bf16_f32

/-- Three pieces of a head's columns. -/
def join3 (a : Head128) (b z : Head64) : Head256 :=
  concatenate S8x4096x256 2 [⟨S8x4096x128, a⟩, ⟨S8x4096x64, b⟩, ⟨S8x4096x64, z⟩] concatenates_S8x4096x128_S8x4096x64_S8x4096x64_S8x4096x256_d2

/-- Two halves of a head's columns. -/
def join2 (a b : Head128) : Head256 :=
  concatenate S8x4096x256 2 [⟨S8x4096x128, a⟩, ⟨S8x4096x128, b⟩] concatenates_S8x4096x128_S8x4096x128_S8x4096x256_d2

/-- The queries for the call. -/
def queries (qn : Head128) (qr : Head64) : FVec Ideal S4096x2048 .bf16 :=
  wide (mulf (join3 qn qr zeros64) (broadcastInDim S8x4096x256 ![] bcast_S_S8x4096x256 (Host.divf scale ln2)))

/-- The keys for the call. -/
def keys (kn : Head128) (kr : FVec Ideal S4096x64 .f32) : FVec Ideal S4096x2048 .bf16 := wide (join3 kn (sharedKeys kr) zeros64)

/-- The values for the call. -/
def values (v : Head128) : FVec Ideal S4096x2048 .bf16 :=
  wide (join2 v (broadcastInDim S8x4096x128 ![] bcast_S_S8x4096x128 (constant S_ .f32 0x3F800000#32)))

/-- A cotangent rounded to the call's format. -/
def rounded (ct : Head128) : Head128 := extf .f32 (truncf .bf16 ct bitsLt_bf16_f32) bitsLt_bf16_f32

/-- The rows' products of cotangent and output, summed. -/
def deltas (d o : Head128) : Rows :=
  column (Host.reduceAdd (mulf d o) (constant S_ .f32 0x00000000#32) reducesTo_S8x4096x128_S8x4096_d2 h_S_)

/-- The columns behind a head's cotangents: minus the rows' sums in two parts, and zeros. -/
def tails (dl : Rows) : Head128 :=
  let hi : Rows := extf .f32 (truncf .bf16 dl bitsLt_bf16_f32) bitsLt_bf16_f32
  select (cmpi .eq (iotaInDim S8x4096x128 32 2) (broadcastInDim S8x4096x128 ![] bcast_S_S8x4096x128 (constantI S_ 32 0#32)))
    (broadcastInDim S8x4096x128 ![0, 1, 2] bcast_S8x4096x1_S8x4096x128_0_1_2 (Host.negf hi))
    (select (cmpi .eq (iotaInDim S8x4096x128 32 2) (broadcastInDim S8x4096x128 ![] bcast_S_S8x4096x128 (constantI S_ 32 1#32)))
      (broadcastInDim S8x4096x128 ![0, 1, 2] bcast_S8x4096x1_S8x4096x128_0_1_2 (subf hi dl))
      (broadcastInDim S8x4096x128 ![] bcast_S_S8x4096x128 (id (constant S_ .f32 0x00000000#32))))

/-- The cotangents for the call. -/
def cotangents (d o : Head128) : FVec Ideal S4096x2048 .bf16 := wide (join2 d (tails (deltas d o)))

/-- The logarithms for the call. -/
def logsWide (x : Rows) : FVec Ideal S4096x1024 .f32 :=
  shapeCast S4096x1024 (transpose S4096x8x128 [1, 0, 2] (broadcastInDim S8x4096x128 ![0, 1, 2] bcast_S8x4096x1_S8x4096x128_0_1_2 x) transposes_S8x4096x128_S4096x8x128_1_0_2) shapeCasts_S4096x8x128_S4096x1024

/-! ## The operands are these lines -/

section operands

variable (m : (ℓ : Loc nD τ sig) → Buf (Elt Ideal) ℓ) (c : Dev nD)

abbrev qn : Head128 := m ((c.tc : Thread nD τ).loc main_arg0)
abbrev qr : Head64 := m ((c.tc : Thread nD τ).loc main_arg1)
abbrev kn : Head128 := m ((c.tc : Thread nD τ).loc main_arg2)
abbrev kr : FVec Ideal S4096x64 .f32 := m ((c.tc : Thread nD τ).loc main_arg3)
abbrev vv : Head128 := m ((c.tc : Thread nD τ).loc main_arg4)
abbrev ct : FVec Ideal S4096x1024 .f32 := m ((c.tc : Thread nD τ).loc main_arg5)

/-- The first operand. -/
theorem operand0 : (V m c (Pipeline.arrRef spec0 0) : FVec Ideal S4096x2048 .bf16) = queries (qn m c) (qr m c) := by
  show V m c main_v38 = _
  unfold V
  simp only [hostOps0, hostOps0_1, hostOps0_2, hostOps0_3, hostOps0_4, hostOps0_5, List.flatten_cons, List.flatten_nil, List.cons_append,
    List.nil_append, List.append_nil, StableHlo.TRef.nullary, StableHlo.TRef.ternary, StableHlo.TRef.unary, StableHlo.TRef.toBuf,
    StableHlo.TRef.ofBuf, cast_eq]
  after_reads_simp
  rfl

/-- The scores with their mask, of the arguments. -/
abbrev sm : Scores := masked (scores (qn m c) (qr m c) (kn m c) (kr m c))

/-- The rows' greatest scores. -/
abbrev top : Rows := column (greatest (sm m c))

/-- The exponentials. -/
abbrev ex : Scores := expo (sm m c) (top m c)

/-- The rows' sums of exponentials. -/
abbrev tot : Rows := total (ex m c)

/-- The second operand. -/
theorem operand1 : (V m c (Pipeline.arrRef spec0 1) : FVec Ideal S4096x2048 .bf16) = keys (kn m c) (kr m c) := by
  show V m c main_v42 = _
  unfold V
  simp only [hostOps0, hostOps0_1, hostOps0_2, hostOps0_3, hostOps0_4, hostOps0_5, List.flatten_cons, List.flatten_nil, List.cons_append,
    List.nil_append, List.append_nil, StableHlo.TRef.nullary, StableHlo.TRef.ternary, StableHlo.TRef.unary, StableHlo.TRef.toBuf,
    StableHlo.TRef.ofBuf, cast_eq]
  after_reads_simp
  rfl

/-- The third operand. -/
theorem operand2 : (V m c (Pipeline.arrRef spec0 2) : FVec Ideal S4096x2048 .bf16) = values (vv m c) := by
  show V m c main_v47 = _
  unfold V
  simp only [hostOps0, hostOps0_1, hostOps0_2, hostOps0_3, hostOps0_4, hostOps0_5, List.flatten_cons, List.flatten_nil, List.cons_append,
    List.nil_append, List.append_nil, StableHlo.TRef.nullary, StableHlo.TRef.ternary, StableHlo.TRef.unary, StableHlo.TRef.toBuf,
    StableHlo.TRef.ofBuf, cast_eq]
  after_reads_simp
  rfl

/-- The fourth operand. -/
theorem operand3 : (V m c (Pipeline.arrRef spec0 3) : FVec Ideal S4096x2048 .bf16)
    = cotangents (rounded (cotangent (ct m c))) (output (ex m c) (tot m c) (vv m c)) := by
  show V m c main_v69 = _
  unfold V
  simp only [hostOps0, hostOps0_1, hostOps0_2, hostOps0_3, hostOps0_4, hostOps0_5, List.flatten_cons, List.flatten_nil, List.cons_append,
    List.nil_append, List.append_nil, StableHlo.TRef.nullary, StableHlo.TRef.ternary, StableHlo.TRef.unary, StableHlo.TRef.toBuf,
    StableHlo.TRef.ofBuf, cast_eq]
  have hj : (fun a b : Head128 => concatenate S8x4096x256 2 [⟨S8x4096x128, a⟩, ⟨S8x4096x128, b⟩] concatenates_S8x4096x128_S8x4096x128_S8x4096x256_d2) = join2 := rfl
  simp only [hj]
  after_reads_simp
  rfl

/-- The fifth operand. -/
theorem operand4 : (V m c (Pipeline.arrRef spec0 4) : FVec Ideal S4096x1024 .f32) = logsWide (logs (top m c) (tot m c)) := by
  show V m c main_v72 = _
  unfold V
  simp only [hostOps0, hostOps0_1, hostOps0_2, hostOps0_3, hostOps0_4, hostOps0_5, List.flatten_cons, List.flatten_nil, List.cons_append,
    List.nil_append, List.append_nil, StableHlo.TRef.nullary, StableHlo.TRef.ternary, StableHlo.TRef.unary, StableHlo.TRef.toBuf,
    StableHlo.TRef.ofBuf, cast_eq]
  after_reads_simp
  rfl

end operands

end Cert.KernelIdeal.Lines
-- ==== Proof.RefLines.lean ====
/-
  The reference's lines, named: its attention's scores, softmax and the pullback of the cotangent through them. What it
  spells in the same operations as the host lines before the call (the mask, the exponentials, the rows' sums, the
  layout of the heads side by side) goes by the names those have.
-/
module

public import proofs.«01_k».proof.Proof.Lines
public import proofs.«01_k».proof.Proof.Gen.ReferenceIdeal.Run

@[expose] public section

set_option maxRecDepth 16384

noncomputable section

namespace Cert.ReferenceIdeal.Lines

open Idealize.ShloMosaic Idealize.ShloMosaic.TcCoe Idealize.SL.Sem Cert.ReferenceIdeal Cert.ReferenceIdeal.Gen
open Cert.ReferenceIdeal.Value
open Cert.KernelIdeal.Lines (Sc Scores Rows Head128 Head64 Head256 scale ln2 causal masked column across greatest expo total cotangent sharedKeys
  zeros64 wide)

abbrev Head192 := FVec Ideal S8x4096x192 .f32

/-- A head's 128 and 64 columns side by side. -/
def join (a : Head128) (b : Head64) : Head192 :=
  concatenate S8x4096x192 2 [⟨S8x4096x128, a⟩, ⟨S8x4096x64, b⟩] concatenates_S8x4096x128_S8x4096x64_S8x4096x192_d2

/-- The scores: one product over all 192 columns, scaled. -/
def scores (q k : Head192) : Scores :=
  mulf (Host.dotGeneral dot_S8x4096x192_S8x4096x192_S8x4096x4096_2_2_1_1_0_0 none q k)
    (broadcastInDim S8x4096x4096 ![] bcast_S_S8x4096x4096 scale)

/-- The greatest score of every row, of `-∞` once more. -/
def top (x : Scores) : Rows :=
  column (maximumf (broadcastInDim S8x4096 ![] bcast_S_S8x4096 (constant S_ .f32 0xFF800000#32)) (greatest x))

/-- The cotangent of the probabilities. -/
def pulled (d v : Head128) : Scores := Host.dotGeneral dot_S8x4096x128_S8x4096x128_S8x4096x4096_2_2_1_1_0_0 none d v

/-- One over the square of the rows' sums. -/
def inverseSquare (l : Rows) : Rows :=
  Host.divf (broadcastInDim S8x4096x1 ![] bcast_S_S8x4096x1 (constant S_ .f32 0x3F800000#32)) (mulf l l)

/-- What a row's sum receives: minus the sum of cotangent times exponential over the square. -/
def sumCotangent (g e : Scores) (l : Rows) : FVec Ideal S8x4096 .f32 :=
  Host.reduceAdd (Host.negf (shapeCast S8x4096x1
      (Host.reduceAdd (mulf (mulf g (across (inverseSquare l))) e) (constant S_ .f32 0x00000000#32) reducesTo_S8x4096x4096_S8x4096_d2 h_S_)
      shapeCasts_S8x4096_S8x4096x1))
    (constant S_ .f32 0x00000000#32) reducesTo_S8x4096x1_S8x4096_d2 h_S_

/-- The cotangent of the unscaled scores. -/
def scoreCotangent (g e : Scores) (l : Rows) : Scores :=
  mulf (select (broadcastInDim S8x4096x4096 ![1, 2] bcast_S4096x4096_S8x4096x4096_1_2 causal)
      (mulf (addf (Host.divf g (across l)) (broadcastInDim S8x4096x4096 ![0, 1] bcast_S8x4096_S8x4096x4096_0_1 (sumCotangent g e l))) e)
      (broadcastInDim S8x4096x4096 ![] bcast_S_S8x4096x4096 (constant S_ .f32 0x00000000#32)))
    (broadcastInDim S8x4096x4096 ![] bcast_S_S8x4096x4096 scale)

/-- The cotangent of the queries, times the square root of 192. -/
def dq (s : Scores) (k : Head192) : Head192 :=
  mulf (Host.dotGeneral dot_S8x4096x4096_S8x4096x192_S8x4096x192_2_1_1_2_0_0 none s k)
    (broadcastInDim S8x4096x192 ![] bcast_S_S8x4096x192 (Host.sqrt (constant S_ .f32 0x43400000#32)))

/-- The cotangent of the keys, over the logarithm of two. -/
def dk (s : Scores) (q : Head192) : Head192 :=
  Host.divf (Host.dotGeneral dot_S8x4096x4096_S8x4096x192_S8x4096x192_1_1_2_2_0_0 none s q)
    (broadcastInDim S8x4096x192 ![] bcast_S_S8x4096x192 ln2)

/-- The cotangent of the values. -/
def dv (e : Scores) (l : Rows) (d : Head128) : Head128 :=
  transpose S8x4096x128 [0, 2, 1] (Host.dotGeneral dot_S8x4096x128_S8x4096x4096_S8x128x4096_1_1_2_2_0_0 none d (Host.divf e (across l)))
    transposes_S8x128x4096_S8x4096x128_0_2_1

/-- A head's 192 columns and zeros behind them. -/
def pad (x : Head192) : Head256 :=
  concatenate S8x4096x256 2 [⟨S8x4096x192, x⟩, ⟨S8x4096x64, zeros64⟩] concatenates_S8x4096x192_S8x4096x64_S8x4096x256_d2

/-- The heads' matrices of 128 columns side by side. -/
def wide128 (x : Head128) : FVec Ideal S4096x1024 .bf16 :=
  truncf .bf16 (shapeCast S4096x1024 (transpose S4096x8x128 [1, 0, 2] x transposes_S8x4096x128_S4096x8x128_1_0_2) shapeCasts_S4096x8x128_S4096x1024) bitsLt_bf16_f32

section results

variable (m : (ℓ : Loc nD τ sig) → Buf (Elt Ideal) ℓ) (c : Dev nD)

abbrev qa : Head192 := join (m ((c.tc : Thread nD τ).loc main_arg0)) (m ((c.tc : Thread nD τ).loc main_arg1))
abbrev ka : Head192 := join (m ((c.tc : Thread nD τ).loc main_arg2)) (sharedKeys (m ((c.tc : Thread nD τ).loc main_arg3)))
abbrev va : Head128 := m ((c.tc : Thread nD τ).loc main_arg4)
abbrev da : Head128 := cotangent (m ((c.tc : Thread nD τ).loc main_arg5))
abbrev sm : Scores := masked (scores (qa m c) (ka m c))
abbrev ex : Scores := expo (sm m c) (top (sm m c))
abbrev tot : Rows := total (ex m c)

/-- The reference's first result. -/
theorem result0 : (res_main_v80 (F := Ideal) m c : FVec Ideal S4096x2048 .bf16)
    = wide (pad (dq (scoreCotangent (pulled (da m c) (va m c)) (ex m c) (tot m c)) (ka m c))) := by
  unfold res_main_v80
  rfl

/-- The reference's second result. -/
theorem result1 : (res_main_v83 (F := Ideal) m c : FVec Ideal S4096x2048 .bf16)
    = wide (pad (dk (scoreCotangent (pulled (da m c) (va m c)) (ex m c) (tot m c)) (qa m c))) := by
  unfold res_main_v83
  rfl

/-- The reference's third result. -/
theorem result2 : (res_main_v86 (F := Ideal) m c : FVec Ideal S4096x1024 .bf16) = wide128 (dv (ex m c) (tot m c) (da m c)) := by
  unfold res_main_v86
  rfl

end results

end Cert.ReferenceIdeal.Lines
-- ==== Proof.Values.lean ====
/-
  What the lines of the two programs hold when their operands hold real numbers: every line but the masked scores holds
  real numbers again, and these are the formulas of the causal attention and of its pullback. The rows' greatest scores
  are only known to be real numbers: no result depends on which.
-/
module

public import proofs.«01_k».proof.Proof.Arrays
public import proofs.«01_k».proof.Proof.RefLines

@[expose] public section

set_option maxRecDepth 16384

noncomputable section

namespace Cert.Values

open Idealize.ShloMosaic Idealize.SL.Sem Cert.KernelIdeal Cert.KernelIdeal.Lines Cert.KernelIdeal.Arrays Cert.Reals
open Finset (range)

/-- `x` holds, at head `i`, row `j` and column `k`, the real number `f i j k`. -/
def Is3 {a b c : ℕ} (x : (⟨3, ![a, b, c]⟩ : Shape).Idx → EReal) (f : ℕ → ℕ → ℕ → ℝ) : Prop :=
  ∀ (i : Fin a) (j : Fin b) (k : Fin c), x (ix3 i j k) = ((f i j k : ℝ) : EReal)

/-! ## Scalars -/

/-- Division of real numbers. -/
theorem div_real (a : ℝ) {b : ℝ} (h : b ≠ 0) : Ideal.div (a : EReal) (b : EReal) = ((a / b : ℝ) : EReal) := by
  rw [Ideal.div_coe h, ← EReal.coe_mul, mul_one_div]

/-- The constant 192. -/
theorem ofBits_192 : Ideal.ofBits .f32 0x43400000#32 = ((192 : ℝ) : EReal) := by
  simp [Ideal.ofBits, Ideal.ieee, -EReal.coe_mul]; norm_num

/-- The constant 2. -/
theorem ofBits_2 : Ideal.ofBits .f32 0x40000000#32 = ((2 : ℝ) : EReal) := by
  simp [Ideal.ofBits, Ideal.ieee, -EReal.coe_mul]; norm_num

/-- The constant minus infinity. -/
theorem ofBits_bot : Ideal.ofBits .f32 0xFF800000#32 = ⊥ := by
  simp [Ideal.ofBits, Ideal.ieee]

/-- The square root of 192. -/
def root : ℝ := Real.sqrt 192

/-- The logarithm of two. -/
def lg : ℝ := Real.log 2

theorem root_pos : 0 < root := Real.sqrt_pos.mpr (by norm_num)

theorem lg_pos : 0 < lg := Real.log_pos (by norm_num)

theorem sqrt_192 : Ideal.sqrt (Ideal.ofBits .f32 0x43400000#32) = ((root : ℝ) : EReal) := by
  rw [ofBits_192]
  exact if_neg (by norm_num)

theorem log_2 : Ideal.log (Ideal.ofBits .f32 0x40000000#32) = ((lg : ℝ) : EReal) := by
  rw [ofBits_2]
  exact if_neg (by norm_num)

/-- The logarithm of a positive real number. -/
theorem log_real {a : ℝ} (h : 0 < a) : Ideal.log (a : EReal) = ((Real.log a : ℝ) : EReal) := if_neg (not_le.mpr h)

theorem inv_root : Ideal.div 1 ((root : ℝ) : EReal) = ((1 / root : ℝ) : EReal) := by
  rw [← EReal.coe_one, div_real _ root_pos.ne']

/-- A choice by the comparison of two positions. -/
theorem select_sle {a b : ℕ} (ha : a < 4096) (hb : b < 4096) (x y : EReal) :
    Scalar.select (IntOp.cmpi .sle (BitVec.ofNat 32 a) (BitVec.ofNat 32 b)) x y = if a ≤ b then x else y := by
  have h := cmpi_sle_offset 0#32 (by decide) a b ha hb
  have e : ∀ n : ℕ, IntOp.addi 0#32 (BitVec.ofNat 32 n) = BitVec.ofNat 32 n := fun n => BitVec.zero_add _
  rw [e, e] at h
  rw [h]
  split <;> rfl

/-- A choice by a position's equality with a number. -/
theorem select_eq {a b : ℕ} (ha : a < 128) (hb : b < 128) (x y : EReal) :
    Scalar.select (IntOp.cmpi .eq (BitVec.ofNat 32 a) (BitVec.ofNat 32 b)) x y = if a = b then x else y := by
  by_cases h : a = b
  · subst h
    rw [if_pos rfl, show IntOp.cmpi .eq (BitVec.ofNat 32 a) (BitVec.ofNat 32 a) = BitVec.ofBool (BitVec.ofNat 32 a == BitVec.ofNat 32 a) from rfl,
      beq_self_eq_true]
    rfl
  · have hne : (BitVec.ofNat 32 a == BitVec.ofNat 32 b) = false := by
      rw [beq_eq_false_iff_ne]
      intro hc
      have := congrArg BitVec.toNat hc
      rw [BitVec.toNat_ofNat, BitVec.toNat_ofNat] at this
      omega
    rw [if_neg h, show IntOp.cmpi .eq (BitVec.ofNat 32 a) (BitVec.ofNat 32 b) = BitVec.ofBool (BitVec.ofNat 32 a == BitVec.ofNat 32 b) from rfl, hne]
    rfl

/-! ## The forward pass -/

variable {qn kn v d o : Head128} {qr : Head64} {kr : FVec Ideal S4096x64 .f32} {x e g : Scores} {t l : Rows}
  {Qn Kn U D O Qr f E G : ℕ → ℕ → ℕ → ℝ} {Kr T L : ℕ → ℕ → ℝ}

/-- The scores of a row and a key: the two products, scaled. -/
def score (Qn Qr Kn : ℕ → ℕ → ℕ → ℝ) (Kr : ℕ → ℕ → ℝ) (h r c : ℕ) : ℝ :=
  (∑ s ∈ range 128, Qn h r s * Kn h c s + ∑ s ∈ range 64, Qr h r s * Kr c s) * (1 / root)

/-- The host's scores. -/
theorem scores_real (hqn : Is3 qn Qn) (hqr : Is3 qr Qr) (hkn : Is3 kn Kn) (hkr : Is2 kr Kr) :
    Is3 (scores qn qr kn kr) (score Qn Qr Kn Kr) := by
  intro i j k
  unfold scores scale
  pointwise
  simp only [hqn _ _ _, hkn _ _ _, hqr _ _ _, hkr _ _, sqrt_192, inv_root, ← EReal.coe_mul]
  rw [coe_sum_fin (fun s => Qn i j s * Kn i k s), coe_sum_fin (fun s => Qr i j s * Kr k s), ← EReal.coe_add, ← EReal.coe_mul]
  rfl

/-- The masked scores. -/
theorem masked_real (hx : Is3 x f) (i : Fin 8) (j k : Fin 4096) :
    masked x (ix3 i j k) = if k.val ≤ j.val then ((f i j k : ℝ) : EReal) else ⊥ := by
  unfold masked causal
  pointwise
  rw [select_sle k.isLt j.isLt, hx i j k]
  exact if_congr Iff.rfl rfl ofBits_bot

/-- The greatest of extended reals none of which is `+∞` and one of which is real is real. -/
theorem fold_max_real {n : ℕ} (y : Fin n → EReal) (i : Fin n) {a : ℝ} (hi : y i = a) (hy : ∀ k, y k ≠ ⊤) :
    ∃ b : ℝ, Finset.fold max ⊥ y Finset.univ = ((b : ℝ) : EReal) := by
  have h1 : Finset.fold max ⊥ y Finset.univ ≠ ⊤ := by
    refine ne_of_lt ?_
    rw [Finset.fold_max_lt]
    exact ⟨bot_lt_top, fun k _ => lt_top_iff_ne_top.mpr (hy k)⟩
  have h2 : Finset.fold max ⊥ y Finset.univ ≠ ⊥ := by
    refine ne_of_gt ?_
    rw [Finset.lt_fold_max]
    exact .inr ⟨i, Finset.mem_univ i, by rw [hi]; exact EReal.bot_lt_coe a⟩
  exact ⟨_, (EReal.coe_toReal h1 h2).symm⟩

/-- The rows' greatest masked scores are real: a row sees its own position's key. -/
theorem greatest_real (hx : Is3 x f) (i : Fin 8) (j : Fin 4096) : ∃ b : ℝ, greatest (masked x) (ix2 i j) = ((b : ℝ) : EReal) := by
  unfold greatest
  pointwise
  rw [ofBits_bot]
  refine fold_max_real _ j (a := f i j j) ?_ fun k => ?_
  · rw [masked_real hx, if_pos le_rfl]
  · rw [masked_real hx]
    split
    · exact EReal.coe_ne_top _
    · exact bot_ne_top

/-- So there are real numbers that they are. -/
theorem exists_greatest (hx : Is3 x f) : ∃ T : ℕ → ℕ → ℝ, Is2 (greatest (masked x)) T := by
  choose b hb using greatest_real hx
  refine ⟨fun i j => if h : i < 8 ∧ j < 4096 then b ⟨i, h.1⟩ ⟨j, h.2⟩ else 0, fun i j => ?_⟩
  refine (hb i j).trans (congrArg _ ?_)
  have hij : i.val < 8 ∧ j.val < 4096 := ⟨i.isLt, j.isLt⟩
  beta_reduce
  rw [dif_pos hij]

/-- A column holds what it is made of. -/
theorem column_real {y : FVec Ideal S8x4096 .f32} (hy : Is2 y T) : Is3 (column y) (fun i j _ => T i j) := by
  intro i j k
  unfold column
  pointwise
  exact hy i j

/-- The exponentials: those of the scores less the rows' greatest, and 0 where a row does not see the key. -/
theorem expo_real (hx : Is3 x f) (ht : Is3 t (fun i j _ => T i j)) :
    Is3 (expo (masked x) t) (fun i j k => if k ≤ j then Real.exp (f i j k - T i j) else 0) := by
  intro i j k
  unfold expo across
  pointwise
  rw [masked_real hx]
  rw [show t (ix3 i j 0) = _ from ht i j 0]
  split
  · rw [← EReal.coe_sub]; exact exp_coe _
  · rw [EReal.bot_sub]; rfl

/-- The rows' sums. -/
theorem total_real (he : Is3 e E) : Is3 (total e) (fun i j _ => ∑ c ∈ range 4096, E i j c) := by
  intro i j k
  unfold total column
  pointwise
  simp only [he _ _ _]
  rw [coe_sum_fin (fun c => E i j c)]

/-- The forward pass's output. -/
theorem output_real (he : Is3 e E) (hl : Is3 l (fun i j _ => L i j)) (hL : ∀ i j, L i j ≠ 0) (hv : Is3 v U) :
    Is3 (output e l v) (fun i j s => ∑ c ∈ range 4096, E i j c / L i j * U i c s) := by
  intro i j k
  unfold output across
  pointwise
  rw [show l (ix3 i j 0) = _ from hl i j 0]
  simp only [he _ _ _, hv _ _ _, div_real _ (hL _ _), ← EReal.coe_mul]
  exact coe_sum_fin (fun c => E i j c / L i j * U i c k)

/-- The saved logarithms. -/
theorem logs_real (ht : Is3 t (fun i j _ => T i j)) (hl : Is3 l (fun i j _ => L i j)) (hL : ∀ i j, 0 < L i j) :
    Is3 (logs t l) (fun i j _ => (T i j + Real.log (L i j)) / lg) := by
  intro i j k
  unfold logs ln2
  pointwise
  rw [ht i j k, hl i j k, log_real (hL i j), log_2, ← EReal.coe_add, div_real _ lg_pos.ne']

/-! ## The operands -/

/-- The heads side by side. -/
theorem wide_real {y : Head256} {F : ℕ → ℕ → ℕ → ℝ} (hy : Is3 y F) : Is2 (wide y) (beside 256 F) := by
  intro i j
  unfold wide
  pointwise
  exact hy _ _ _

/-- The three pieces of a head's columns. -/
def three (a b : ℕ → ℕ → ℕ → ℝ) (h r s : ℕ) : ℝ := if s < 128 then a h r s else if s - 128 < 64 then b h r (s - 128) else 0

/-- The rotated keys are every head's. -/
theorem sharedKeys_real (hkr : Is2 kr Kr) : Is3 (sharedKeys kr) (fun _ r s => Kr r s) := by
  intro i j k
  unfold sharedKeys
  pointwise
  exact hkr j k

/-- 128 columns, 64 columns and zeros. -/
theorem join3_real {a : Head128} {b : Head64} {A B : ℕ → ℕ → ℕ → ℝ} (ha : Is3 a A) (hb : Is3 b B) :
    Is3 (join3 a b zeros64) (three A B) := by
  intro i j k
  unfold join3 zeros64 three
  pointwise
  split
  · exact ha _ _ _
  · split
    · exact hb _ _ _
    · rfl

/-- The queries for the call. -/
theorem queries_real (hqn : Is3 qn Qn) (hqr : Is3 qr Qr) :
    Is2 (queries qn qr) (beside 256 (fun h r s => three Qn Qr h r s * (1 / root / lg))) := by
  refine wide_real fun i j k => ?_
  unfold scale ln2
  pointwise
  rw [join3_real hqn hqr i j k, sqrt_192, inv_root, log_2, div_real _ lg_pos.ne', ← EReal.coe_mul]

/-- The keys for the call. -/
theorem keys_real (hkn : Is3 kn Kn) (hkr : Is2 kr Kr) : Is2 (keys kn kr) (beside 256 (three Kn (fun _ r s => Kr r s))) :=
  wide_real (join3_real hkn (sharedKeys_real hkr))

/-- Two halves. -/
def two (a b : ℕ → ℕ → ℕ → ℝ) (h r s : ℕ) : ℝ := if s < 128 then a h r s else b h r (s - 128)

/-- Two halves of a head's columns. -/
theorem join2_real {a b : Head128} {A B : ℕ → ℕ → ℕ → ℝ} (ha : Is3 a A) (hb : Is3 b B) : Is3 (join2 a b) (two A B) := by
  intro i j k
  unfold join2 two
  pointwise
  split
  · exact ha _ _ _
  · exact hb _ _ _

/-- The values for the call, ones behind them. -/
theorem values_real (hv : Is3 v U) : Is2 (values v) (beside 256 (two U (fun _ _ _ => 1))) := by
  refine wide_real (join2_real hv fun i j k => ?_)
  pointwise
  rfl

/-- The rows' sums of cotangent times output. -/
theorem deltas_real (hd : Is3 d D) (ho : Is3 o O) : Is3 (deltas d o) (fun i j _ => ∑ s ∈ range 128, D i j s * O i j s) := by
  intro i j k
  unfold deltas column
  pointwise
  simp only [hd _ _ _, ho _ _ _, ← EReal.coe_mul]
  rw [coe_sum_fin (fun s => D i j s * O i j s)]

/-- The columns behind the cotangents: minus the row's sum, then zeros. -/
theorem tails_real (ht : Is3 t (fun i j _ => T i j)) : Is3 (tails t) (fun i j s => if s = 0 then -T i j else 0) := by
  intro i j k
  unfold tails
  pointwise
  rw [show t (ix3 i j 0) = _ from ht i j 0]
  rw [select_eq (b := 0) k.isLt (by decide), select_eq (b := 1) k.isLt (by decide), ← EReal.coe_sub, sub_self]
  split
  · rw [← EReal.coe_neg]
  · split
    · rfl
    · exact Ideal.ofBits_zero_f32

/-- The cotangents for the call. -/
theorem cotangents_real (hd : Is3 d D) (ho : Is3 o O) :
    Is2 (cotangents d o) (beside 256 (two D (fun i j s => if s = 0 then -∑ s ∈ range 128, D i j s * O i j s else 0))) :=
  wide_real (join2_real hd (tails_real (deltas_real hd ho)))

/-- The logarithms for the call. -/
theorem logsWide_real (ht : Is3 t (fun i j _ => T i j)) : Is2 (logsWide t) (beside 128 (fun i j _ => T i j)) := by
  intro i j
  unfold logsWide
  pointwise
  exact ht _ _ _

/-! ## The reference -/

section reference

open Cert.ReferenceIdeal.Lines (Head192 join pulled inverseSquare sumCotangent scoreCotangent wide128)

variable {q k : Head192} {Q K : ℕ → ℕ → ℕ → ℝ}

/-- A head's 192 columns. -/
def pair (a b : ℕ → ℕ → ℕ → ℝ) (h r s : ℕ) : ℝ := if s < 128 then a h r s else b h r (s - 128)

/-- The columns side by side. -/
theorem join_real {a : Head128} {b : Head64} {A B : ℕ → ℕ → ℕ → ℝ} (ha : Is3 a A) (hb : Is3 b B) : Is3 (join a b) (pair A B) := by
  intro i j k
  unfold join pair
  pointwise
  split
  · exact ha _ _ _
  · exact hb _ _ _

/-- A sum over 192 columns is the sum over the first 128 and the sum over the last 64. -/
theorem sum_pair (Qn Qr Kn Kc : ℕ → ℕ → ℕ → ℝ) (h r c : ℕ) :
    ∑ s ∈ range 192, pair Qn Qr h r s * pair Kn Kc h c s = ∑ s ∈ range 128, Qn h r s * Kn h c s + ∑ s ∈ range 64, Qr h r s * Kc h c s := by
  rw [show (192 : ℕ) = 128 + 64 from rfl, Finset.sum_range_add]
  refine congrArg₂ (· + ·) ?_ ?_
  · refine Finset.sum_congr rfl fun s hs => ?_
    unfold pair
    rw [if_pos (Finset.mem_range.mp hs), if_pos (Finset.mem_range.mp hs)]
  · refine Finset.sum_congr rfl fun s _ => ?_
    unfold pair
    rw [if_neg (by omega), if_neg (by omega), Nat.add_sub_cancel_left]

/-- The reference's scores are the host's. -/
theorem ref_scores_real (hqn : Is3 qn Qn) (hqr : Is3 qr Qr) (hkn : Is3 kn Kn) (hkr : Is2 kr Kr) :
    Is3 (Cert.ReferenceIdeal.Lines.scores (join qn qr) (join kn (sharedKeys kr))) (score Qn Qr Kn Kr) := by
  have hq := join_real hqn hqr
  have hk := join_real hkn (sharedKeys_real hkr)
  generalize join qn qr = q at hq
  generalize join kn (sharedKeys kr) = k at hk
  intro i j c
  unfold Cert.ReferenceIdeal.Lines.scores scale
  pointwise
  simp only [hq _ _ _, hk _ _ _, sqrt_192, inv_root, ← EReal.coe_mul]
  rw [coe_sum_fin (fun s => pair Qn Qr i j s * pair Kn (fun _ r s => Kr r s) i c s), ← EReal.coe_mul, sum_pair]
  rfl

/-- The greater of `-∞` and a value is the value. -/
theorem max_bot_rows (y : FVec Ideal S8x4096 .f32) :
    maximumf (broadcastInDim S8x4096 ![] Cert.ReferenceIdeal.Gen.bcast_S_S8x4096 (constant S_ .f32 0xFF800000#32)) y = y := by
  funext i
  idx_vars i
  pointwise
  rw [ofBits_bot]
  exact max_bot_left _

/-- The reference's greatest scores are the rows' greatest. -/
theorem top_eq (x : Scores) : Cert.ReferenceIdeal.Lines.top x = column (greatest x) := by
  unfold Cert.ReferenceIdeal.Lines.top
  exact congrArg column (max_bot_rows _)

/-- The cotangent of the probabilities. -/
theorem pulled_real (hd : Is3 d D) (hv : Is3 v U) : Is3 (pulled d v) (fun i j c => ∑ s ∈ range 128, D i j s * U i c s) := by
  intro i j c
  unfold pulled
  pointwise
  simp only [hd _ _ _, hv _ _ _, ← EReal.coe_mul]
  exact coe_sum_fin (fun s => D i j s * U i c s)

/-- What a row's sum receives. -/
theorem sumCotangent_real (hg : Is3 g G) (he : Is3 e E) (hl : Is3 l (fun i j _ => L i j)) (hL : ∀ i j, L i j ≠ 0) :
    Is2 (sumCotangent g e l) (fun i j => -∑ c ∈ range 4096, G i j c * (1 / (L i j * L i j)) * E i j c) := by
  intro i j
  unfold sumCotangent across inverseSquare
  pointwise
  rw [show l (ix3 i j 0) = _ from hl i j 0]
  simp only [hg _ _ _, he _ _ _, ← EReal.coe_mul, ← EReal.coe_one, div_real _ (mul_ne_zero (hL _ _) (hL _ _))]
  rw [coe_sum_fin (fun c => G i j c * (1 / (L i j * L i j)) * E i j c), ← EReal.coe_neg]
  exact Fin.sum_univ_one _

/-- The cotangent of the unscaled scores. -/
theorem scoreCotangent_real (hg : Is3 g G) (he : Is3 e E) (hl : Is3 l (fun i j _ => L i j)) (hL : ∀ i j, L i j ≠ 0) :
    Is3 (scoreCotangent g e l) (fun i j c =>
      (if c ≤ j then (G i j c / L i j + -∑ c ∈ range 4096, G i j c * (1 / (L i j * L i j)) * E i j c) * E i j c else 0) * (1 / root)) := by
  have hs := sumCotangent_real hg he hl hL
  intro i j c
  unfold scoreCotangent across causal scale
  pointwise
  rw [select_sle c.isLt j.isLt, hs i j, show l (ix3 i j 0) = _ from hl i j 0, hg i j c, he i j c, div_real _ (hL _ _), ← EReal.coe_add,
    ← EReal.coe_mul, sqrt_192, inv_root]
  split
  · rw [← EReal.coe_mul]
  · rw [zero_mul]; exact (EReal.coe_zero).symm

/-- The cotangent of the queries, times the square root of 192. -/
theorem dq_real (hg : Is3 g G) (hk : Is3 k K) :
    Is3 (Cert.ReferenceIdeal.Lines.dq g k) (fun i j s => (∑ c ∈ range 4096, G i j c * K i c s) * root) := by
  intro i j s
  unfold Cert.ReferenceIdeal.Lines.dq
  pointwise
  simp only [hg _ _ _, hk _ _ _, ← EReal.coe_mul, sqrt_192]
  rw [coe_sum_fin (fun c => G i j c * K i c s), ← EReal.coe_mul]

/-- The cotangent of the keys, over the logarithm of two. -/
theorem dk_real (hg : Is3 g G) (hq : Is3 q Q) :
    Is3 (Cert.ReferenceIdeal.Lines.dk g q) (fun i c s => (∑ j ∈ range 4096, G i j c * Q i j s) / lg) := by
  intro i c s
  unfold Cert.ReferenceIdeal.Lines.dk ln2
  pointwise
  simp only [hg _ _ _, hq _ _ _, ← EReal.coe_mul, log_2]
  rw [coe_sum_fin (fun j => G i j c * Q i j s), div_real _ lg_pos.ne']

/-- The cotangent of the values. -/
theorem dv_real (he : Is3 e E) (hl : Is3 l (fun i j _ => L i j)) (hL : ∀ i j, L i j ≠ 0) (hd : Is3 d D) :
    Is3 (Cert.ReferenceIdeal.Lines.dv e l d) (fun i c s => ∑ j ∈ range 4096, D i j s * (E i j c / L i j)) := by
  intro i c s
  unfold Cert.ReferenceIdeal.Lines.dv across
  pointwise
  have hl0 : ∀ j : Fin 4096, l (ix3 i j 0) = ((L i j : ℝ) : EReal) := fun j => hl i j 0
  simp only [hd _ _ _, he _ _ _, hl0, div_real _ (hL _ _), ← EReal.coe_mul]
  exact coe_sum_fin (fun j => D i j s * (E i j c / L i j))

/-- A head's 192 columns and zeros. -/
theorem pad_real (hq : Is3 q Q) : Is3 (Cert.ReferenceIdeal.Lines.pad q) (fun i j s => if s < 192 then Q i j s else 0) := by
  intro i j s
  unfold Cert.ReferenceIdeal.Lines.pad zeros64
  pointwise
  split
  · exact hq _ _ _
  · rfl

/-- The heads' 128 columns side by side. -/
theorem wide128_real (hd : Is3 d D) : Is2 (wide128 d) (beside 128 D) := by
  intro i j
  unfold wide128
  pointwise
  exact hd _ _ _

/-- The cotangent of the attention, a matrix for every head. -/
theorem cotangent_real {ct : FVec Ideal S4096x1024 .f32} {C : ℕ → ℕ → ℝ} (hc : Is2 ct C) :
    Is3 (cotangent ct) (fun i j s => C j (i * 128 + s)) := by
  intro i j s
  unfold cotangent
  pointwise
  exact hc _ _

end reference

end Cert.Values
-- ==== Proof.Equation.lean ====
/-
  The equation of the two programs, in real numbers: what the call's body computes from its prepared operands (scores in
  base two, the rows' logarithms subtracted, the rows' sums folded into the products' last columns) are the cotangents
  of the causal attention, as the pullback of its softmax gives them.
-/
module

public import proofs.«01_k».proof.Proof.Values

@[expose] public section

noncomputable section

namespace Cert.Equation

open Cert.KernelIdeal.Arrays Cert.KernelIdeal.Block Cert.Values
open Finset (range)

/-! ## Sums over the columns -/

/-- A sum over 256 columns of the products of two heads' columns, both with zeros behind 192. -/
theorem sum_three (A B A' B' : ℕ → ℕ → ℕ → ℝ) (h r c : ℕ) (z : ℝ) :
    ∑ s ∈ range 256, three A B h r s * z * three A' B' h c s
      = (∑ s ∈ range 128, A h r s * A' h c s + ∑ s ∈ range 64, B h r s * B' h c s) * z := by
  rw [show (256 : ℕ) = 128 + 64 + 64 from rfl, Finset.sum_range_add, Finset.sum_range_add, add_mul, Finset.sum_mul, Finset.sum_mul]
  have h3 : ∑ s ∈ range 64, three A B h r (128 + 64 + s) * z * three A' B' h c (128 + 64 + s) = 0 := by
    refine Finset.sum_eq_zero fun s _ => ?_
    unfold three
    rw [if_neg (by omega), if_neg (by omega), zero_mul, zero_mul]
  rw [h3, add_zero]
  refine congrArg₂ (· + ·) (Finset.sum_congr rfl fun s hs => ?_) (Finset.sum_congr rfl fun s hs => ?_)
  · have := Finset.mem_range.mp hs
    unfold three
    rw [if_pos this, if_pos this]
    ring
  · have := Finset.mem_range.mp hs
    unfold three
    have h1 : ¬128 + s < 128 := by omega
    simp only [h1, this, if_true, if_false, Nat.add_sub_cancel_left]
    ring

/-- A sum over 256 columns where ones stand behind one factor and a single number behind the other. -/
theorem sum_two (A U : ℕ → ℕ → ℕ → ℝ) (δ : ℕ → ℕ → ℝ) (h r c : ℕ) :
    ∑ s ∈ range 256, two A (fun i j s => if s = 0 then -δ i j else 0) h r s * two U (fun _ _ _ => 1) h c s
      = ∑ s ∈ range 128, A h r s * U h c s - δ h r := by
  rw [show (256 : ℕ) = 128 + 128 from rfl, Finset.sum_range_add, sub_eq_add_neg]
  refine congrArg₂ (· + ·) (Finset.sum_congr rfl fun s hs => ?_) ?_
  · have := Finset.mem_range.mp hs
    unfold two
    rw [if_pos this, if_pos this]
  · rw [Finset.sum_eq_single 0]
    · unfold two
      simp
    · intro s _ hs
      unfold two
      have h1 : ¬128 + s < 128 := by omega
      simp only [h1, hs, if_false, Nat.add_sub_cancel_left, zero_mul]
    · intro hn
      exact absurd (Finset.mem_range.mpr (by norm_num)) hn

section equation

variable (Qn Qr Kn U D : ℕ → ℕ → ℕ → ℝ) (Kr T : ℕ → ℕ → ℝ)

/-- The exponential of a score over its row's greatest. -/
def expon (h r c : ℕ) : ℝ := if c ≤ r then Real.exp (score Qn Qr Kn Kr h r c - T h r) else 0

/-- A row's sum of exponentials. -/
def sum (h r : ℕ) : ℝ := ∑ c ∈ range 4096, expon Qn Qr Kn Kr T h r c

/-- A row's sum is positive: the first key is seen by every row. -/
theorem sum_pos (h r : ℕ) : 0 < sum Qn Qr Kn Kr T h r := by
  refine Finset.sum_pos' (fun c _ => ?_) ⟨0, Finset.mem_range.mpr (by norm_num), ?_⟩
  · unfold expon
    split
    · exact (Real.exp_pos _).le
    · exact le_rfl
  · unfold expon
    rw [if_pos (Nat.zero_le r)]
    exact Real.exp_pos _

/-- The probability a row gives a key. -/
def soft (h r c : ℕ) : ℝ := expon Qn Qr Kn Kr T h r c / sum Qn Qr Kn Kr T h r

/-- The output of the attention. -/
def out (h r s : ℕ) : ℝ := ∑ c ∈ range 4096, expon Qn Qr Kn Kr T h r c / sum Qn Qr Kn Kr T h r * U h c s

/-- The row's sum of cotangent times output. -/
def delta (h r : ℕ) : ℝ := ∑ s ∈ range 128, D h r s * out Qn Qr Kn U Kr T h r s

/-- The cotangent of a probability. -/
def pull (h r c : ℕ) : ℝ := ∑ s ∈ range 128, D h r s * U h c s

/-- The call's queries, keys, values, cotangents and logarithms. -/
def opQ (h r s : ℕ) : ℝ := three Qn Qr h r s * (1 / root / lg)
def opK : ℕ → ℕ → ℕ → ℝ := three Kn (fun _ r s => Kr r s)
def opV : ℕ → ℕ → ℕ → ℝ := two U (fun _ _ _ => 1)
def opD : ℕ → ℕ → ℕ → ℝ := two D (fun i j s => if s = 0 then -delta Qn Qr Kn U D Kr T i j else 0)
def opL (h r : ℕ) (_ : ℕ) : ℝ := (T h r + Real.log (sum Qn Qr Kn Kr T h r)) / lg

/-- The probabilities the call recomputes are the softmax's. -/
theorem prob_eq (h r c : ℕ) :
    prob (opQ Qn Qr h) (opK Kn Kr h) (opL Qn Qr Kn Kr T h) r c = soft Qn Qr Kn Kr T h r c := by
  have hs := sum_pos Qn Qr Kn Kr T h r
  unfold prob soft expon
  split
  · rw [show ∑ t ∈ range 256, opQ Qn Qr h r t * opK Kn Kr h c t = score Qn Qr Kn Kr h r c / lg by
      rw [show ∑ t ∈ range 256, opQ Qn Qr h r t * opK Kn Kr h c t
        = ∑ t ∈ range 256, three Qn Qr h r t * (1 / root / lg) * three Kn (fun _ r s => Kr r s) h c t from rfl, sum_three]
      unfold score
      ring]
    unfold opL
    rw [← sub_div, show Real.rpow 2 ((score Qn Qr Kn Kr h r c - (T h r + Real.log (sum Qn Qr Kn Kr T h r))) / lg)
      = Real.exp (Real.log 2 * ((score Qn Qr Kn Kr h r c - (T h r + Real.log (sum Qn Qr Kn Kr T h r))) / lg)) from Real.rpow_def_of_pos (by norm_num) _,
      show Real.log 2 = lg from rfl, mul_div_cancel₀ _ lg_pos.ne', ← sub_sub, Real.exp_sub, Real.exp_log hs]
  · rw [zero_div]

/-- The rows' sums of cotangent times output are those of cotangent times probability. -/
theorem delta_eq (h r : ℕ) :
    delta Qn Qr Kn U D Kr T h r = ∑ c ∈ range 4096, pull U D h r c * soft Qn Qr Kn Kr T h r c := by
  unfold delta out pull soft
  simp only [Finset.mul_sum, Finset.sum_mul]
  rw [Finset.sum_comm]
  refine Finset.sum_congr rfl fun c _ => Finset.sum_congr rfl fun s _ => ?_
  ring

/-- The gradient of a score, as the call computes it. -/
theorem dscore_eq (h r c : ℕ) :
    dscore (opQ Qn Qr h) (opK Kn Kr h) (opV U h) (opD Qn Qr Kn U D Kr T h) (opL Qn Qr Kn Kr T h) r c
      = soft Qn Qr Kn Kr T h r c * (pull U D h r c - delta Qn Qr Kn U D Kr T h r) := by
  unfold dscore
  rw [prob_eq]
  exact congrArg _ (sum_two D U (delta Qn Qr Kn U D Kr T) h r c)

/-- The cotangent of an unscaled score, as the pullback gives it. -/
def refScore (i j c : ℕ) : ℝ :=
  (if c ≤ j then (pull U D i j c / sum Qn Qr Kn Kr T i j
      + -∑ c ∈ range 4096, pull U D i j c * (1 / (sum Qn Qr Kn Kr T i j * sum Qn Qr Kn Kr T i j)) * expon Qn Qr Kn Kr T i j c)
      * expon Qn Qr Kn Kr T i j c else 0) * (1 / root)

/-- It is the call's over the square root of 192. -/
theorem refScore_eq (h r c : ℕ) :
    refScore Qn Qr Kn U D Kr T h r c
      = soft Qn Qr Kn Kr T h r c * (pull U D h r c - delta Qn Qr Kn U D Kr T h r) * (1 / root) := by
  have hs := (sum_pos Qn Qr Kn Kr T h r).ne'
  unfold refScore
  congr 1
  split
  · rw [delta_eq]
    have e : ∑ c ∈ range 4096, pull U D h r c * (1 / (sum Qn Qr Kn Kr T h r * sum Qn Qr Kn Kr T h r)) * expon Qn Qr Kn Kr T h r c
        = (∑ c ∈ range 4096, pull U D h r c * soft Qn Qr Kn Kr T h r c) / sum Qn Qr Kn Kr T h r := by
      rw [Finset.sum_div]
      refine Finset.sum_congr rfl fun c _ => ?_
      unfold soft
      field_simp
    rw [e]
    unfold soft
    generalize ∑ c ∈ range 4096, pull U D h r c * _ = z
    field_simp
    ring
  · rename_i hc
    unfold soft expon
    rw [if_neg hc, zero_div, zero_mul]

/-- In its first 192 columns a padded head is the head. -/
theorem three_of_lt (A B : ℕ → ℕ → ℕ → ℝ) (h r : ℕ) {s : ℕ} (hs : s < 192) : three A B h r s = pair A B h r s := by
  unfold three pair
  split
  · rfl
  · rw [if_pos (by omega)]

/-- Behind them it is zero. -/
theorem three_of_ge (A B : ℕ → ℕ → ℕ → ℝ) (h r : ℕ) {s : ℕ} (hs : ¬s < 192) : three A B h r s = 0 := by
  unfold three
  rw [if_neg (by omega), if_neg (by omega)]

/-- The gradients of the queries agree. -/
theorem dq_eq (h r s : ℕ) :
    headdq (opQ Qn Qr) (opK Kn Kr) (opV U) (opD Qn Qr Kn U D Kr T) (opL Qn Qr Kn Kr T) h r s
      = if s < 192 then (∑ c ∈ range 4096, refScore Qn Qr Kn U D Kr T h r c * pair Kn (fun _ r s => Kr r s) h c s) * root else 0 := by
  unfold headdq
  split
  · rename_i hs
    rw [Finset.sum_mul]
    refine Finset.sum_congr rfl fun c _ => ?_
    have hr := root_pos.ne'
    rw [dscore_eq, refScore_eq, show opK Kn Kr h c s = _ from three_of_lt _ _ h c hs]
    field_simp
  · rename_i hs
    refine Finset.sum_eq_zero fun c _ => ?_
    rw [show opK Kn Kr h c s = 0 from three_of_ge _ _ h c hs, mul_zero]

/-- The gradients of the keys agree. -/
theorem dk_eq (h c s : ℕ) :
    headdk (opQ Qn Qr) (opK Kn Kr) (opV U) (opD Qn Qr Kn U D Kr T) (opL Qn Qr Kn Kr T) h c s
      = if s < 192 then (∑ r ∈ range 4096, refScore Qn Qr Kn U D Kr T h r c * pair Qn Qr h r s) / lg else 0 := by
  unfold headdk
  split
  · rename_i hs
    rw [Finset.sum_div]
    refine Finset.sum_congr rfl fun r _ => ?_
    rw [dscore_eq, refScore_eq]
    unfold opQ
    rw [three_of_lt _ _ h r hs]
    ring
  · rename_i hs
    refine Finset.sum_eq_zero fun r _ => ?_
    unfold opQ
    rw [three_of_ge _ _ h r hs, zero_mul, mul_zero]

/-- The gradients of the values agree. -/
theorem dv_eq (h c s : ℕ) (hs : s < 128) :
    headdv (opQ Qn Qr) (opK Kn Kr) (opD Qn Qr Kn U D Kr T) (opL Qn Qr Kn Kr T) h c s
      = ∑ r ∈ range 4096, D h r s * (expon Qn Qr Kn Kr T h r c / sum Qn Qr Kn Kr T h r) := by
  unfold headdv
  refine Finset.sum_congr rfl fun r _ => ?_
  rw [prob_eq]
  unfold opD two
  rw [if_pos hs, mul_comm]
  rfl

end equation

end Cert.Equation
-- ==== Proof.Agree.lean ====
/-
  The three arrays the call writes are the reference's three results, where the arguments hold real numbers.
-/
module

public import proofs.«01_k».proof.Proof.Equation

@[expose] public section

set_option maxRecDepth 16384

noncomputable section

namespace Cert.Agree

open Idealize.ShloMosaic Idealize.ShloMosaic.TcCoe Idealize.SL.Sem Cert.KernelIdeal Cert.KernelIdeal.Gen Cert.KernelIdeal.Lines
open Cert.KernelIdeal.Arrays Cert.Reals Cert.Values Cert.Equation

/-- Two arrays that hold the same real numbers are equal. -/
theorem is3_ext {a b c : ℕ} {x y : (⟨3, ![a, b, c]⟩ : Shape).Idx → EReal} {f : ℕ → ℕ → ℕ → ℝ} (hx : Is3 x f) (hy : Is3 y f) : x = y := by
  funext i
  rw [eq_ix3 i]
  exact (hx _ _ _).trans (hy _ _ _).symm

/-- An array that holds the numbers of a function is that function. -/
theorem is2_eq {a b : ℕ} {x : (⟨2, ![a, b]⟩ : Shape).Idx → EReal} {f g : ℕ → ℕ → ℝ} (hx : Is2 x f)
    (h : ∀ (i : Fin a) (j : Fin b), g i j = f i j) :
    (fun i : (⟨2, ![a, b]⟩ : Shape).Idx => ((g (i 0) (i 1) : ℝ) : EReal)) = x := by
  funext i
  rw [eq_ix2 i]
  exact (congrArg (fun r : ℝ => (r : EReal)) (h (i 0) (i 1))).trans (hx (i 0) (i 1)).symm

/-- An array that holds heads side by side is any other such function that agrees on every head's columns. -/
theorem beside_eq {a b w : ℕ} (hw : 0 < w) {x : (⟨2, ![a, b]⟩ : Shape).Idx → EReal} {F G : ℕ → ℕ → ℕ → ℝ} (hx : Is2 x (beside w F))
    (h : ∀ h r s, s < w → G h r s = F h r s) :
    (fun i : (⟨2, ![a, b]⟩ : Shape).Idx => ((beside w G (i 0) (i 1) : ℝ) : EReal)) = x :=
  is2_eq hx fun _ _ => h _ _ _ (Nat.mod_lt _ hw)

section

variable {qn kn v : Head128} {qr : Head64} {kr : FVec Ideal S4096x64 .f32} {ct : FVec Ideal S4096x1024 .f32}
  {Qn Kn U Qr : ℕ → ℕ → ℕ → ℝ} {Kr C T : ℕ → ℕ → ℝ} {e : Scores} {l : Rows}

/-- The cotangent of the output, by heads. -/
def heads (C : ℕ → ℕ → ℝ) (i j s : ℕ) : ℝ := C j (i * 128 + s)

/-- The stages of the attention hold their real numbers, for some numbers as the rows' greatest scores. -/
theorem stages (hqn : Is3 qn Qn) (hqr : Is3 qr Qr) (hkn : Is3 kn Kn) (hkr : Is2 kr Kr) :
    ∃ T : ℕ → ℕ → ℝ,
      Is3 (column (greatest (masked (scores qn qr kn kr)))) (fun i j _ => T i j)
      ∧ Is3 (expo (masked (scores qn qr kn kr)) (column (greatest (masked (scores qn qr kn kr))))) (expon Qn Qr Kn Kr T)
      ∧ Is3 (total (expo (masked (scores qn qr kn kr)) (column (greatest (masked (scores qn qr kn kr)))))) (fun i j _ => Equation.sum Qn Qr Kn Kr T i j) := by
  have hx := scores_real hqn hqr hkn hkr
  obtain ⟨T, hT⟩ := exists_greatest hx
  have ht := column_real hT
  have he := expo_real hx ht
  exact ⟨T, ht, he, total_real he⟩

/-- The reference's cotangent of the scores. -/
theorem refScore_real (he : Is3 e (expon Qn Qr Kn Kr T)) (hl : Is3 l (fun i j _ => Equation.sum Qn Qr Kn Kr T i j))
    (hv : Is3 v U) (hc : Is2 ct C) :
    Is3 (Cert.ReferenceIdeal.Lines.scoreCotangent (Cert.ReferenceIdeal.Lines.pulled (cotangent ct) v) e l)
      (refScore Qn Qr Kn U (heads C) Kr T) :=
  scoreCotangent_real (pulled_real (cotangent_real hc) hv) he hl (fun i j => (sum_pos Qn Qr Kn Kr T i j).ne')

end

section

variable (m : (ℓ : Loc nD τ sig) → Buf (Elt Ideal) ℓ) (c : Dev nD)
  (m' : (ℓ : Loc Cert.ReferenceIdeal.nD Cert.ReferenceIdeal.τ Cert.ReferenceIdeal.sig) → Buf (Elt Ideal) ℓ)

/-- The two programs' arguments are the same arrays. -/
structure Same : Prop where
  a0 : m' ((c.tc : Thread Cert.ReferenceIdeal.nD Cert.ReferenceIdeal.τ).loc Cert.ReferenceIdeal.main_arg0) = qn m c
  a1 : m' ((c.tc : Thread Cert.ReferenceIdeal.nD Cert.ReferenceIdeal.τ).loc Cert.ReferenceIdeal.main_arg1) = qr m c
  a2 : m' ((c.tc : Thread Cert.ReferenceIdeal.nD Cert.ReferenceIdeal.τ).loc Cert.ReferenceIdeal.main_arg2) = kn m c
  a3 : m' ((c.tc : Thread Cert.ReferenceIdeal.nD Cert.ReferenceIdeal.τ).loc Cert.ReferenceIdeal.main_arg3) = kr m c
  a4 : m' ((c.tc : Thread Cert.ReferenceIdeal.nD Cert.ReferenceIdeal.τ).loc Cert.ReferenceIdeal.main_arg4) = vv m c
  a5 : m' ((c.tc : Thread Cert.ReferenceIdeal.nD Cert.ReferenceIdeal.τ).loc Cert.ReferenceIdeal.main_arg5) = ct m c

variable {m c m'}

/-- Then the two programs' masked scores are the same. -/
theorem sm_eq (hs : Same m c m') {Qn Kn Qr : ℕ → ℕ → ℕ → ℝ} {Kr : ℕ → ℕ → ℝ}
    (h0 : Is3 (qn m c) Qn) (h1 : Is3 (qr m c) Qr) (h2 : Is3 (kn m c) Kn) (h3 : Is2 (kr m c) Kr) :
    Cert.ReferenceIdeal.Lines.sm m' c = sm m c := by
  unfold Cert.ReferenceIdeal.Lines.sm Cert.ReferenceIdeal.Lines.qa Cert.ReferenceIdeal.Lines.ka sm
  rw [hs.a0, hs.a1, hs.a2, hs.a3]
  exact congrArg masked (is3_ext (ref_scores_real h0 h1 h2 h3) (scores_real h0 h1 h2 h3))

/-- And so are their exponentials and the rows' sums. -/
theorem ex_eq (h : Cert.ReferenceIdeal.Lines.sm m' c = sm m c) : Cert.ReferenceIdeal.Lines.ex m' c = ex m c := by
  unfold Cert.ReferenceIdeal.Lines.ex
  rw [h, top_eq]

theorem tot_eq (h : Cert.ReferenceIdeal.Lines.sm m' c = sm m c) : Cert.ReferenceIdeal.Lines.tot m' c = tot m c :=
  congrArg total (ex_eq h)

/-- The reference's three results in the call's own stages. -/
theorem ref_dq (hs : Same m c m') (h : Cert.ReferenceIdeal.Lines.sm m' c = sm m c) :
    (Cert.ReferenceIdeal.Value.res_main_v80 m' c : S4096x2048.Idx → EReal)
      = wide (Cert.ReferenceIdeal.Lines.pad (Cert.ReferenceIdeal.Lines.dq (Cert.ReferenceIdeal.Lines.scoreCotangent
          (Cert.ReferenceIdeal.Lines.pulled (cotangent (ct m c)) (vv m c)) (ex m c) (tot m c))
          (Cert.ReferenceIdeal.Lines.join (kn m c) (sharedKeys (kr m c))))) := by
  refine (Cert.ReferenceIdeal.Lines.result0 m' c).trans ?_
  rw [ex_eq h, tot_eq h]
  unfold Cert.ReferenceIdeal.Lines.da Cert.ReferenceIdeal.Lines.va Cert.ReferenceIdeal.Lines.ka
  rw [hs.a2, hs.a3, hs.a4, hs.a5]

theorem ref_dk (hs : Same m c m') (h : Cert.ReferenceIdeal.Lines.sm m' c = sm m c) :
    (Cert.ReferenceIdeal.Value.res_main_v83 m' c : S4096x2048.Idx → EReal)
      = wide (Cert.ReferenceIdeal.Lines.pad (Cert.ReferenceIdeal.Lines.dk (Cert.ReferenceIdeal.Lines.scoreCotangent
          (Cert.ReferenceIdeal.Lines.pulled (cotangent (ct m c)) (vv m c)) (ex m c) (tot m c))
          (Cert.ReferenceIdeal.Lines.join (qn m c) (qr m c)))) := by
  refine (Cert.ReferenceIdeal.Lines.result1 m' c).trans ?_
  rw [ex_eq h, tot_eq h]
  unfold Cert.ReferenceIdeal.Lines.da Cert.ReferenceIdeal.Lines.va Cert.ReferenceIdeal.Lines.qa
  rw [hs.a0, hs.a1, hs.a4, hs.a5]

theorem ref_dv (hs : Same m c m') (h : Cert.ReferenceIdeal.Lines.sm m' c = sm m c) :
    (Cert.ReferenceIdeal.Value.res_main_v86 m' c : S4096x1024.Idx → EReal)
      = Cert.ReferenceIdeal.Lines.wide128 (Cert.ReferenceIdeal.Lines.dv (ex m c) (tot m c) (cotangent (ct m c))) := by
  refine (Cert.ReferenceIdeal.Lines.result2 m' c).trans ?_
  rw [ex_eq h, tot_eq h]
  unfold Cert.ReferenceIdeal.Lines.da
  rw [hs.a5]

/-- The call's own stages hold their real numbers. -/
theorem own_stages {Qn Kn Qr : ℕ → ℕ → ℕ → ℝ} {Kr : ℕ → ℕ → ℝ}
    (h0 : Is3 (qn m c) Qn) (h1 : Is3 (qr m c) Qr) (h2 : Is3 (kn m c) Kn) (h3 : Is2 (kr m c) Kr) :
    ∃ T : ℕ → ℕ → ℝ, Is3 (top m c) (fun i j _ => T i j) ∧ Is3 (ex m c) (expon Qn Qr Kn Kr T)
      ∧ Is3 (tot m c) (fun i j _ => Equation.sum Qn Qr Kn Kr T i j) := by
  unfold tot ex top sm
  exact stages h0 h1 h2 h3

/-- The call's five operands hold the real numbers the equation names, whichever numbers the rows' greatest scores are. -/
theorem hold0 {Qn Qr : ℕ → ℕ → ℕ → ℝ} (h0 : Is3 (qn m c) Qn) (h1 : Is3 (qr m c) Qr) :
    Is2 (V m c (Pipeline.arrRef spec0 0) : S4096x2048.Idx → EReal) (beside 256 (opQ Qn Qr)) :=
  (operand0 m c).symm ▸ queries_real h0 h1

theorem hold1 {Kn : ℕ → ℕ → ℕ → ℝ} {Kr : ℕ → ℕ → ℝ} (h2 : Is3 (kn m c) Kn) (h3 : Is2 (kr m c) Kr) :
    Is2 (V m c (Pipeline.arrRef spec0 1) : S4096x2048.Idx → EReal) (beside 256 (opK Kn Kr)) :=
  (operand1 m c).symm ▸ keys_real h2 h3

theorem hold2 {U : ℕ → ℕ → ℕ → ℝ} (h4 : Is3 (vv m c) U) :
    Is2 (V m c (Pipeline.arrRef spec0 2) : S4096x2048.Idx → EReal) (beside 256 (opV U)) :=
  (operand2 m c).symm ▸ values_real h4

theorem hold3 {Qn Kn U Qr : ℕ → ℕ → ℕ → ℝ} {Kr C T : ℕ → ℕ → ℝ} (he : Is3 (ex m c) (expon Qn Qr Kn Kr T))
    (hl : Is3 (tot m c) (fun i j _ => Equation.sum Qn Qr Kn Kr T i j)) (h4 : Is3 (vv m c) U) (h5 : Is2 (ct m c) C) :
    Is2 (V m c (Pipeline.arrRef spec0 3) : S4096x2048.Idx → EReal) (beside 256 (opD Qn Qr Kn U (heads C) Kr T)) :=
  (operand3 m c).symm ▸ cotangents_real (d := rounded (cotangent (ct m c))) (cotangent_real h5)
    (output_real he hl (fun i j => (sum_pos Qn Qr Kn Kr T i j).ne') h4)

theorem hold4 {Qn Kn Qr : ℕ → ℕ → ℕ → ℝ} {Kr T : ℕ → ℕ → ℝ} (ht : Is3 (top m c) (fun i j _ => T i j))
    (hl : Is3 (tot m c) (fun i j _ => Equation.sum Qn Qr Kn Kr T i j)) :
    Is2 (V m c (Pipeline.arrRef spec0 4) : S4096x1024.Idx → EReal) (beside 128 (opL Qn Qr Kn Kr T)) :=
  (operand4 m c).symm ▸ logsWide_real (logs_real ht hl (sum_pos Qn Qr Kn Kr T))

/-- The queries: the call's array is the reference's result. -/
theorem agree_dq (hs : Same m c m') {Qn Kn U Qr : ℕ → ℕ → ℕ → ℝ} {Kr C : ℕ → ℕ → ℝ}
    (h0 : Is3 (qn m c) Qn) (h1 : Is3 (qr m c) Qr) (h2 : Is3 (kn m c) Kn) (h3 : Is2 (kr m c) Kr) (h4 : Is3 (vv m c) U) (h5 : Is2 (ct m c) C) :
    ((dats m 0 c).arrAt 5 cfg0.N : S4096x2048.Idx → EReal) = Cert.ReferenceIdeal.Value.res_main_v80 m' c := by
  obtain ⟨T, ht, he, hl⟩ := own_stages h0 h1 h2 h3
  refine (final_dq m c (hold0 h0 h1) (hold1 h2 h3) (hold2 h4) (hold3 he hl h4 h5) (hold4 ht hl)).trans ?_
  refine Eq.trans ?_ (ref_dq hs (sm_eq hs h0 h1 h2 h3)).symm
  have hx := wide_real (pad_real (dq_real (refScore_real he hl h4 h5) (join_real h2 (sharedKeys_real h3))))
  exact beside_eq (by norm_num) hx fun h r s _ => dq_eq Qn Qr Kn U (heads C) Kr T h r s

/-- The keys: the call's array is the reference's result. -/
theorem agree_dk (hs : Same m c m') {Qn Kn U Qr : ℕ → ℕ → ℕ → ℝ} {Kr C : ℕ → ℕ → ℝ}
    (h0 : Is3 (qn m c) Qn) (h1 : Is3 (qr m c) Qr) (h2 : Is3 (kn m c) Kn) (h3 : Is2 (kr m c) Kr) (h4 : Is3 (vv m c) U) (h5 : Is2 (ct m c) C) :
    ((dats m 0 c).arrAt 6 cfg0.N : S4096x2048.Idx → EReal) = Cert.ReferenceIdeal.Value.res_main_v83 m' c := by
  obtain ⟨T, ht, he, hl⟩ := own_stages h0 h1 h2 h3
  refine (final_dk m c (hold0 h0 h1) (hold1 h2 h3) (hold2 h4) (hold3 he hl h4 h5) (hold4 ht hl)).trans ?_
  refine Eq.trans ?_ (ref_dk hs (sm_eq hs h0 h1 h2 h3)).symm
  have hx := wide_real (pad_real (dk_real (refScore_real he hl h4 h5) (join_real h0 h1)))
  exact beside_eq (by norm_num) hx fun h r s _ => dk_eq Qn Qr Kn U (heads C) Kr T h r s

/-- The values: the call's array is the reference's result. -/
theorem agree_dv (hs : Same m c m') {Qn Kn U Qr : ℕ → ℕ → ℕ → ℝ} {Kr C : ℕ → ℕ → ℝ}
    (h0 : Is3 (qn m c) Qn) (h1 : Is3 (qr m c) Qr) (h2 : Is3 (kn m c) Kn) (h3 : Is2 (kr m c) Kr) (h4 : Is3 (vv m c) U) (h5 : Is2 (ct m c) C) :
    ((dats m 0 c).arrAt 7 cfg0.N : S4096x1024.Idx → EReal) = Cert.ReferenceIdeal.Value.res_main_v86 m' c := by
  obtain ⟨T, ht, he, hl⟩ := own_stages h0 h1 h2 h3
  refine (final_dv m c (hold0 h0 h1) (hold1 h2 h3) (hold2 h4) (hold3 he hl h4 h5) (hold4 ht hl)).trans ?_
  refine Eq.trans ?_ (ref_dv hs (sm_eq hs h0 h1 h2 h3)).symm
  have hx := wide128_real (dv_real he hl (fun i j => (sum_pos Qn Qr Kn Kr T i j).ne') (cotangent_real h5))
  exact beside_eq (by norm_num) hx fun h r s hs => dv_eq Qn Qr Kn U (heads C) Kr T h r s hs

end

end Cert.Agree
-- ==== Proof.Finite.lean ====
/-
  The precondition read back: where every element of the six arguments is finite, every argument holds real numbers.
-/
module

public import proofs.«01_k».proof.Defs
public import proofs.«01_k».proof.Proof.Values
public import Idealize.ShloMosaic.Lib.ReduceAll

@[expose] public section

set_option maxRecDepth 16384

noncomputable section

namespace Cert.Finite

open Idealize.ShloMosaic Cert.Reals Cert.Values

/-- Where the absolute value is under plus infinity the element is a real number. -/
theorem real_of_abs_lt (x : EReal) (h : Ideal.cmp .olt (max x (-x)) (Ideal.ofBits .f32 0x7F800000#32) = 1#1) :
    x = ((x.toReal : ℝ) : EReal) := by
  have ht : Ideal.ofBits .f32 0x7F800000#32 = ⊤ := by simp [Ideal.ofBits, Ideal.ieee]
  rw [ht] at h
  refine (EReal.coe_toReal ?_ ?_).symm
  · rintro rfl
    simp [Ideal.cmp] at h
  · rintro rfl
    simp [Ideal.cmp] at h

/-- An array all of whose elements pass the test passes it at each. -/
theorem real_of_all {s t u : Shape} {axes : List (Fin s.rank)} [Subsingleton t.Idx] (x : FVec Ideal s .f32)
    (h : s.ReducesTo axes t) (hu : 0 < u.numel) (hb : (⟨0, ![]⟩ : Shape).BroadcastsInDim s (![] : Fin 0 → Fin s.rank)) (init : u.Idx → BitVec 1) (j : t.Idx)
    (e : Host.reduce IntOp.andi (cmpf .olt (Host.absf x) (broadcastInDim s ![] hb (constant ⟨0, ![]⟩ .f32 0x7F800000#32))) init h hu j = 1#1)
    (i : s.Idx) : x i = ((EReal.toReal (x i) : ℝ) : EReal) :=
  real_of_abs_lt (x i) (Host.reduce_andi_all _ init h hu j e i)

/-- The real numbers an array of three axes holds. -/
theorem exists_is3 {a b c : ℕ} (x : (⟨3, ![a, b, c]⟩ : Shape).Idx → EReal) (h : ∀ i, x i = (((x i).toReal : ℝ) : EReal)) :
    ∃ f, Is3 x f := by
  refine ⟨fun i j k => if h : i < a ∧ j < b ∧ k < c then (x (ix3 ⟨i, h.1⟩ ⟨j, h.2.1⟩ ⟨k, h.2.2⟩)).toReal else 0, fun i j k => ?_⟩
  have hi : i.val < a ∧ j.val < b ∧ k.val < c := ⟨i.isLt, j.isLt, k.isLt⟩
  beta_reduce
  rw [dif_pos hi]
  exact h _

/-- The real numbers an array of two axes holds. -/
theorem exists_is2 {a b : ℕ} (x : (⟨2, ![a, b]⟩ : Shape).Idx → EReal) (h : ∀ i, x i = (((x i).toReal : ℝ) : EReal)) :
    ∃ f, Is2 x f := by
  refine ⟨fun i j => if h : i < a ∧ j < b then (x (ix2 ⟨i, h.1⟩ ⟨j, h.2⟩)).toReal else 0, fun i j => ?_⟩
  have hi : i.val < a ∧ j.val < b := ⟨i.isLt, j.isLt⟩
  beta_reduce
  rw [dif_pos hi]
  exact h _

instance : Subsingleton Cert.Pre_finite.S_.Idx := ⟨fun a b => funext fun d => d.elim0⟩

/-- What the predicate says of the six arrays. -/
theorem of_fn [Cert.Pre_finite.Facts] (a0 : FVec Ideal Pre_finite.S8x4096x128 .f32) (a1 : FVec Ideal Pre_finite.S8x4096x64 .f32)
    (a2 : FVec Ideal Pre_finite.S8x4096x128 .f32) (a3 : FVec Ideal Pre_finite.S4096x64 .f32) (a4 : FVec Ideal Pre_finite.S8x4096x128 .f32)
    (a5 : FVec Ideal Pre_finite.S4096x1024 .f32) (h : Cert.Pre_finite.fn (F := Ideal) a0 a1 a2 a3 a4 a5 = fun _ => 1#1) :
    (∃ f, Is3 a0 f) ∧ (∃ f, Is3 a1 f) ∧ (∃ f, Is3 a2 f) ∧ (∃ f, Is2 a3 f) ∧ (∃ f, Is3 a4 f) ∧ ∃ f, Is2 a5 f := by
  have e := congrFun h (fun d => d.elim0)
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨exists_is3 a0 (real_of_all a0 _ _ _ _ _ h0), exists_is3 a1 (real_of_all a1 _ _ _ _ _ h1),
    exists_is3 a2 (real_of_all a2 _ _ _ _ _ h2), exists_is2 a3 (real_of_all a3 _ _ _ _ _ h3),
    exists_is3 a4 (real_of_all a4 _ _ _ _ _ h4), exists_is2 a5 (real_of_all a5 _ _ _ _ _ h5)⟩

end Cert.Finite
-- ==== Proof.MlpRun.lean ====
/-
  The run of the MLP's four calls: every result is what the chain of the host lines and the calls leaves in its buffer.
-/
module

public import proofs.«01_k».proof.Proof.Gen.Kernel2Ideal.Frame

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution ends, with each result as the chain of the boundaries'
contents has it, the arguments unchanged and every counter at zero. -/

theorem run : θ_run defs (onTc (τ := τ) (main (F := F))) ⟨m, fun _ => 0, ρ⟩ (fun r => (∀ c : Dev nD,
      r.2.mem ((c.tc : Thread nD τ).loc main_v12_0) = W7 m ρ c (Proc.devRef .tc main_v12_0)
      ∧ r.2.mem ((c.tc : Thread nD τ).loc main_v12_1) = W7 m ρ c (Proc.devRef .tc main_v12_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v12_0 (by decide)),
       h c _ (mem_uc main_v12_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩), funext fun g => hz g (.inr (no_unscoped g.2))⟩)

end Cert.Mlp
-- ==== Proof.MlpBody.lean ====
/-
  The bodies of the MLP's four calls on one block: what each printed operation holds, on all extended reals. A body is a
  product of two blocks, with an epilogue entry by entry.
-/
module

public import proofs.«01_k».proof.Proof.Reals
public import proofs.«01_k».proof.Proof.Gen.Kernel2Ideal.Frame

@[expose] public section

set_option maxRecDepth 16384

noncomputable section

namespace Cert.Mlp

open Idealize.ShloMosaic Cert.Kernel2Ideal Cert.Kernel2Ideal.Gen Cert.Reals
open Finset (range)

/-- `x` holds `f r s` at row `r` and column `s`. -/
def Has2 {a b : ℕ} (x : (⟨2, ![a, b]⟩ : Shape).Idx → EReal) (f : ℕ → ℕ → EReal) : Prop :=
  ∀ (i : Fin a) (j : Fin b), x (ix2 i j) = f i j

/-- `x` holds `f p r s` at plane `p`, row `r` and column `s`. -/
def Has3 {a b c : ℕ} (x : (⟨3, ![a, b, c]⟩ : Shape).Idx → EReal) (f : ℕ → ℕ → ℕ → EReal) : Prop :=
  ∀ (i : Fin a) (j : Fin b) (k : Fin c), x (ix3 i j k) = f i j k

/-- The constant zero. -/
theorem ofBits_zero : Ideal.ofBits .f32 0x00000000#32 = (0 : EReal) := by
  simp [Ideal.ofBits, Ideal.ieee]

variable {w : Vec Ideal S1x1024x1024 .bf16} {x : Vec Ideal S2048x1024 .bf16} {r : Vec Ideal S2048x1024 .bf16}
  {y : Vec Ideal S4096x512 .bf16} {d : Vec Ideal S4096x1024 .bf16}
  {W : ℕ → ℕ → ℕ → EReal} {X R Y D : ℕ → ℕ → EReal}

/-- The first call's block before its epilogue's square: the positive part of the product. -/
theorem k0_pay1_has (hw : Has3 w W) (hx : Has2 x X) :
    Has2 (k0_pay1 w x : S2048x1024.Idx → EReal) (fun i j => max (∑ k ∈ range 1024, X i k * W 0 k j) 0) := by
  intro i j
  unfold k0_pay1
  pointwise
  simp only [hx _ _, hw _ _ _]
  rw [Finset.sum_range]
  rfl

/-- The first call's squares. -/
theorem k0_pay2_has (hw : Has3 w W) (hx : Has2 x X) :
    Has2 (k0_pay2 w x : S2048x1024.Idx → EReal)
      (fun i j => max (∑ k ∈ range 1024, X i k * W 0 k j) 0 * max (∑ k ∈ range 1024, X i k * W 0 k j) 0) := by
  intro i j
  unfold k0_pay2
  pointwise
  rw [k0_pay1_has hw hx i j]

/-- The first call's positive parts. -/
theorem k0_pay3_has (hw : Has3 w W) (hx : Has2 x X) :
    Has2 (k0_pay3 w x : S2048x1024.Idx → EReal) (fun i j => max (∑ k ∈ range 1024, X i k * W 0 k j) 0) := by
  intro i j
  unfold k0_pay3
  pointwise
  rw [k0_pay1_has hw hx i j]

/-- The third call's block: the product with the rows of the weight, times twice the positive part. -/
theorem k2_pay1_has (hw : Has3 w W) (hx : Has2 x X) (hr : Has2 r R) :
    Has2 (k2_pay1 w x r : S2048x1024.Idx → EReal)
      (fun i j => (∑ k ∈ range 1024, X i k * W 0 j k) * (Ideal.ofBits .f32 0x40000000#32 * R i j)) := by
  intro i j
  unfold k2_pay1
  pointwise
  simp only [hx _ _, hw _ _ _, hr _ _]
  rw [Finset.sum_range]
  rfl

/-- The second call's block: the product of the two operands' columns. -/
theorem k1_pay1_has (hd : Has2 d D) (hy : Has2 y Y) :
    Has2 (k1_pay1 d y : S512x1024.Idx → EReal) (fun i j => ∑ t ∈ range 4096, Y t i * D t j) := by
  intro i j
  unfold k1_pay1
  pointwise
  simp only [hd _ _, hy _ _]
  rw [Finset.sum_range]

/-- The second call's block for the first buffer. -/
theorem k1_pay2_has (hd : Has2 d D) (hy : Has2 y Y) :
    Has3 (k1_pay2 d y : S1x512x1024.Idx → EReal) (fun _ i j => ∑ t ∈ range 4096, Y t i * D t j) := by
  intro p i j
  unfold k1_pay2
  pointwise
  exact k1_pay1_has hd hy i j

/-- The second call's block for the second buffer. -/
theorem k1_pay3_has (hd : Has2 d D) (hy : Has2 y Y) :
    Has3 (k1_pay3 d y : S1x512x1024.Idx → EReal) (fun _ i j => ∑ t ∈ range 4096, Y t i * D t j) := by
  intro p i j
  unfold k1_pay3
  pointwise
  exact k1_pay1_has hd hy i j

/-- The fourth call's block: the product of the two operands' columns. -/
theorem k3_pay1_has (hd : Has2 d D) (hy : Has2 y Y) :
    Has2 (k3_pay1 d y : S512x1024.Idx → EReal) (fun i j => ∑ t ∈ range 4096, Y t i * D t j) := by
  intro i j
  unfold k3_pay1
  pointwise
  simp only [hd _ _, hy _ _]
  rw [Finset.sum_range]

/-- The fourth call's block for the first buffer. -/
theorem k3_pay2_has (hd : Has2 d D) (hy : Has2 y Y) :
    Has3 (k3_pay2 d y : S1x512x1024.Idx → EReal) (fun _ i j => ∑ t ∈ range 4096, Y t i * D t j) := by
  intro p i j
  unfold k3_pay2
  pointwise
  exact k3_pay1_has hd hy i j

/-- The fourth call's block for the second buffer. -/
theorem k3_pay3_has (hd : Has2 d D) (hy : Has2 y Y) :
    Has3 (k3_pay3 d y : S1x512x1024.Idx → EReal) (fun _ i j => ∑ t ∈ range 4096, Y t i * D t j) := by
  intro p i j
  unfold k3_pay3
  pointwise
  exact k3_pay1_has hd hy i j

end Cert.Mlp
-- ==== Proof.MlpFirst.lean ====
/-
  The first and the third call on the whole arrays: the grid's blocks of 2048 rows and 1024 columns tile the result, the
  weight's shard for a block of columns being that block's plane of the pack.
-/
module

public import proofs.«01_k».proof.Proof.MlpBody

@[expose] public section

set_option maxRecDepth 16384

noncomputable section

namespace Cert.Mlp

open Idealize.ShloMosaic Idealize.ShloMosaic.TcCoe Idealize.SL.Sem Cert.Kernel2Ideal Cert.Kernel2Ideal.Gen Cert.Reals
open Idealize.ShloMosaic.Pipeline (Dat)
open Finset (range)

/-- What a matrix holds at any index. -/
theorem has2_at {a b : ℕ} {x : (⟨2, ![a, b]⟩ : Shape).Idx → EReal} {f : ℕ → ℕ → EReal} (h : Has2 x f) (i : (⟨2, ![a, b]⟩ : Shape).Idx) :
    x i = f (i 0) (i 1) := by
  have e : i = ix2 (i 0) (i 1) := by funext k; fin_cases k <;> rfl
  exact (congrArg x e).trans (h (i 0) (i 1))

/-- What a stack of matrices holds at any index. -/
theorem has3_at {a b c : ℕ} {x : (⟨3, ![a, b, c]⟩ : Shape).Idx → EReal} {f : ℕ → ℕ → ℕ → EReal} (h : Has3 x f)
    (i : (⟨3, ![a, b, c]⟩ : Shape).Idx) : x i = f (i 0) (i 1) (i 2) := by
  have e : i = ix3 (i 0) (i 1) (i 2) := by funext k; fin_cases k <;> rfl
  exact (congrArg x e).trans (h (i 0) (i 1) (i 2))

/-- Coordinate `r` of the block of index `b`. -/
theorem in_block {a b : ℕ} (n r : ℕ) (h : a = b) : a * n + 1 * r = b * n + r := by rw [h, Nat.one_mul]

/-- Coordinate `r` of the first block. -/
theorem in_first {a : ℕ} (n r : ℕ) (h : a = 0) : a * n + 1 * r = r := by rw [h, Nat.zero_mul, Nat.zero_add, Nat.one_mul]

/-- Coordinate `r` of the block of index `b`, one wide. -/
theorem in_unit {a b : ℕ} (r : ℕ) (h : a = b) : a * 1 + 1 * r = b + r := by rw [h, Nat.mul_one, Nat.one_mul]

theorem congr3 {α : Type} (f : ℕ → ℕ → ℕ → α) {a b c a' b' c' : ℕ} (h : a = a') (h' : b = b') (h'' : c = c') : f a b c = f a' b' c' := by
  rw [h, h', h'']

/-- The product of `X` with the pack's planes side by side. -/
def pre (X : ℕ → ℕ → EReal) (P : ℕ → ℕ → ℕ → EReal) (t f : ℕ) : EReal := ∑ k ∈ range 1024, X t k * P (f / 1024) k (f % 1024)

/-- Its positive part. -/
def pos (X : ℕ → ℕ → EReal) (P : ℕ → ℕ → ℕ → EReal) (t f : ℕ) : EReal := max (pre X P t f) 0

/-- The gradient before the positive part: the product with the pack's rows, times twice `R`. -/
def back (X : ℕ → ℕ → EReal) (P : ℕ → ℕ → ℕ → EReal) (R : ℕ → ℕ → EReal) (t f : ℕ) : EReal :=
  (∑ k ∈ range 1024, X t k * P (f / 1024) (2048 + f % 1024) k) * (Ideal.ofBits .f32 0x40000000#32 * R t f)

variable (V : (c : Dev nD) → (b : Ref sig .tc) → Buf (Elt Ideal) ((c : Thread nD τ).loc b)) (c : Dev nD)

/-- Every point's blocks in the first call. -/
theorem index0 : ∀ t : Fin grid0.N,
    (win0_0.index t 0 = t.val / 4 ∧ win0_0.index t 1 = 0)
    ∧ (win0_1.index t 0 = t.val % 4 ∧ win0_1.index t 1 = 0 ∧ win0_1.index t 2 = 0)
    ∧ (win0_2.index t 0 = t.val / 4 ∧ win0_2.index t 1 = t.val % 4)
    ∧ (win0_3.index t 0 = t.val / 4 ∧ win0_3.index t 1 = t.val % 4) := by
  decide +kernel

theorem block0_0 {X : ℕ → ℕ → EReal} (h : Has2 (V c (Pipeline.arrRef spec0 0) : S4096x1024.Idx → EReal) X) (t : Fin cfg0.N) :
    Has2 (iblk0 V c 0 t : S2048x1024.Idx → EReal) (fun r s => X (t.val / 4 * 2048 + r) s) := by
  intro r s
  unfold iblk0
  rw [View.read_apply]
  exact (has2_at h _).trans (congrArg₂ X (in_block 2048 _ (index0 t).1.1) (in_first 1024 _ (index0 t).1.2))

theorem block0_1 {P : ℕ → ℕ → ℕ → EReal} (h : Has3 (V c (Pipeline.arrRef spec0 1) : S4x3072x1024.Idx → EReal) P) (t : Fin cfg0.N) :
    Has3 (iblk0 V c 1 t : S1x1024x1024.Idx → EReal) (fun p k s => P (t.val % 4 + p) k s) := by
  intro p k s
  unfold iblk0
  rw [View.read_apply]
  exact (has3_at h _).trans (congr3 P (in_unit _ (index0 t).2.1.1)
    (in_first 1024 _ (index0 t).2.1.2.1) (in_first 1024 _ (index0 t).2.1.2.2))

/-- Row `r` and column `s` of the block at point `t` is an entry of the product. -/
theorem pre_block (X : ℕ → ℕ → EReal) (P : ℕ → ℕ → ℕ → EReal) (t a b r s : ℕ) (ha : a = t / 4) (hb : b = t % 4) (hs : s < 1024) :
    pre X P (a * 2048 + 1 * r) (b * 1024 + 1 * s) = ∑ k ∈ range 1024, X (t / 4 * 2048 + r) k * P (t % 4 + 0) k s := by
  subst ha hb
  unfold pre
  rw [show (t % 4 * 1024 + 1 * s) / 1024 = t % 4 + 0 by omega, show (t % 4 * 1024 + 1 * s) % 1024 = s by omega, Nat.one_mul]

variable {X : ℕ → ℕ → EReal} {P : ℕ → ℕ → ℕ → EReal}
  (hx : Has2 (V c (Pipeline.arrRef spec0 0) : S4096x1024.Idx → EReal) X)
  (hp : Has3 (V c (Pipeline.arrRef spec0 1) : S4x3072x1024.Idx → EReal) P)

/-- Every entry lies in some point's block. -/
theorem cover0_at (i : S4096x4096.Idx) : ∃ t : Fin grid0.N, t.val = (i 0 : ℕ) / 2048 * 4 + (i 1 : ℕ) / 1024
    ∧ ((i 0 : ℕ) / 2048 = t.val / 4 ∧ (i 1 : ℕ) / 1024 = t.val % 4) := by
  have h0 : (i 0 : ℕ) < 4096 := (i 0).isLt
  have h1 : (i 1 : ℕ) < 4096 := (i 1).isLt
  refine ⟨⟨(i 0 : ℕ) / 2048 * 4 + (i 1 : ℕ) / 1024, by rw [N_0]; omega⟩, rfl, ?_, ?_⟩ <;> dsimp only <;> omega

include hx hp in
/-- The positive parts' block at point `t`. -/
theorem after0_3_has (t : Fin cfg0.N) : Has2 ((dat0 V c).after 3 t : S2048x1024.Idx → EReal)
    (fun r s => max (∑ k ∈ range 1024, X (t.val / 4 * 2048 + r) k * P (t.val % 4 + 0) k s) 0) := by
  rw [after0_3]
  unfold out0_3
  rw [View.canon_unit_zero (by funext a; fin_cases a <;> rfl), View.ld_unit_zero (by funext a; fin_cases a <;> rfl),
    View.ld_unit_zero (by funext a; fin_cases a <;> rfl)]
  exact k0_pay3_has (block0_1 V c hp t) (block0_0 V c hx t)

include hx hp in
/-- The second result after the first call: the positive parts. -/
theorem final0_3 : ((dat0 V c).arrAt 3 cfg0.N : S4096x4096.Idx → EReal) = fun i => pos X P (i 0) (i 1) :=
    (dat0 V c).arrAt_eq_of_cover 3 _ (fun t _ => by
      funext y
      rw [View.read_apply]
      refine (has2_at (after0_3_has V c hx hp t) y).trans ?_
      exact congrArg (max · 0) (pre_block X P t _ _ _ _ (index0 t).2.2.2.1 (index0 t).2.2.2.2 (y 1).isLt).symm)
    fun i => by
      obtain ⟨t, -, e0, e1⟩ := cover0_at i
      refine ⟨t, Gen.flush0_3 t, ?_⟩
      have es : ((cfg0.win 3).blk t).view.set = ((View.whole main_v9_1).slice (win0_3.rect t)).set := rfl
      rw [es, View.set_slice_whole, Rect.mem_set_unit]
      intro a
      have ht := (index0 t).2.2.2
      match a with
      | ⟨0, _⟩ =>
        show win0_3.index t 0 * 2048 ≤ (i 0 : ℕ) ∧ (i 0 : ℕ) < win0_3.index t 0 * 2048 + 2048
        rw [ht.1]; omega
      | ⟨1, _⟩ =>
        show win0_3.index t 1 * 1024 ≤ (i 1 : ℕ) ∧ (i 1 : ℕ) < win0_3.index t 1 * 1024 + 1024
        rw [ht.2]; omega

include hx hp in
/-- The squares' block at point `t`. -/
theorem after0_2_has (t : Fin cfg0.N) : Has2 ((dat0 V c).after 2 t : S2048x1024.Idx → EReal)
    (fun r s => max (∑ k ∈ range 1024, X (t.val / 4 * 2048 + r) k * P (t.val % 4 + 0) k s) 0
      * max (∑ k ∈ range 1024, X (t.val / 4 * 2048 + r) k * P (t.val % 4 + 0) k s) 0) := by
  rw [after0_2]
  unfold out0_2
  rw [View.canon_unit_zero (by funext a; fin_cases a <;> rfl), View.ld_unit_zero (by funext a; fin_cases a <;> rfl),
    View.ld_unit_zero (by funext a; fin_cases a <;> rfl)]
  exact k0_pay2_has (block0_1 V c hp t) (block0_0 V c hx t)

include hx hp in
/-- The first result after the first call: the squares of the positive parts. -/
theorem final0_2 : ((dat0 V c).arrAt 2 cfg0.N : S4096x4096.Idx → EReal) = fun i => pos X P (i 0) (i 1) * pos X P (i 0) (i 1) :=
    (dat0 V c).arrAt_eq_of_cover 2 _ (fun t _ => by
      funext y
      rw [View.read_apply]
      refine (has2_at (after0_2_has V c hx hp t) y).trans ?_
      exact congrArg (fun z : EReal => max z 0 * max z 0) (pre_block X P t _ _ _ _ (index0 t).2.2.1.1 (index0 t).2.2.1.2 (y 1).isLt).symm)
    fun i => by
      obtain ⟨t, -, e0, e1⟩ := cover0_at i
      refine ⟨t, Gen.flush0_2 t, ?_⟩
      have es : ((cfg0.win 2).blk t).view.set = ((View.whole main_v9_0).slice (win0_2.rect t)).set := rfl
      rw [es, View.set_slice_whole, Rect.mem_set_unit]
      intro a
      have ht := (index0 t).2.2.1
      match a with
      | ⟨0, _⟩ =>
        show win0_2.index t 0 * 2048 ≤ (i 0 : ℕ) ∧ (i 0 : ℕ) < win0_2.index t 0 * 2048 + 2048
        rw [ht.1]; omega
      | ⟨1, _⟩ =>
        show win0_2.index t 1 * 1024 ≤ (i 1 : ℕ) ∧ (i 1 : ℕ) < win0_2.index t 1 * 1024 + 1024
        rw [ht.2]; omega

/-! ## The third call -/

/-- Every point's blocks in the third call. -/
theorem index2 : ∀ t : Fin grid2.N,
    (win2_0.index t 0 = t.val / 4 ∧ win2_0.index t 1 = 0)
    ∧ (win2_1.index t 0 = t.val % 4 ∧ win2_1.index t 1 = 2 ∧ win2_1.index t 2 = 0)
    ∧ (win2_2.index t 0 = t.val / 4 ∧ win2_2.index t 1 = t.val % 4)
    ∧ (win2_3.index t 0 = t.val / 4 ∧ win2_3.index t 1 = t.val % 4) := by
  decide +kernel

theorem block2_0 {X : ℕ → ℕ → EReal} (h : Has2 (V c (Pipeline.arrRef spec2 0) : S4096x1024.Idx → EReal) X) (t : Fin cfg2.N) :
    Has2 (iblk2 V c 0 t : S2048x1024.Idx → EReal) (fun r s => X (t.val / 4 * 2048 + r) s) := by
  intro r s
  unfold iblk2
  rw [View.read_apply]
  exact (has2_at h _).trans (congrArg₂ X (in_block 2048 _ (index2 t).1.1) (in_first 1024 _ (index2 t).1.2))

theorem block2_1 {P : ℕ → ℕ → ℕ → EReal} (h : Has3 (V c (Pipeline.arrRef spec2 1) : S4x3072x1024.Idx → EReal) P) (t : Fin cfg2.N) :
    Has3 (iblk2 V c 1 t : S1x1024x1024.Idx → EReal) (fun p k s => P (t.val % 4 + p) (2 * 1024 + k) s) := by
  intro p k s
  unfold iblk2
  rw [View.read_apply]
  exact (has3_at h _).trans (congr3 P (in_unit _ (index2 t).2.1.1)
    (in_block 1024 _ (index2 t).2.1.2.1) (in_first 1024 _ (index2 t).2.1.2.2))

theorem block2_2 {R : ℕ → ℕ → EReal} (h : Has2 (V c (Pipeline.arrRef spec2 2) : S4096x4096.Idx → EReal) R) (t : Fin cfg2.N) :
    Has2 (iblk2 V c 2 t : S2048x1024.Idx → EReal) (fun r s => R (t.val / 4 * 2048 + r) (t.val % 4 * 1024 + s)) := by
  intro r s
  unfold iblk2
  rw [View.read_apply]
  exact (has2_at h _).trans (congrArg₂ R (in_block 2048 _ (index2 t).2.2.1.1) (in_block 1024 _ (index2 t).2.2.1.2))

/-- Row `r` and column `s` of the block at point `t` is an entry of the gradient before the positive part. -/
theorem back_block (X : ℕ → ℕ → EReal) (P : ℕ → ℕ → ℕ → EReal) (R : ℕ → ℕ → EReal) (t a b r s : ℕ) (ha : a = t / 4) (hb : b = t % 4)
    (hs : s < 1024) :
    back X P R (a * 2048 + 1 * r) (b * 1024 + 1 * s)
      = (∑ k ∈ range 1024, X (t / 4 * 2048 + r) k * P (t % 4 + 0) (2 * 1024 + s) k)
        * (Ideal.ofBits .f32 0x40000000#32 * R (t / 4 * 2048 + r) (t % 4 * 1024 + s)) := by
  subst ha hb
  unfold back
  rw [show (t % 4 * 1024 + 1 * s) / 1024 = t % 4 + 0 by omega, show (t % 4 * 1024 + 1 * s) % 1024 = s by omega, Nat.one_mul, Nat.one_mul]

section third
variable {Z : ℕ → ℕ → EReal} {Q : ℕ → ℕ → ℕ → EReal} {R : ℕ → ℕ → EReal}
  (hz : Has2 (V c (Pipeline.arrRef spec2 0) : S4096x1024.Idx → EReal) Z)
  (hq : Has3 (V c (Pipeline.arrRef spec2 1) : S4x3072x1024.Idx → EReal) Q)
  (hr : Has2 (V c (Pipeline.arrRef spec2 2) : S4096x4096.Idx → EReal) R)

include hz hq hr in
/-- The gradient's block at point `t`. -/
theorem after2_3_has (t : Fin cfg2.N) : Has2 ((dat2 V c).after 3 t : S2048x1024.Idx → EReal)
    (fun r s => (∑ k ∈ range 1024, Z (t.val / 4 * 2048 + r) k * Q (t.val % 4 + 0) (2 * 1024 + s) k)
        * (Ideal.ofBits .f32 0x40000000#32 * R (t.val / 4 * 2048 + r) (t.val % 4 * 1024 + s))) := by
  rw [after2_3]
  unfold out2_3
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  exact k2_pay1_has (block2_1 V c hq t) (block2_0 V c hz t) (block2_2 V c hr t)

include hz hq hr in
/-- The third call's result: the gradient before the positive part. -/
theorem final2_3 : ((dat2 V c).arrAt 3 cfg2.N : S4096x4096.Idx → EReal) = fun i => back Z Q R (i 0) (i 1) :=
    (dat2 V c).arrAt_eq_of_cover 3 _ (fun t _ => by
      funext y
      rw [View.read_apply]
      refine (has2_at (after2_3_has V c hz hq hr t) y).trans ?_
      exact (back_block Z Q R t _ _ _ _ (index2 t).2.2.2.1 (index2 t).2.2.2.2 (y 1).isLt).symm)
    fun i => by
      obtain ⟨t, -, e0, e1⟩ := cover0_at i
      refine ⟨t, Gen.flush2_3 t, ?_⟩
      have es : ((cfg2.win 3).blk t).view.set = ((View.whole main_v11).slice (win2_3.rect t)).set := rfl
      rw [es, View.set_slice_whole, Rect.mem_set_unit]
      intro a
      have ht := (index2 t).2.2.2
      match a with
      | ⟨0, _⟩ =>
        show win2_3.index t 0 * 2048 ≤ (i 0 : ℕ) ∧ (i 0 : ℕ) < win2_3.index t 0 * 2048 + 2048
        rw [ht.1]; omega
      | ⟨1, _⟩ =>
        show win2_3.index t 1 * 1024 ≤ (i 1 : ℕ) ∧ (i 1 : ℕ) < win2_3.index t 1 * 1024 + 1024
        rw [ht.2]; omega

end third

end Cert.Mlp
-- ==== Proof.MlpWeights.lean ====
/-
  The second and the fourth call on the whole buffers: each writes one weight's rows of every chip's plane, a block of 512
  rows at a point, and leaves the rest of the buffer as it found it.
-/
module

public import proofs.«01_k».proof.Proof.MlpFirst

@[expose] public section

set_option maxRecDepth 16384

noncomputable section

namespace Cert.Mlp

open Idealize.ShloMosaic Idealize.ShloMosaic.TcCoe Idealize.SL.Sem Cert.Kernel2Ideal Cert.Kernel2Ideal.Gen Cert.Reals
open Idealize.ShloMosaic.Pipeline (Dat)
open Finset (range)

/-- The zero offsets of a block of rows, and of a plane's block. -/
theorem zeros2 : (![0, 0] : Fin 2 → ℕ) = fun _ => 0 := by funext a; fin_cases a <;> rfl

theorem zeros3 : (![0, 0, 0] : Fin 3 → ℕ) = fun _ => 0 := by funext a; fin_cases a <;> rfl

/-- The gradient of the second weight at plane `p`: row `r` belongs to the column `1024 p + (r - 2048)` of `Y`. -/
def dw2 (Y D : ℕ → ℕ → EReal) (p r s : ℕ) : EReal := ∑ t ∈ range 4096, Y t (p * 1024 + (r - 2048)) * D t s

/-- The gradient of the first weight at plane `p`: column `s` belongs to the column `1024 p + s` of `D`. -/
def dw1 (Y D : ℕ → ℕ → EReal) (p r s : ℕ) : EReal := ∑ t ∈ range 4096, Y t r * D t (p * 1024 + s)

/-- Every point's blocks in the second call. -/
theorem index1 : ∀ t : Fin grid1.N,
    (win1_0.index t 0 = 0 ∧ win1_0.index t 1 = t.val) ∧ (win1_1.index t 0 = 0 ∧ win1_1.index t 1 = 0)
    ∧ (win1_2.index t 0 = t.val / 2 ∧ win1_2.index t 1 = 4 + t.val % 2 ∧ win1_2.index t 2 = 0)
    ∧ (win1_3.index t 0 = t.val / 2 ∧ win1_3.index t 1 = 4 + t.val % 2 ∧ win1_3.index t 2 = 0) := by
  decide +kernel

/-- Every point's blocks in the fourth call. -/
theorem index3 : ∀ t : Fin grid3.N,
    (win3_0.index t 0 = 0 ∧ win3_0.index t 1 = t.val / 4) ∧ (win3_1.index t 0 = 0 ∧ win3_1.index t 1 = t.val % 4)
    ∧ (win3_2.index t 0 = t.val % 4 ∧ win3_2.index t 1 = t.val / 4 ∧ win3_2.index t 2 = 0)
    ∧ (win3_3.index t 0 = t.val % 4 ∧ win3_3.index t 1 = t.val / 4 ∧ win3_3.index t 2 = 0) := by
  decide +kernel

/-- Row `r` and column `s` of the block at point `t` of the second call is an entry of its gradient. -/
theorem dw2_block (Y D : ℕ → ℕ → EReal) (t a b e p r s : ℕ) (ha : a = t / 2) (hb : b = 4 + t % 2) (he : e = 0) (hp : p < 1) :
    dw2 Y D (a * 1 + 1 * p) (b * 512 + 1 * r) (e * 1024 + 1 * s) = ∑ u ∈ range 4096, Y u (t * 512 + r) * D u s := by
  subst ha hb he
  unfold dw2
  rw [show (t / 2 * 1 + 1 * p) * 1024 + ((4 + t % 2) * 512 + 1 * r - 2048) = t * 512 + r by omega, Nat.zero_mul, Nat.zero_add, Nat.one_mul]

/-- Row `r` and column `s` of the block at point `t` of the fourth call is an entry of its gradient. -/
theorem dw1_block (Y D : ℕ → ℕ → EReal) (t a b e p r s : ℕ) (ha : a = t % 4) (hb : b = t / 4) (he : e = 0) (hp : p < 1) :
    dw1 Y D (a * 1 + 1 * p) (b * 512 + 1 * r) (e * 1024 + 1 * s)
      = ∑ u ∈ range 4096, Y u (t / 4 * 512 + r) * D u (t % 4 * 1024 + s) := by
  subst ha hb he
  unfold dw1
  rw [show t % 4 * 1 + 1 * p = t % 4 by omega, show 0 * 1024 + 1 * s = s by omega, show t / 4 * 512 + 1 * r = t / 4 * 512 + r by omega]

/-- What the second call leaves in its block of the first buffer. -/
theorem out1_2_eq (c : Dev nD) (i : grid1.Coords) (arg3 : Memref sig .tc .vmem S4096x512 .bf16) (harg3 : arg3.IsWhole)
    (arg4 : Memref sig .tc .vmem S4096x1024 .bf16) (harg4 : arg4.IsWhole) (arg7 : Memref sig .tc .vmem S1x512x1024 .f32) (harg7 : arg7.IsWhole)
    (arg8 : Memref sig .tc .vmem S1x512x1024 .bf16) (harg8 : arg8.IsWhole) (x0 : Vec Ideal S4096x512 .bf16) (x1 : Vec Ideal S4096x1024 .bf16) :
    out1_A_2 c i arg3 harg3 arg4 harg4 arg7 harg7 arg8 harg8 x0 x1 = k1_pay2 x1 x0 := by
  unfold out1_A_2
  rw [View.read_writes_eq_canon _ _ _ (cover1_A_2 c i arg3 harg3 arg4 harg4 arg7 harg7 arg8 harg8 x0 x1)]
  unfold kernelRun1_A
  dsimp only
  refine (View.canon_unit_zero (S := S1x512x1024) zeros3 _ _).trans ?_
  rw [View.readAt_eq_ld, View.readAt_eq_ld, harg3.read_unread, harg4.read_unread]
  exact congrArg₂ k1_pay2 (View.ld_unit_zero (S := S4096x1024) zeros2 _ _) (View.ld_unit_zero (S := S4096x512) zeros2 _ _)

/-- What the second call leaves in its block of the second buffer. -/
theorem out1_3_eq (c : Dev nD) (i : grid1.Coords) (arg3 : Memref sig .tc .vmem S4096x512 .bf16) (harg3 : arg3.IsWhole)
    (arg4 : Memref sig .tc .vmem S4096x1024 .bf16) (harg4 : arg4.IsWhole) (arg7 : Memref sig .tc .vmem S1x512x1024 .f32) (harg7 : arg7.IsWhole)
    (arg8 : Memref sig .tc .vmem S1x512x1024 .bf16) (harg8 : arg8.IsWhole) (x0 : Vec Ideal S4096x512 .bf16) (x1 : Vec Ideal S4096x1024 .bf16) :
    out1_A_3 c i arg3 harg3 arg4 harg4 arg7 harg7 arg8 harg8 x0 x1 = k1_pay3 x1 x0 := by
  unfold out1_A_3
  rw [View.read_writes_eq_canon _ _ _ (cover1_A_3 c i arg3 harg3 arg4 harg4 arg7 harg7 arg8 harg8 x0 x1)]
  unfold kernelRun1_A
  dsimp only
  refine (View.canon_unit_zero (S := S1x512x1024) zeros3 _ _).trans ?_
  rw [View.readAt_eq_ld, View.readAt_eq_ld, harg3.read_unread, harg4.read_unread]
  exact congrArg₂ k1_pay3 (View.ld_unit_zero (S := S4096x1024) zeros2 _ _) (View.ld_unit_zero (S := S4096x512) zeros2 _ _)

/-- What the fourth call leaves in its block of the first buffer. -/
theorem out3_2_eq (c : Dev nD) (i : grid3.Coords) (arg3 : Memref sig .tc .vmem S4096x512 .bf16) (harg3 : arg3.IsWhole)
    (arg4 : Memref sig .tc .vmem S4096x1024 .bf16) (harg4 : arg4.IsWhole) (arg7 : Memref sig .tc .vmem S1x512x1024 .f32) (harg7 : arg7.IsWhole)
    (arg8 : Memref sig .tc .vmem S1x512x1024 .bf16) (harg8 : arg8.IsWhole) (x0 : Vec Ideal S4096x512 .bf16) (x1 : Vec Ideal S4096x1024 .bf16) :
    out3_A_2 c i arg3 harg3 arg4 harg4 arg7 harg7 arg8 harg8 x0 x1 = k3_pay2 x1 x0 := by
  unfold out3_A_2
  rw [View.read_writes_eq_canon _ _ _ (cover3_A_2 c i arg3 harg3 arg4 harg4 arg7 harg7 arg8 harg8 x0 x1)]
  unfold kernelRun3_A
  dsimp only
  refine (View.canon_unit_zero (S := S1x512x1024) zeros3 _ _).trans ?_
  rw [View.readAt_eq_ld, View.readAt_eq_ld, harg3.read_unread, harg4.read_unread]
  exact congrArg₂ k3_pay2 (View.ld_unit_zero (S := S4096x1024) zeros2 _ _) (View.ld_unit_zero (S := S4096x512) zeros2 _ _)

/-- What the fourth call leaves in its block of the second buffer. -/
theorem out3_3_eq (c : Dev nD) (i : grid3.Coords) (arg3 : Memref sig .tc .vmem S4096x512 .bf16) (harg3 : arg3.IsWhole)
    (arg4 : Memref sig .tc .vmem S4096x1024 .bf16) (harg4 : arg4.IsWhole) (arg7 : Memref sig .tc .vmem S1x512x1024 .f32) (harg7 : arg7.IsWhole)
    (arg8 : Memref sig .tc .vmem S1x512x1024 .bf16) (harg8 : arg8.IsWhole) (x0 : Vec Ideal S4096x512 .bf16) (x1 : Vec Ideal S4096x1024 .bf16) :
    out3_A_3 c i arg3 harg3 arg4 harg4 arg7 harg7 arg8 harg8 x0 x1 = k3_pay3 x1 x0 := by
  unfold out3_A_3
  rw [View.read_writes_eq_canon _ _ _ (cover3_A_3 c i arg3 harg3 arg4 harg4 arg7 harg7 arg8 harg8 x0 x1)]
  unfold kernelRun3_A
  dsimp only
  refine (View.canon_unit_zero (S := S1x512x1024) zeros3 _ _).trans ?_
  rw [View.readAt_eq_ld, View.readAt_eq_ld, harg3.read_unread, harg4.read_unread]
  exact congrArg₂ k3_pay3 (View.ld_unit_zero (S := S4096x1024) zeros2 _ _) (View.ld_unit_zero (S := S4096x512) zeros2 _ _)

variable (V : (c : Dev nD) → (b : Ref sig .tc) → Buf (Elt Ideal) ((c : Thread nD τ).loc b)) (c : Dev nD)

theorem block1_0 {Y : ℕ → ℕ → EReal} (h : Has2 (V c (Pipeline.arrRef spec1 0) : S4096x4096.Idx → EReal) Y) (t : Fin cfg1.N) :
    Has2 (iblk1 V c 0 t : S4096x512.Idx → EReal) (fun r s => Y r (t.val * 512 + s)) := by
  intro r s
  unfold iblk1
  rw [View.read_apply]
  exact (has2_at h _).trans (congrArg₂ Y (in_first 4096 _ (index1 t).1.1) (in_block 512 _ (index1 t).1.2))

theorem block1_1 {D : ℕ → ℕ → EReal} (h : Has2 (V c (Pipeline.arrRef spec1 1) : S4096x1024.Idx → EReal) D) (t : Fin cfg1.N) :
    Has2 (iblk1 V c 1 t : S4096x1024.Idx → EReal) D := by
  intro r s
  unfold iblk1
  rw [View.read_apply]
  exact (has2_at h _).trans (congrArg₂ D (in_first 4096 _ (index1 t).2.1.1) (in_first 1024 _ (index1 t).2.1.2))

theorem block3_0 {Y : ℕ → ℕ → EReal} (h : Has2 (V c (Pipeline.arrRef spec3 0) : S4096x1024.Idx → EReal) Y) (t : Fin cfg3.N) :
    Has2 (iblk3 V c 0 t : S4096x512.Idx → EReal) (fun r s => Y r (t.val / 4 * 512 + s)) := by
  intro r s
  unfold iblk3
  rw [View.read_apply]
  exact (has2_at h _).trans (congrArg₂ Y (in_first 4096 _ (index3 t).1.1) (in_block 512 _ (index3 t).1.2))

theorem block3_1 {D : ℕ → ℕ → EReal} (h : Has2 (V c (Pipeline.arrRef spec3 1) : S4096x4096.Idx → EReal) D) (t : Fin cfg3.N) :
    Has2 (iblk3 V c 1 t : S4096x1024.Idx → EReal) (fun r s => D r (t.val % 4 * 1024 + s)) := by
  intro r s
  unfold iblk3
  rw [View.read_apply]
  exact (has2_at h _).trans (congrArg₂ D (in_first 4096 _ (index3 t).2.1.1) (in_block 1024 _ (index3 t).2.1.2))

section
variable {Y D : ℕ → ℕ → EReal} (hy : Has2 (V c (Pipeline.arrRef spec1 0) : S4096x4096.Idx → EReal) Y)
  (hd : Has2 (V c (Pipeline.arrRef spec1 1) : S4096x1024.Idx → EReal) D)

include hy hd in
/-- The second call's block of the first buffer at point `t`. -/
theorem after1_2_has (t : Fin cfg1.N) : Has3 ((dat1 V c).after 2 t : S1x512x1024.Idx → EReal)
    (fun _ i j => ∑ u ∈ range 4096, Y u (t.val * 512 + i) * D u j) := by
  rw [after1_2]
  unfold outsAt1
  dsimp only
  rw [out1_2_eq]
  exact k1_pay2_has (block1_1 V c hd t) (block1_0 V c hy t)

include hy hd in
/-- What the second call writes back to the first buffer at point `t` is the gradient's block. -/
theorem flushed1_2_read (t : Fin cfg1.N) : (dat1 V c).flushed 2 t
    = ((cfg1.win 2).blk t).view.read (Elt Ideal) (fun i : S4x3072x1024.Idx => dw2 Y D (i 0) (i 1) (i 2)) := by
  funext y
  rw [View.read_apply]
  refine (has3_at (after1_2_has V c hy hd t) y).trans ?_
  exact (dw2_block Y D t _ _ _ _ _ _ (index1 t).2.2.1.1 (index1 t).2.2.1.2.1 (index1 t).2.2.1.2.2 (y 0).isLt).symm

/-- An index is in the block at point `t` when its rows are. -/
theorem mem1_2 (t : Fin cfg1.N) (i : S4x3072x1024.Idx) : i ∈ ((cfg1.win 2).blk t).view.set ↔
    (i 0 : ℕ) = win1_2.index t 0 ∧ win1_2.index t 1 * 512 ≤ (i 1 : ℕ) ∧ (i 1 : ℕ) < win1_2.index t 1 * 512 + 512 := by
  have es : ((cfg1.win 2).blk t).view.set = ((View.whole main_v10_0).slice (win1_2.rect t)).set := rfl
  rw [es, View.set_slice_whole, Rect.mem_set_unit]
  have h2 : (i 2 : ℕ) < 1024 := (i 2).isLt
  constructor
  · intro h
    have a0 : win1_2.index t 0 * 1 ≤ (i 0 : ℕ) ∧ (i 0 : ℕ) < win1_2.index t 0 * 1 + 1 := h 0
    have a1 : win1_2.index t 1 * 512 ≤ (i 1 : ℕ) ∧ (i 1 : ℕ) < win1_2.index t 1 * 512 + 512 := h 1
    exact ⟨by omega, a1⟩
  · rintro ⟨h0, h1⟩ a
    match a with
    | ⟨0, _⟩ =>
      show win1_2.index t 0 * 1 ≤ (i 0 : ℕ) ∧ (i 0 : ℕ) < win1_2.index t 0 * 1 + 1
      omega
    | ⟨1, _⟩ => exact h1
    | ⟨2, _⟩ =>
      show win1_2.index t 2 * 1024 ≤ (i 2 : ℕ) ∧ (i 2 : ℕ) < win1_2.index t 2 * 1024 + 1024
      rw [(index1 t).2.2.1.2.2, Nat.zero_mul, Nat.zero_add]; exact ⟨Nat.zero_le _, h2⟩

include hy hd in
/-- The first buffer after the second call, in the rows it writes. -/
theorem final1_2_in (i : S4x3072x1024.Idx) (h : 2048 ≤ (i 1 : ℕ)) :
    ((dat1 V c).arrAt 2 cfg1.N : S4x3072x1024.Idx → EReal) i = dw2 Y D (i 0) (i 1) (i 2) := by
  have h0 : (i 0 : ℕ) < 4 := (i 0).isLt
  have h1 : (i 1 : ℕ) < 3072 := (i 1).isLt
  obtain ⟨t, ht⟩ : ∃ t : Fin grid1.N, t.val = (i 0 : ℕ) * 2 + ((i 1 : ℕ) - 2048) / 512 := ⟨⟨(i 0 : ℕ) * 2 + ((i 1 : ℕ) - 2048) / 512, by rw [N_1]; omega⟩, rfl⟩
  refine (dat1 V c).arrAt_apply_of_mem 2 (fun i : S4x3072x1024.Idx => dw2 Y D (i 0) (i 1) (i 2))
    (fun t _ => flushed1_2_read V c hy hd t) cfg1.N t i t.isLt (Gen.flush1_2 t) ?_
  rw [mem1_2, (index1 t).2.2.1.1, (index1 t).2.2.1.2.1]
  omega

/-- The first buffer after the second call, in the other rows: as before it. -/
theorem final1_2_out (i : S4x3072x1024.Idx) (h : ¬ 2048 ≤ (i 1 : ℕ)) :
    ((dat1 V c).arrAt 2 cfg1.N : S4x3072x1024.Idx → EReal) i = (V c (Pipeline.arrRef spec1 2) : S4x3072x1024.Idx → EReal) i := by
  refine ((dat1 V c).arrAt_apply_of_forall_not_mem 2 cfg1.N i fun t ht _ => ?_).trans (congrFun (A_eq1 V c 2) i)
  have hN : t.val < 8 := lt_of_lt_of_eq t.isLt N_1
  rw [mem1_2, (index1 t).2.2.1.1, (index1 t).2.2.1.2.1]
  omega

include hy hd in
/-- The second call's block of the second buffer at point `t`. -/
theorem after1_3_has (t : Fin cfg1.N) : Has3 ((dat1 V c).after 3 t : S1x512x1024.Idx → EReal)
    (fun _ i j => ∑ u ∈ range 4096, Y u (t.val * 512 + i) * D u j) := by
  rw [after1_3]
  unfold outsAt1
  dsimp only
  rw [out1_3_eq]
  exact k1_pay3_has (block1_1 V c hd t) (block1_0 V c hy t)

include hy hd in
/-- What the second call writes back to the second buffer at point `t` is the gradient's block. -/
theorem flushed1_3_read (t : Fin cfg1.N) : (dat1 V c).flushed 3 t
    = ((cfg1.win 3).blk t).view.read (Elt Ideal) (fun i : S4x3072x1024.Idx => dw2 Y D (i 0) (i 1) (i 2)) := by
  funext y
  rw [View.read_apply]
  refine (has3_at (after1_3_has V c hy hd t) y).trans ?_
  exact (dw2_block Y D t _ _ _ _ _ _ (index1 t).2.2.2.1 (index1 t).2.2.2.2.1 (index1 t).2.2.2.2.2 (y 0).isLt).symm

/-- An index is in the block at point `t` when its rows are. -/
theorem mem1_3 (t : Fin cfg1.N) (i : S4x3072x1024.Idx) : i ∈ ((cfg1.win 3).blk t).view.set ↔
    (i 0 : ℕ) = win1_3.index t 0 ∧ win1_3.index t 1 * 512 ≤ (i 1 : ℕ) ∧ (i 1 : ℕ) < win1_3.index t 1 * 512 + 512 := by
  have es : ((cfg1.win 3).blk t).view.set = ((View.whole main_v10_1).slice (win1_3.rect t)).set := rfl
  rw [es, View.set_slice_whole, Rect.mem_set_unit]
  have h2 : (i 2 : ℕ) < 1024 := (i 2).isLt
  constructor
  · intro h
    have a0 : win1_3.index t 0 * 1 ≤ (i 0 : ℕ) ∧ (i 0 : ℕ) < win1_3.index t 0 * 1 + 1 := h 0
    have a1 : win1_3.index t 1 * 512 ≤ (i 1 : ℕ) ∧ (i 1 : ℕ) < win1_3.index t 1 * 512 + 512 := h 1
    exact ⟨by omega, a1⟩
  · rintro ⟨h0, h1⟩ a
    match a with
    | ⟨0, _⟩ =>
      show win1_3.index t 0 * 1 ≤ (i 0 : ℕ) ∧ (i 0 : ℕ) < win1_3.index t 0 * 1 + 1
      omega
    | ⟨1, _⟩ => exact h1
    | ⟨2, _⟩ =>
      show win1_3.index t 2 * 1024 ≤ (i 2 : ℕ) ∧ (i 2 : ℕ) < win1_3.index t 2 * 1024 + 1024
      rw [(index1 t).2.2.2.2.2, Nat.zero_mul, Nat.zero_add]; exact ⟨Nat.zero_le _, h2⟩

include hy hd in
/-- The second buffer after the second call, in the rows it writes. -/
theorem final1_3_in (i : S4x3072x1024.Idx) (h : 2048 ≤ (i 1 : ℕ)) :
    ((dat1 V c).arrAt 3 cfg1.N : S4x3072x1024.Idx → EReal) i = dw2 Y D (i 0) (i 1) (i 2) := by
  have h0 : (i 0 : ℕ) < 4 := (i 0).isLt
  have h1 : (i 1 : ℕ) < 3072 := (i 1).isLt
  obtain ⟨t, ht⟩ : ∃ t : Fin grid1.N, t.val = (i 0 : ℕ) * 2 + ((i 1 : ℕ) - 2048) / 512 := ⟨⟨(i 0 : ℕ) * 2 + ((i 1 : ℕ) - 2048) / 512, by rw [N_1]; omega⟩, rfl⟩
  refine (dat1 V c).arrAt_apply_of_mem 3 (fun i : S4x3072x1024.Idx => dw2 Y D (i 0) (i 1) (i 2))
    (fun t _ => flushed1_3_read V c hy hd t) cfg1.N t i t.isLt (Gen.flush1_3 t) ?_
  rw [mem1_3, (index1 t).2.2.2.1, (index1 t).2.2.2.2.1]
  omega

/-- The second buffer after the second call, in the other rows: as before it. -/
theorem final1_3_out (i : S4x3072x1024.Idx) (h : ¬ 2048 ≤ (i 1 : ℕ)) :
    ((dat1 V c).arrAt 3 cfg1.N : S4x3072x1024.Idx → EReal) i = (V c (Pipeline.arrRef spec1 3) : S4x3072x1024.Idx → EReal) i := by
  refine ((dat1 V c).arrAt_apply_of_forall_not_mem 3 cfg1.N i fun t ht _ => ?_).trans (congrFun (A_eq1 V c 3) i)
  have hN : t.val < 8 := lt_of_lt_of_eq t.isLt N_1
  rw [mem1_3, (index1 t).2.2.2.1, (index1 t).2.2.2.2.1]
  omega

end

section
variable {Y D : ℕ → ℕ → EReal} (hy : Has2 (V c (Pipeline.arrRef spec3 0) : S4096x1024.Idx → EReal) Y)
  (hd : Has2 (V c (Pipeline.arrRef spec3 1) : S4096x4096.Idx → EReal) D)

include hy hd in
/-- The fourth call's block of the first buffer at point `t`. -/
theorem after3_2_has (t : Fin cfg3.N) : Has3 ((dat3 V c).after 2 t : S1x512x1024.Idx → EReal)
    (fun _ i j => ∑ u ∈ range 4096, Y u (t.val / 4 * 512 + i) * D u (t.val % 4 * 1024 + j)) := by
  rw [after3_2]
  unfold outsAt3
  dsimp only
  rw [out3_2_eq]
  exact k3_pay2_has (block3_1 V c hd t) (block3_0 V c hy t)

include hy hd in
/-- What the fourth call writes back to the first buffer at point `t` is the gradient's block. -/
theorem flushed3_2_read (t : Fin cfg3.N) : (dat3 V c).flushed 2 t
    = ((cfg3.win 2).blk t).view.read (Elt Ideal) (fun i : S4x3072x1024.Idx => dw1 Y D (i 0) (i 1) (i 2)) := by
  funext y
  rw [View.read_apply]
  refine (has3_at (after3_2_has V c hy hd t) y).trans ?_
  exact (dw1_block Y D t _ _ _ _ _ _ (index3 t).2.2.1.1 (index3 t).2.2.1.2.1 (index3 t).2.2.1.2.2 (y 0).isLt).symm

/-- An index is in the block at point `t` when its rows are. -/
theorem mem3_2 (t : Fin cfg3.N) (i : S4x3072x1024.Idx) : i ∈ ((cfg3.win 2).blk t).view.set ↔
    (i 0 : ℕ) = win3_2.index t 0 ∧ win3_2.index t 1 * 512 ≤ (i 1 : ℕ) ∧ (i 1 : ℕ) < win3_2.index t 1 * 512 + 512 := by
  have es : ((cfg3.win 2).blk t).view.set = ((View.whole main_v12_0).slice (win3_2.rect t)).set := rfl
  rw [es, View.set_slice_whole, Rect.mem_set_unit]
  have h2 : (i 2 : ℕ) < 1024 := (i 2).isLt
  constructor
  · intro h
    have a0 : win3_2.index t 0 * 1 ≤ (i 0 : ℕ) ∧ (i 0 : ℕ) < win3_2.index t 0 * 1 + 1 := h 0
    have a1 : win3_2.index t 1 * 512 ≤ (i 1 : ℕ) ∧ (i 1 : ℕ) < win3_2.index t 1 * 512 + 512 := h 1
    exact ⟨by omega, a1⟩
  · rintro ⟨h0, h1⟩ a
    match a with
    | ⟨0, _⟩ =>
      show win3_2.index t 0 * 1 ≤ (i 0 : ℕ) ∧ (i 0 : ℕ) < win3_2.index t 0 * 1 + 1
      omega
    | ⟨1, _⟩ => exact h1
    | ⟨2, _⟩ =>
      show win3_2.index t 2 * 1024 ≤ (i 2 : ℕ) ∧ (i 2 : ℕ) < win3_2.index t 2 * 1024 + 1024
      rw [(index3 t).2.2.1.2.2, Nat.zero_mul, Nat.zero_add]; exact ⟨Nat.zero_le _, h2⟩

include hy hd in
/-- The first buffer after the fourth call, in the rows it writes. -/
theorem final3_2_in (i : S4x3072x1024.Idx) (h : (i 1 : ℕ) < 1024) :
    ((dat3 V c).arrAt 2 cfg3.N : S4x3072x1024.Idx → EReal) i = dw1 Y D (i 0) (i 1) (i 2) := by
  have h0 : (i 0 : ℕ) < 4 := (i 0).isLt
  have h1 : (i 1 : ℕ) < 3072 := (i 1).isLt
  obtain ⟨t, ht⟩ : ∃ t : Fin grid3.N, t.val = (i 1 : ℕ) / 512 * 4 + (i 0 : ℕ) := ⟨⟨(i 1 : ℕ) / 512 * 4 + (i 0 : ℕ), by rw [N_3]; omega⟩, rfl⟩
  refine (dat3 V c).arrAt_apply_of_mem 2 (fun i : S4x3072x1024.Idx => dw1 Y D (i 0) (i 1) (i 2))
    (fun t _ => flushed3_2_read V c hy hd t) cfg3.N t i t.isLt (Gen.flush3_2 t) ?_
  rw [mem3_2, (index3 t).2.2.1.1, (index3 t).2.2.1.2.1]
  omega

/-- The first buffer after the fourth call, in the other rows: as before it. -/
theorem final3_2_out (i : S4x3072x1024.Idx) (h : ¬ (i 1 : ℕ) < 1024) :
    ((dat3 V c).arrAt 2 cfg3.N : S4x3072x1024.Idx → EReal) i = (V c (Pipeline.arrRef spec3 2) : S4x3072x1024.Idx → EReal) i := by
  refine ((dat3 V c).arrAt_apply_of_forall_not_mem 2 cfg3.N i fun t ht _ => ?_).trans (congrFun (A_eq3 V c 2) i)
  have hN : t.val < 8 := lt_of_lt_of_eq t.isLt N_3
  rw [mem3_2, (index3 t).2.2.1.1, (index3 t).2.2.1.2.1]
  omega

include hy hd in
/-- The fourth call's block of the second buffer at point `t`. -/
theorem after3_3_has (t : Fin cfg3.N) : Has3 ((dat3 V c).after 3 t : S1x512x1024.Idx → EReal)
    (fun _ i j => ∑ u ∈ range 4096, Y u (t.val / 4 * 512 + i) * D u (t.val % 4 * 1024 + j)) := by
  rw [after3_3]
  unfold outsAt3
  dsimp only
  rw [out3_3_eq]
  exact k3_pay3_has (block3_1 V c hd t) (block3_0 V c hy t)

include hy hd in
/-- What the fourth call writes back to the second buffer at point `t` is the gradient's block. -/
theorem flushed3_3_read (t : Fin cfg3.N) : (dat3 V c).flushed 3 t
    = ((cfg3.win 3).blk t).view.read (Elt Ideal) (fun i : S4x3072x1024.Idx => dw1 Y D (i 0) (i 1) (i 2)) := by
  funext y
  rw [View.read_apply]
  refine (has3_at (after3_3_has V c hy hd t) y).trans ?_
  exact (dw1_block Y D t _ _ _ _ _ _ (index3 t).2.2.2.1 (index3 t).2.2.2.2.1 (index3 t).2.2.2.2.2 (y 0).isLt).symm

/-- An index is in the block at point `t` when its rows are. -/
theorem mem3_3 (t : Fin cfg3.N) (i : S4x3072x1024.Idx) : i ∈ ((cfg3.win 3).blk t).view.set ↔
    (i 0 : ℕ) = win3_3.index t 0 ∧ win3_3.index t 1 * 512 ≤ (i 1 : ℕ) ∧ (i 1 : ℕ) < win3_3.index t 1 * 512 + 512 := by
  have es : ((cfg3.win 3).blk t).view.set = ((View.whole main_v12_1).slice (win3_3.rect t)).set := rfl
  rw [es, View.set_slice_whole, Rect.mem_set_unit]
  have h2 : (i 2 : ℕ) < 1024 := (i 2).isLt
  constructor
  · intro h
    have a0 : win3_3.index t 0 * 1 ≤ (i 0 : ℕ) ∧ (i 0 : ℕ) < win3_3.index t 0 * 1 + 1 := h 0
    have a1 : win3_3.index t 1 * 512 ≤ (i 1 : ℕ) ∧ (i 1 : ℕ) < win3_3.index t 1 * 512 + 512 := h 1
    exact ⟨by omega, a1⟩
  · rintro ⟨h0, h1⟩ a
    match a with
    | ⟨0, _⟩ =>
      show win3_3.index t 0 * 1 ≤ (i 0 : ℕ) ∧ (i 0 : ℕ) < win3_3.index t 0 * 1 + 1
      omega
    | ⟨1, _⟩ => exact h1
    | ⟨2, _⟩ =>
      show win3_3.index t 2 * 1024 ≤ (i 2 : ℕ) ∧ (i 2 : ℕ) < win3_3.index t 2 * 1024 + 1024
      rw [(index3 t).2.2.2.2.2, Nat.zero_mul, Nat.zero_add]; exact ⟨Nat.zero_le _, h2⟩

include hy hd in
/-- The second buffer after the fourth call, in the rows it writes. -/
theorem final3_3_in (i : S4x3072x1024.Idx) (h : (i 1 : ℕ) < 1024) :
    ((dat3 V c).arrAt 3 cfg3.N : S4x3072x1024.Idx → EReal) i = dw1 Y D (i 0) (i 1) (i 2) := by
  have h0 : (i 0 : ℕ) < 4 := (i 0).isLt
  have h1 : (i 1 : ℕ) < 3072 := (i 1).isLt
  obtain ⟨t, ht⟩ : ∃ t : Fin grid3.N, t.val = (i 1 : ℕ) / 512 * 4 + (i 0 : ℕ) := ⟨⟨(i 1 : ℕ) / 512 * 4 + (i 0 : ℕ), by rw [N_3]; omega⟩, rfl⟩
  refine (dat3 V c).arrAt_apply_of_mem 3 (fun i : S4x3072x1024.Idx => dw1 Y D (i 0) (i 1) (i 2))
    (fun t _ => flushed3_3_read V c hy hd t) cfg3.N t i t.isLt (Gen.flush3_3 t) ?_
  rw [mem3_3, (index3 t).2.2.2.1, (index3 t).2.2.2.2.1]
  omega

/-- The second buffer after the fourth call, in the other rows: as before it. -/
theorem final3_3_out (i : S4x3072x1024.Idx) (h : ¬ (i 1 : ℕ) < 1024) :
    ((dat3 V c).arrAt 3 cfg3.N : S4x3072x1024.Idx → EReal) i = (V c (Pipeline.arrRef spec3 3) : S4x3072x1024.Idx → EReal) i := by
  refine ((dat3 V c).arrAt_apply_of_forall_not_mem 3 cfg3.N i fun t ht _ => ?_).trans (congrFun (A_eq3 V c 3) i)
  have hN : t.val < 8 := lt_of_lt_of_eq t.isLt N_3
  rw [mem3_3, (index3 t).2.2.2.1, (index3 t).2.2.2.2.1]
  omega

end

end Cert.Mlp
-- ==== Proof.MlpChain.lean ====
/-
  The chain of the MLP's four calls: what each call finds in its operands, and what the two buffers hold at the end.
-/
module

public import proofs.«01_k».proof.Proof.MlpWeights
public import Idealize.ShloMosaic.Lib.StableHlo.RunRead
public import Idealize.ShloMosaic.Lib.Tactic

@[expose] public section

set_option maxRecDepth 16384

noncomputable section

namespace Cert.Mlp

open Idealize.ShloMosaic Idealize.ShloMosaic.TcCoe Idealize.SL.Sem Cert.Kernel2Ideal Cert.Kernel2Ideal.Gen Cert.Reals
open Finset (range)

/-! ## The gradients, as formulas -/

/-- The first layer before its positive part. -/
def layer (X A : ℕ → ℕ → EReal) (t f : ℕ) : EReal := ∑ k ∈ range 1024, X t k * A k f

/-- The first layer's positive part. -/
def relu (X A : ℕ → ℕ → EReal) (t f : ℕ) : EReal := max (layer X A t f) 0

/-- The gradient of the first layer. -/
def dlayer (X A B D : ℕ → ℕ → EReal) (t f : ℕ) : EReal :=
  (∑ k ∈ range 1024, D t k * B f k) * (Ideal.ofBits .f32 0x40000000#32 * relu X A t f)

/-- The gradient of the first weight: its columns belonging to chip `p`. -/
def first (X A B D : ℕ → ℕ → EReal) (p r s : ℕ) : EReal := ∑ t ∈ range 4096, X t r * dlayer X A B D t (p * 1024 + s)

/-- The gradient of the second weight: its rows belonging to chip `p`. -/
def second (X A D : ℕ → ℕ → EReal) (p r s : ℕ) : EReal :=
  ∑ t ∈ range 4096, relu X A t (p * 1024 + r) * relu X A t (p * 1024 + r) * D t s

/-- A buffer with both gradients: the first weight's in the rows below 1024, the second's in those from 2048 on. -/
def both (X A B D : ℕ → ℕ → EReal) (E : ℕ → ℕ → ℕ → EReal) (p r s : ℕ) : EReal :=
  if r < 1024 then first X A B D p r s else if r < 2048 then E p r s else second X A D p (r - 2048) s

/-- The pack: the first weight's columns for each chip, zeros, the second weight's rows for each chip. -/
def packed (A B : ℕ → ℕ → EReal) (p r s : ℕ) : EReal :=
  if r < 1024 then A r (p * 1024 + s) else if r - 1024 < 1024 then 0 else B (p * 1024 + (r - 1024 - 1024)) s

/-- The first call's product with the pack is the first layer. -/
theorem pos_packed (X A B : ℕ → ℕ → EReal) : pos X (packed A B) = relu X A := by
  funext t f
  unfold pos relu pre layer packed
  refine congrArg (max · 0) (Finset.sum_congr rfl fun k hk => ?_)
  rw [if_pos (Finset.mem_range.mp hk), Nat.div_add_mod']

/-- The third call's result is the gradient of the first layer. -/
theorem back_packed (X A B D : ℕ → ℕ → EReal) : back D (packed A B) (relu X A) = dlayer X A B D := by
  funext t f
  unfold back dlayer packed
  refine congrArg (· * _) (Finset.sum_congr rfl fun k hk => ?_)
  rw [if_neg (by omega), if_neg (by omega), show f / 1024 * 1024 + (2048 + f % 1024 - 1024 - 1024) = f by omega]

variable (m : (ℓ : Loc nD τ sig) → Buf (Elt Ideal) ℓ) (ρ : Dev nD → PrngReg) (c : Dev nD)

/-! ## The host lines -/

abbrev xa : FVec Ideal S4096x1024 .f32 := m ((c.tc : Thread nD τ).loc main_arg0)
abbrev wa : FVec Ideal S1024x4096 .f32 := m ((c.tc : Thread nD τ).loc main_arg1)
abbrev wb : FVec Ideal S4096x1024 .f32 := m ((c.tc : Thread nD τ).loc main_arg2)
abbrev da : FVec Ideal S4096x1024 .f32 := m ((c.tc : Thread nD τ).loc main_arg3)
abbrev ea : FVec Ideal S4x3072x1024 .f32 := m ((c.tc : Thread nD τ).loc main_arg4)
abbrev eb : FVec Ideal S4x3072x1024 .bf16 := m ((c.tc : Thread nD τ).loc main_arg5)

/-- The pack's three parts, one after the other in every plane. -/
def join (a b d : FVec Ideal S4x1024x1024 .bf16) : FVec Ideal S4x3072x1024 .bf16 :=
  concatenate S4x3072x1024 1 [⟨S4x1024x1024, a⟩, ⟨S4x1024x1024, b⟩, ⟨S4x1024x1024, d⟩] concatenates_S4x1024x1024_S4x1024x1024_S4x1024x1024_S4x3072x1024_d1

/-- The pack. -/
def pack (a : FVec Ideal S1024x4096 .f32) (b : FVec Ideal S4096x1024 .f32) : FVec Ideal S4x3072x1024 .bf16 :=
  join (truncf .bf16 (transpose S4x1024x1024 [1, 0, 2] (shapeCast S1024x4x1024 a shapeCasts_S1024x4096_S1024x4x1024) transposes_S1024x4x1024_S4x1024x1024_1_0_2) bitsLt_bf16_f32)
    (broadcastInDim S4x1024x1024 ![] bcast_S_S4x1024x1024 (constant S_ .bf16 0x0000#16))
    (truncf .bf16 (shapeCast S4x1024x1024 b shapeCasts_S4096x1024_S4x1024x1024) bitsLt_bf16_f32)

theorem W1_v6 : (W1 m ρ c (Proc.devRef .tc main_v6) : FVec Ideal S4x3072x1024 .bf16) = pack (wa m c) (wb m c) := by
  have hj : (fun a b d : FVec Ideal S4x1024x1024 .bf16 => concatenate S4x3072x1024 1 [⟨S4x1024x1024, a⟩, ⟨S4x1024x1024, b⟩, ⟨S4x1024x1024, d⟩]
    concatenates_S4x1024x1024_S4x1024x1024_S4x1024x1024_S4x3072x1024_d1) = join := rfl
  unfold W1
  simp only [hostOps0, hj]
  after_reads_simp
  rfl

theorem W1_v7 : (W1 m ρ c (Proc.devRef .tc main_v7) : FVec Ideal S4096x1024 .bf16) = truncf .bf16 (xa m c) bitsLt_bf16_f32 := by
  unfold W1
  simp only [hostOps0]
  after_reads_simp

theorem W1_v8 : (W1 m ρ c (Proc.devRef .tc main_v8) : FVec Ideal S4096x1024 .bf16) = truncf .bf16 (da m c) bitsLt_bf16_f32 := by
  unfold W1
  simp only [hostOps0]
  after_reads_simp

variable {X A B D : ℕ → ℕ → EReal} (hX : Has2 (xa m c) X) (hA : Has2 (wa m c) A) (hB : Has2 (wb m c) B) (hD : Has2 (da m c) D)

/-- The constant zero of sixteen bits. -/
theorem ofBits_zero16 : Ideal.ofBits .bf16 0x0000#16 = (0 : EReal) := by
  simp [Ideal.ofBits, Ideal.ieee]

/-- Three parts side by side, at an index. -/
theorem join_has {a b d : FVec Ideal S4x1024x1024 .bf16} {P Q R : ℕ → ℕ → ℕ → EReal} (ha : Has3 a P) (hb : Has3 b Q) (hd : Has3 d R) :
    Has3 (join a b d) (fun p r s => if r < 1024 then P p r s else if r - 1024 < 1024 then Q p (r - 1024) s else R p (r - 1024 - 1024) s) := by
  intro p r s
  unfold join
  pointwise
  split
  · exact ha _ _ _
  · split
    · exact hb _ _ _
    · exact hd _ _ _

include hA hB in
theorem pack_has : Has3 (pack (wa m c) (wb m c)) (packed A B) := by
  refine join_has (P := fun p r s => A r (p * 1024 + s)) (Q := fun _ _ _ => 0) (R := fun p r s => B (p * 1024 + r) s) ?_ ?_ ?_
  · intro p r s
    pointwise
    exact hA _ _
  · intro p r s
    exact ofBits_zero16
  · intro p r s
    pointwise
    exact hB _ _

include hX hA hB in
/-- The first call leaves the first layer's positive part. -/
theorem W2_r : (W2 m ρ c (Proc.devRef .tc main_v9_1) : S4096x4096.Idx → EReal) = fun i => relu X A (i 0) (i 1) := by
  have h := final0_3 (V1 m ρ) c (X := X) (P := packed A B)
    (by rw [show (V1 m ρ c (Pipeline.arrRef spec0 0) : S4096x1024.Idx → EReal) = _ from W1_v7 m ρ c]; intro i j; pointwise; exact hX i j)
    (by rw [show (V1 m ρ c (Pipeline.arrRef spec0 1) : S4x3072x1024.Idx → EReal) = _ from W1_v6 m ρ c]; exact pack_has m c hA hB)
  rw [pos_packed] at h
  exact (W2_arr m ρ c 3).trans h

include hX hA hB in
/-- The first call leaves its square. -/
theorem W2_a : (W2 m ρ c (Proc.devRef .tc main_v9_0) : S4096x4096.Idx → EReal) = fun i => relu X A (i 0) (i 1) * relu X A (i 0) (i 1) := by
  have h := final0_2 (V1 m ρ) c (X := X) (P := packed A B)
    (by rw [show (V1 m ρ c (Pipeline.arrRef spec0 0) : S4096x1024.Idx → EReal) = _ from W1_v7 m ρ c]; intro i j; pointwise; exact hX i j)
    (by rw [show (V1 m ρ c (Pipeline.arrRef spec0 1) : S4x3072x1024.Idx → EReal) = _ from W1_v6 m ρ c]; exact pack_has m c hA hB)
  rw [pos_packed] at h
  exact (W2_arr m ρ c 2).trans h

/-! ## What the later calls find -/

theorem W2_v6 : (W2 m ρ c (Proc.devRef .tc main_v6) : FVec Ideal S4x3072x1024 .bf16) = pack (wa m c) (wb m c) :=
  (W2_of m ρ c main_v6 (by decide +kernel)).trans (W1_v6 m ρ c)

theorem W2_v7 : (W2 m ρ c (Proc.devRef .tc main_v7) : FVec Ideal S4096x1024 .bf16) = truncf .bf16 (xa m c) bitsLt_bf16_f32 :=
  (W2_of m ρ c main_v7 (by decide +kernel)).trans (W1_v7 m ρ c)

theorem W2_v8 : (W2 m ρ c (Proc.devRef .tc main_v8) : FVec Ideal S4096x1024 .bf16) = truncf .bf16 (da m c) bitsLt_bf16_f32 :=
  (W2_of m ρ c main_v8 (by decide +kernel)).trans (W1_v8 m ρ c)

theorem W3_v10_0 : (W3 m ρ c (Proc.devRef .tc main_v10_0) : FVec Ideal S4x3072x1024 .f32) = ea m c := by
  have h : (W2 m ρ c (Proc.devRef .tc main_arg4) : FVec Ideal S4x3072x1024 .f32) = ea m c := W2_args m ρ c main_arg4 (by decide +kernel)
  rw [← h]
  unfold W3
  simp only [hostOps1]
  after_reads_simp
  rfl

theorem W3_v10_1 : (W3 m ρ c (Proc.devRef .tc main_v10_1) : FVec Ideal S4x3072x1024 .bf16) = eb m c := by
  have h : (W2 m ρ c (Proc.devRef .tc main_arg5) : FVec Ideal S4x3072x1024 .bf16) = eb m c := W2_args m ρ c main_arg5 (by decide +kernel)
  rw [← h]
  unfold W3
  simp only [hostOps1]
  after_reads_simp
  rfl

include hX hA hB in
theorem W3_a : Has2 (V3 m ρ c (Pipeline.arrRef spec1 0) : S4096x4096.Idx → EReal) (fun t f => relu X A t f * relu X A t f) := by
  rw [show (V3 m ρ c (Pipeline.arrRef spec1 0) : S4096x4096.Idx → EReal) = _ from
    (W3_of m ρ c main_v9_0 (by decide +kernel)).trans (W2_a m ρ c hX hA hB)]
  exact fun _ _ => rfl

include hD in
theorem W3_d : Has2 (V3 m ρ c (Pipeline.arrRef spec1 1) : S4096x1024.Idx → EReal) D := by
  rw [show (V3 m ρ c (Pipeline.arrRef spec1 1) : S4096x1024.Idx → EReal) = _ from
    (W3_of m ρ c main_v8 (by decide +kernel)).trans (W2_v8 m ρ c)]
  intro i j
  pointwise
  exact hD i j

/-- The rows from 2048 on of the second weight's gradient are what the second call leaves. -/
theorem dw2_second (p r s : ℕ) : dw2 (fun t f => relu X A t f * relu X A t f) D p r s = second X A D p (r - 2048) s := rfl

include hX hA hB hD in
theorem W4_v10_0 (i : S4x3072x1024.Idx) : (W4 m ρ c (Proc.devRef .tc main_v10_0) : S4x3072x1024.Idx → EReal) i
    = if 2048 ≤ (i 1 : ℕ) then second X A D (i 0) (i 1 - 2048) (i 2) else ea m c i := by
  rw [show (W4 m ρ c (Proc.devRef .tc main_v10_0) : S4x3072x1024.Idx → EReal) = _ from W4_arr m ρ c 2]
  split
  · next h => exact final1_2_in (V3 m ρ) c (W3_a m ρ c hX hA hB) (W3_d m ρ c hD) i h
  · next h => exact (final1_2_out (V3 m ρ) c i h).trans (congrFun (W3_v10_0 m ρ c) i)

include hX hA hB hD in
theorem W4_v10_1 (i : S4x3072x1024.Idx) : (W4 m ρ c (Proc.devRef .tc main_v10_1) : S4x3072x1024.Idx → EReal) i
    = if 2048 ≤ (i 1 : ℕ) then second X A D (i 0) (i 1 - 2048) (i 2) else eb m c i := by
  rw [show (W4 m ρ c (Proc.devRef .tc main_v10_1) : S4x3072x1024.Idx → EReal) = _ from W4_arr m ρ c 3]
  split
  · next h => exact final1_3_in (V3 m ρ) c (W3_a m ρ c hX hA hB) (W3_d m ρ c hD) i h
  · next h => exact (final1_3_out (V3 m ρ) c i h).trans (congrFun (W3_v10_1 m ρ c) i)

theorem W4_v6 : (W4 m ρ c (Proc.devRef .tc main_v6) : FVec Ideal S4x3072x1024 .bf16) = pack (wa m c) (wb m c) :=
  (W4_of m ρ c main_v6 (by decide +kernel)).trans ((W3_of m ρ c main_v6 (by decide +kernel)).trans (W2_v6 m ρ c))

theorem W4_v8 : (W4 m ρ c (Proc.devRef .tc main_v8) : FVec Ideal S4096x1024 .bf16) = truncf .bf16 (da m c) bitsLt_bf16_f32 :=
  (W4_of m ρ c main_v8 (by decide +kernel)).trans ((W3_of m ρ c main_v8 (by decide +kernel)).trans (W2_v8 m ρ c))

include hX hA hB in
theorem W4_r : (W4 m ρ c (Proc.devRef .tc main_v9_1) : S4096x4096.Idx → EReal) = fun i => relu X A (i 0) (i 1) :=
  (W4_of m ρ c main_v9_1 (by decide +kernel)).trans ((W3_of m ρ c main_v9_1 (by decide +kernel)).trans (W2_r m ρ c hX hA hB))

include hX hA hB hD in
/-- The third call leaves the gradient of the first layer. -/
theorem W5_g : (W5 m ρ c (Proc.devRef .tc main_v11) : S4096x4096.Idx → EReal) = fun i => dlayer X A B D (i 0) (i 1) := by
  have h := final2_3 (V4 m ρ) c (Z := D) (Q := packed A B) (R := relu X A)
    (by rw [show (V4 m ρ c (Pipeline.arrRef spec2 0) : S4096x1024.Idx → EReal) = _ from W4_v8 m ρ c]; intro i j; pointwise; exact hD i j)
    (by rw [show (V4 m ρ c (Pipeline.arrRef spec2 1) : S4x3072x1024.Idx → EReal) = _ from W4_v6 m ρ c]; exact pack_has m c hA hB)
    (by rw [show (V4 m ρ c (Pipeline.arrRef spec2 2) : S4096x4096.Idx → EReal) = _ from W4_r m ρ c hX hA hB]; exact fun _ _ => rfl)
  rw [back_packed] at h
  exact (W5_arr m ρ c 3).trans h

theorem W6_v12_0 : (W6 m ρ c (Proc.devRef .tc main_v12_0) : FVec Ideal S4x3072x1024 .f32) = W4 m ρ c (Proc.devRef .tc main_v10_0) := by
  rw [← W5_of m ρ c main_v10_0 (by decide +kernel)]
  unfold W6
  simp only [hostOps3]
  after_reads_simp
  rfl

theorem W6_v12_1 : (W6 m ρ c (Proc.devRef .tc main_v12_1) : FVec Ideal S4x3072x1024 .bf16) = W4 m ρ c (Proc.devRef .tc main_v10_1) := by
  rw [← W5_of m ρ c main_v10_1 (by decide +kernel)]
  unfold W6
  simp only [hostOps3]
  after_reads_simp
  rfl

theorem W6_v7 : (W6 m ρ c (Proc.devRef .tc main_v7) : FVec Ideal S4096x1024 .bf16) = truncf .bf16 (xa m c) bitsLt_bf16_f32 :=
  (W6_of m ρ c main_v7 (by decide +kernel)).trans ((W5_of m ρ c main_v7 (by decide +kernel)).trans
    ((W4_of m ρ c main_v7 (by decide +kernel)).trans ((W3_of m ρ c main_v7 (by decide +kernel)).trans (W2_v7 m ρ c))))

include hX in
theorem W6_x : Has2 (V6 m ρ c (Pipeline.arrRef spec3 0) : S4096x1024.Idx → EReal) X := by
  rw [show (V6 m ρ c (Pipeline.arrRef spec3 0) : S4096x1024.Idx → EReal) = _ from W6_v7 m ρ c]
  intro i j
  pointwise
  exact hX i j

include hX hA hB hD in
theorem W6_g : Has2 (V6 m ρ c (Pipeline.arrRef spec3 1) : S4096x4096.Idx → EReal) (dlayer X A B D) := by
  rw [show (V6 m ρ c (Pipeline.arrRef spec3 1) : S4096x4096.Idx → EReal) = _ from
    (W6_of m ρ c main_v11 (by decide +kernel)).trans (W5_g m ρ c hX hA hB hD)]
  exact fun _ _ => rfl

/-! ## The two buffers at the end -/

include hX hA hB hD in
theorem result0 {E : ℕ → ℕ → ℕ → EReal} (hE : Has3 (ea m c) E) :
    Has3 (W7 m ρ c (Proc.devRef .tc main_v12_0) : S4x3072x1024.Idx → EReal) (both X A B D E) := by
  intro p r s
  rw [show (W7 m ρ c (Proc.devRef .tc main_v12_0) : S4x3072x1024.Idx → EReal) = _ from W7_arr m ρ c 2]
  unfold both
  split
  · next h => exact final3_2_in (V6 m ρ) c (W6_x m ρ c hX) (W6_g m ρ c hX hA hB hD) (ix3 p r s) h
  · next h =>
    refine (final3_2_out (V6 m ρ) c (ix3 p r s) h).trans ((congrFun (W6_v12_0 m ρ c) _).trans ((W4_v10_0 m ρ c hX hA hB hD _).trans ?_))
    split
    · next h' => exact (if_neg (Nat.not_lt.mpr h')).symm
    · next h' => exact (hE p r s).trans (if_pos (Nat.lt_of_not_le h')).symm

include hX hA hB hD in
theorem result1 {E : ℕ → ℕ → ℕ → EReal} (hE : Has3 (eb m c) E) :
    Has3 (W7 m ρ c (Proc.devRef .tc main_v12_1) : S4x3072x1024.Idx → EReal) (both X A B D E) := by
  intro p r s
  rw [show (W7 m ρ c (Proc.devRef .tc main_v12_1) : S4x3072x1024.Idx → EReal) = _ from W7_arr m ρ c 3]
  unfold both
  split
  · next h => exact final3_3_in (V6 m ρ) c (W6_x m ρ c hX) (W6_g m ρ c hX hA hB hD) (ix3 p r s) h
  · next h =>
    refine (final3_3_out (V6 m ρ) c (ix3 p r s) h).trans ((congrFun (W6_v12_1 m ρ c) _).trans ((W4_v10_1 m ρ c hX hA hB hD _).trans ?_))
    split
    · next h' => exact (if_neg (Nat.not_lt.mpr h')).symm
    · next h' => exact (hE p r s).trans (if_pos (Nat.lt_of_not_le h')).symm

end Cert.Mlp
-- ==== Proof.MlpReference.lean ====
/-
  The reference's two results at an index: what a transposed derivative of the MLP gives the two weights, laid out as
  the buffers are.
-/
module

public import proofs.«01_k».proof.Proof.MlpChain
public import proofs.«01_k».proof.Proof.Gen.Reference2Ideal.Run

@[expose] public section

set_option maxRecDepth 16384

noncomputable section

namespace Cert.Mlp.Reference

open Idealize.ShloMosaic Idealize.ShloMosaic.TcCoe Idealize.SL.Sem Cert.Reference2Ideal Cert.Reference2Ideal.Gen Cert.Reals
open Finset (range)

variable (x : FVec Ideal S4096x1024 .f32) (a : FVec Ideal S1024x4096 .f32) (b : FVec Ideal S4096x1024 .f32) (d : FVec Ideal S4096x1024 .f32)
  (e : FVec Ideal S4x3072x1024 .f32) (e' : FVec Ideal S4x3072x1024 .bf16)

/-! ## The reference's lines, named -/

abbrev Wide := FVec Ideal S4096x4096 .f32
abbrev Plane := FVec Ideal S4x1024x1024 .f32

def zeros : Wide := broadcastInDim S4096x4096 ![] bcast_S_S4096x4096 (constant S_ .f32 0x00000000#32)
def twos : Wide := broadcastInDim S4096x4096 ![] bcast_S_S4096x4096 (constant S_ .f32 0x40000000#32)

/-- The first layer. -/
def layer0 : Wide := Host.dotGeneral dot_S4096x1024_S1024x4096_S4096x4096_1_0_0_1_n_n none x a

/-- Its positive part. -/
def relu0 (f : Wide) : Wide := maximumf f zeros

/-- The gradient of the squares. -/
def dsquare : Wide := Host.dotGeneral dot_S4096x1024_S4096x1024_S4096x4096_1_1_0_0_n_n none d b

/-- The gradient of the first layer. -/
def dlayer0 (f g : Wide) : Wide := select (cmpf .ogt f zeros) (mulf g (mulf twos (relu0 f))) zeros

/-- The first weight's gradient, a plane for each chip. -/
def first0 (g : Wide) : Plane :=
  transpose S4x1024x1024 [1, 0, 2] (shapeCast S1024x4x1024 (transpose S1024x4096 [1, 0]
    (Host.dotGeneral dot_S4096x4096_S4096x1024_S4096x1024_0_0_1_1_n_n none g x) transposes_S4096x1024_S1024x4096_1_0)
    shapeCasts_S1024x4096_S1024x4x1024) transposes_S1024x4x1024_S4x1024x1024_1_0_2

/-- The second weight's gradient, a plane for each chip. -/
def second0 (r : Wide) : Plane :=
  shapeCast S4x1024x1024 (transpose S4096x1024 [1, 0]
    (Host.dotGeneral dot_S4096x1024_S4096x4096_S1024x4096_0_0_1_1_n_n none d (mulf r r)) transposes_S1024x4096_S4096x1024_1_0)
    shapeCasts_S4096x1024_S4x1024x1024

/-- The first result. -/
def out0 : FVec Ideal S4x3072x1024 .f32 :=
  concatenate S4x3072x1024 1 [⟨S4x1024x1024, first0 x (dlayer0 (layer0 x a) (dsquare b d))⟩,
    ⟨S4x1024x1024, extractStridedSlice S4x1024x1024 ![0, 1024, 0] e slices_S4x3072x1024_S4x1024x1024_0_1024_0⟩,
    ⟨S4x1024x1024, second0 d (relu0 (layer0 x a))⟩] concatenates_S4x1024x1024_S4x1024x1024_S4x1024x1024_S4x3072x1024_d1

/-- The second result. -/
def out1 : FVec Ideal S4x3072x1024 .bf16 :=
  concatenate S4x3072x1024 1 [⟨S4x1024x1024, truncf .bf16 (first0 x (dlayer0 (layer0 x a) (dsquare b d))) bitsLt_bf16_f32⟩,
    ⟨S4x1024x1024, extractStridedSlice S4x1024x1024 ![0, 1024, 0] e' slices_S4x3072x1024_S4x1024x1024_0_1024_0⟩,
    ⟨S4x1024x1024, truncf .bf16 (second0 d (relu0 (layer0 x a))) bitsLt_bf16_f32⟩] concatenates_S4x1024x1024_S4x1024x1024_S4x1024x1024_S4x3072x1024_d1

/-! ## At an index -/

variable {x a b d e e'} {X A B D : ℕ → ℕ → EReal} {E : ℕ → ℕ → ℕ → EReal}

theorem layer0_has (hx : Has2 x X) (ha : Has2 a A) : Has2 (layer0 x a) (layer X A) := by
  intro i j
  unfold layer0 layer
  pointwise
  simp only [hx _ _, ha _ _]
  rw [Finset.sum_range]

theorem dsquare_has (hd : Has2 d D) (hb : Has2 b B) : Has2 (dsquare b d) (fun t f => ∑ k ∈ range 1024, D t k * B f k) := by
  intro i j
  unfold dsquare
  pointwise
  simp only [hd _ _, hb _ _]
  rw [Finset.sum_range]

theorem relu0_has {f : Wide} (hf : Has2 f (layer X A)) : Has2 (relu0 f) (relu X A) := by
  intro i j
  unfold relu0 zeros relu
  pointwise
  rw [hf i j]

/-- Where the layer is not positive its positive part is zero, and so is the product with it. -/
theorem cut (u v w : EReal) : (if 0 < u then v * (w * max u 0) else 0) = v * (w * max u 0) := by
  split
  · rfl
  · next h => rw [max_eq_right (not_lt.mp h), mul_zero, mul_zero]

theorem dlayer0_has {f g : Wide} (hf : Has2 f (layer X A)) (hg : Has2 g (fun t f => ∑ k ∈ range 1024, D t k * B f k)) :
    Has2 (dlayer0 f g) (dlayer X A B D) := by
  intro i j
  unfold dlayer0 relu0 zeros twos dlayer relu
  pointwise
  rw [hf i j, hg i j]
  exact cut _ _ _

theorem first0_has {g : Wide} {G : ℕ → ℕ → EReal} (hx : Has2 x X) (hg : Has2 g G) :
    Has3 (first0 x g) (fun p r s => ∑ t ∈ range 4096, X t r * G t (p * 1024 + s)) := by
  intro p r s
  unfold first0
  pointwise
  simp only [hx _ _, hg _ _]
  rw [Finset.sum_range]
  exact Finset.sum_congr rfl fun _ _ => mul_comm _ _

theorem second0_has {r : Wide} {R : ℕ → ℕ → EReal} (hd : Has2 d D) (hr : Has2 r R) :
    Has3 (second0 d r) (fun p q s => ∑ t ∈ range 4096, R t (p * 1024 + q) * R t (p * 1024 + q) * D t s) := by
  intro p q s
  unfold second0
  pointwise
  simp only [hd _ _, hr _ _]
  rw [Finset.sum_range]
  exact Finset.sum_congr rfl fun _ _ => mul_comm _ _

theorem out0_has (hx : Has2 x X) (ha : Has2 a A) (hb : Has2 b B) (hd : Has2 d D) (he : Has3 e E) : Has3 (out0 x a b d e) (both X A B D E) := by
  intro p r s
  have h1 := first0_has hx (dlayer0_has (layer0_has hx ha) (dsquare_has hd hb))
  have h3 := second0_has hd (relu0_has (layer0_has hx ha))
  unfold out0
  generalize first0 x (dlayer0 (layer0 x a) (dsquare b d)) = y at h1 ⊢
  generalize second0 d (relu0 (layer0 x a)) = z at h3 ⊢
  pointwise
  unfold both
  split
  · exact h1 _ _ _
  · next h =>
    split
    · next h' =>
      refine ((he _ _ _).trans (congrArg (fun q => E p q s) ?_)).trans (if_pos (by omega)).symm
      exact Nat.add_sub_of_le (Nat.le_of_not_lt h)
    · next h' =>
      refine (Eq.trans ?_ (congrArg (fun q => second X A D p q s) (Nat.sub_sub r 1024 1024))).trans (if_neg (by omega)).symm
      exact h3 _ _ _

theorem out1_has (hx : Has2 x X) (ha : Has2 a A) (hb : Has2 b B) (hd : Has2 d D) (he : Has3 e' E) : Has3 (out1 x a b d e') (both X A B D E) := by
  intro p r s
  have h1 := first0_has hx (dlayer0_has (layer0_has hx ha) (dsquare_has hd hb))
  have h3 := second0_has hd (relu0_has (layer0_has hx ha))
  unfold out1
  generalize first0 x (dlayer0 (layer0 x a) (dsquare b d)) = y at h1 ⊢
  generalize second0 d (relu0 (layer0 x a)) = z at h3 ⊢
  pointwise
  unfold both
  split
  · exact h1 _ _ _
  · next h =>
    split
    · next h' =>
      refine ((he _ _ _).trans (congrArg (fun q => E p q s) ?_)).trans (if_pos (by omega)).symm
      exact Nat.add_sub_of_le (Nat.le_of_not_lt h)
    · next h' =>
      refine (Eq.trans ?_ (congrArg (fun q => second X A D p q s) (Nat.sub_sub r 1024 1024))).trans (if_neg (by omega)).symm
      exact h3 _ _ _

/-! ## The reference's run -/

variable (m : (ℓ : Loc nD τ sig) → Buf (Elt Ideal) ℓ) (ρ : Dev nD → PrngReg)

theorem run : θ_run defs (onTc (τ := τ) main) ⟨m, fun _ => 0, ρ⟩ fun r => ∀ c : Dev nD,
    r.2.mem ((c.tc : Thread nD τ).loc main_v21) = out0 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
    ∧ r.2.mem ((c.tc : Thread nD τ).loc main_v25) = out1 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => ⟨(h c).1.trans rfl, (h c).2.1.trans rfl, (h c).2.2⟩) (Value.run m ρ)

end Cert.Mlp.Reference
-- ==== Proof.FwdParts.lean ====
/-
  The parts of a step of the attention's forward call, for each number of rows a step works on, and what they hold: the
  masked scores, the rows' new maxima, the new sums, and the rows above put back. A maximum is only ever used as some real
  number.
-/
module

public import proofs.«01_k».proof.Proof.Block
public import proofs.«01_k».proof.Proof.Values
public import proofs.«01_k».proof.Proof.Gen.Kernel3Ideal.Skeleton
public import Idealize.ShloMosaic.Lib.Tactic

@[expose] public section

set_option maxRecDepth 16384

noncomputable section

namespace Cert.Kernel3Ideal.Parts

open Idealize.ShloMosaic Cert.Kernel3Ideal Cert.Kernel3Ideal.Gen Cert.Reals
open Cert.KernelIdeal.Block (prob)

/-! ## Rows of extended reals -/

/-- The constant of the masked scores is `-∞`. -/
theorem masked_bot : Named.named (F := Ideal) κ "masked" (φ := .f32) 0xF149F2CA#32 = (⊥ : EReal) :=
  IdealRules.named_const.ideal_named_scalar _ _ _ _ rfl

/-- The constant that turns a logarithm into a binary one is the inverse of the logarithm of two. -/
theorem per_ln2 : Named.named (F := Ideal) κ "per_ln2" (φ := .f32) 0x3FB8AA3B#32 = (((Real.log 2)⁻¹ : ℝ) : EReal) :=
  IdealRules.named_const.ideal_named_scalar _ _ _ _ rfl

/-- A masked score: `-∞` where the column is beyond the row. -/
def sight (S : ℕ → ℕ → ℝ) (i j : ℕ) : EReal := if j ≤ i then ((S i j : ℝ) : EReal) else ⊥

variable {S : ℕ → ℕ → ℝ}

/-- A row's greatest masked score is real: it sees the first column. -/
theorem sight_top {n : ℕ} [NeZero n] (i : ℕ) : ∃ b : ℝ, Finset.fold max ⊥ (fun j : Fin n => sight S i j) Finset.univ = ((b : ℝ) : EReal) := by
  refine Cert.Values.fold_max_real _ 0 (a := S i 0) ?_ fun j => ?_
  · show sight S i ((0 : Fin n) : ℕ) = _
    rw [Fin.val_zero]
    exact if_pos (Nat.zero_le _)
  · show sight S i j ≠ ⊤
    unfold sight
    split
    · exact EReal.coe_ne_top _
    · exact bot_ne_top

/-- The power of two of a masked score less a real number; -/
theorem sight_exp2 (i j : ℕ) (a : ℝ) :
    Ideal.exp2 (sight S i j - (a : EReal)) = (((if j ≤ i then Real.rpow 2 (S i j - a) else 0) : ℝ) : EReal) := by
  unfold sight
  by_cases h : j ≤ i
  · rw [if_pos h, if_pos h, ← EReal.coe_sub]; exact exp2_coe _
  · rw [if_neg h, if_neg h, EReal.bot_sub]; rfl

/-- of `-∞` less a real number. -/
theorem bot_exp2 (a : ℝ) : Ideal.exp2 (⊥ - (a : EReal)) = 0 := by rw [EReal.bot_sub]; rfl

/-- Real numbers given row by row are a function of the row. -/
theorem rows_choose {n : ℕ} {x : (⟨2, ![n, 1]⟩ : Shape).Idx → EReal} (h : ∀ i : Fin n, ∃ b : ℝ, x (ix2 i 0) = ((b : ℝ) : EReal)) :
    ∃ M : ℕ → ℕ → ℝ, Is2 x M := by
  choose b hb using h
  refine ⟨fun i _ => if h : i < n then b ⟨i, h⟩ else 0, fun i j => ?_⟩
  rw [Subsingleton.elim j 0, hb i]
  refine congrArg _ ?_
  beta_reduce
  rw [dif_pos i.isLt]

/-- The rows' maxima, kept as a column. -/
theorem column_top {n b : ℕ} (s : FVec Ideal (⟨2, ![n, b]⟩ : Shape) .f32) (h : (⟨2, ![n, b]⟩ : Shape).Reduces [1] (⟨1, ![n]⟩ : Shape))
    (hc : (⟨1, ![n]⟩ : Shape).ShapeCasts (⟨2, ![n, 1]⟩ : Shape)) (hφ : FKind.Formats .f32)
    (ha : (0xFF800000#32 : BitVec 32) = FKind.maximumf.neutral .f32 hφ) (i : Fin n) :
    shapeCast (⟨2, ![n, 1]⟩ : Shape) (multiReduction .maximumf [1] (⟨1, ![n]⟩ : Shape) s 0xFF800000#32 h hφ ha) hc (ix2 i 0)
      = Finset.fold max ⊥ (fun j : Fin b => s (ix2 i j)) Finset.univ := by
  rw [shapeCast_apply _ hc (ix2 i 0) (ix1 i) (by
    rw [Shape.rowMajor_val_one, Shape.rowMajor_val_two]
    show (i : ℕ) = i * 1 + 0
    omega), Ideal.multiReduction_maximumf_single]
  refine (congrArg (fun z => Finset.fold max z _ Finset.univ) Cert.Values.ofBits_bot).trans ?_
  refine congrArg (fun f : Fin b → EReal => Finset.fold max ⊥ f Finset.univ) (funext fun j => congrArg s ?_)
  funext k
  fin_cases k <;> exact Fin.ext rfl

/-! ## The parts -/

section Text
variable {F : FTy → Type} [FloatOps F] [Named F]

/-- Of 4096 rows: the masked scores, -/
def masked4 (w1 w2 : BitVec 32) (q : FVec F S4096x256 .bf16) (k : FVec F S1024x256 .bf16) : FVec F S4096x1024 .f32 :=
  select (cmpi .sle (addi (broadcast S4096x1024 w2) (iota .tc S4096x1024 32 [1] iota_S4096x1024_d1_w32))
    (addi (broadcast S4096x1024 w1) (iota .tc S4096x1024 32 [0] iota_S4096x1024_d0_w32)))
    (matmul dot_S4096x256_S1024x256_S4096x1024_1_1_0_0_n_n none q k (constant S4096x1024 .f32 0x00000000#32))
    (broadcast S4096x1024 (Named.named κ "masked" 0xF149F2CA#32))

/-- the new maxima, -/
def top4 (s : FVec F S4096x1024 .f32) (x : FVec F S4096x1 .f32) : FVec F S4096x1 .f32 :=
  maximumf x (shapeCast S4096x1 (multiReduction .maximumf [1] S4096 s 0xFF800000#32 reduces_S4096x1024_S4096 (.inl rfl) rfl) shapeCasts_S4096_S4096x1)

/-- the new sums. -/
def next4 (s : FVec F S4096x1024 .f32) (y x : FVec F S4096x1 .f32) (a : FVec F S4096x256 .f32) (v : FVec F S1024x256 .bf16) : FVec F S4096x256 .f32 :=
  addf (mulf (broadcastTo S4096x256 (exp2 (subf x y)) broadcasts_S4096x1_S4096x256) a)
    (matmul dot_S4096x1024_S1024x256_S4096x256_1_0_0_1_n_n none
      (truncf .bf16 (exp2 (subf s (broadcastTo S4096x1024 y broadcasts_S4096x1_S4096x1024))) bitsLt_bf16_f32) v
      (constant S4096x256 .f32 0x00000000#32))

/-- Of 3072 rows: the masked scores, -/
def masked3 (w1 w2 : BitVec 32) (q : FVec F S3072x256 .bf16) (k : FVec F S1024x256 .bf16) : FVec F S3072x1024 .f32 :=
  select (cmpi .sle (addi (broadcast S3072x1024 w2) (iota .tc S3072x1024 32 [1] iota_S3072x1024_d1_w32))
    (addi (broadcast S3072x1024 w1) (iota .tc S3072x1024 32 [0] iota_S3072x1024_d0_w32)))
    (matmul dot_S3072x256_S1024x256_S3072x1024_1_1_0_0_n_n none q k (constant S3072x1024 .f32 0x00000000#32))
    (broadcast S3072x1024 (Named.named κ "masked" 0xF149F2CA#32))

/-- the new maxima, -/
def top3 (s : FVec F S3072x1024 .f32) (x : FVec F S3072x1 .f32) : FVec F S3072x1 .f32 :=
  maximumf x (shapeCast S3072x1 (multiReduction .maximumf [1] S3072 s 0xFF800000#32 reduces_S3072x1024_S3072 (.inl rfl) rfl) shapeCasts_S3072_S3072x1)

/-- the new sums. -/
def next3 (s : FVec F S3072x1024 .f32) (y x : FVec F S3072x1 .f32) (a : FVec F S3072x256 .f32) (v : FVec F S1024x256 .bf16) : FVec F S3072x256 .f32 :=
  addf (mulf (broadcastTo S3072x256 (exp2 (subf x y)) broadcasts_S3072x1_S3072x256) a)
    (matmul dot_S3072x1024_S1024x256_S3072x256_1_0_0_1_n_n none
      (truncf .bf16 (exp2 (subf s (broadcastTo S3072x1024 y broadcasts_S3072x1_S3072x1024))) bitsLt_bf16_f32) v
      (constant S3072x256 .f32 0x00000000#32))

/-- Of 2048 rows: the masked scores, -/
def masked2 (w1 w2 : BitVec 32) (q : FVec F S2048x256 .bf16) (k : FVec F S1024x256 .bf16) : FVec F S2048x1024 .f32 :=
  select (cmpi .sle (addi (broadcast S2048x1024 w2) (iota .tc S2048x1024 32 [1] iota_S2048x1024_d1_w32))
    (addi (broadcast S2048x1024 w1) (iota .tc S2048x1024 32 [0] iota_S2048x1024_d0_w32)))
    (matmul dot_S2048x256_S1024x256_S2048x1024_1_1_0_0_n_n none q k (constant S2048x1024 .f32 0x00000000#32))
    (broadcast S2048x1024 (Named.named κ "masked" 0xF149F2CA#32))

/-- the new maxima, -/
def top2 (s : FVec F S2048x1024 .f32) (x : FVec F S2048x1 .f32) : FVec F S2048x1 .f32 :=
  maximumf x (shapeCast S2048x1 (multiReduction .maximumf [1] S2048 s 0xFF800000#32 reduces_S2048x1024_S2048 (.inl rfl) rfl) shapeCasts_S2048_S2048x1)

/-- the new sums. -/
def next2 (s : FVec F S2048x1024 .f32) (y x : FVec F S2048x1 .f32) (a : FVec F S2048x256 .f32) (v : FVec F S1024x256 .bf16) : FVec F S2048x256 .f32 :=
  addf (mulf (broadcastTo S2048x256 (exp2 (subf x y)) broadcasts_S2048x1_S2048x256) a)
    (matmul dot_S2048x1024_S1024x256_S2048x256_1_0_0_1_n_n none
      (truncf .bf16 (exp2 (subf s (broadcastTo S2048x1024 y broadcasts_S2048x1_S2048x1024))) bitsLt_bf16_f32) v
      (constant S2048x256 .f32 0x00000000#32))

/-- Of 1024 rows: the masked scores, -/
def masked1 (w1 w2 : BitVec 32) (q : FVec F S1024x256 .bf16) (k : FVec F S1024x256 .bf16) : FVec F S1024x1024 .f32 :=
  select (cmpi .sle (addi (broadcast S1024x1024 w2) (iota .tc S1024x1024 32 [1] iota_S1024x1024_d1_w32))
    (addi (broadcast S1024x1024 w1) (iota .tc S1024x1024 32 [0] iota_S1024x1024_d0_w32)))
    (matmul dot_S1024x256_S1024x256_S1024x1024_1_1_0_0_n_n none q k (constant S1024x1024 .f32 0x00000000#32))
    (broadcast S1024x1024 (Named.named κ "masked" 0xF149F2CA#32))

/-- the new maxima, -/
def top1 (s : FVec F S1024x1024 .f32) (x : FVec F S1024x1 .f32) : FVec F S1024x1 .f32 :=
  maximumf x (shapeCast S1024x1 (multiReduction .maximumf [1] S1024 s 0xFF800000#32 reduces_S1024x1024_S1024 (.inl rfl) rfl) shapeCasts_S1024_S1024x1)

/-- the new sums. -/
def next1 (s : FVec F S1024x1024 .f32) (y x : FVec F S1024x1 .f32) (a : FVec F S1024x256 .f32) (v : FVec F S1024x256 .bf16) : FVec F S1024x256 .f32 :=
  addf (mulf (broadcastTo S1024x256 (exp2 (subf x y)) broadcasts_S1024x1_S1024x256) a)
    (matmul dot_S1024x1024_S1024x256_S1024x256_1_0_0_1_n_n none
      (truncf .bf16 (exp2 (subf s (broadcastTo S1024x1024 y broadcasts_S1024x1_S1024x1024))) bitsLt_bf16_f32) v
      (constant S1024x256 .f32 0x00000000#32))

end Text

section Rows4096

variable {q : FVec Ideal S4096x256 .bf16} {k v : FVec Ideal S1024x256 .bf16} {s : FVec Ideal S4096x1024 .f32} {x y : FVec Ideal S4096x1 .f32}
  {a : FVec Ideal S4096x256 .f32} {Q K V A X Y : ℕ → ℕ → ℝ}

/-- Of 4096 rows: the masked scores, -/
theorem masked4_real (w1 w2 : BitVec 32) (hw : w2 = w1) (hw1 : w1.toNat ≤ 4096) (hq : Is2 q Q) (hk : Is2 k K) (i : Fin 4096) (j : Fin 1024) :
    masked4 w1 w2 q k (ix2 i j) = sight (fun i j => ∑ t ∈ Finset.range 256, Q i t * K j t) i j := by
  subst hw
  unfold masked4
  pointwise
  rw [cmpi_sle_offset w2 hw1 j i (by omega) (by omega)]
  unfold sight
  by_cases h : (j : ℕ) ≤ i
  · rw [if_pos h, if_pos h]
    simp only [hq _ _, hk _ _, ← EReal.coe_mul]
    exact coe_sum_fin (fun t => Q i t * K j t)
  · rw [if_neg h, if_neg h]; exact masked_bot

/-- the new maxima, -/
theorem top4_eq (i : Fin 4096) :
    top4 s x (ix2 i 0) = max (x (ix2 i 0)) (Finset.fold max ⊥ (fun j => s (ix2 i j)) Finset.univ) := by
  unfold top4
  exact congrArg (max (x (ix2 i 0))) (column_top s _ _ _ _ i)

/-- the new sums. -/
theorem next4_eq (i : Fin 4096) (t : Fin 256) :
    next4 s y x a v (ix2 i t) = Ideal.exp2 (x (ix2 i 0) - y (ix2 i 0)) * a (ix2 i t)
      + ∑ j : Fin 1024, Ideal.exp2 (s (ix2 i j) - y (ix2 i 0)) * v (ix2 j t) := by
  unfold next4
  pointwise
  rfl

end Rows4096

section Rows3072

variable {q : FVec Ideal S3072x256 .bf16} {k v : FVec Ideal S1024x256 .bf16} {s : FVec Ideal S3072x1024 .f32} {x y : FVec Ideal S3072x1 .f32}
  {a : FVec Ideal S3072x256 .f32} {Q K V A X Y : ℕ → ℕ → ℝ}

/-- Of 3072 rows: the masked scores, -/
theorem masked3_real (w1 w2 : BitVec 32) (hw : w2 = w1) (hw1 : w1.toNat ≤ 4096) (hq : Is2 q Q) (hk : Is2 k K) (i : Fin 3072) (j : Fin 1024) :
    masked3 w1 w2 q k (ix2 i j) = sight (fun i j => ∑ t ∈ Finset.range 256, Q i t * K j t) i j := by
  subst hw
  unfold masked3
  pointwise
  rw [cmpi_sle_offset w2 hw1 j i (by omega) (by omega)]
  unfold sight
  by_cases h : (j : ℕ) ≤ i
  · rw [if_pos h, if_pos h]
    simp only [hq _ _, hk _ _, ← EReal.coe_mul]
    exact coe_sum_fin (fun t => Q i t * K j t)
  · rw [if_neg h, if_neg h]; exact masked_bot

/-- the new maxima, -/
theorem top3_eq (i : Fin 3072) :
    top3 s x (ix2 i 0) = max (x (ix2 i 0)) (Finset.fold max ⊥ (fun j => s (ix2 i j)) Finset.univ) := by
  unfold top3
  exact congrArg (max (x (ix2 i 0))) (column_top s _ _ _ _ i)

/-- the new sums. -/
theorem next3_eq (i : Fin 3072) (t : Fin 256) :
    next3 s y x a v (ix2 i t) = Ideal.exp2 (x (ix2 i 0) - y (ix2 i 0)) * a (ix2 i t)
      + ∑ j : Fin 1024, Ideal.exp2 (s (ix2 i j) - y (ix2 i 0)) * v (ix2 j t) := by
  unfold next3
  pointwise
  rfl

end Rows3072

section Rows2048

variable {q : FVec Ideal S2048x256 .bf16} {k v : FVec Ideal S1024x256 .bf16} {s : FVec Ideal S2048x1024 .f32} {x y : FVec Ideal S2048x1 .f32}
  {a : FVec Ideal S2048x256 .f32} {Q K V A X Y : ℕ → ℕ → ℝ}

/-- Of 2048 rows: the masked scores, -/
theorem masked2_real (w1 w2 : BitVec 32) (hw : w2 = w1) (hw1 : w1.toNat ≤ 4096) (hq : Is2 q Q) (hk : Is2 k K) (i : Fin 2048) (j : Fin 1024) :
    masked2 w1 w2 q k (ix2 i j) = sight (fun i j => ∑ t ∈ Finset.range 256, Q i t * K j t) i j := by
  subst hw
  unfold masked2
  pointwise
  rw [cmpi_sle_offset w2 hw1 j i (by omega) (by omega)]
  unfold sight
  by_cases h : (j : ℕ) ≤ i
  · rw [if_pos h, if_pos h]
    simp only [hq _ _, hk _ _, ← EReal.coe_mul]
    exact coe_sum_fin (fun t => Q i t * K j t)
  · rw [if_neg h, if_neg h]; exact masked_bot

/-- the new maxima, -/
theorem top2_eq (i : Fin 2048) :
    top2 s x (ix2 i 0) = max (x (ix2 i 0)) (Finset.fold max ⊥ (fun j => s (ix2 i j)) Finset.univ) := by
  unfold top2
  exact congrArg (max (x (ix2 i 0))) (column_top s _ _ _ _ i)

/-- the new sums. -/
theorem next2_eq (i : Fin 2048) (t : Fin 256) :
    next2 s y x a v (ix2 i t) = Ideal.exp2 (x (ix2 i 0) - y (ix2 i 0)) * a (ix2 i t)
      + ∑ j : Fin 1024, Ideal.exp2 (s (ix2 i j) - y (ix2 i 0)) * v (ix2 j t) := by
  unfold next2
  pointwise
  rfl

end Rows2048

section Rows1024

variable {q : FVec Ideal S1024x256 .bf16} {k v : FVec Ideal S1024x256 .bf16} {s : FVec Ideal S1024x1024 .f32} {x y : FVec Ideal S1024x1 .f32}
  {a : FVec Ideal S1024x256 .f32} {Q K V A X Y : ℕ → ℕ → ℝ}

/-- Of 1024 rows: the masked scores, -/
theorem masked1_real (w1 w2 : BitVec 32) (hw : w2 = w1) (hw1 : w1.toNat ≤ 4096) (hq : Is2 q Q) (hk : Is2 k K) (i : Fin 1024) (j : Fin 1024) :
    masked1 w1 w2 q k (ix2 i j) = sight (fun i j => ∑ t ∈ Finset.range 256, Q i t * K j t) i j := by
  subst hw
  unfold masked1
  pointwise
  rw [cmpi_sle_offset w2 hw1 j i (by omega) (by omega)]
  unfold sight
  by_cases h : (j : ℕ) ≤ i
  · rw [if_pos h, if_pos h]
    simp only [hq _ _, hk _ _, ← EReal.coe_mul]
    exact coe_sum_fin (fun t => Q i t * K j t)
  · rw [if_neg h, if_neg h]; exact masked_bot

/-- the new maxima, -/
theorem top1_eq (i : Fin 1024) :
    top1 s x (ix2 i 0) = max (x (ix2 i 0)) (Finset.fold max ⊥ (fun j => s (ix2 i j)) Finset.univ) := by
  unfold top1
  exact congrArg (max (x (ix2 i 0))) (column_top s _ _ _ _ i)

/-- the new sums. -/
theorem next1_eq (i : Fin 1024) (t : Fin 256) :
    next1 s y x a v (ix2 i t) = Ideal.exp2 (x (ix2 i 0) - y (ix2 i 0)) * a (ix2 i t)
      + ∑ j : Fin 1024, Ideal.exp2 (s (ix2 i j) - y (ix2 i 0)) * v (ix2 j t) := by
  unfold next1
  pointwise
  rfl

end Rows1024

end Cert.Kernel3Ideal.Parts

end
-- ==== Proof.FwdStep.lean ====
/-
  The steps of the attention's forward call. After the steps of the first `b` keys there are real numbers, one for each row,
  such that the maxima are those numbers and the sums are, over the keys seen so far, the powers of two of the scores less
  the row's number, times the values. A step keeps this for 1024 keys more, whatever the numbers are.
-/
module

public import proofs.«01_k».proof.Proof.FwdParts

@[expose] public section

set_option maxRecDepth 16384

noncomputable section

namespace Cert.Kernel3Ideal.Parts

open Idealize.ShloMosaic Cert.Kernel3Ideal Cert.Kernel3Ideal.Gen Cert.Reals
open Cert.KernelIdeal.Block (prob prob_zero)

variable {Q K V L : ℕ → ℕ → ℝ}

/-- What the maxima and the sums hold after the first `b` keys. -/
def State (Q K V : ℕ → ℕ → ℝ) (b : ℕ) (m : FVec Ideal S4096x1 .f32) (a : FVec Ideal S4096x256 .f32) : Prop :=
  ∃ L : ℕ → ℕ → ℝ, Is2 m L ∧ Is2 a fun r t => ∑ c ∈ Finset.range b, prob Q K L r c * V c t

/-- The power of two of the difference of a row's numbers turns the one's probabilities into the other's. -/
theorem prob_shift (L' : ℕ → ℕ → ℝ) (r c : ℕ) : Real.rpow 2 (L r 0 - L' r 0) * prob Q K L r c = prob Q K L' r c := by
  unfold prob
  by_cases h : c ≤ r
  · rw [if_pos h, if_pos h]
    refine (Real.rpow_add two_pos _ _).symm.trans (congrArg _ ?_)
    ring
  · rw [if_neg h, if_neg h, mul_zero]

/-- A row's probabilities depend on that row's number only. -/
theorem prob_congr {L L' : ℕ → ℕ → ℝ} {r : ℕ} (h : L r 0 = L' r 0) (c : ℕ) : prob Q K L r c = prob Q K L' r c := by
  unfold prob; rw [h]

/-- The block of 1024 keys from `k0` on, in the row `k0 + i`. -/
theorem block_prob (L : ℕ → ℕ → ℝ) (k0 i j : ℕ) :
    (if j ≤ i then Real.rpow 2 ((∑ t ∈ Finset.range 256, Q (k0 + i) t * K (k0 + j) t) - L (k0 + i) 0) else 0) = prob Q K L (k0 + i) (k0 + j) := by
  unfold prob
  exact if_congr (by omega) rfl rfl

section Rows

variable {n k0 : ℕ} {s : FVec Ideal (⟨2, ![n, 1024]⟩ : Shape) .f32} {x y : FVec Ideal (⟨2, ![n, 1]⟩ : Shape) .f32}
  {a z : FVec Ideal (⟨2, ![n, 256]⟩ : Shape) .f32} {v : FVec Ideal S1024x256 .bf16}

/-- The new numbers of the rows from `k0` on, and the old ones above. -/
theorem numbers (k0 : ℕ) (L : ℕ → ℕ → ℝ) (h : ∀ i : Fin n, ∃ b : ℝ, y (ix2 i 0) = ((b : ℝ) : EReal)) :
    ∃ L' : ℕ → ℕ → ℝ, (∀ r < k0, ∀ j, L' r j = L r j) ∧ Is2 y fun i j => L' (k0 + i) j := by
  obtain ⟨M, hM⟩ := rows_choose h
  refine ⟨fun r j => if r < k0 then L r j else M (r - k0) j, fun r hr j => if_pos hr, fun i j => ?_⟩
  rw [hM i j]
  beta_reduce
  rw [if_neg (by omega), Nat.add_sub_cancel_left]

/-- The block's part of the new sums. -/
theorem block_sum (hs : ∀ (i : Fin n) (j : Fin 1024), s (ix2 i j) = sight (fun i j => ∑ t ∈ Finset.range 256, Q (k0 + i) t * K (k0 + j) t) i j)
    {L' : ℕ → ℕ → ℝ} (hy : Is2 y fun i j => L' (k0 + i) j) (hv : Is2 v fun j t => V (k0 + j) t) (i : Fin n) (t : Fin 256) :
    ∑ j : Fin 1024, Ideal.exp2 (s (ix2 i j) - y (ix2 i 0)) * v (ix2 j t)
      = ((∑ j ∈ Finset.range 1024, prob Q K L' (k0 + i) (k0 + j) * V (k0 + j) t : ℝ) : EReal) := by
  rw [← coe_sum_fin (fun j => prob Q K L' (k0 + i) (k0 + j) * V (k0 + j) t)]
  refine Finset.sum_congr rfl fun j _ => ?_
  rw [hs i j, hy i 0, hv j t, sight_exp2, EReal.coe_mul]
  exact congrArg (fun p : ℝ => (p : EReal) * _) (block_prob L' k0 i j)

/-- The rows of a step after the first. -/
theorem rows_step (hs : ∀ (i : Fin n) (j : Fin 1024), s (ix2 i j) = sight (fun i j => ∑ t ∈ Finset.range 256, Q (k0 + i) t * K (k0 + j) t) i j)
    (hv : Is2 v fun j t => V (k0 + j) t) (hx : Is2 x fun i j => L (k0 + i) j)
    (ha : Is2 a fun i t => ∑ c ∈ Finset.range k0, prob Q K L (k0 + i) c * V c t)
    (hy : ∀ i : Fin n, y (ix2 i 0) = max (x (ix2 i 0)) (Finset.fold max ⊥ (fun j => s (ix2 i j)) Finset.univ))
    (hz : ∀ (i : Fin n) (t : Fin 256), z (ix2 i t) = Ideal.exp2 (x (ix2 i 0) - y (ix2 i 0)) * a (ix2 i t)
      + ∑ j : Fin 1024, Ideal.exp2 (s (ix2 i j) - y (ix2 i 0)) * v (ix2 j t)) :
    ∃ L' : ℕ → ℕ → ℝ, (∀ r < k0, ∀ j, L' r j = L r j) ∧ Is2 y (fun i j => L' (k0 + i) j)
      ∧ Is2 z fun i t => ∑ c ∈ Finset.range (k0 + 1024), prob Q K L' (k0 + i) c * V c t := by
  obtain ⟨L', hL, hy'⟩ := numbers (y := y) k0 L fun i => by
    obtain ⟨b, hb⟩ := sight_top (S := fun i j => ∑ t ∈ Finset.range 256, Q (k0 + i) t * K (k0 + j) t) (n := 1024) i
    refine ⟨max (L (k0 + i) 0) b, ?_⟩
    rw [hy i, hx i 0]
    simp only [hs i]
    rw [hb]
    exact (EReal.coe_strictMono.monotone.map_max (a := L (k0 + i) 0) (b := b)).symm
  refine ⟨L', hL, hy', fun i t => ?_⟩
  rw [hz i t, block_sum hs hy' hv i t, hx i 0, hy' i 0, ha i t, ← EReal.coe_sub, exp2_coe, ← EReal.coe_mul, ← EReal.coe_add]
  beta_reduce
  rw [Finset.sum_range_add, Finset.mul_sum]
  refine congrArg _ (congrArg (· + _) (Finset.sum_congr rfl fun c _ => ?_))
  rw [← mul_assoc]
  exact congrArg (· * _) (prob_shift L' (k0 + i) c)

/-- The rows of the first step, whose maxima were `-∞` and whose sums were zero. -/
theorem rows_first (hs : ∀ (i : Fin n) (j : Fin 1024), s (ix2 i j) = sight (fun i j => ∑ t ∈ Finset.range 256, Q i t * K j t) i j)
    (hv : Is2 v V) (hx : ∀ i : Fin n, x (ix2 i 0) = ⊥) (ha : ∀ (i : Fin n) (t : Fin 256), a (ix2 i t) = 0)
    (hy : ∀ i : Fin n, y (ix2 i 0) = max (x (ix2 i 0)) (Finset.fold max ⊥ (fun j => s (ix2 i j)) Finset.univ))
    (hz : ∀ (i : Fin n) (t : Fin 256), z (ix2 i t) = Ideal.exp2 (x (ix2 i 0) - y (ix2 i 0)) * a (ix2 i t)
      + ∑ j : Fin 1024, Ideal.exp2 (s (ix2 i j) - y (ix2 i 0)) * v (ix2 j t)) :
    ∃ L' : ℕ → ℕ → ℝ, Is2 y L' ∧ Is2 z fun i t => ∑ c ∈ Finset.range 1024, prob Q K L' i c * V c t := by
  obtain ⟨L', -, hy'⟩ := numbers (y := y) 0 (fun _ _ => 0) fun i => by
    obtain ⟨b, hb⟩ := sight_top (S := fun i j => ∑ t ∈ Finset.range 256, Q i t * K j t) (n := 1024) i
    refine ⟨b, ?_⟩
    rw [hy i, hx i]
    simp only [hs i]
    rw [hb, bot_sup_eq]
  have hs' : ∀ (i : Fin n) (j : Fin 1024), s (ix2 i j) = sight (fun i j => ∑ t ∈ Finset.range 256, Q (0 + i) t * K (0 + j) t) i j := by
    simpa only [Nat.zero_add] using hs
  have hv' : Is2 v fun j t => V (0 + j) t := by simpa only [Nat.zero_add] using hv
  have e : (fun i j => L' (0 + i) j) = L' := by simp only [Nat.zero_add]
  refine ⟨L', e ▸ hy', fun i t => ?_⟩
  rw [hz i t, block_sum hs' hy' hv' i t, ha i t, mul_zero, zero_add]
  simp only [Nat.zero_add]

end Rows

/-- The rows put back below the others. -/
theorem State.join {n k0 : ℕ} {m m' : FVec Ideal S4096x1 .f32} {a a' : FVec Ideal S4096x256 .f32} (hn : 4096 = k0 + n)
    (hm : Is2 m L) (ha : Is2 a fun r t => ∑ c ∈ Finset.range k0, prob Q K L r c * V c t)
    {y : FVec Ideal (⟨2, ![n, 1]⟩ : Shape) .f32} {z : FVec Ideal (⟨2, ![n, 256]⟩ : Shape) .f32}
    (h : ∃ L' : ℕ → ℕ → ℝ, (∀ r < k0, ∀ j, L' r j = L r j) ∧ Is2 y (fun i j => L' (k0 + i) j)
      ∧ Is2 z fun i t => ∑ c ∈ Finset.range (k0 + 1024), prob Q K L' (k0 + i) c * V c t)
    (hm' : ∀ (i : Fin 4096) (j : Fin 1), m' (ix2 i j) = if h : i.val < k0 then m (ix2 i j) else y (ix2 ⟨i - k0, by have := i.isLt; omega⟩ j))
    (ha' : ∀ (i : Fin 4096) (t : Fin 256), a' (ix2 i t) = if h : i.val < k0 then a (ix2 i t) else z (ix2 ⟨i - k0, by have := i.isLt; omega⟩ t)) :
    State Q K V (k0 + 1024) m' a' := by
  obtain ⟨L', hL, hy, hz⟩ := h
  refine ⟨L', fun i j => ?_, fun i t => ?_⟩
  · rw [hm' i j]
    by_cases h : i.val < k0
    · rw [dif_pos h, hm i j, hL i h]
    · rw [dif_neg h, hy]
      show ((L' (k0 + (i.val - k0)) j : ℝ) : EReal) = _
      rw [Nat.add_sub_cancel' (by omega)]
  · rw [ha' i t]
    by_cases h : i.val < k0
    · rw [dif_pos h, ha i t]
      beta_reduce
      rw [Finset.sum_range_add]
      refine congrArg _ ((add_zero _).symm.trans (congrArg₂ (· + ·) (Finset.sum_congr rfl fun c _ => ?_) (Finset.sum_eq_zero fun c _ => ?_).symm))
      · rw [prob_congr (hL i h 0).symm]
      · rw [prob_zero _ _ (by omega), zero_mul]
    · rw [dif_neg h, hz]
      show ((∑ c ∈ Finset.range (k0 + 1024), prob Q K L' (k0 + (i.val - k0)) c * V c t : ℝ) : EReal) = _
      rw [Nat.add_sub_cancel' (by omega)]

end Cert.Kernel3Ideal.Parts

end
-- ==== Proof.FwdRows.lean ====
/-
  The rows of the attention's forward call taken from an array and put back below the rows above, for each step, and the
  printed parts of the body as those steps.
-/
module

public import proofs.«01_k».proof.Proof.FwdStep

@[expose] public section

set_option maxRecDepth 16384

noncomputable section

namespace Cert.Kernel3Ideal.Parts

open Idealize.ShloMosaic Cert.Kernel3Ideal Cert.Kernel3Ideal.Gen Cert.Reals
open Cert.KernelIdeal.Block (prob)

variable {F : FTy → Type} [FloatOps F] [Named F]

/-- The rows from 1024 on, of the maxima and of the sums, -/
def lowM3 (m : FVec F S4096x1 .f32) : FVec F S3072x1 .f32 := extractStridedSlice S3072x1 ![1024, 0] m slices_S4096x1_o1024_0_S3072x1
def lowA3 (a : FVec F S4096x256 .f32) : FVec F S3072x256 .f32 := extractStridedSlice S3072x256 ![1024, 0] a slices_S4096x256_o1024_0_S3072x256

/-- and new ones put in their place. -/
def joinM3 (m : FVec F S4096x1 .f32) (y : FVec F S3072x1 .f32) : FVec F S4096x1 .f32 :=
  concatenate S4096x1 0 [⟨S1024x1, extractStridedSlice S1024x1 ![0, 0] m slices_S4096x1_o0_0_S1024x1⟩, ⟨S3072x1, y⟩]
    concatenates_S1024x1_S3072x1_S4096x1_d0
def joinA3 (a : FVec F S4096x256 .f32) (z : FVec F S3072x256 .f32) : FVec F S4096x256 .f32 :=
  concatenate S4096x256 0 [⟨S1024x256, extractStridedSlice S1024x256 ![0, 0] a slices_S4096x256_o0_0_S1024x256⟩, ⟨S3072x256, z⟩]
    concatenates_S1024x256_S3072x256_S4096x256_d0

theorem lowM3_apply (m : FVec F S4096x1 .f32) (i : Fin 3072) (j : Fin 1) : lowM3 m (ix2 i j) = m (ix2 ⟨1024 + i, by omega⟩ j) := by
  rw [Subsingleton.elim j 0]; unfold lowM3; pointwise

theorem lowA3_apply (a : FVec F S4096x256 .f32) (i : Fin 3072) (j : Fin 256) : lowA3 a (ix2 i j) = a (ix2 ⟨1024 + i, by omega⟩ j) := by
  unfold lowA3; pointwise

theorem joinM3_apply (m : FVec F S4096x1 .f32) (y : FVec F S3072x1 .f32) (i : Fin 4096) (j : Fin 1) :
    joinM3 m y (ix2 i j) = if h : i.val < 1024 then m (ix2 i j) else y (ix2 ⟨i - 1024, by omega⟩ j) := by
  rw [Subsingleton.elim j 0]; unfold joinM3; pointwise

theorem joinA3_apply (a : FVec F S4096x256 .f32) (z : FVec F S3072x256 .f32) (i : Fin 4096) (j : Fin 256) :
    joinA3 a z (ix2 i j) = if h : i.val < 1024 then a (ix2 i j) else z (ix2 ⟨i - 1024, by omega⟩ j) := by
  unfold joinA3; pointwise

/-- The rows from 2048 on, of the maxima and of the sums, -/
def lowM2 (m : FVec F S4096x1 .f32) : FVec F S2048x1 .f32 := extractStridedSlice S2048x1 ![2048, 0] m slices_S4096x1_o2048_0_S2048x1
def lowA2 (a : FVec F S4096x256 .f32) : FVec F S2048x256 .f32 := extractStridedSlice S2048x256 ![2048, 0] a slices_S4096x256_o2048_0_S2048x256

/-- and new ones put in their place. -/
def joinM2 (m : FVec F S4096x1 .f32) (y : FVec F S2048x1 .f32) : FVec F S4096x1 .f32 :=
  concatenate S4096x1 0 [⟨S2048x1, extractStridedSlice S2048x1 ![0, 0] m slices_S4096x1_o0_0_S2048x1⟩, ⟨S2048x1, y⟩]
    concatenates_S2048x1_S2048x1_S4096x1_d0
def joinA2 (a : FVec F S4096x256 .f32) (z : FVec F S2048x256 .f32) : FVec F S4096x256 .f32 :=
  concatenate S4096x256 0 [⟨S2048x256, extractStridedSlice S2048x256 ![0, 0] a slices_S4096x256_o0_0_S2048x256⟩, ⟨S2048x256, z⟩]
    concatenates_S2048x256_S2048x256_S4096x256_d0

theorem lowM2_apply (m : FVec F S4096x1 .f32) (i : Fin 2048) (j : Fin 1) : lowM2 m (ix2 i j) = m (ix2 ⟨2048 + i, by omega⟩ j) := by
  rw [Subsingleton.elim j 0]; unfold lowM2; pointwise

theorem lowA2_apply (a : FVec F S4096x256 .f32) (i : Fin 2048) (j : Fin 256) : lowA2 a (ix2 i j) = a (ix2 ⟨2048 + i, by omega⟩ j) := by
  unfold lowA2; pointwise

theorem joinM2_apply (m : FVec F S4096x1 .f32) (y : FVec F S2048x1 .f32) (i : Fin 4096) (j : Fin 1) :
    joinM2 m y (ix2 i j) = if h : i.val < 2048 then m (ix2 i j) else y (ix2 ⟨i - 2048, by omega⟩ j) := by
  rw [Subsingleton.elim j 0]; unfold joinM2; pointwise

theorem joinA2_apply (a : FVec F S4096x256 .f32) (z : FVec F S2048x256 .f32) (i : Fin 4096) (j : Fin 256) :
    joinA2 a z (ix2 i j) = if h : i.val < 2048 then a (ix2 i j) else z (ix2 ⟨i - 2048, by omega⟩ j) := by
  unfold joinA2; pointwise

/-- The rows from 3072 on, of the maxima and of the sums, -/
def lowM1 (m : FVec F S4096x1 .f32) : FVec F S1024x1 .f32 := extractStridedSlice S1024x1 ![3072, 0] m slices_S4096x1_o3072_0_S1024x1
def lowA1 (a : FVec F S4096x256 .f32) : FVec F S1024x256 .f32 := extractStridedSlice S1024x256 ![3072, 0] a slices_S4096x256_o3072_0_S1024x256

/-- and new ones put in their place. -/
def joinM1 (m : FVec F S4096x1 .f32) (y : FVec F S1024x1 .f32) : FVec F S4096x1 .f32 :=
  concatenate S4096x1 0 [⟨S3072x1, extractStridedSlice S3072x1 ![0, 0] m slices_S4096x1_o0_0_S3072x1⟩, ⟨S1024x1, y⟩]
    concatenates_S3072x1_S1024x1_S4096x1_d0
def joinA1 (a : FVec F S4096x256 .f32) (z : FVec F S1024x256 .f32) : FVec F S4096x256 .f32 :=
  concatenate S4096x256 0 [⟨S3072x256, extractStridedSlice S3072x256 ![0, 0] a slices_S4096x256_o0_0_S3072x256⟩, ⟨S1024x256, z⟩]
    concatenates_S3072x256_S1024x256_S4096x256_d0

theorem lowM1_apply (m : FVec F S4096x1 .f32) (i : Fin 1024) (j : Fin 1) : lowM1 m (ix2 i j) = m (ix2 ⟨3072 + i, by omega⟩ j) := by
  rw [Subsingleton.elim j 0]; unfold lowM1; pointwise

theorem lowA1_apply (a : FVec F S4096x256 .f32) (i : Fin 1024) (j : Fin 256) : lowA1 a (ix2 i j) = a (ix2 ⟨3072 + i, by omega⟩ j) := by
  unfold lowA1; pointwise

theorem joinM1_apply (m : FVec F S4096x1 .f32) (y : FVec F S1024x1 .f32) (i : Fin 4096) (j : Fin 1) :
    joinM1 m y (ix2 i j) = if h : i.val < 3072 then m (ix2 i j) else y (ix2 ⟨i - 3072, by omega⟩ j) := by
  rw [Subsingleton.elim j 0]; unfold joinM1; pointwise

theorem joinA1_apply (a : FVec F S4096x256 .f32) (z : FVec F S1024x256 .f32) (i : Fin 4096) (j : Fin 256) :
    joinA1 a z (ix2 i j) = if h : i.val < 3072 then a (ix2 i j) else z (ix2 ⟨i - 3072, by omega⟩ j) := by
  unfold joinA1; pointwise

/-! ## The body's parts -/

/-- The first step's masked scores; -/
theorem pay15_eq (i : grid0.Coords) (q : FVec F S4096x256 .bf16) (k : FVec F S1024x256 .bf16) :
    k0_pay15 i (k0_pay6 q k) = masked4 (Scalar.addi (Scalar.muli (BitVec.ofNat 32 (i 1).val) 4096#32) 0#32)
      (Scalar.muli (Scalar.addi (Scalar.muli (BitVec.ofNat 32 (i 1).val) 4#32) 0#32) 1024#32) q k := by
  unfold k0_pay15 k0_pay6; simp only [shapeCast_self]; rfl

/-- the second's, -/
theorem pay20_eq (w v0 : BitVec 32) (q : FVec F S3072x256 .bf16) (k : FVec F S1024x256 .bf16) :
    k0_pay20 w v0 q k = masked3 (Scalar.addi (Scalar.muli w 4096#32) 1024#32) (Scalar.muli (Scalar.addi v0 1#32) 1024#32) q k := by
  unfold k0_pay20; simp only [shapeCast_self]; rfl

/-- the third's, -/
theorem pay28_eq (w v0 : BitVec 32) (q : FVec F S2048x256 .bf16) (k : FVec F S1024x256 .bf16) :
    k0_pay28 w v0 q k = masked2 (Scalar.addi (Scalar.muli w 4096#32) 2048#32) (Scalar.muli (Scalar.addi v0 2#32) 1024#32) q k := by
  unfold k0_pay28; simp only [shapeCast_self]; rfl

/-- the fourth's. -/
theorem pay35_eq (w v0 : BitVec 32) (q : FVec F S1024x256 .bf16) (k : FVec F S1024x256 .bf16) :
    k0_pay35 w v0 q k = masked1 (Scalar.addi (Scalar.muli w 4096#32) 3072#32) (Scalar.muli (Scalar.addi v0 3#32) 1024#32) q k := by
  unfold k0_pay35; simp only [shapeCast_self]; rfl

/-- The first step's new sums, -/
theorem pay19_eq (i : grid0.Coords) (s : FVec F S4096x1024 .f32) (x : FVec F S4096x1 .f32) (a : FVec F S4096x256 .f32) (v : FVec F S1024x256 .bf16) :
    k0_pay19 a (k0_pay17 i s x) (k0_pay18 i s x) v = next4 (k0_pay15 i s) (k0_pay16 i s x) x a v := by
  unfold k0_pay19; simp only [shapeCast_self]; rfl

/-- the second's, -/
theorem pay27_eq (w v0 : BitVec 32) (m : FVec F S4096x1 .f32) (a : FVec F S4096x256 .f32) (b : FVec F S3072x256 .f32) (q : FVec F S3072x256 .bf16) (k v : FVec F S1024x256 .bf16) :
    k0_pay27 a b (k0_pay24 w v0 m q k) (k0_pay25 w v0 m q k) v = joinA3 a (next3 (k0_pay20 w v0 q k) (k0_pay23 w v0 m q k) (lowM3 m) b v) := by
  show joinA3 a (next3 (k0_pay20 w v0 q k) (k0_pay23 w v0 m q k) (lowM3 m) b (shapeCast S1024x256 v shapeCasts_S1024x256_S1024x256)) = _
  rw [shapeCast_self]

/-- the third's, -/
theorem pay34_eq (w v0 : BitVec 32) (m : FVec F S4096x1 .f32) (y : FVec F S3072x1 .f32) (a : FVec F S4096x256 .f32) (b : FVec F S2048x256 .f32) (q : FVec F S2048x256 .bf16) (k v : FVec F S1024x256 .bf16) :
    k0_pay34 a (k0_pay29 m y) b (k0_pay31 w v0 m y q k) (k0_pay32 w v0 m y q k) v
      = joinA2 a (next2 (k0_pay28 w v0 q k) (k0_pay31 w v0 m y q k) (lowM2 (k0_pay26 m y)) b v) := by
  show joinA2 a (next2 (k0_pay28 w v0 q k) (k0_pay31 w v0 m y q k) (lowM2 (k0_pay26 m y)) b (shapeCast S1024x256 v shapeCasts_S1024x256_S1024x256)) = _
  rw [shapeCast_self]

/-- the fourth's. -/
theorem pay2_eq (a : FVec F S4096x256 .f32) (s : FVec F S1024x1024 .f32) (x y : FVec F S1024x1 .f32) (b : FVec F S1024x256 .f32) (v : FVec F S1024x256 .bf16) :
    k0_pay2 a s x b y v = joinA1 a (next1 s (k0_pay1 x y) x b v) := by
  show joinA1 a (next1 s (k0_pay1 x y) x b (shapeCast S1024x256 v shapeCasts_S1024x256_S1024x256)) = _
  rw [shapeCast_self]

/-- The new maxima of the first step, -/
theorem pay16_eq (i : grid0.Coords) (s : FVec F S4096x1024 .f32) (x : FVec F S4096x1 .f32) : k0_pay16 i s x = top4 (k0_pay15 i s) x := rfl

/-- the second, -/
theorem pay23_eq (w v0 : BitVec 32) (m : FVec F S4096x1 .f32) (q : FVec F S3072x256 .bf16) (k : FVec F S1024x256 .bf16) :
    k0_pay23 w v0 m q k = top3 (k0_pay20 w v0 q k) (lowM3 m) := rfl

/-- the third, -/
theorem pay31_eq (w v0 : BitVec 32) (m : FVec F S4096x1 .f32) (y : FVec F S3072x1 .f32) (q : FVec F S2048x256 .bf16) (k : FVec F S1024x256 .bf16) :
    k0_pay31 w v0 m y q k = top2 (k0_pay28 w v0 q k) (lowM2 (k0_pay26 m y)) := rfl

/-- the fourth. -/
theorem pay1_eq (w v0 : BitVec 32) (x : FVec F S1024x1 .f32) (q : FVec F S1024x256 .bf16) (k : FVec F S1024x256 .bf16) :
    k0_pay1 x (k0_pay38 w v0 q k) = top1 (k0_pay35 w v0 q k) x := rfl

/-! ## The steps -/

section Value

variable {Q K V L : ℕ → ℕ → ℝ}

/-- The first step: from no keys to 1024. -/
theorem first_state (i : grid0.Coords) {q : FVec Ideal S4096x256 .bf16} {k v : FVec Ideal S1024x256 .bf16} (hq : Is2 q Q) (hk : Is2 k K) (hv : Is2 v V) :
    State Q K V 1024 (k0_pay16 (F := Ideal) i (k0_pay6 q k) k0_pay7)
      (k0_pay19 (F := Ideal) k0_pay8 (k0_pay17 i (k0_pay6 q k) k0_pay7) (k0_pay18 i (k0_pay6 q k) k0_pay7) v) := by
  have hi : (i 1).val = 0 := by
    have h : (i 1).val < 1 := (i 1).isLt
    omega
  rw [pay19_eq]
  refine rows_first (n := 4096) (s := k0_pay15 i (k0_pay6 q k)) (fun r j => ?_) hv (fun r => ?_) (fun r t => ?_) (fun r => ?_) (fun r t => next4_eq r t)
  · rw [pay15_eq, hi]
    exact masked4_real _ _ (by decide) (by decide) hq hk r j
  · exact masked_bot
  · show FloatOps.ofBits (F := Ideal) .f32 0x00000000#32 = 0
    exact Ideal.ofBits_zero .f32
  · rw [pay16_eq]
    exact top4_eq r

/-- The second step: from 1024 keys to 2048. -/
theorem second_state {m : FVec Ideal S4096x1 .f32} {a : FVec Ideal S4096x256 .f32} (h : State Q K V 1024 m a)
    {q : FVec Ideal S3072x256 .bf16} {k v : FVec Ideal S1024x256 .bf16} (hq : Is2 q fun i t => Q (1024 + i) t)
    (hk : Is2 k fun i t => K (1024 + i) t) (hv : Is2 v fun i t => V (1024 + i) t) :
    State Q K V 2048 (k0_pay26 (F := Ideal) m (k0_pay23 0#32 0#32 m q k))
      (k0_pay27 (F := Ideal) a (lowA3 a) (k0_pay24 0#32 0#32 m q k) (k0_pay25 0#32 0#32 m q k) v) := by
  obtain ⟨L, hm, ha⟩ := h
  rw [pay27_eq]
  refine State.join (n := 3072) (k0 := 1024) rfl hm ha (rows_step (s := k0_pay20 0#32 0#32 q k) (x := lowM3 m) (a := lowA3 a) (L := L) (fun r j => ?_) hv
    (fun r j => ?_) (fun r t => ?_) (fun r => ?_) (fun r t => next3_eq r t)) (fun r j => joinM3_apply m _ r j) (fun r t => joinA3_apply a _ r t)
  · rw [pay20_eq]
    exact masked3_real _ _ (by decide) (by decide) hq hk r j
  · rw [lowM3_apply, hm]
  · rw [lowA3_apply, ha]
  · rw [pay23_eq]
    exact top3_eq r

/-- The third step: from 2048 keys to 3072. -/
theorem third_state {m : FVec Ideal S4096x1 .f32} {y : FVec Ideal S3072x1 .f32} {a : FVec Ideal S4096x256 .f32}
    (h : State Q K V 2048 (k0_pay26 (F := Ideal) m y) a)
    {q : FVec Ideal S2048x256 .bf16} {k v : FVec Ideal S1024x256 .bf16} (hq : Is2 q fun i t => Q (2048 + i) t)
    (hk : Is2 k fun i t => K (2048 + i) t) (hv : Is2 v fun i t => V (2048 + i) t) :
    State Q K V 3072 (k0_pay33 (F := Ideal) (k0_pay26 m y) (k0_pay31 0#32 0#32 m y q k))
      (k0_pay34 (F := Ideal) a (k0_pay29 m y) (lowA2 a) (k0_pay31 0#32 0#32 m y q k) (k0_pay32 0#32 0#32 m y q k) v) := by
  obtain ⟨L, hm, ha⟩ := h
  rw [pay34_eq]
  refine State.join (n := 2048) (k0 := 2048) rfl hm ha (rows_step (s := k0_pay28 0#32 0#32 q k) (x := lowM2 (k0_pay26 m y)) (a := lowA2 a) (L := L)
    (fun r j => ?_) hv (fun r j => ?_) (fun r t => ?_) (fun r => ?_) (fun r t => next2_eq r t)) (fun r j => joinM2_apply _ _ r j)
    (fun r t => joinA2_apply a _ r t)
  · rw [pay28_eq]
    exact masked2_real _ _ (by decide) (by decide) hq hk r j
  · rw [lowM2_apply, hm]
  · rw [lowA2_apply, ha]
  · rw [pay31_eq]
    exact top2_eq r

/-- The fourth step: from 3072 keys to all. -/
theorem fourth_state {m : FVec Ideal S4096x1 .f32} {a : FVec Ideal S4096x256 .f32} (h : State Q K V 3072 m a)
    {q : FVec Ideal S1024x256 .bf16} {k v : FVec Ideal S1024x256 .bf16} (hq : Is2 q fun i t => Q (3072 + i) t)
    (hk : Is2 k fun i t => K (3072 + i) t) (hv : Is2 v fun i t => V (3072 + i) t) :
    State Q K V 4096 (joinM1 m (k0_pay1 (lowM1 m) (k0_pay38 0#32 0#32 q k)))
      (k0_pay2 (F := Ideal) a (k0_pay35 0#32 0#32 q k) (lowM1 m) (lowA1 a) (k0_pay38 0#32 0#32 q k) v) := by
  obtain ⟨L, hm, ha⟩ := h
  rw [pay2_eq]
  refine State.join (n := 1024) (k0 := 3072) rfl hm ha (rows_step (s := k0_pay35 0#32 0#32 q k) (x := lowM1 m) (a := lowA1 a) (L := L)
    (fun r j => ?_) hv (fun r j => ?_) (fun r t => ?_) (fun r => ?_) (fun r t => next1_eq r t)) (fun r j => joinM1_apply _ _ r j)
    (fun r t => joinA1_apply a _ r t)
  · rw [pay35_eq]
    exact masked1_real _ _ (by decide) (by decide) hq hk r j
  · rw [lowM1_apply, hm]
  · rw [lowA1_apply, ha]
  · rw [pay1_eq]
    exact top1_eq r

/-! ## The two results -/

/-- The last step's sums, divided: the output; -/
theorem out_real {a : FVec Ideal S4096x256 .f32} {s : FVec Ideal S1024x1024 .f32} {x y : FVec Ideal S1024x1 .f32}
    {b : FVec Ideal S1024x256 .f32} {v : FVec Ideal S1024x256 .bf16} (i : Fin 4096) (t : Fin 128) :
    k0_pay4 (F := Ideal) a s x b y v (ix2 i t)
      = Ideal.div (k0_pay2 (F := Ideal) a s x b y v (ix2 i ⟨t, by omega⟩)) (k0_pay2 (F := Ideal) a s x b y v (ix2 i ⟨128 + t, by omega⟩)) := by
  unfold k0_pay4 k0_pay3
  generalize k0_pay2 (F := Ideal) a s x b y v = z
  dsimp only
  pointwise

/-- the maxima and the sums' logarithms: the rows' log-sums. -/
theorem log_real {m : FVec Ideal S4096x1 .f32} {a : FVec Ideal S4096x256 .f32} {s : FVec Ideal S1024x1024 .f32} {x y : FVec Ideal S1024x1 .f32}
    {b : FVec Ideal S1024x256 .f32} {v : FVec Ideal S1024x256 .bf16} (i : Fin 4096) (t : Fin 128) :
    k0_pay5 (F := Ideal) m a s x b y v (ix2 i t)
      = joinM1 m (k0_pay1 x y) (ix2 i 0)
        + Ideal.log (k0_pay2 (F := Ideal) a s x b y v (ix2 i ⟨128 + t, by omega⟩)) * (((Real.log 2)⁻¹ : ℝ) : EReal) := by
  have e : k0_pay5 (F := Ideal) m a s x b y v
      = addf (broadcastTo S4096x128 (joinM1 m (k0_pay1 x y)) broadcasts_S4096x1_S4096x128)
        (mulf (log (k0_pay3 a s x b y v)) (broadcast S4096x128 (Named.named κ "per_ln2" 0x3FB8AA3B#32))) := rfl
  rw [e]
  unfold k0_pay3
  generalize k0_pay2 (F := Ideal) a s x b y v = z
  generalize joinM1 m (k0_pay1 x y) = w
  dsimp only
  pointwise
  rw [per_ln2]

end Value
end Cert.Kernel3Ideal.Parts

end
-- ==== Proof.FwdBody.lean ====
/-
  The forward body: its loads, the four steps run one after the other, and what it leaves in its two results: the softmax's
  sums of the values, and the numbers whose subtraction makes the rows' powers of two sum to one.
-/
module

public import proofs.«01_k».proof.Proof.FwdRows
public import proofs.«01_k».proof.Proof.Gen.Kernel3Ideal.Frame
public import Idealize.ShloMosaic.Lib.Pipeline.Value
public import Idealize.ShloMosaic.Lib.Tactic

@[expose] public section

set_option maxRecDepth 16384

noncomputable section

namespace Cert.Kernel3Ideal.Parts

open Idealize.ShloMosaic Idealize.SL.Sem Cert.Kernel3Ideal Cert.Kernel3Ideal.Gen Cert.Reals Cert.KernelIdeal.Block Cert.Values

/-! ## The points of the grid -/

/-- Every point's second coordinate is 0, since a head's queries are one tile: -/
theorem tile_zero (i : grid0.Coords) : BitVec.ofNat 32 (i 1).val = 0#32 := by
  have h : (i 1).val < 1 := (i 1).isLt
  rw [show (i 1).val = 0 by omega]

/-- so neither loop over the keys before the tile's runs, -/
theorem trips1 : ∀ i : grid0.Coords, Scf.trips (k0_t1_loop i).lb (k0_t1_loop i).ub (k0_t1_loop i).st = 0 := by decide +kernel
theorem trips2 : ∀ i : grid0.Coords, Scf.trips (k0_t2_loop i).lb (k0_t2_loop i).ub (k0_t2_loop i).st = 0 := by decide +kernel

/-- and the blocks of the keys and the values start at row 0. -/
theorem off50 : ∀ i : grid0.Coords, k0_off5 i 0#32 = ![0, 0] := by decide +kernel
theorem off51 : ∀ i : grid0.Coords, k0_off5 i 1#32 = ![1024, 0] := by decide +kernel
theorem off52 : ∀ i : grid0.Coords, k0_off5 i 2#32 = ![2048, 0] := by decide +kernel
theorem off53 : ∀ i : grid0.Coords, k0_off5 i 3#32 = ![3072, 0] := by decide +kernel
theorem off60 : ∀ i : grid0.Coords, k0_off6 i 0#32 = ![1024, 0] := by decide +kernel
theorem off61 : ∀ i : grid0.Coords, k0_off6 i 1#32 = ![2048, 0] := by decide +kernel
theorem off62 : ∀ i : grid0.Coords, k0_off6 i 2#32 = ![3072, 0] := by decide +kernel

/-! ## Loads -/

section Loads

variable {a b n : ℕ} {f : ℕ → ℕ → ℝ}

/-- A load of the rows from `r0` on, its offsets computed. -/
theorem load_at {sig' : RefSig} {κ : Kind} {sp : Space} (arg : Memref sig' κ sp (⟨2, ![a, b]⟩ : Shape) .bf16)
    (harg : arg.IsWhole) {x : Vec Ideal (⟨2, ![a, b]⟩ : Shape) .bf16} (hx : Is2 x f) {off : Fin 2 → ℕ} (r0 : ℕ) (h : off = ![r0, 0])
    (inb : ∀ k, off k + (![n, b] : Fin 2 → ℕ) k ≤ (⟨2, ![a, b]⟩ : Shape).size k) :
    Is2 (a := n) (b := b) (View.readAt (Elt Ideal) arg.view (Rect.unit (s := ⟨2, ![a, b]⟩) off ![n, b] inb).toLoadRect (harg.unread x))
      (fun i j => f (r0 + i) j) := by
  subst h
  exact load_real arg harg hx r0 inb

/-- A load of the first rows. -/
theorem load_first {sig' : RefSig} {κ : Kind} {sp : Space} (arg : Memref sig' κ sp (⟨2, ![a, b]⟩ : Shape) .bf16)
    (harg : arg.IsWhole) {x : Vec Ideal (⟨2, ![a, b]⟩ : Shape) .bf16} (hx : Is2 x f) {off : Fin 2 → ℕ} (h : off = ![0, 0])
    (inb : ∀ k, off k + (![n, b] : Fin 2 → ℕ) k ≤ (⟨2, ![a, b]⟩ : Shape).size k) :
    Is2 (a := n) (b := b) (View.readAt (Elt Ideal) arg.view (Rect.unit (s := ⟨2, ![a, b]⟩) off ![n, b] inb).toLoadRect (harg.unread x)) f := by
  intro i j
  refine (load_at arg harg hx 0 h inb i j).trans ?_
  beta_reduce
  rw [Nat.zero_add]

end Loads

/-! ## The four steps -/

section Steps

variable (i : grid0.Coords) (q0 : FVec Ideal S4096x256 .bf16) (q1 : FVec Ideal S3072x256 .bf16) (q2 : FVec Ideal S2048x256 .bf16)
  (q3 k0 k1 k2 k3 v0 v1 v2 v3 : FVec Ideal S1024x256 .bf16)

/-- The rows' numbers and sums after the first step, -/
abbrev m1 : FVec Ideal S4096x1 .f32 := k0_pay16 (F := Ideal) i (k0_pay6 q0 k0) k0_pay7
abbrev a1 : FVec Ideal S4096x256 .f32 := k0_pay19 (F := Ideal) k0_pay8 (k0_pay17 i (k0_pay6 q0 k0) k0_pay7) (k0_pay18 i (k0_pay6 q0 k0) k0_pay7) v0

/-- the second, -/
abbrev y1 : FVec Ideal S3072x1 .f32 := k0_pay23 (F := Ideal) 0#32 0#32 (m1 i q0 k0) q1 k1
abbrev a2 : FVec Ideal S4096x256 .f32 := k0_pay27 (F := Ideal) (a1 i q0 k0 v0)
  (k0_pay22 (F := Ideal) k0_pay8 (k0_pay17 i (k0_pay6 q0 k0) k0_pay7) (k0_pay18 i (k0_pay6 q0 k0) k0_pay7) v0)
  (k0_pay24 0#32 0#32 (m1 i q0 k0) q1 k1) (k0_pay25 0#32 0#32 (m1 i q0 k0) q1 k1) v1

/-- the third, -/
abbrev m2 : FVec Ideal S4096x1 .f32 := k0_pay26 (F := Ideal) (m1 i q0 k0) (y1 i q0 q1 k0 k1)
abbrev b2 : FVec Ideal S2048x256 .f32 := k0_pay30 (F := Ideal) (a1 i q0 k0 v0)
  (k0_pay22 (F := Ideal) k0_pay8 (k0_pay17 i (k0_pay6 q0 k0) k0_pay7) (k0_pay18 i (k0_pay6 q0 k0) k0_pay7) v0)
  (k0_pay24 0#32 0#32 (m1 i q0 k0) q1 k1) (k0_pay25 0#32 0#32 (m1 i q0 k0) q1 k1) v1
abbrev x2 : FVec Ideal S2048x1 .f32 := k0_pay29 (F := Ideal) (m1 i q0 k0) (y1 i q0 q1 k0 k1)
abbrev y2 : FVec Ideal S2048x1 .f32 := k0_pay31 (F := Ideal) 0#32 0#32 (m1 i q0 k0) (y1 i q0 q1 k0 k1) q2 k2
abbrev p2 : FVec Ideal S2048x1024 .f32 := k0_pay32 (F := Ideal) 0#32 0#32 (m1 i q0 k0) (y1 i q0 q1 k0 k1) q2 k2
abbrev m3 : FVec Ideal S4096x1 .f32 := k0_pay33 (F := Ideal) (m2 i q0 q1 k0 k1) (y2 i q0 q1 q2 k0 k1 k2)
abbrev a3 : FVec Ideal S4096x256 .f32 := k0_pay34 (F := Ideal) (a2 i q0 q1 k0 k1 v0 v1) (x2 i q0 q1 k0 k1) (b2 i q0 q1 k0 k1 v0 v1)
  (y2 i q0 q1 q2 k0 k1 k2) (p2 i q0 q1 q2 k0 k1 k2) v2

/-- and the fourth step's parts. -/
abbrev s3 : FVec Ideal S1024x1024 .f32 := k0_pay35 (F := Ideal) 0#32 0#32 q3 k3
abbrev x3 : FVec Ideal S1024x1 .f32 := k0_pay36 (F := Ideal) (m2 i q0 q1 k0 k1) (y2 i q0 q1 q2 k0 k1 k2)
abbrev b3 : FVec Ideal S1024x256 .f32 := k0_pay37 (F := Ideal) (a2 i q0 q1 k0 k1 v0 v1) (x2 i q0 q1 k0 k1) (b2 i q0 q1 k0 k1 v0 v1)
  (y2 i q0 q1 q2 k0 k1 k2) (p2 i q0 q1 q2 k0 k1 k2) v2
abbrev c3 : FVec Ideal S1024x1 .f32 := k0_pay38 (F := Ideal) 0#32 0#32 q3 k3

variable {i q0 q1 q2 q3 k0 k1 k2 k3 v0 v1 v2 v3} {Q K V M : ℕ → ℕ → ℝ}
  (hq0 : Is2 q0 Q) (hq1 : Is2 q1 fun i t => Q (1024 + i) t) (hq2 : Is2 q2 fun i t => Q (2048 + i) t) (hq3 : Is2 q3 fun i t => Q (3072 + i) t)
  (hk0 : Is2 k0 K) (hk1 : Is2 k1 fun i t => K (1024 + i) t) (hk2 : Is2 k2 fun i t => K (2048 + i) t) (hk3 : Is2 k3 fun i t => K (3072 + i) t)
  (hv0 : Is2 v0 V) (hv1 : Is2 v1 fun i t => V (1024 + i) t) (hv2 : Is2 v2 fun i t => V (2048 + i) t) (hv3 : Is2 v3 fun i t => V (3072 + i) t)

include hq0 hq1 hq2 hq3 hk0 hk1 hk2 hk3 hv0 hv1 hv2 hv3 in
/-- After the four steps every row has seen all its keys. -/
theorem last_state : State Q K V 4096
    (joinM1 (m3 i q0 q1 q2 k0 k1 k2) (k0_pay1 (x3 i q0 q1 q2 k0 k1 k2) (c3 q3 k3)))
    (k0_pay2 (F := Ideal) (a3 i q0 q1 q2 k0 k1 k2 v0 v1 v2) (s3 q3 k3) (x3 i q0 q1 q2 k0 k1 k2) (b3 i q0 q1 q2 k0 k1 k2 v0 v1 v2) (c3 q3 k3) v3) :=
  fourth_state (third_state (second_state (first_state i hq0 hk0 hv0) hq1 hk1 hv1) hq2 hk2 hv2) hq3 hk3 hv3

/-- A row's sum, by the numbers `M` that make its probabilities sum to one. -/
theorem sum_shift (L : ℕ → ℕ → ℝ) (f : ℕ → ℝ) (r : ℕ) :
    ∑ c ∈ Finset.range 4096, prob Q K L r c * f c = Real.rpow 2 (M r 0 - L r 0) * ∑ c ∈ Finset.range 4096, prob Q K M r c * f c := by
  rw [Finset.mul_sum]
  refine Finset.sum_congr rfl fun c _ => ?_
  rw [← mul_assoc, prob_shift]

variable (hV : ∀ c t, t < 128 → V c (128 + t) = 1) (hM : ∀ r < 4096, ∑ c ∈ Finset.range 4096, prob Q K M r c = 1)

include hV hM in
/-- The last column's sums. -/
theorem sum_last (L : ℕ → ℕ → ℝ) (r t : ℕ) (hr : r < 4096) (ht : t < 128) :
    ∑ c ∈ Finset.range 4096, prob Q K L r c * V c (128 + t) = Real.rpow 2 (M r 0 - L r 0) := by
  rw [sum_shift (M := M) L (fun c => V c (128 + t)) r]
  simp only [hV _ _ ht, mul_one]
  rw [hM r hr, mul_one]

include hq0 hq1 hq2 hq3 hk0 hk1 hk2 hk3 hv0 hv1 hv2 hv3 hV hM in
/-- The output: the probabilities times the values. -/
theorem out_value : Is2 (k0_pay4 (F := Ideal) (a3 i q0 q1 q2 k0 k1 k2 v0 v1 v2) (s3 q3 k3) (x3 i q0 q1 q2 k0 k1 k2)
      (b3 i q0 q1 q2 k0 k1 k2 v0 v1 v2) (c3 q3 k3) v3) fun r t => ∑ c ∈ Finset.range 4096, prob Q K M r c * V c t := by
  obtain ⟨L, -, ha⟩ := last_state (i := i) hq0 hq1 hq2 hq3 hk0 hk1 hk2 hk3 hv0 hv1 hv2 hv3
  intro r t
  have hpos : Real.rpow 2 (M r 0 - L r 0) ≠ 0 := (Real.rpow_pos_of_pos two_pos _).ne'
  rw [out_real, ha, ha]
  beta_reduce
  rw [sum_last hV hM L r t r.isLt t.isLt, div_real _ hpos, sum_shift (M := M) L (fun c => V c t) r, mul_div_cancel_left₀ _ hpos]

include hq0 hq1 hq2 hq3 hk0 hk1 hk2 hk3 hv0 hv1 hv2 hv3 hV hM in
/-- The logarithms: the rows' numbers. -/
theorem log_value : Is2 (k0_pay5 (F := Ideal) (m3 i q0 q1 q2 k0 k1 k2) (a3 i q0 q1 q2 k0 k1 k2 v0 v1 v2) (s3 q3 k3) (x3 i q0 q1 q2 k0 k1 k2)
      (b3 i q0 q1 q2 k0 k1 k2 v0 v1 v2) (c3 q3 k3) v3) fun r _ => M r 0 := by
  obtain ⟨L, hm, ha⟩ := last_state (i := i) hq0 hq1 hq2 hq3 hk0 hk1 hk2 hk3 hv0 hv1 hv2 hv3
  intro r t
  have hpos : 0 < Real.rpow 2 (M r 0 - L r 0) := Real.rpow_pos_of_pos two_pos _
  rw [log_real, hm, ha]
  beta_reduce
  rw [sum_last hV hM L r t r.isLt t.isLt, Values.log_real hpos, ← EReal.coe_mul, ← EReal.coe_add]
  refine congrArg _ ?_
  have h2 : Real.log 2 ≠ 0 := (Real.log_pos one_lt_two).ne'
  rw [show Real.log (Real.rpow 2 (M r 0 - L r 0)) = (M r 0 - L r 0) * Real.log 2 from Real.log_rpow two_pos _, mul_assoc, mul_inv_cancel₀ h2]
  show L r 0 + (M r 0 - L r 0) * 1 = M r 0
  ring

end Steps

/-! ## What the body leaves -/

section Body

variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x128 .bf16) (harg5 : arg5.IsWhole) (arg6 : Memref sig .tc .vmem S4096x128 .f32) (harg6 : arg6.IsWhole)
  {x0 x1 x2 : Vec Ideal S4096x256 .bf16} {Q K V M : ℕ → ℕ → ℝ} (hq : Is2 x0 Q) (hk : Is2 x1 K) (hv : Is2 x2 V)
  (hV : ∀ c t, t < 128 → V c (128 + t) = 1) (hM : ∀ r < 4096, ∑ c ∈ Finset.range 4096, prob Q K M r c = 1)

/-- The words the body makes of a point's second coordinate are 0. -/
theorem word_zero : Scalar.muli (0#32) 4#32 = 0#32 := by decide

include hq hk hv hV hM in
/-- The piece the body stores as the output. -/
theorem o_pieces : ∀ p ∈ (kernelRun0_A (F := Ideal) c i arg2 harg2 arg3 harg3 arg4 harg4 arg5 harg5 arg6 harg6 x0 x1 x2).1,
    ∀ x, p.2 x = (fun y : S4096x128.Idx => ((∑ c ∈ Finset.range 4096, prob Q K M (y 0) c * V c (y 1) : ℝ) : EReal)) (p.1.emb x) := by
  unfold kernelRun0_A
  dsimp only
  rw [List.forall_mem_cons]
  refine ⟨?_, by simp⟩
  refine piece_real (f := fun r t => ∑ c ∈ Finset.range 4096, prob Q K M r c * V c t) 0 (by decide) ?_
  simp only [Nat.zero_add]
  sl_unfold_words
  simp only [trips1, trips2, st_k0_t1_zero, st_k0_t2_zero, tile_zero, word_zero]
  exact out_value (load_first arg2 harg2 hq rfl _) (load_at arg2 harg2 hq 1024 rfl _) (load_at arg2 harg2 hq 2048 rfl _) (load_at arg2 harg2 hq 3072 rfl _)
    (load_first arg3 harg3 hk rfl _) (load_at arg3 harg3 hk 1024 (off60 i) _) (load_at arg3 harg3 hk 2048 (off61 i) _) (load_at arg3 harg3 hk 3072 (off62 i) _)
    (load_first arg4 harg4 hv (off50 i) _) (load_at arg4 harg4 hv 1024 (off51 i) _) (load_at arg4 harg4 hv 2048 (off52 i) _) (load_at arg4 harg4 hv 3072 (off53 i) _)
    hV hM

include hq hk hv hV hM in
/-- The piece the body stores as the logarithms. -/
theorem lse_pieces : ∀ p ∈ (kernelRun0_A (F := Ideal) c i arg2 harg2 arg3 harg3 arg4 harg4 arg5 harg5 arg6 harg6 x0 x1 x2).2.1,
    ∀ x, p.2 x = (fun y : S4096x128.Idx => ((M (y 0) 0 : ℝ) : EReal)) (p.1.emb x) := by
  unfold kernelRun0_A
  dsimp only
  rw [List.forall_mem_cons]
  refine ⟨?_, by simp⟩
  refine piece_real (f := fun r _ => M r 0) 0 (by decide) ?_
  simp only [Nat.zero_add]
  sl_unfold_words
  simp only [trips1, trips2, st_k0_t1_zero, st_k0_t2_zero, tile_zero, word_zero]
  exact log_value (load_first arg2 harg2 hq rfl _) (load_at arg2 harg2 hq 1024 rfl _) (load_at arg2 harg2 hq 2048 rfl _) (load_at arg2 harg2 hq 3072 rfl _)
    (load_first arg3 harg3 hk rfl _) (load_at arg3 harg3 hk 1024 (off60 i) _) (load_at arg3 harg3 hk 2048 (off61 i) _) (load_at arg3 harg3 hk 3072 (off62 i) _)
    (load_first arg4 harg4 hv (off50 i) _) (load_at arg4 harg4 hv 1024 (off51 i) _) (load_at arg4 harg4 hv 2048 (off52 i) _) (load_at arg4 harg4 hv 3072 (off53 i) _)
    hV hM

include hq hk hv hV hM in
/-- A head's output: its probabilities times its values. -/
theorem out_o (y : S4096x128.Idx) :
    out0_A_3 (F := Ideal) c i arg2 harg2 arg3 harg3 arg4 harg4 arg5 harg5 arg6 harg6 x0 x1 x2 y
      = ((∑ c ∈ Finset.range 4096, prob Q K M (y 0) c * V c (y 1) : ℝ) : EReal) := by
  unfold out0_A_3
  rw [View.read_writes_eq_canon _ _ _ (cover0_A_3 c i arg2 harg2 arg3 harg3 arg4 harg4 arg5 harg5 arg6 harg6 x0 x1 x2)]
  exact View.canon_apply_of_pieces (fun y : S4096x128.Idx => ((∑ c ∈ Finset.range 4096, prob Q K M (y 0) c * V c (y 1) : ℝ) : EReal)) _
    (o_pieces c i arg2 harg2 arg3 harg3 arg4 harg4 arg5 harg5 arg6 harg6 hq hk hv hV hM) y
    (cover0_A_3 c i arg2 harg2 arg3 harg3 arg4 harg4 arg5 harg5 arg6 harg6 x0 x1 x2 y)

include hq hk hv hV hM in
/-- A head's logarithms: its rows' numbers. -/
theorem out_lse (y : S4096x128.Idx) :
    out0_A_4 (F := Ideal) c i arg2 harg2 arg3 harg3 arg4 harg4 arg5 harg5 arg6 harg6 x0 x1 x2 y = ((M (y 0) 0 : ℝ) : EReal) := by
  unfold out0_A_4
  rw [View.read_writes_eq_canon _ _ _ (cover0_A_4 c i arg2 harg2 arg3 harg3 arg4 harg4 arg5 harg5 arg6 harg6 x0 x1 x2)]
  exact View.canon_apply_of_pieces (fun y : S4096x128.Idx => ((M (y 0) 0 : ℝ) : EReal)) _
    (lse_pieces c i arg2 harg2 arg3 harg3 arg4 harg4 arg5 harg5 arg6 harg6 hq hk hv hV hM) y
    (cover0_A_4 c i arg2 harg2 arg3 harg3 arg4 harg4 arg5 harg5 arg6 harg6 x0 x1 x2 y)

end Body

end Cert.Kernel3Ideal.Parts

end
-- ==== Proof.FwdArrays.lean ====
/-
  The forward call on the whole arrays: the operands hold the heads side by side, the body runs once for each head on its
  columns, and the results hold each head's output and its rows' logarithms in its 128 columns.
-/
module

public import proofs.«01_k».proof.Proof.FwdBody
public import proofs.«01_k».proof.Proof.Arrays
public import proofs.«01_k».proof.Proof.Gen.Kernel3Ideal.Value

@[expose] public section

set_option maxRecDepth 16384

noncomputable section

namespace Cert.Kernel3Ideal.Arrays

open Idealize.ShloMosaic Idealize.ShloMosaic.TcCoe Idealize.SL.Sem Cert.Kernel3Ideal Cert.Kernel3Ideal.Gen Cert.Kernel3Ideal.Parts Cert.Reals
open Cert.KernelIdeal.Block (prob)
open Cert.KernelIdeal.Arrays (beside is2_at beside_block)
open Idealize.ShloMosaic.Pipeline (Dat)

variable (m : (ℓ : Loc nD τ sig) → Buf (Elt Ideal) ℓ) (c : Dev nD)

/-- The block of every window at point `t` starts at row 0 and at head `t`'s columns. -/
theorem index_eq : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) := by
  decide +kernel

/-- The queries' block at point `t` is head `t`'s matrix. -/
theorem block0 {f : ℕ → ℕ → ℕ → ℝ} (h : Is2 (V m c (Pipeline.arrRef spec0 0) : S4096x2048.Idx → EReal) (beside 256 f)) (t : Fin cfg0.N) :
    Is2 (iblk m c 0 t : S4096x256.Idx → EReal) (f t) := by
  intro r s
  unfold iblk
  rw [View.read_apply]
  exact (is2_at h _).trans (congrArg _ (beside_block f _ _ _ _ _ _ (index_eq t).1.1 (index_eq t).1.2 s.isLt))

/-- The keys' block at point `t` is head `t`'s matrix. -/
theorem block1 {f : ℕ → ℕ → ℕ → ℝ} (h : Is2 (V m c (Pipeline.arrRef spec0 1) : S4096x2048.Idx → EReal) (beside 256 f)) (t : Fin cfg0.N) :
    Is2 (iblk m c 1 t : S4096x256.Idx → EReal) (f t) := by
  intro r s
  unfold iblk
  rw [View.read_apply]
  exact (is2_at h _).trans (congrArg _ (beside_block f _ _ _ _ _ _ (index_eq t).2.1.1 (index_eq t).2.1.2 s.isLt))

/-- The values' block at point `t` is head `t`'s matrix. -/
theorem block2 {f : ℕ → ℕ → ℕ → ℝ} (h : Is2 (V m c (Pipeline.arrRef spec0 2) : S4096x2048.Idx → EReal) (beside 256 f)) (t : Fin cfg0.N) :
    Is2 (iblk m c 2 t : S4096x256.Idx → EReal) (f t) := by
  intro r s
  unfold iblk
  rw [View.read_apply]
  exact (is2_at h _).trans (congrArg _ (beside_block f _ _ _ _ _ _ (index_eq t).2.2.1.1 (index_eq t).2.2.1.2 s.isLt))

/-- Every head's output, in real numbers: its probabilities times its values. -/
def heado (Q K U M : ℕ → ℕ → ℕ → ℝ) (h r s : ℕ) : ℝ := ∑ k ∈ Finset.range 4096, prob (Q h) (K h) (M h) r k * U h k s

variable {Q K U M : ℕ → ℕ → ℕ → ℝ}
  (hq : Is2 (V m c (Pipeline.arrRef spec0 0) : S4096x2048.Idx → EReal) (beside 256 Q))
  (hk : Is2 (V m c (Pipeline.arrRef spec0 1) : S4096x2048.Idx → EReal) (beside 256 K))
  (hv : Is2 (V m c (Pipeline.arrRef spec0 2) : S4096x2048.Idx → EReal) (beside 256 U))
  (hU : ∀ h k t, t < 128 → U h k (128 + t) = 1)
  (hM : ∀ h r, ∑ k ∈ Finset.range 4096, prob (Q h) (K h) (M h) r k = 1)

include hq hk hv hU hM in
/-- The output after the run: each head's in its columns. -/
theorem final_o : ((dats m 0 c).arrAt 3 cfg0.N : S4096x1024.Idx → EReal)
    = fun i => ((beside 128 (heado Q K U M) (i 0) (i 1) : ℝ) : EReal) :=
    (dats m 0 c).arrAt_eq_of_cover 3 _ (fun t _ => by
      rw [Value.flushed3_A]
      funext y
      rw [View.read_apply]
      refine (out_o c _ _ _ _ _ _ _ _ _ _ _ (block0 m c hq t) (block1 m c hk t) (block2 m c hv t) (hU t) (fun r _ => hM t r) y).trans ?_
      exact (congrArg (fun r : ℝ => (r : EReal)) (beside_block (w := 128) (heado Q K U M) (win0_3.index t 0) (win0_3.index t 1) t (y 0).val (y 1).val 4096 (index_eq t).2.2.2.1.1 (index_eq t).2.2.2.1.2 (y 1).isLt)).symm)
    fun i => by
      obtain ⟨t, ht'⟩ : ∃ t : Fin grid0.N, t.val = (i 1).val / 128 :=
        ⟨⟨(i 1).val / 128, by have : (i 1).val < 1024 := (i 1).isLt; rw [N_0]; omega⟩, rfl⟩
      refine ⟨t, Gen.flush0_3 t, ?_⟩
      have es : ((cfg0.win 3).blk t).view.set = ((View.whole main_v22_0).slice (win0_3.rect t)).set := rfl
      rw [es, View.set_slice_whole, Rect.mem_set_unit]
      intro a
      have h0 : (i 0 : ℕ) < 4096 := (i 0).isLt
      have ht := (index_eq t).2.2.2.1
      match a with
      | ⟨0, _⟩ =>
        show win0_3.index t 0 * 4096 ≤ (i 0 : ℕ) ∧ (i 0 : ℕ) < win0_3.index t 0 * 4096 + 4096
        rw [ht.1]; omega
      | ⟨1, _⟩ =>
        show win0_3.index t 1 * 128 ≤ (i 1 : ℕ) ∧ (i 1 : ℕ) < win0_3.index t 1 * 128 + 128
        rw [ht.2, ht']; omega

include hq hk hv hU hM in
/-- The logarithms after the run: each head's rows' numbers in its columns. -/
theorem final_lse : ((dats m 0 c).arrAt 4 cfg0.N : S4096x1024.Idx → EReal)
    = fun i => ((beside 128 (fun h r _ => M h r 0) (i 0) (i 1) : ℝ) : EReal) :=
    (dats m 0 c).arrAt_eq_of_cover 4 _ (fun t _ => by
      rw [Value.flushed4_A]
      funext y
      rw [View.read_apply]
      refine (out_lse c _ _ _ _ _ _ _ _ _ _ _ (block0 m c hq t) (block1 m c hk t) (block2 m c hv t) (hU t) (fun r _ => hM t r) y).trans ?_
      exact (congrArg (fun r : ℝ => (r : EReal)) (beside_block (w := 128) (fun h r _ => M h r 0) (win0_4.index t 0) (win0_4.index t 1) t (y 0).val (y 1).val 4096 (index_eq t).2.2.2.2.1 (index_eq t).2.2.2.2.2 (y 1).isLt)).symm)
    fun i => by
      obtain ⟨t, ht'⟩ : ∃ t : Fin grid0.N, t.val = (i 1).val / 128 :=
        ⟨⟨(i 1).val / 128, by have : (i 1).val < 1024 := (i 1).isLt; rw [N_0]; omega⟩, rfl⟩
      refine ⟨t, Gen.flush0_4 t, ?_⟩
      have es : ((cfg0.win 4).blk t).view.set = ((View.whole main_v22_1).slice (win0_4.rect t)).set := rfl
      rw [es, View.set_slice_whole, Rect.mem_set_unit]
      intro a
      have h0 : (i 0 : ℕ) < 4096 := (i 0).isLt
      have ht := (index_eq t).2.2.2.2
      match a with
      | ⟨0, _⟩ =>
        show win0_4.index t 0 * 4096 ≤ (i 0 : ℕ) ∧ (i 0 : ℕ) < win0_4.index t 0 * 4096 + 4096
        rw [ht.1]; omega
      | ⟨1, _⟩ =>
        show win0_4.index t 1 * 128 ≤ (i 1 : ℕ) ∧ (i 1 : ℕ) < win0_4.index t 1 * 128 + 128
        rw [ht.2, ht']; omega

end Cert.Kernel3Ideal.Arrays

end
-- ==== Proof.FwdAgree.lean ====
/-
  The forward call's two arrays are the reference's two results, where the arguments hold real numbers: the host lines
  before the call lay out its operands, the reference's lines are its softmax's sums of the values and the logarithms of
  its rows' sums of exponentials, and both are the same real numbers.
-/
module

public import proofs.«01_k».proof.Proof.FwdArrays
public import proofs.«01_k».proof.Proof.Agree
public import proofs.«01_k».proof.Proof.Finite
public import proofs.«01_k».proof.Proof.Gen.Reference3Ideal.Run

@[expose] public section

set_option maxRecDepth 16384

noncomputable section

namespace Cert.Fwd

open Idealize.ShloMosaic Idealize.ShloMosaic.TcCoe Idealize.SL.Sem Cert.KernelIdeal.Lines Cert.ReferenceIdeal.Lines
open Cert.KernelIdeal.Arrays (beside)
open Cert.KernelIdeal.Block (prob)
open Cert.Reals Cert.Values Cert.Equation Cert.Agree
open Finset (range)

/-! ## The operands -/

section operands

open Cert.Kernel3Ideal Cert.Kernel3Ideal.Gen

variable (m : (ℓ : Loc nD τ sig) → Buf (Elt Ideal) ℓ) (c : Dev nD)

abbrev a0 : Head128 := m ((c.tc : Thread nD τ).loc main_arg0)
abbrev a1 : Head64 := m ((c.tc : Thread nD τ).loc main_arg1)
abbrev a2 : Head128 := m ((c.tc : Thread nD τ).loc main_arg2)
abbrev a3 : FVec Ideal S4096x64 .f32 := m ((c.tc : Thread nD τ).loc main_arg3)
abbrev a4 : Head128 := m ((c.tc : Thread nD τ).loc main_arg4)

/-- The queries. -/
theorem operand0 : (V m c (Pipeline.arrRef spec0 0) : FVec Ideal S4096x2048 .bf16) = queries (a0 m c) (a1 m c) := by
  show V m c main_v12 = _
  unfold V
  simp only [hostOps0]
  after_reads_simp
  rfl

/-- The keys. -/
theorem operand1 : (V m c (Pipeline.arrRef spec0 1) : FVec Ideal S4096x2048 .bf16) = keys (a2 m c) (a3 m c) := by
  show V m c main_v16 = _
  unfold V
  simp only [hostOps0]
  after_reads_simp
  rfl

/-- The values. -/
theorem operand2 : (V m c (Pipeline.arrRef spec0 2) : FVec Ideal S4096x2048 .bf16) = values (a4 m c) := by
  show V m c main_v21 = _
  unfold V
  simp only [hostOps0]
  after_reads_simp
  rfl

end operands

/-! ## The reference's lines -/

/-- The masked scores. -/
def seen (qn : Head128) (qr : Head64) (kn : Head128) (kr : FVec Ideal Cert.KernelIdeal.S4096x64 .f32) : Scores :=
  masked (Cert.ReferenceIdeal.Lines.scores (join qn qr) (join kn (sharedKeys kr)))

/-- The output: the softmax times the values, the heads side by side. -/
def refOut (x : Scores) (v : Head128) : FVec Ideal Cert.KernelIdeal.S4096x1024 .bf16 :=
  wide128 (output (expo x (Cert.ReferenceIdeal.Lines.top x)) (total (expo x (Cert.ReferenceIdeal.Lines.top x))) v)

/-- The binary logarithms of the rows' sums of exponentials. -/
def logSums (x : Scores) : Rows :=
  Host.divf (Host.log (total (Host.exp x))) (broadcastInDim Cert.KernelIdeal.S8x4096x1 ![] Cert.KernelIdeal.Facts₀.bcast_S_S8x4096x1 ln2)

section results

open Cert.Reference3Ideal Cert.Reference3Ideal.Gen

variable (m : (ℓ : Loc nD τ sig) → Buf (Elt Ideal) ℓ) (c : Dev nD)

/-- The reference's masked scores. -/
abbrev refSeen : Scores := seen (m ((c.tc : Thread nD τ).loc main_arg0)) (m ((c.tc : Thread nD τ).loc main_arg1))
  (m ((c.tc : Thread nD τ).loc main_arg2)) (m ((c.tc : Thread nD τ).loc main_arg3))

/-- The reference's first result. -/
theorem result0 : (Value.res_main_v52 (F := Ideal) m c : FVec Ideal S4096x1024 .bf16)
    = refOut (refSeen m c) (m ((c.tc : Thread nD τ).loc main_arg4)) := by
  unfold Value.res_main_v52
  rfl

variable (ρ : Dev nD → PrngReg)

/-- The reference ends with its two results, and its arguments as they were. -/
theorem reference_run : θ_run (defs (F := Ideal)) (onTc (τ := τ) (main (F := Ideal))) ⟨m, fun _ => 0, ρ⟩ fun r => ∀ c : Dev nD,
    r.2.mem ((c.tc : Thread nD τ).loc main_v52) = refOut (refSeen m c) (m ((c.tc : Thread nD τ).loc main_arg4))
    ∧ r.2.mem ((c.tc : Thread nD τ).loc main_v25) = logsWide (logSums (refSeen m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (result0 m c), (h c).2.1, (h c).2.2⟩) (Value.run m ρ)

end results

/-! ## In real numbers -/

section reals

variable {qn kn v : Head128} {qr : Head64} {kr : FVec Ideal Cert.KernelIdeal.S4096x64 .f32} {x : Scores}
  {Qn Kn U Qr f : ℕ → ℕ → ℕ → ℝ} {Kr T : ℕ → ℕ → ℝ}

/-- The exponentials of the masked scores. -/
theorem exp_real (hx : Is3 x f) : Is3 (Host.exp (F := Ideal) (masked x)) fun i j k => if k ≤ j then Real.exp (f i j k) else 0 := by
  intro i j k
  pointwise
  rw [masked_real hx]
  split
  · exact exp_coe _
  · rfl

/-- The rows' logarithms, from the numbers `T`. -/
theorem log_sum (h r : ℕ) :
    Real.log (∑ c ∈ range 4096, if c ≤ r then Real.exp (score Qn Qr Kn Kr h r c) else 0)
      = T h r + Real.log (Equation.sum Qn Qr Kn Kr T h r) := by
  rw [← Real.log_exp (T h r), ← Real.log_mul (Real.exp_pos _).ne' (sum_pos Qn Qr Kn Kr T h r).ne']
  refine congrArg _ ?_
  unfold Equation.sum
  rw [Finset.mul_sum]
  refine Finset.sum_congr rfl fun c _ => ?_
  unfold expon
  split
  · rw [← Real.exp_add]
    refine congrArg _ ?_
    ring
  · rw [mul_zero]

/-- They are the sums' logarithms over the logarithm of two. -/
theorem logSums_real (hx : Is3 x (score Qn Qr Kn Kr)) : Is3 (logSums (masked x)) (fun i j _ => opL Qn Qr Kn Kr T i j 0) := by
  have ht := total_real (exp_real hx)
  intro i j k
  unfold logSums ln2
  generalize total (Host.exp (F := Ideal) (masked x)) = t at ht
  pointwise
  have hp : 0 < ∑ c ∈ range 4096, if c ≤ j.val then Real.exp (score Qn Qr Kn Kr i j c) else 0 := by
    refine Finset.sum_pos' (fun c _ => ?_) ⟨0, Finset.mem_range.mpr (by norm_num), ?_⟩
    · split
      · exact (Real.exp_pos _).le
      · exact le_rfl
    · rw [if_pos (Nat.zero_le _)]
      exact Real.exp_pos _
  rw [ht i j k, Values.log_real hp, log_2, div_real _ lg_pos.ne', log_sum (T := T)]
  rfl

/-- The reference's two results, for some numbers `T` as the rows' greatest scores. -/
theorem ref_real (hqn : Is3 qn Qn) (hqr : Is3 qr Qr) (hkn : Is3 kn Kn) (hkr : Is2 kr Kr) (hv : Is3 v U) :
    ∃ T : ℕ → ℕ → ℝ, Is2 (refOut (seen qn qr kn kr) v) (beside 128 (out Qn Qr Kn U Kr T))
      ∧ Is2 (logsWide (logSums (seen qn qr kn kr))) (beside 128 fun i j _ => opL Qn Qr Kn Kr T i j 0) := by
  have hx := ref_scores_real hqn hqr hkn hkr
  obtain ⟨T, hT⟩ := exists_greatest hx
  have he := expo_real hx (column_real hT)
  refine ⟨T, ?_, logsWide_real (logSums_real hx)⟩
  unfold refOut seen
  rw [top_eq]
  exact wide128_real (output_real he (total_real he) (fun i j => (sum_pos Qn Qr Kn Kr T i j).ne') hv)

/-- The probabilities sum to one. -/
theorem prob_sum (h r : ℕ) : ∑ c ∈ range 4096, prob (opQ Qn Qr h) (opK Kn Kr h) (opL Qn Qr Kn Kr T h) r c = 1 := by
  simp only [prob_eq]
  unfold soft
  rw [← Finset.sum_div]
  exact div_self (sum_pos Qn Qr Kn Kr T h r).ne'

/-- Ones stand behind the values. -/
theorem ones (h c t : ℕ) : opV U h c (128 + t) = 1 := by
  unfold opV two
  rw [if_neg (by omega)]

/-- The call's output is the reference's. -/
theorem heado_eq (h r s : ℕ) (hs : s < 128) :
    Cert.Kernel3Ideal.Arrays.heado (opQ Qn Qr) (opK Kn Kr) (opV U) (opL Qn Qr Kn Kr T) h r s = out Qn Qr Kn U Kr T h r s := by
  unfold Cert.Kernel3Ideal.Arrays.heado out
  refine Finset.sum_congr rfl fun c _ => ?_
  rw [prob_eq]
  unfold soft opV two
  rw [if_pos hs]

end reals

/-! ## The claim -/

section claim

open Cert.Kernel3Ideal Cert.Kernel3Ideal.Gen

instance : Subsingleton Cert.Pre_finite_fwd.S_.Idx := ⟨fun a b => funext fun d => d.elim0⟩

/-- What the predicate says of the five arrays. -/
theorem of_fn [Cert.Pre_finite_fwd.Facts] (a0 : FVec Ideal Pre_finite_fwd.S8x4096x128 .f32) (a1 : FVec Ideal Pre_finite_fwd.S8x4096x64 .f32)
    (a2 : FVec Ideal Pre_finite_fwd.S8x4096x128 .f32) (a3 : FVec Ideal Pre_finite_fwd.S4096x64 .f32) (a4 : FVec Ideal Pre_finite_fwd.S8x4096x128 .f32)
    (h : Cert.Pre_finite_fwd.fn (F := Ideal) a0 a1 a2 a3 a4 = fun _ => 1#1) :
    (∃ f, Is3 a0 f) ∧ (∃ f, Is3 a1 f) ∧ (∃ f, Is3 a2 f) ∧ (∃ f, Is2 a3 f) ∧ ∃ f, Is3 a4 f := by
  have e := congrFun h (fun d => d.elim0)
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨Cert.Finite.exists_is3 a0 (Cert.Finite.real_of_all a0 _ _ _ _ _ h0), Cert.Finite.exists_is3 a1 (Cert.Finite.real_of_all a1 _ _ _ _ _ h1),
    Cert.Finite.exists_is3 a2 (Cert.Finite.real_of_all a2 _ _ _ _ _ h2), Cert.Finite.exists_is2 a3 (Cert.Finite.real_of_all a3 _ _ _ _ _ h3),
    Cert.Finite.exists_is3 a4 (Cert.Finite.real_of_all a4 _ _ _ _ _ h4)⟩

/-- The two arrays the call writes are the reference's results of the same arguments. -/
theorem agree [Cert.Pre_finite_fwd.Facts] (m : (ℓ : Loc nD τ sig) → Buf (Elt Ideal) ℓ) (c : Dev nD)
    (h : Cert.Pre_finite_fwd.fn (F := Ideal) (a0 m c) (a1 m c) (a2 m c) (a3 m c) (a4 m c) = fun _ => 1#1) :
    refOut (seen (a0 m c) (a1 m c) (a2 m c) (a3 m c)) (a4 m c) = (dats m 0 c).arrAt 3 cfg0.N
      ∧ logsWide (logSums (seen (a0 m c) (a1 m c) (a2 m c) (a3 m c))) = (dats m 0 c).arrAt 4 cfg0.N := by
  obtain ⟨⟨Qn, h0⟩, ⟨Qr, h1⟩, ⟨Kn, h2⟩, ⟨Kr, h3⟩, ⟨U, h4⟩⟩ := of_fn _ _ _ _ _ h
  obtain ⟨T, ho, hl⟩ := ref_real h0 h1 h2 h3 h4
  have hq : Is2 (V m c (Pipeline.arrRef spec0 0) : S4096x2048.Idx → EReal) (beside 256 (opQ Qn Qr)) := (operand0 m c).symm ▸ queries_real h0 h1
  have hk : Is2 (V m c (Pipeline.arrRef spec0 1) : S4096x2048.Idx → EReal) (beside 256 (opK Kn Kr)) := (operand1 m c).symm ▸ keys_real h2 h3
  have hv : Is2 (V m c (Pipeline.arrRef spec0 2) : S4096x2048.Idx → EReal) (beside 256 (opV U)) := (operand2 m c).symm ▸ values_real h4
  have hM := fun h r => prob_sum (Qn := Qn) (Qr := Qr) (Kn := Kn) (Kr := Kr) (T := T) h r
  have hU := fun h k t (_ : t < 128) => ones (U := U) h k t
  refine ⟨?_, ?_⟩
  · refine ((Cert.Kernel3Ideal.Arrays.final_o m c hq hk hv hU hM).trans ?_).symm
    exact beside_eq (by norm_num) ho fun h r s hs => heado_eq h r s hs
  · refine ((Cert.Kernel3Ideal.Arrays.final_lse m c hq hk hv hU hM).trans ?_).symm
    exact beside_eq (by norm_num) hl fun _ _ _ _ => rfl

end claim

end Cert.Fwd

end
-- ==== Proof.ProjRun.lean ====
/-
  The run of the calls of the projections: every result is what the chain of the host lines and the calls leaves in its buffer.
-/
module

public import proofs.«01_k».proof.Proof.Gen.Kernel4Ideal.Frame

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution ends, with each result as the chain of the boundaries'
contents has it, the arguments unchanged and every counter at zero. -/
theorem run : θ_run defs (onTc (τ := τ) (main (F := F))) ⟨m, fun _ => 0, ρ⟩ (fun r => (∀ c : Dev nD,
      r.2.mem ((c.tc : Thread nD τ).loc main_v29) = W9 m ρ c (Proc.devRef .tc main_v29)
      ∧ r.2.mem ((c.tc : Thread nD τ).loc main_v30) = W9 m ρ c (Proc.devRef .tc main_v30)
      ∧ r.2.mem ((c.tc : Thread nD τ).loc main_v31) = W9 m ρ c (Proc.devRef .tc main_v31)
      ∧ r.2.mem ((c.tc : Thread nD τ).loc main_v32) = W9 m ρ c (Proc.devRef .tc main_v32)
      ∧ r.2.mem ((c.tc : Thread nD τ).loc main_v33) = W9 m ρ c (Proc.devRef .tc main_v33)
      ∧ r.2.mem ((c.tc : Thread nD τ).loc main_v34) = W9 m ρ c (Proc.devRef .tc main_v34)
      ∧ r.2.mem ((c.tc : Thread nD τ).loc main_v35) = W9 m ρ c (Proc.devRef .tc main_v35)
      ∧ r.2.mem ((c.tc : Thread nD τ).loc main_v36) = W9 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v29 (by decide)),
       h c _ (mem_uc main_v30 (by decide)),
       h c _ (mem_uc main_v31 (by decide)),
       h c _ (mem_uc main_v32 (by decide)),
       h c _ (mem_uc main_v33 (by decide)),
       h c _ (mem_uc main_v34 (by decide)),
       h c _ (mem_uc main_v35 (by decide)),
       h c _ (mem_uc main_v36 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩), funext fun g => hz g (.inr (no_unscoped g.2))⟩)

end Cert.Proj
-- ==== Proof.MixRun.lean ====
/-
  The run of the calls of the output products: every result is what the chain of the host lines and the calls leaves in its buffer.
-/
module

public import proofs.«01_k».proof.Proof.Gen.Kernel5Ideal.Frame

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution ends, with each result as the chain of the boundaries'
contents has it, the arguments unchanged and every counter at zero. -/
theorem run : θ_run defs (onTc (τ := τ) (main (F := F))) ⟨m, fun _ => 0, ρ⟩ (fun r => (∀ c : Dev nD,
      r.2.mem ((c.tc : Thread nD τ).loc main_v16) = W12 m ρ c (Proc.devRef .tc main_v16)
      ∧ r.2.mem ((c.tc : Thread nD τ).loc main_v18_0) = W12 m ρ c (Proc.devRef .tc main_v18_0)
      ∧ r.2.mem ((c.tc : Thread nD τ).loc main_v18_1) = W12 m ρ c (Proc.devRef .tc main_v18_1)
      ∧ r.2.mem ((c.tc : Thread nD τ).loc main_v20_0) = W12 m ρ c (Proc.devRef .tc main_v20_0)
      ∧ r.2.mem ((c.tc : Thread nD τ).loc main_v20_1) = W12 m ρ c (Proc.devRef .tc main_v20_1)
      ∧ r.2.mem ((c.tc : Thread nD τ).loc main_v20_2) = W12 m ρ c (Proc.devRef .tc main_v20_2)
      ∧ r.2.mem ((c.tc : Thread nD τ).loc main_v23_0) = W12 m ρ c (Proc.devRef .tc main_v23_0)
      ∧ r.2.mem ((c.tc : Thread nD τ).loc main_v23_1) = W12 m ρ c (Proc.devRef .tc main_v23_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨(fun c =>
      ⟨h c _ (mem_uc main_v16 (by decide)),
       h c _ (mem_uc main_v18_0 (by decide)),
       h c _ (mem_uc main_v18_1 (by decide)),
       h c _ (mem_uc main_v20_0 (by decide)),
       h c _ (mem_uc main_v20_1 (by decide)),
       h c _ (mem_uc main_v20_2 (by decide)),
       h c _ (mem_uc main_v23_0 (by decide)),
       h c _ (mem_uc main_v23_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩), funext fun g => hz g (.inr (no_unscoped g.2))⟩)

end Cert.Mix
-- ==== Proof.ProjArrays.lean ====
/-
  The calls of the projections, each a product of two matrices: what the body computes of one block, and the array after the
  grid, whose blocks tile it.
-/
module

public import proofs.«01_k».proof.Proof.MlpWeights
public import proofs.«01_k».proof.Proof.Gen.Kernel4Ideal.Frame

@[expose] public section

set_option maxRecDepth 16384

noncomputable section

namespace Cert.Proj

open Idealize.ShloMosaic Idealize.ShloMosaic.TcCoe Idealize.SL.Sem Cert.Kernel4Ideal Cert.Kernel4Ideal.Gen Cert.Reals
open Cert.Mlp (Has2 has2_at zeros2)
open Idealize.ShloMosaic.Pipeline (Dat)
open Finset (range)

/-- The product of two matrices of `n` inner columns, the second's given by rows. -/
def byRows (n : ℕ) (X Y : ℕ → ℕ → EReal) (r s : ℕ) : EReal := ∑ k ∈ range n, X r k * Y s k

/-- The product of two matrices. -/
def product (n : ℕ) (X Y : ℕ → ℕ → EReal) (r s : ℕ) : EReal := ∑ k ∈ range n, X r k * Y k s

/-- The product of a matrix's columns with another's. -/
def byCols (n : ℕ) (X Y : ℕ → ℕ → EReal) (r s : ℕ) : EReal := ∑ k ∈ range n, X k r * Y k s

variable (V : (c : Dev nD) → (b : Ref sig .tc) → Buf (Elt Ideal) ((c : Thread nD τ).loc b)) (c : Dev nD)
  {X Y : ℕ → ℕ → EReal}

/-! ## The input projection -/

/-- Every point's blocks. -/
theorem index0 : ∀ t : Fin grid0.N,
    (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) := by
  decide +kernel

/-- The body's product. -/
theorem body0 {x : Vec Ideal S1024x1024 .bf16} {y : Vec Ideal S2560x1024 .bf16} (hy : Has2 y Y) (hx : Has2 x X) :
    Has2 (k0_pay1 y x : S1024x2560.Idx → EReal) (byRows 1024 X Y) := by
  intro i j
  unfold k0_pay1 byRows
  pointwise
  simp only [hx _ _, hy _ _]
  rw [Finset.sum_range]

theorem block0_0 (h : Has2 (V c (Pipeline.arrRef spec0 0) : S4096x1024.Idx → EReal) X) (t : Fin cfg0.N) :
    Has2 (iblk0 V c 0 t : S1024x1024.Idx → EReal) (fun r s => X (t.val / 2 * 1024 + r) (0 * 1024 + s)) := by
  intro r s
  unfold iblk0
  rw [View.read_apply]
  exact (has2_at h _).trans (congrArg₂ X (Cert.Mlp.in_block 1024 _ (index0 t).1.1) (Cert.Mlp.in_block 1024 _ (index0 t).1.2))

theorem block0_1 (h : Has2 (V c (Pipeline.arrRef spec0 1) : S5120x1024.Idx → EReal) Y) (t : Fin cfg0.N) :
    Has2 (iblk0 V c 1 t : S2560x1024.Idx → EReal) (fun r s => Y (t.val % 2 * 2560 + r) (0 * 1024 + s)) := by
  intro r s
  unfold iblk0
  rw [View.read_apply]
  exact (has2_at h _).trans (congrArg₂ Y (Cert.Mlp.in_block 2560 _ (index0 t).2.1.1) (Cert.Mlp.in_block 1024 _ (index0 t).2.1.2))

/-- The block at point `t`. -/
theorem after0_has (hx : Has2 (V c (Pipeline.arrRef spec0 0) : S4096x1024.Idx → EReal) X)
    (hy : Has2 (V c (Pipeline.arrRef spec0 1) : S5120x1024.Idx → EReal) Y) (t : Fin cfg0.N) :
    Has2 ((dat0 V c).after 2 t : S1024x2560.Idx → EReal)
      (byRows 1024 (fun r s => X (t.val / 2 * 1024 + r) (0 * 1024 + s))
        (fun r s => Y (t.val % 2 * 2560 + r) (0 * 1024 + s))) := by
  rw [after0_2]
  unfold out0_2
  rw [View.canon_unit_zero (by funext a; fin_cases a <;> rfl), View.ld_unit_zero (by funext a; fin_cases a <;> rfl),
    View.ld_unit_zero (by funext a; fin_cases a <;> rfl)]
  exact body0 (block0_1 V c hy t) (block0_0 V c hx t)

/-- The array after the call. -/
theorem final0 (hx : Has2 (V c (Pipeline.arrRef spec0 0) : S4096x1024.Idx → EReal) X)
    (hy : Has2 (V c (Pipeline.arrRef spec0 1) : S5120x1024.Idx → EReal) Y) :
    ((dat0 V c).arrAt 2 cfg0.N : S4096x5120.Idx → EReal) = fun i => byRows 1024 X Y (i 0) (i 1) :=
    (dat0 V c).arrAt_eq_of_cover 2 _ (fun t _ => by
      funext y
      rw [View.read_apply]
      refine (has2_at (after0_has V c hx hy t) y).trans ?_
      refine Eq.trans ?_ (congrArg₂ (byRows 1024 X Y) (Cert.Mlp.in_block 1024 (y 0).val (index0 t).2.2.1)
        (Cert.Mlp.in_block 2560 (y 1).val (index0 t).2.2.2)).symm
      unfold byRows
      simp only [Nat.zero_mul, Nat.zero_add])
    fun i => by
      have h0 : (i 0 : ℕ) < 4096 := (i 0).isLt
      have h1 : (i 1 : ℕ) < 5120 := (i 1).isLt
      obtain ⟨t, ht'⟩ : ∃ t : Fin grid0.N, t.val = (i 0 : ℕ) / 1024 * 2 + (i 1 : ℕ) / 2560 := ⟨⟨(i 0 : ℕ) / 1024 * 2 + (i 1 : ℕ) / 2560, by rw [N_0]; omega⟩, rfl⟩
      refine ⟨t, Gen.flush0_2 t, ?_⟩
      have es : ((cfg0.win 2).blk t).view.set = ((View.whole main_v29).slice (win0_2.rect t)).set := rfl
      rw [es, View.set_slice_whole, Rect.mem_set_unit]
      intro a
      have ht := (index0 t).2.2
      match a with
      | ⟨0, _⟩ =>
        show win0_2.index t 0 * 1024 ≤ (i 0 : ℕ) ∧ (i 0 : ℕ) < win0_2.index t 0 * 1024 + 1024
        rw [ht.1]; omega
      | ⟨1, _⟩ =>
        show win0_2.index t 1 * 2560 ≤ (i 1 : ℕ) ∧ (i 1 : ℕ) < win0_2.index t 1 * 2560 + 2560
        rw [ht.2]; omega

/-! ## The queries' product -/

/-- Every point's blocks. -/
theorem index1 : ∀ t : Fin grid1.N,
    (win1_0.index t 0 = t.val ∧ win1_0.index t 1 = 0) ∧ (win1_1.index t 0 = 0 ∧ win1_1.index t 1 = 0)
    ∧ (win1_2.index t 0 = t.val ∧ win1_2.index t 1 = 0) := by
  decide +kernel

/-- The body's product. -/
theorem body1 {x : Vec Ideal S1024x384 .bf16} {y : Vec Ideal S384x2048 .bf16} (hy : Has2 y Y) (hx : Has2 x X) :
    Has2 (k1_pay1 y x : S1024x2048.Idx → EReal) (product 384 X Y) := by
  intro i j
  unfold k1_pay1 product
  pointwise
  simp only [hx _ _, hy _ _]
  rw [Finset.sum_range]

theorem block1_0 (h : Has2 (V c (Pipeline.arrRef spec1 0) : S4096x384.Idx → EReal) X) (t : Fin cfg1.N) :
    Has2 (iblk1 V c 0 t : S1024x384.Idx → EReal) (fun r s => X (t.val * 1024 + r) (0 * 384 + s)) := by
  intro r s
  unfold iblk1
  rw [View.read_apply]
  exact (has2_at h _).trans (congrArg₂ X (Cert.Mlp.in_block 1024 _ (index1 t).1.1) (Cert.Mlp.in_block 384 _ (index1 t).1.2))

theorem block1_1 (h : Has2 (V c (Pipeline.arrRef spec1 1) : S384x2048.Idx → EReal) Y) (t : Fin cfg1.N) :
    Has2 (iblk1 V c 1 t : S384x2048.Idx → EReal) (fun r s => Y (0 * 384 + r) (0 * 2048 + s)) := by
  intro r s
  unfold iblk1
  rw [View.read_apply]
  exact (has2_at h _).trans (congrArg₂ Y (Cert.Mlp.in_block 384 _ (index1 t).2.1.1) (Cert.Mlp.in_block 2048 _ (index1 t).2.1.2))

/-- The block at point `t`. -/
theorem after1_has (hx : Has2 (V c (Pipeline.arrRef spec1 0) : S4096x384.Idx → EReal) X)
    (hy : Has2 (V c (Pipeline.arrRef spec1 1) : S384x2048.Idx → EReal) Y) (t : Fin cfg1.N) :
    Has2 ((dat1 V c).after 2 t : S1024x2048.Idx → EReal)
      (product 384 (fun r s => X (t.val * 1024 + r) (0 * 384 + s))
        (fun r s => Y (0 * 384 + r) (0 * 2048 + s))) := by
  rw [after1_2]
  unfold out1_2
  rw [View.canon_unit_zero (by funext a; fin_cases a <;> rfl), View.ld_unit_zero (by funext a; fin_cases a <;> rfl),
    View.ld_unit_zero (by funext a; fin_cases a <;> rfl)]
  exact body1 (block1_1 V c hy t) (block1_0 V c hx t)

/-- The array after the call. -/
theorem final1 (hx : Has2 (V c (Pipeline.arrRef spec1 0) : S4096x384.Idx → EReal) X)
    (hy : Has2 (V c (Pipeline.arrRef spec1 1) : S384x2048.Idx → EReal) Y) :
    ((dat1 V c).arrAt 2 cfg1.N : S4096x2048.Idx → EReal) = fun i => product 384 X Y (i 0) (i 1) :=
    (dat1 V c).arrAt_eq_of_cover 2 _ (fun t _ => by
      funext y
      rw [View.read_apply]
      refine (has2_at (after1_has V c hx hy t) y).trans ?_
      refine Eq.trans ?_ (congrArg₂ (product 384 X Y) (Cert.Mlp.in_block 1024 (y 0).val (index1 t).2.2.1)
        (Cert.Mlp.in_block 2048 (y 1).val (index1 t).2.2.2)).symm
      unfold product
      simp only [Nat.zero_mul, Nat.zero_add])
    fun i => by
      have h0 : (i 0 : ℕ) < 4096 := (i 0).isLt
      have h1 : (i 1 : ℕ) < 2048 := (i 1).isLt
      obtain ⟨t, ht'⟩ : ∃ t : Fin grid1.N, t.val = (i 0 : ℕ) / 1024 := ⟨⟨(i 0 : ℕ) / 1024, by rw [N_1]; omega⟩, rfl⟩
      refine ⟨t, Gen.flush1_2 t, ?_⟩
      have es : ((cfg1.win 2).blk t).view.set = ((View.whole main_v30).slice (win1_2.rect t)).set := rfl
      rw [es, View.set_slice_whole, Rect.mem_set_unit]
      intro a
      have ht := (index1 t).2.2
      match a with
      | ⟨0, _⟩ =>
        show win1_2.index t 0 * 1024 ≤ (i 0 : ℕ) ∧ (i 0 : ℕ) < win1_2.index t 0 * 1024 + 1024
        rw [ht.1]; omega
      | ⟨1, _⟩ =>
        show win1_2.index t 1 * 2048 ≤ (i 1 : ℕ) ∧ (i 1 : ℕ) < win1_2.index t 1 * 2048 + 2048
        rw [ht.2]; omega

/-! ## The product of the keys and the values -/

/-- Every point's blocks. -/
theorem index2 : ∀ t : Fin grid2.N,
    (win2_0.index t 0 = t.val ∧ win2_0.index t 1 = 0) ∧ (win2_1.index t 0 = 0 ∧ win2_1.index t 1 = 0)
    ∧ (win2_2.index t 0 = t.val ∧ win2_2.index t 1 = 0) := by
  decide +kernel

/-- The body's product. -/
theorem body2 {x : Vec Ideal S1024x256 .bf16} {y : Vec Ideal S256x2048 .bf16} (hy : Has2 y Y) (hx : Has2 x X) :
    Has2 (k2_pay1 y x : S1024x2048.Idx → EReal) (product 256 X Y) := by
  intro i j
  unfold k2_pay1 product
  pointwise
  simp only [hx _ _, hy _ _]
  rw [Finset.sum_range]

theorem block2_0 (h : Has2 (V c (Pipeline.arrRef spec2 0) : S4096x256.Idx → EReal) X) (t : Fin cfg2.N) :
    Has2 (iblk2 V c 0 t : S1024x256.Idx → EReal) (fun r s => X (t.val * 1024 + r) (0 * 256 + s)) := by
  intro r s
  unfold iblk2
  rw [View.read_apply]
  exact (has2_at h _).trans (congrArg₂ X (Cert.Mlp.in_block 1024 _ (index2 t).1.1) (Cert.Mlp.in_block 256 _ (index2 t).1.2))

theorem block2_1 (h : Has2 (V c (Pipeline.arrRef spec2 1) : S256x2048.Idx → EReal) Y) (t : Fin cfg2.N) :
    Has2 (iblk2 V c 1 t : S256x2048.Idx → EReal) (fun r s => Y (0 * 256 + r) (0 * 2048 + s)) := by
  intro r s
  unfold iblk2
  rw [View.read_apply]
  exact (has2_at h _).trans (congrArg₂ Y (Cert.Mlp.in_block 256 _ (index2 t).2.1.1) (Cert.Mlp.in_block 2048 _ (index2 t).2.1.2))

/-- The block at point `t`. -/
theorem after2_has (hx : Has2 (V c (Pipeline.arrRef spec2 0) : S4096x256.Idx → EReal) X)
    (hy : Has2 (V c (Pipeline.arrRef spec2 1) : S256x2048.Idx → EReal) Y) (t : Fin cfg2.N) :
    Has2 ((dat2 V c).after 2 t : S1024x2048.Idx → EReal)
      (product 256 (fun r s => X (t.val * 1024 + r) (0 * 256 + s))
        (fun r s => Y (0 * 256 + r) (0 * 2048 + s))) := by
  rw [after2_2]
  unfold out2_2
  rw [View.canon_unit_zero (by funext a; fin_cases a <;> rfl), View.ld_unit_zero (by funext a; fin_cases a <;> rfl),
    View.ld_unit_zero (by funext a; fin_cases a <;> rfl)]
  exact body2 (block2_1 V c hy t) (block2_0 V c hx t)

/-- The array after the call. -/
theorem final2 (hx : Has2 (V c (Pipeline.arrRef spec2 0) : S4096x256.Idx → EReal) X)
    (hy : Has2 (V c (Pipeline.arrRef spec2 1) : S256x2048.Idx → EReal) Y) :
    ((dat2 V c).arrAt 2 cfg2.N : S4096x2048.Idx → EReal) = fun i => product 256 X Y (i 0) (i 1) :=
    (dat2 V c).arrAt_eq_of_cover 2 _ (fun t _ => by
      funext y
      rw [View.read_apply]
      refine (has2_at (after2_has V c hx hy t) y).trans ?_
      refine Eq.trans ?_ (congrArg₂ (product 256 X Y) (Cert.Mlp.in_block 1024 (y 0).val (index2 t).2.2.1)
        (Cert.Mlp.in_block 2048 (y 1).val (index2 t).2.2.2)).symm
      unfold product
      simp only [Nat.zero_mul, Nat.zero_add])
    fun i => by
      have h0 : (i 0 : ℕ) < 4096 := (i 0).isLt
      have h1 : (i 1 : ℕ) < 2048 := (i 1).isLt
      obtain ⟨t, ht'⟩ : ∃ t : Fin grid2.N, t.val = (i 0 : ℕ) / 1024 := ⟨⟨(i 0 : ℕ) / 1024, by rw [N_2]; omega⟩, rfl⟩
      refine ⟨t, Gen.flush2_2 t, ?_⟩
      have es : ((cfg2.win 2).blk t).view.set = ((View.whole main_v31).slice (win2_2.rect t)).set := rfl
      rw [es, View.set_slice_whole, Rect.mem_set_unit]
      intro a
      have ht := (index2 t).2.2
      match a with
      | ⟨0, _⟩ =>
        show win2_2.index t 0 * 1024 ≤ (i 0 : ℕ) ∧ (i 0 : ℕ) < win2_2.index t 0 * 1024 + 1024
        rw [ht.1]; omega
      | ⟨1, _⟩ =>
        show win2_2.index t 1 * 2048 ≤ (i 1 : ℕ) ∧ (i 1 : ℕ) < win2_2.index t 1 * 2048 + 2048
        rw [ht.2]; omega

/-! ## The gradient of the queries' weight -/

/-- Every point's blocks. -/
theorem index3 : ∀ t : Fin grid3.N,
    (win3_0.index t 0 = 0 ∧ win3_0.index t 1 = 0) ∧ (win3_1.index t 0 = 0 ∧ win3_1.index t 1 = t.val)
    ∧ (win3_2.index t 0 = 0 ∧ win3_2.index t 1 = t.val) := by
  decide +kernel

/-- The body's product. -/
theorem body3 {x : Vec Ideal S4096x384 .bf16} {y : Vec Ideal S4096x1024 .bf16} (hy : Has2 y Y) (hx : Has2 x X) :
    Has2 (k3_pay1 y x : S384x1024.Idx → EReal) (byCols 4096 X Y) := by
  intro i j
  unfold k3_pay1 byCols
  pointwise
  simp only [hx _ _, hy _ _]
  rw [Finset.sum_range]

theorem block3_0 (h : Has2 (V c (Pipeline.arrRef spec3 0) : S4096x384.Idx → EReal) X) (t : Fin cfg3.N) :
    Has2 (iblk3 V c 0 t : S4096x384.Idx → EReal) (fun r s => X (0 * 4096 + r) (0 * 384 + s)) := by
  intro r s
  unfold iblk3
  rw [View.read_apply]
  exact (has2_at h _).trans (congrArg₂ X (Cert.Mlp.in_block 4096 _ (index3 t).1.1) (Cert.Mlp.in_block 384 _ (index3 t).1.2))

theorem block3_1 (h : Has2 (V c (Pipeline.arrRef spec3 1) : S4096x2048.Idx → EReal) Y) (t : Fin cfg3.N) :
    Has2 (iblk3 V c 1 t : S4096x1024.Idx → EReal) (fun r s => Y (0 * 4096 + r) (t.val * 1024 + s)) := by
  intro r s
  unfold iblk3
  rw [View.read_apply]
  exact (has2_at h _).trans (congrArg₂ Y (Cert.Mlp.in_block 4096 _ (index3 t).2.1.1) (Cert.Mlp.in_block 1024 _ (index3 t).2.1.2))

/-- The block at point `t`. -/
theorem after3_has (hx : Has2 (V c (Pipeline.arrRef spec3 0) : S4096x384.Idx → EReal) X)
    (hy : Has2 (V c (Pipeline.arrRef spec3 1) : S4096x2048.Idx → EReal) Y) (t : Fin cfg3.N) :
    Has2 ((dat3 V c).after 2 t : S384x1024.Idx → EReal)
      (byCols 4096 (fun r s => X (0 * 4096 + r) (0 * 384 + s))
        (fun r s => Y (0 * 4096 + r) (t.val * 1024 + s))) := by
  rw [after3_2]
  unfold out3_2
  rw [View.canon_unit_zero (by funext a; fin_cases a <;> rfl), View.ld_unit_zero (by funext a; fin_cases a <;> rfl),
    View.ld_unit_zero (by funext a; fin_cases a <;> rfl)]
  exact body3 (block3_1 V c hy t) (block3_0 V c hx t)

/-- The array after the call. -/
theorem final3 (hx : Has2 (V c (Pipeline.arrRef spec3 0) : S4096x384.Idx → EReal) X)
    (hy : Has2 (V c (Pipeline.arrRef spec3 1) : S4096x2048.Idx → EReal) Y) :
    ((dat3 V c).arrAt 2 cfg3.N : S384x2048.Idx → EReal) = fun i => byCols 4096 X Y (i 0) (i 1) :=
    (dat3 V c).arrAt_eq_of_cover 2 _ (fun t _ => by
      funext y
      rw [View.read_apply]
      refine (has2_at (after3_has V c hx hy t) y).trans ?_
      refine Eq.trans ?_ (congrArg₂ (byCols 4096 X Y) (Cert.Mlp.in_block 384 (y 0).val (index3 t).2.2.1)
        (Cert.Mlp.in_block 1024 (y 1).val (index3 t).2.2.2)).symm
      unfold byCols
      simp only [Nat.zero_mul, Nat.zero_add])
    fun i => by
      have h0 : (i 0 : ℕ) < 384 := (i 0).isLt
      have h1 : (i 1 : ℕ) < 2048 := (i 1).isLt
      obtain ⟨t, ht'⟩ : ∃ t : Fin grid3.N, t.val = (i 1 : ℕ) / 1024 := ⟨⟨(i 1 : ℕ) / 1024, by rw [N_3]; omega⟩, rfl⟩
      refine ⟨t, Gen.flush3_2 t, ?_⟩
      have es : ((cfg3.win 2).blk t).view.set = ((View.whole main_v32).slice (win3_2.rect t)).set := rfl
      rw [es, View.set_slice_whole, Rect.mem_set_unit]
      intro a
      have ht := (index3 t).2.2
      match a with
      | ⟨0, _⟩ =>
        show win3_2.index t 0 * 384 ≤ (i 0 : ℕ) ∧ (i 0 : ℕ) < win3_2.index t 0 * 384 + 384
        rw [ht.1]; omega
      | ⟨1, _⟩ =>
        show win3_2.index t 1 * 1024 ≤ (i 1 : ℕ) ∧ (i 1 : ℕ) < win3_2.index t 1 * 1024 + 1024
        rw [ht.2]; omega

/-! ## The gradient of the queries' low-rank part -/

/-- Every point's blocks. -/
theorem index4 : ∀ t : Fin grid4.N,
    (win4_0.index t 0 = t.val ∧ win4_0.index t 1 = 0) ∧ (win4_1.index t 0 = 0 ∧ win4_1.index t 1 = 0)
    ∧ (win4_2.index t 0 = t.val ∧ win4_2.index t 1 = 0) := by
  decide +kernel

/-- The body's product. -/
theorem body4 {x : Vec Ideal S1024x2048 .bf16} {y : Vec Ideal S384x2048 .bf16} (hy : Has2 y Y) (hx : Has2 x X) :
    Has2 (k4_pay1 y x : S1024x384.Idx → EReal) (byRows 2048 X Y) := by
  intro i j
  unfold k4_pay1 byRows
  pointwise
  simp only [hx _ _, hy _ _]
  rw [Finset.sum_range]

theorem block4_0 (h : Has2 (V c (Pipeline.arrRef spec4 0) : S4096x2048.Idx → EReal) X) (t : Fin cfg4.N) :
    Has2 (iblk4 V c 0 t : S1024x2048.Idx → EReal) (fun r s => X (t.val * 1024 + r) (0 * 2048 + s)) := by
  intro r s
  unfold iblk4
  rw [View.read_apply]
  exact (has2_at h _).trans (congrArg₂ X (Cert.Mlp.in_block 1024 _ (index4 t).1.1) (Cert.Mlp.in_block 2048 _ (index4 t).1.2))

theorem block4_1 (h : Has2 (V c (Pipeline.arrRef spec4 1) : S384x2048.Idx → EReal) Y) (t : Fin cfg4.N) :
    Has2 (iblk4 V c 1 t : S384x2048.Idx → EReal) (fun r s => Y (0 * 384 + r) (0 * 2048 + s)) := by
  intro r s
  unfold iblk4
  rw [View.read_apply]
  exact (has2_at h _).trans (congrArg₂ Y (Cert.Mlp.in_block 384 _ (index4 t).2.1.1) (Cert.Mlp.in_block 2048 _ (index4 t).2.1.2))

/-- The block at point `t`. -/
theorem after4_has (hx : Has2 (V c (Pipeline.arrRef spec4 0) : S4096x2048.Idx → EReal) X)
    (hy : Has2 (V c (Pipeline.arrRef spec4 1) : S384x2048.Idx → EReal) Y) (t : Fin cfg4.N) :
    Has2 ((dat4 V c).after 2 t : S1024x384.Idx → EReal)
      (byRows 2048 (fun r s => X (t.val * 1024 + r) (0 * 2048 + s))
        (fun r s => Y (0 * 384 + r) (0 * 2048 + s))) := by
  rw [after4_2]
  unfold out4_2
  rw [View.canon_unit_zero (by funext a; fin_cases a <;> rfl), View.ld_unit_zero (by funext a; fin_cases a <;> rfl),
    View.ld_unit_zero (by funext a; fin_cases a <;> rfl)]
  exact body4 (block4_1 V c hy t) (block4_0 V c hx t)

/-- The array after the call. -/
theorem final4 (hx : Has2 (V c (Pipeline.arrRef spec4 0) : S4096x2048.Idx → EReal) X)
    (hy : Has2 (V c (Pipeline.arrRef spec4 1) : S384x2048.Idx → EReal) Y) :
    ((dat4 V c).arrAt 2 cfg4.N : S4096x384.Idx → EReal) = fun i => byRows 2048 X Y (i 0) (i 1) :=
    (dat4 V c).arrAt_eq_of_cover 2 _ (fun t _ => by
      funext y
      rw [View.read_apply]
      refine (has2_at (after4_has V c hx hy t) y).trans ?_
      refine Eq.trans ?_ (congrArg₂ (byRows 2048 X Y) (Cert.Mlp.in_block 1024 (y 0).val (index4 t).2.2.1)
        (Cert.Mlp.in_block 384 (y 1).val (index4 t).2.2.2)).symm
      unfold byRows
      simp only [Nat.zero_mul, Nat.zero_add])
    fun i => by
      have h0 : (i 0 : ℕ) < 4096 := (i 0).isLt
      have h1 : (i 1 : ℕ) < 384 := (i 1).isLt
      obtain ⟨t, ht'⟩ : ∃ t : Fin grid4.N, t.val = (i 0 : ℕ) / 1024 := ⟨⟨(i 0 : ℕ) / 1024, by rw [N_4]; omega⟩, rfl⟩
      refine ⟨t, Gen.flush4_2 t, ?_⟩
      have es : ((cfg4.win 2).blk t).view.set = ((View.whole main_v33).slice (win4_2.rect t)).set := rfl
      rw [es, View.set_slice_whole, Rect.mem_set_unit]
      intro a
      have ht := (index4 t).2.2
      match a with
      | ⟨0, _⟩ =>
        show win4_2.index t 0 * 1024 ≤ (i 0 : ℕ) ∧ (i 0 : ℕ) < win4_2.index t 0 * 1024 + 1024
        rw [ht.1]; omega
      | ⟨1, _⟩ =>
        show win4_2.index t 1 * 384 ≤ (i 1 : ℕ) ∧ (i 1 : ℕ) < win4_2.index t 1 * 384 + 384
        rw [ht.2]; omega

/-! ## The gradient of the keys' and values' weight -/

/-- Every point's blocks. -/
theorem index5 : ∀ t : Fin grid5.N,
    (win5_0.index t 0 = 0 ∧ win5_0.index t 1 = 0) ∧ (win5_1.index t 0 = 0 ∧ win5_1.index t 1 = 0)
    ∧ (win5_2.index t 0 = 0 ∧ win5_2.index t 1 = 0) := by
  decide +kernel

/-- The body's product. -/
theorem body5 {x : Vec Ideal S4096x256 .bf16} {y : Vec Ideal S4096x2048 .bf16} (hy : Has2 y Y) (hx : Has2 x X) :
    Has2 (k5_pay1 y x : S256x2048.Idx → EReal) (byCols 4096 X Y) := by
  intro i j
  unfold k5_pay1 byCols
  pointwise
  simp only [hx _ _, hy _ _]
  rw [Finset.sum_range]

theorem block5_0 (h : Has2 (V c (Pipeline.arrRef spec5 0) : S4096x256.Idx → EReal) X) (t : Fin cfg5.N) :
    Has2 (iblk5 V c 0 t : S4096x256.Idx → EReal) (fun r s => X (0 * 4096 + r) (0 * 256 + s)) := by
  intro r s
  unfold iblk5
  rw [View.read_apply]
  exact (has2_at h _).trans (congrArg₂ X (Cert.Mlp.in_block 4096 _ (index5 t).1.1) (Cert.Mlp.in_block 256 _ (index5 t).1.2))

theorem block5_1 (h : Has2 (V c (Pipeline.arrRef spec5 1) : S4096x2048.Idx → EReal) Y) (t : Fin cfg5.N) :
    Has2 (iblk5 V c 1 t : S4096x2048.Idx → EReal) (fun r s => Y (0 * 4096 + r) (0 * 2048 + s)) := by
  intro r s
  unfold iblk5
  rw [View.read_apply]
  exact (has2_at h _).trans (congrArg₂ Y (Cert.Mlp.in_block 4096 _ (index5 t).2.1.1) (Cert.Mlp.in_block 2048 _ (index5 t).2.1.2))

/-- The block at point `t`. -/
theorem after5_has (hx : Has2 (V c (Pipeline.arrRef spec5 0) : S4096x256.Idx → EReal) X)
    (hy : Has2 (V c (Pipeline.arrRef spec5 1) : S4096x2048.Idx → EReal) Y) (t : Fin cfg5.N) :
    Has2 ((dat5 V c).after 2 t : S256x2048.Idx → EReal)
      (byCols 4096 (fun r s => X (0 * 4096 + r) (0 * 256 + s))
        (fun r s => Y (0 * 4096 + r) (0 * 2048 + s))) := by
  rw [after5_2]
  unfold out5_2
  rw [View.canon_unit_zero (by funext a; fin_cases a <;> rfl), View.ld_unit_zero (by funext a; fin_cases a <;> rfl),
    View.ld_unit_zero (by funext a; fin_cases a <;> rfl)]
  exact body5 (block5_1 V c hy t) (block5_0 V c hx t)

/-- The array after the call. -/
theorem final5 (hx : Has2 (V c (Pipeline.arrRef spec5 0) : S4096x256.Idx → EReal) X)
    (hy : Has2 (V c (Pipeline.arrRef spec5 1) : S4096x2048.Idx → EReal) Y) :
    ((dat5 V c).arrAt 2 cfg5.N : S256x2048.Idx → EReal) = fun i => byCols 4096 X Y (i 0) (i 1) :=
    (dat5 V c).arrAt_eq_of_cover 2 _ (fun t _ => by
      funext y
      rw [View.read_apply]
      refine (has2_at (after5_has V c hx hy t) y).trans ?_
      refine Eq.trans ?_ (congrArg₂ (byCols 4096 X Y) (Cert.Mlp.in_block 256 (y 0).val (index5 t).2.2.1)
        (Cert.Mlp.in_block 2048 (y 1).val (index5 t).2.2.2)).symm
      unfold byCols
      simp only [Nat.zero_mul, Nat.zero_add])
    fun i => by
      have h0 : (i 0 : ℕ) < 256 := (i 0).isLt
      have h1 : (i 1 : ℕ) < 2048 := (i 1).isLt
      obtain ⟨t, ht'⟩ : ∃ t : Fin grid5.N, t.val = 0 := ⟨⟨0, by rw [N_5]; omega⟩, rfl⟩
      refine ⟨t, Gen.flush5_2 t, ?_⟩
      have es : ((cfg5.win 2).blk t).view.set = ((View.whole main_v34).slice (win5_2.rect t)).set := rfl
      rw [es, View.set_slice_whole, Rect.mem_set_unit]
      intro a
      have ht := (index5 t).2.2
      match a with
      | ⟨0, _⟩ =>
        show win5_2.index t 0 * 256 ≤ (i 0 : ℕ) ∧ (i 0 : ℕ) < win5_2.index t 0 * 256 + 256
        rw [ht.1]; omega
      | ⟨1, _⟩ =>
        show win5_2.index t 1 * 2048 ≤ (i 1 : ℕ) ∧ (i 1 : ℕ) < win5_2.index t 1 * 2048 + 2048
        rw [ht.2]; omega

/-! ## The gradient of the keys' and values' low-rank part -/

/-- Every point's blocks. -/
theorem index6 : ∀ t : Fin grid6.N,
    (win6_0.index t 0 = t.val ∧ win6_0.index t 1 = 0) ∧ (win6_1.index t 0 = 0 ∧ win6_1.index t 1 = 0)
    ∧ (win6_2.index t 0 = t.val ∧ win6_2.index t 1 = 0) := by
  decide +kernel

/-- The body's product. -/
theorem body6 {x : Vec Ideal S1024x2048 .bf16} {y : Vec Ideal S256x2048 .bf16} (hy : Has2 y Y) (hx : Has2 x X) :
    Has2 (k6_pay1 y x : S1024x256.Idx → EReal) (byRows 2048 X Y) := by
  intro i j
  unfold k6_pay1 byRows
  pointwise
  simp only [hx _ _, hy _ _]
  rw [Finset.sum_range]

theorem block6_0 (h : Has2 (V c (Pipeline.arrRef spec6 0) : S4096x2048.Idx → EReal) X) (t : Fin cfg6.N) :
    Has2 (iblk6 V c 0 t : S1024x2048.Idx → EReal) (fun r s => X (t.val * 1024 + r) (0 * 2048 + s)) := by
  intro r s
  unfold iblk6
  rw [View.read_apply]
  exact (has2_at h _).trans (congrArg₂ X (Cert.Mlp.in_block 1024 _ (index6 t).1.1) (Cert.Mlp.in_block 2048 _ (index6 t).1.2))

theorem block6_1 (h : Has2 (V c (Pipeline.arrRef spec6 1) : S256x2048.Idx → EReal) Y) (t : Fin cfg6.N) :
    Has2 (iblk6 V c 1 t : S256x2048.Idx → EReal) (fun r s => Y (0 * 256 + r) (0 * 2048 + s)) := by
  intro r s
  unfold iblk6
  rw [View.read_apply]
  exact (has2_at h _).trans (congrArg₂ Y (Cert.Mlp.in_block 256 _ (index6 t).2.1.1) (Cert.Mlp.in_block 2048 _ (index6 t).2.1.2))

/-- The block at point `t`. -/
theorem after6_has (hx : Has2 (V c (Pipeline.arrRef spec6 0) : S4096x2048.Idx → EReal) X)
    (hy : Has2 (V c (Pipeline.arrRef spec6 1) : S256x2048.Idx → EReal) Y) (t : Fin cfg6.N) :
    Has2 ((dat6 V c).after 2 t : S1024x256.Idx → EReal)
      (byRows 2048 (fun r s => X (t.val * 1024 + r) (0 * 2048 + s))
        (fun r s => Y (0 * 256 + r) (0 * 2048 + s))) := by
  rw [after6_2]
  unfold out6_2
  rw [View.canon_unit_zero (by funext a; fin_cases a <;> rfl), View.ld_unit_zero (by funext a; fin_cases a <;> rfl),
    View.ld_unit_zero (by funext a; fin_cases a <;> rfl)]
  exact body6 (block6_1 V c hy t) (block6_0 V c hx t)

/-- The array after the call. -/
theorem final6 (hx : Has2 (V c (Pipeline.arrRef spec6 0) : S4096x2048.Idx → EReal) X)
    (hy : Has2 (V c (Pipeline.arrRef spec6 1) : S256x2048.Idx → EReal) Y) :
    ((dat6 V c).arrAt 2 cfg6.N : S4096x256.Idx → EReal) = fun i => byRows 2048 X Y (i 0) (i 1) :=
    (dat6 V c).arrAt_eq_of_cover 2 _ (fun t _ => by
      funext y
      rw [View.read_apply]
      refine (has2_at (after6_has V c hx hy t) y).trans ?_
      refine Eq.trans ?_ (congrArg₂ (byRows 2048 X Y) (Cert.Mlp.in_block 1024 (y 0).val (index6 t).2.2.1)
        (Cert.Mlp.in_block 256 (y 1).val (index6 t).2.2.2)).symm
      unfold byRows
      simp only [Nat.zero_mul, Nat.zero_add])
    fun i => by
      have h0 : (i 0 : ℕ) < 4096 := (i 0).isLt
      have h1 : (i 1 : ℕ) < 256 := (i 1).isLt
      obtain ⟨t, ht'⟩ : ∃ t : Fin grid6.N, t.val = (i 0 : ℕ) / 1024 := ⟨⟨(i 0 : ℕ) / 1024, by rw [N_6]; omega⟩, rfl⟩
      refine ⟨t, Gen.flush6_2 t, ?_⟩
      have es : ((cfg6.win 2).blk t).view.set = ((View.whole main_v35).slice (win6_2.rect t)).set := rfl
      rw [es, View.set_slice_whole, Rect.mem_set_unit]
      intro a
      have ht := (index6 t).2.2
      match a with
      | ⟨0, _⟩ =>
        show win6_2.index t 0 * 1024 ≤ (i 0 : ℕ) ∧ (i 0 : ℕ) < win6_2.index t 0 * 1024 + 1024
        rw [ht.1]; omega
      | ⟨1, _⟩ =>
        show win6_2.index t 1 * 256 ≤ (i 1 : ℕ) ∧ (i 1 : ℕ) < win6_2.index t 1 * 256 + 256
        rw [ht.2]; omega

/-! ## The gradient of the input projection's weight -/

/-- Every point's blocks. -/
theorem index7 : ∀ t : Fin grid7.N,
    (win7_0.index t 0 = 0 ∧ win7_0.index t 1 = t.val) ∧ (win7_1.index t 0 = 0 ∧ win7_1.index t 1 = 0)
    ∧ (win7_2.index t 0 = t.val ∧ win7_2.index t 1 = 0) := by
  decide +kernel

/-- The body's product. -/
theorem body7 {x : Vec Ideal S4096x1024 .bf16} {y : Vec Ideal S4096x1024 .bf16} (hy : Has2 y Y) (hx : Has2 x X) :
    Has2 (k7_pay1 y x : S1024x1024.Idx → EReal) (byCols 4096 X Y) := by
  intro i j
  unfold k7_pay1 byCols
  pointwise
  simp only [hx _ _, hy _ _]
  rw [Finset.sum_range]

theorem block7_0 (h : Has2 (V c (Pipeline.arrRef spec7 0) : S4096x5120.Idx → EReal) X) (t : Fin cfg7.N) :
    Has2 (iblk7 V c 0 t : S4096x1024.Idx → EReal) (fun r s => X (0 * 4096 + r) (t.val * 1024 + s)) := by
  intro r s
  unfold iblk7
  rw [View.read_apply]
  exact (has2_at h _).trans (congrArg₂ X (Cert.Mlp.in_block 4096 _ (index7 t).1.1) (Cert.Mlp.in_block 1024 _ (index7 t).1.2))

theorem block7_1 (h : Has2 (V c (Pipeline.arrRef spec7 1) : S4096x1024.Idx → EReal) Y) (t : Fin cfg7.N) :
    Has2 (iblk7 V c 1 t : S4096x1024.Idx → EReal) (fun r s => Y (0 * 4096 + r) (0 * 1024 + s)) := by
  intro r s
  unfold iblk7
  rw [View.read_apply]
  exact (has2_at h _).trans (congrArg₂ Y (Cert.Mlp.in_block 4096 _ (index7 t).2.1.1) (Cert.Mlp.in_block 1024 _ (index7 t).2.1.2))

/-- What the call leaves in its block. -/
theorem out7_eq (c : Dev nD) (i : grid7.Coords) (arg3 : Memref sig .tc .vmem S4096x1024 .bf16) (harg3 : arg3.IsWhole)
    (arg4 : Memref sig .tc .vmem S4096x1024 .bf16) (harg4 : arg4.IsWhole) (arg6 : Memref sig .tc .vmem S1024x1024 .f32) (harg6 : arg6.IsWhole)
    (x0 : Vec Ideal S4096x1024 .bf16) (x1 : Vec Ideal S4096x1024 .bf16) :
    out7_A_2 c i arg3 harg3 arg4 harg4 arg6 harg6 x0 x1 = k7_pay1 x1 x0 := by
  unfold out7_A_2
  rw [View.read_writes_eq_canon _ _ _ (cover7_A_2 c i arg3 harg3 arg4 harg4 arg6 harg6 x0 x1)]
  unfold kernelRun7_A
  dsimp only
  refine (View.canon_unit_zero (S := S1024x1024) zeros2 _ _).trans ?_
  rw [View.readAt_eq_ld, View.readAt_eq_ld, harg3.read_unread, harg4.read_unread]
  exact congrArg₂ k7_pay1 (View.ld_unit_zero (S := S4096x1024) zeros2 _ _) (View.ld_unit_zero (S := S4096x1024) zeros2 _ _)

/-- The block at point `t`. -/
theorem after7_has (hx : Has2 (V c (Pipeline.arrRef spec7 0) : S4096x5120.Idx → EReal) X)
    (hy : Has2 (V c (Pipeline.arrRef spec7 1) : S4096x1024.Idx → EReal) Y) (t : Fin cfg7.N) :
    Has2 ((dat7 V c).after 2 t : S1024x1024.Idx → EReal)
      (byCols 4096 (fun r s => X (0 * 4096 + r) (t.val * 1024 + s))
        (fun r s => Y (0 * 4096 + r) (0 * 1024 + s))) := by
  rw [after7_2]
  unfold outsAt7
  rw [out7_eq]
  exact body7 (block7_1 V c hy t) (block7_0 V c hx t)

/-- The array after the call. -/
theorem final7 (hx : Has2 (V c (Pipeline.arrRef spec7 0) : S4096x5120.Idx → EReal) X)
    (hy : Has2 (V c (Pipeline.arrRef spec7 1) : S4096x1024.Idx → EReal) Y) :
    ((dat7 V c).arrAt 2 cfg7.N : S5120x1024.Idx → EReal) = fun i => byCols 4096 X Y (i 0) (i 1) :=
    (dat7 V c).arrAt_eq_of_cover 2 _ (fun t _ => by
      funext y
      rw [View.read_apply]
      refine (has2_at (after7_has V c hx hy t) y).trans ?_
      refine Eq.trans ?_ (congrArg₂ (byCols 4096 X Y) (Cert.Mlp.in_block 1024 (y 0).val (index7 t).2.2.1)
        (Cert.Mlp.in_block 1024 (y 1).val (index7 t).2.2.2)).symm
      unfold byCols
      simp only [Nat.zero_mul, Nat.zero_add])
    fun i => by
      have h0 : (i 0 : ℕ) < 5120 := (i 0).isLt
      have h1 : (i 1 : ℕ) < 1024 := (i 1).isLt
      obtain ⟨t, ht'⟩ : ∃ t : Fin grid7.N, t.val = (i 0 : ℕ) / 1024 := ⟨⟨(i 0 : ℕ) / 1024, by rw [N_7]; omega⟩, rfl⟩
      refine ⟨t, Gen.flush7_2 t, ?_⟩
      have es : ((cfg7.win 2).blk t).view.set = ((View.whole main_v36).slice (win7_2.rect t)).set := rfl
      rw [es, View.set_slice_whole, Rect.mem_set_unit]
      intro a
      have ht := (index7 t).2.2
      match a with
      | ⟨0, _⟩ =>
        show win7_2.index t 0 * 1024 ≤ (i 0 : ℕ) ∧ (i 0 : ℕ) < win7_2.index t 0 * 1024 + 1024
        rw [ht.1]; omega
      | ⟨1, _⟩ =>
        show win7_2.index t 1 * 1024 ≤ (i 1 : ℕ) ∧ (i 1 : ℕ) < win7_2.index t 1 * 1024 + 1024
        rw [ht.2]; omega

end Cert.Proj

end
-- ==== Proof.MixBody.lean ====
/-
  The bodies of the output products' first three calls on one block: a product with the rows of one weight, the merge of the
  two branches under their gates, and the root-mean-square normalisation of each row.
-/
module

public import proofs.«01_k».proof.Proof.ProjArrays
public import proofs.«01_k».proof.Proof.Gen.Kernel5Ideal.Frame

@[expose] public section

set_option maxRecDepth 16384

noncomputable section

namespace Cert.Mix

open Idealize.ShloMosaic Cert.Kernel5Ideal Cert.Kernel5Ideal.Gen Cert.Reals
open Cert.Mlp (Has2 Has3)
open Cert.Proj (product byCols)
open Finset (range)

/-- `w` holds one weight, 256 of its rows in every chip's plane. -/
def HasW {a b : ℕ} (w : (⟨4, ![a, b, 256, 1024]⟩ : Shape).Idx → EReal) (f : ℕ → ℕ → EReal) : Prop :=
  ∀ (p : Fin a) (q : Fin b) (i : Fin 256) (j : Fin 1024), w (ix4 p q i j) = f (p * 256 + i) j

/-- The logistic function. -/
def gate (x : EReal) : EReal := Ideal.div 1 (1 + Ideal.exp (-x))

/-- Both branches under their gates. -/
def merge (A C P Q : ℕ → ℕ → EReal) (r s : ℕ) : EReal := gate (A r s) * P r s + gate (C r s) * Q r s

/-- Each row over its root mean square, times a scale. -/
def norm (X G : ℕ → ℕ → EReal) (r s : ℕ) : EReal :=
  X r s * Ideal.rsqrt (Ideal.div (∑ k ∈ range 1024, X r k * X r k) (Ideal.ofBits .f32 0x44800000#32) + Ideal.ofBits .f32 0x358637BD#32) * G 0 s

variable {X W A C P B G G' R : ℕ → ℕ → EReal} {w : Vec Ideal S4x1x256x1024 .bf16} {x a c p : Vec Ideal S1024x1024 .bf16}
  {b : Vec Ideal S1x1024 .f32} {y : Vec Ideal S512x1024 .bf16} {g g' : Vec Ideal S1x1024 .f32} {r : Vec Ideal S512x1024 .f32}

/-- The rows of the weight, 256 in every plane, are its rows in order. -/
theorem in_order (f : ℕ → ℕ → EReal) (j k : ℕ) : f (k / 256 * 256 + k % 256) j = f k j := by rw [Nat.div_add_mod']

theorem body0 (hw : HasW w W) (hx : Has2 x X) : Has2 (k0_pay1 w x : S1024x1024.Idx → EReal) (product 1024 X W) := by
  intro i j
  unfold k0_pay1 product
  pointwise
  simp only [hx _ _, hw _ _ _ _, in_order W]
  rw [Finset.sum_range]

theorem body1_2 (hw : HasW w W) (hx : Has2 x X) : Has2 (k1_pay2 w x : S1024x1024.Idx → EReal) (product 1024 X W) := by
  intro i j
  unfold k1_pay2 product
  pointwise
  simp only [hx _ _, hw _ _ _ _, in_order W]
  rw [Finset.sum_range]

/-- The branches merged under their gates, the second with its bias. -/
theorem body1_3 (hw : HasW w W) (hx : Has2 x X) (ha : Has2 a A) (hc : Has2 c C) (hp : Has2 p P) (hb : Has2 b B) :
    Has2 (k1_pay3 w x a c p b : S1024x1024.Idx → EReal) (merge A C P (fun i j => product 1024 X W i j + B 0 j)) := by
  intro i j
  unfold k1_pay3 merge gate
  pointwise
  rw [body1_2 hw hx i j, ha i j, hc i j, hp i j, hb 0 j, zero_sub, zero_sub]
  rfl

theorem body2_2 (hw : HasW w W) (hy : Has2 y X) : Has2 (k2_pay2 w y : S512x1024.Idx → EReal) (product 1024 X W) := by
  intro i j
  unfold k2_pay2 product
  pointwise
  simp only [hy _ _, hw _ _ _ _, in_order W]
  rw [Finset.sum_range]

/-- The first residual sum. -/
theorem body2_3 (hw : HasW w W) (hy : Has2 y X) (hr : Has2 r R) (hg : Has2 g G) :
    Has2 (k2_pay3 w y r g : S512x1024.Idx → EReal) (fun i j => R i j + norm (product 1024 X W) G i j) := by
  intro i j
  unfold k2_pay3 norm
  pointwise
  simp only [body2_2 hw hy _ _, hr _ _, hg _ _]
  rw [Finset.sum_range]
  rfl

/-- The first residual sum, normalised. -/
theorem body2_4 (hw : HasW w W) (hy : Has2 y X) (hr : Has2 r R) (hg : Has2 g G) (hg' : Has2 g' G') :
    Has2 (k2_pay4 w y r g g' : S512x1024.Idx → EReal) (norm (fun i j => R i j + norm (product 1024 X W) G i j) G') := by
  intro i j
  have h := body2_3 hw hy hr hg
  unfold k2_pay4
  generalize k2_pay3 w y r g = v at h ⊢
  generalize (fun i j => R i j + norm (product 1024 X W) G i j) = Z at h ⊢
  unfold norm
  pointwise
  simp only [h _ _, hg' _ _]
  rw [Finset.sum_range]
  rfl

end Cert.Mix
-- ==== Proof.MixWeights.lean ====
/-
  The output products' last three calls on the whole buffers: each writes one weight's 256 rows of every chip's plane, a plane
  at a point, and leaves the rest of the buffer as it found it.
-/
module

public import proofs.«01_k».proof.Proof.MixBody

@[expose] public section

set_option maxRecDepth 16384

noncomputable section

namespace Cert.Mix

open Idealize.ShloMosaic Idealize.ShloMosaic.TcCoe Idealize.SL.Sem Cert.Kernel5Ideal Cert.Kernel5Ideal.Gen Cert.Reals
open Cert.Mlp (Has2 Has3 has2_at has3_at zeros2 zeros3)
open Cert.Proj (byCols)
open Idealize.ShloMosaic.Pipeline (Dat)
open Finset (range)

/-- A weight's gradient at plane `p`: row `r` belongs to the column `256 p + (r - o)` of `X`. -/
def rows (o : ℕ) (X D : ℕ → ℕ → EReal) (p r s : ℕ) : EReal := byCols 4096 X D (p * 256 + (r - o)) s

/-- Row `r` and column `s` of the block at point `t` is an entry of the gradient. -/
theorem rows_block (n : ℕ) (X D : ℕ → ℕ → EReal) (t a b e p r s : ℕ) (ha : a = t) (hb : b = n) (he : e = 0) (hp : p < 1) :
    rows (n * 256) X D (a * 1 + 1 * p) (b * 256 + 1 * r) (e * 1024 + 1 * s) = byCols 4096 (fun u i => X u (t * 256 + i)) D r s := by
  subst ha hb he
  unfold rows byCols
  rw [show (a * 1 + 1 * p) * 256 + (b * 256 + 1 * r - b * 256) = a * 256 + r by omega, Nat.zero_mul, Nat.zero_add, Nat.one_mul]

variable (V : (c : Dev nD) → (b : Ref sig .tc) → Buf (Elt Ideal) ((c : Thread nD τ).loc b)) (c : Dev nD)

/-! ## The gradient of the output weight -/

/-- Every point's blocks. -/
theorem index3 : ∀ t : Fin grid3.N,
    (win3_0.index t 0 = 0 ∧ win3_0.index t 1 = t.val) ∧ (win3_1.index t 0 = 0 ∧ win3_1.index t 1 = 0)
    ∧ (win3_2.index t 0 = t.val ∧ win3_2.index t 1 = 7 ∧ win3_2.index t 2 = 0)
    ∧ (win3_3.index t 0 = t.val ∧ win3_3.index t 1 = 7 ∧ win3_3.index t 2 = 0) := by
  decide +kernel

section
variable {X D : ℕ → ℕ → EReal} {x : Vec Ideal S4096x256 .bf16} {d : Vec Ideal S4096x1024 .bf16}

theorem body3 (hd : Has2 d D) (hx : Has2 x X) : Has2 (k3_pay1 d x : S256x1024.Idx → EReal) (byCols 4096 X D) := by
  intro i j
  unfold k3_pay1 byCols
  pointwise
  simp only [hx _ _, hd _ _]
  rw [Finset.sum_range]

theorem body3_2 (hd : Has2 d D) (hx : Has2 x X) : Has3 (k3_pay2 d x : S1x256x1024.Idx → EReal) (fun _ i j => byCols 4096 X D i j) := by
  intro p i j
  unfold k3_pay2
  pointwise
  exact body3 hd hx i j

theorem body3_3 (hd : Has2 d D) (hx : Has2 x X) : Has3 (k3_pay3 d x : S1x256x1024.Idx → EReal) (fun _ i j => byCols 4096 X D i j) := by
  intro p i j
  unfold k3_pay3
  pointwise
  exact body3 hd hx i j

end

theorem block3_0 {X : ℕ → ℕ → EReal} (h : Has2 (V c (Pipeline.arrRef spec3 0) : S4096x1024.Idx → EReal) X) (t : Fin cfg3.N) :
    Has2 (iblk3 V c 0 t : S4096x256.Idx → EReal) (fun r s => X r (t.val * 256 + s)) := by
  intro r s
  unfold iblk3
  rw [View.read_apply]
  exact (has2_at h _).trans (congrArg₂ X (Cert.Mlp.in_first 4096 _ (index3 t).1.1) (Cert.Mlp.in_block 256 _ (index3 t).1.2))

theorem block3_1 {D : ℕ → ℕ → EReal} (h : Has2 (V c (Pipeline.arrRef spec3 1) : S4096x1024.Idx → EReal) D) (t : Fin cfg3.N) :
    Has2 (iblk3 V c 1 t : S4096x1024.Idx → EReal) D := by
  intro r s
  unfold iblk3
  rw [View.read_apply]
  exact (has2_at h _).trans (congrArg₂ D (Cert.Mlp.in_first 4096 _ (index3 t).2.1.1) (Cert.Mlp.in_first 1024 _ (index3 t).2.1.2))

/-- What the call leaves in its block of the first buffer. -/
theorem out3_2_eq (c : Dev nD) (i : grid3.Coords) (arg3 : Memref sig .tc .vmem S4096x256 .bf16) (harg3 : arg3.IsWhole)
    (arg4 : Memref sig .tc .vmem S4096x1024 .bf16) (harg4 : arg4.IsWhole) (arg7 : Memref sig .tc .vmem S1x256x1024 .f32) (harg7 : arg7.IsWhole)
    (arg8 : Memref sig .tc .vmem S1x256x1024 .bf16) (harg8 : arg8.IsWhole) (x0 : Vec Ideal S4096x256 .bf16) (x1 : Vec Ideal S4096x1024 .bf16) :
    out3_A_2 c i arg3 harg3 arg4 harg4 arg7 harg7 arg8 harg8 x0 x1 = k3_pay2 x1 x0 := by
  unfold out3_A_2
  rw [View.read_writes_eq_canon _ _ _ (cover3_A_2 c i arg3 harg3 arg4 harg4 arg7 harg7 arg8 harg8 x0 x1)]
  unfold kernelRun3_A
  dsimp only
  refine (View.canon_unit_zero (S := S1x256x1024) zeros3 _ _).trans ?_
  rw [View.readAt_eq_ld, View.readAt_eq_ld, harg3.read_unread, harg4.read_unread]
  exact congrArg₂ k3_pay2 (View.ld_unit_zero (S := S4096x1024) zeros2 _ _) (View.ld_unit_zero (S := S4096x256) zeros2 _ _)

section
variable {X D : ℕ → ℕ → EReal} (hx : Has2 (V c (Pipeline.arrRef spec3 0) : S4096x1024.Idx → EReal) X)
  (hd : Has2 (V c (Pipeline.arrRef spec3 1) : S4096x1024.Idx → EReal) D)

include hx hd in
/-- What the call writes back to the first buffer at point `t` is the gradient's block. -/
theorem flushed3_2_read (t : Fin cfg3.N) : (dat3 V c).flushed 2 t
    = ((cfg3.win 2).blk t).view.read (Elt Ideal) (fun i : S4x3072x1024.Idx => rows 1792 X D (i 0) (i 1) (i 2)) := by
  have e : Has3 ((dat3 V c).after 2 t : S1x256x1024.Idx → EReal) (fun _ i j => byCols 4096 (fun u i => X u (t.val * 256 + i)) D i j) := by
    rw [after3_2]
    unfold outsAt3
    dsimp only
    rw [out3_2_eq]
    exact body3_2 (block3_1 V c hd t) (block3_0 V c hx t)
  funext y
  rw [View.read_apply]
  refine (has3_at e y).trans ?_
  exact (rows_block 7 X D t _ _ _ _ _ _ (index3 t).2.2.1.1 (index3 t).2.2.1.2.1 (index3 t).2.2.1.2.2 (y 0).isLt).symm

/-- An index is in the block at point `t` when its rows are. -/
theorem mem3_2 (t : Fin cfg3.N) (i : S4x3072x1024.Idx) : i ∈ ((cfg3.win 2).blk t).view.set ↔
    (i 0 : ℕ) = win3_2.index t 0 ∧ win3_2.index t 1 * 256 ≤ (i 1 : ℕ) ∧ (i 1 : ℕ) < win3_2.index t 1 * 256 + 256 := by
  have es : ((cfg3.win 2).blk t).view.set = ((View.whole main_v21_0).slice (win3_2.rect t)).set := rfl
  rw [es, View.set_slice_whole, Rect.mem_set_unit]
  have h2 : (i 2 : ℕ) < 1024 := (i 2).isLt
  constructor
  · intro h
    have a0 : win3_2.index t 0 * 1 ≤ (i 0 : ℕ) ∧ (i 0 : ℕ) < win3_2.index t 0 * 1 + 1 := h 0
    have a1 : win3_2.index t 1 * 256 ≤ (i 1 : ℕ) ∧ (i 1 : ℕ) < win3_2.index t 1 * 256 + 256 := h 1
    exact ⟨by omega, a1⟩
  · rintro ⟨h0, h1⟩ a
    match a with
    | ⟨0, _⟩ =>
      show win3_2.index t 0 * 1 ≤ (i 0 : ℕ) ∧ (i 0 : ℕ) < win3_2.index t 0 * 1 + 1
      omega
    | ⟨1, _⟩ => exact h1
    | ⟨2, _⟩ =>
      show win3_2.index t 2 * 1024 ≤ (i 2 : ℕ) ∧ (i 2 : ℕ) < win3_2.index t 2 * 1024 + 1024
      rw [(index3 t).2.2.1.2.2, Nat.zero_mul, Nat.zero_add]; exact ⟨Nat.zero_le _, h2⟩

include hx hd in
/-- The first buffer after the call: the gradient in the rows it writes, the others as before it. -/
theorem final3_2 : ((dat3 V c).arrAt 2 cfg3.N : S4x3072x1024.Idx → EReal) = fun i =>
    if 1792 ≤ (i 1 : ℕ) ∧ (i 1 : ℕ) < 2048 then rows 1792 X D (i 0) (i 1) (i 2)
    else (V c (Pipeline.arrRef spec3 2) : S4x3072x1024.Idx → EReal) i := by
  funext i
  have h0 : (i 0 : ℕ) < 4 := (i 0).isLt
  split
  · next h =>
    obtain ⟨t, ht⟩ : ∃ t : Fin grid3.N, t.val = (i 0 : ℕ) := ⟨⟨(i 0 : ℕ), by rw [N_3]; omega⟩, rfl⟩
    refine (dat3 V c).arrAt_apply_of_mem 2 (fun i : S4x3072x1024.Idx => rows 1792 X D (i 0) (i 1) (i 2))
      (fun t _ => flushed3_2_read V c hx hd t) cfg3.N t i t.isLt (Gen.flush3_2 t) ?_
    rw [mem3_2, (index3 t).2.2.1.1, (index3 t).2.2.1.2.1]
    omega
  · next h =>
    refine ((dat3 V c).arrAt_apply_of_forall_not_mem 2 cfg3.N i fun t ht _ => ?_).trans (congrFun (A_eq3 V c 2) i)
    rw [mem3_2, (index3 t).2.2.1.1, (index3 t).2.2.1.2.1]
    omega

end

/-- What the call leaves in its block of the second buffer. -/
theorem out3_3_eq (c : Dev nD) (i : grid3.Coords) (arg3 : Memref sig .tc .vmem S4096x256 .bf16) (harg3 : arg3.IsWhole)
    (arg4 : Memref sig .tc .vmem S4096x1024 .bf16) (harg4 : arg4.IsWhole) (arg7 : Memref sig .tc .vmem S1x256x1024 .f32) (harg7 : arg7.IsWhole)
    (arg8 : Memref sig .tc .vmem S1x256x1024 .bf16) (harg8 : arg8.IsWhole) (x0 : Vec Ideal S4096x256 .bf16) (x1 : Vec Ideal S4096x1024 .bf16) :
    out3_A_3 c i arg3 harg3 arg4 harg4 arg7 harg7 arg8 harg8 x0 x1 = k3_pay3 x1 x0 := by
  unfold out3_A_3
  rw [View.read_writes_eq_canon _ _ _ (cover3_A_3 c i arg3 harg3 arg4 harg4 arg7 harg7 arg8 harg8 x0 x1)]
  unfold kernelRun3_A
  dsimp only
  refine (View.canon_unit_zero (S := S1x256x1024) zeros3 _ _).trans ?_
  rw [View.readAt_eq_ld, View.readAt_eq_ld, harg3.read_unread, harg4.read_unread]
  exact congrArg₂ k3_pay3 (View.ld_unit_zero (S := S4096x1024) zeros2 _ _) (View.ld_unit_zero (S := S4096x256) zeros2 _ _)

section
variable {X D : ℕ → ℕ → EReal} (hx : Has2 (V c (Pipeline.arrRef spec3 0) : S4096x1024.Idx → EReal) X)
  (hd : Has2 (V c (Pipeline.arrRef spec3 1) : S4096x1024.Idx → EReal) D)

include hx hd in
/-- What the call writes back to the second buffer at point `t` is the gradient's block. -/
theorem flushed3_3_read (t : Fin cfg3.N) : (dat3 V c).flushed 3 t
    = ((cfg3.win 3).blk t).view.read (Elt Ideal) (fun i : S4x3072x1024.Idx => rows 1792 X D (i 0) (i 1) (i 2)) := by
  have e : Has3 ((dat3 V c).after 3 t : S1x256x1024.Idx → EReal) (fun _ i j => byCols 4096 (fun u i => X u (t.val * 256 + i)) D i j) := by
    rw [after3_3]
    unfold outsAt3
    dsimp only
    rw [out3_3_eq]
    exact body3_3 (block3_1 V c hd t) (block3_0 V c hx t)
  funext y
  rw [View.read_apply]
  refine (has3_at e y).trans ?_
  exact (rows_block 7 X D t _ _ _ _ _ _ (index3 t).2.2.2.1 (index3 t).2.2.2.2.1 (index3 t).2.2.2.2.2 (y 0).isLt).symm

/-- An index is in the block at point `t` when its rows are. -/
theorem mem3_3 (t : Fin cfg3.N) (i : S4x3072x1024.Idx) : i ∈ ((cfg3.win 3).blk t).view.set ↔
    (i 0 : ℕ) = win3_3.index t 0 ∧ win3_3.index t 1 * 256 ≤ (i 1 : ℕ) ∧ (i 1 : ℕ) < win3_3.index t 1 * 256 + 256 := by
  have es : ((cfg3.win 3).blk t).view.set = ((View.whole main_v21_1).slice (win3_3.rect t)).set := rfl
  rw [es, View.set_slice_whole, Rect.mem_set_unit]
  have h2 : (i 2 : ℕ) < 1024 := (i 2).isLt
  constructor
  · intro h
    have a0 : win3_3.index t 0 * 1 ≤ (i 0 : ℕ) ∧ (i 0 : ℕ) < win3_3.index t 0 * 1 + 1 := h 0
    have a1 : win3_3.index t 1 * 256 ≤ (i 1 : ℕ) ∧ (i 1 : ℕ) < win3_3.index t 1 * 256 + 256 := h 1
    exact ⟨by omega, a1⟩
  · rintro ⟨h0, h1⟩ a
    match a with
    | ⟨0, _⟩ =>
      show win3_3.index t 0 * 1 ≤ (i 0 : ℕ) ∧ (i 0 : ℕ) < win3_3.index t 0 * 1 + 1
      omega
    | ⟨1, _⟩ => exact h1
    | ⟨2, _⟩ =>
      show win3_3.index t 2 * 1024 ≤ (i 2 : ℕ) ∧ (i 2 : ℕ) < win3_3.index t 2 * 1024 + 1024
      rw [(index3 t).2.2.2.2.2, Nat.zero_mul, Nat.zero_add]; exact ⟨Nat.zero_le _, h2⟩

include hx hd in
/-- The second buffer after the call: the gradient in the rows it writes, the others as before it. -/
theorem final3_3 : ((dat3 V c).arrAt 3 cfg3.N : S4x3072x1024.Idx → EReal) = fun i =>
    if 1792 ≤ (i 1 : ℕ) ∧ (i 1 : ℕ) < 2048 then rows 1792 X D (i 0) (i 1) (i 2)
    else (V c (Pipeline.arrRef spec3 3) : S4x3072x1024.Idx → EReal) i := by
  funext i
  have h0 : (i 0 : ℕ) < 4 := (i 0).isLt
  split
  · next h =>
    obtain ⟨t, ht⟩ : ∃ t : Fin grid3.N, t.val = (i 0 : ℕ) := ⟨⟨(i 0 : ℕ), by rw [N_3]; omega⟩, rfl⟩
    refine (dat3 V c).arrAt_apply_of_mem 3 (fun i : S4x3072x1024.Idx => rows 1792 X D (i 0) (i 1) (i 2))
      (fun t _ => flushed3_3_read V c hx hd t) cfg3.N t i t.isLt (Gen.flush3_3 t) ?_
    rw [mem3_3, (index3 t).2.2.2.1, (index3 t).2.2.2.2.1]
    omega
  · next h =>
    refine ((dat3 V c).arrAt_apply_of_forall_not_mem 3 cfg3.N i fun t ht _ => ?_).trans (congrFun (A_eq3 V c 3) i)
    rw [mem3_3, (index3 t).2.2.2.1, (index3 t).2.2.2.2.1]
    omega

end

/-! ## The gradient of the attention branch's weight -/

/-- Every point's blocks. -/
theorem index4 : ∀ t : Fin grid4.N,
    (win4_0.index t 0 = 0 ∧ win4_0.index t 1 = t.val) ∧ (win4_1.index t 0 = 0 ∧ win4_1.index t 1 = 0)
    ∧ (win4_2.index t 0 = t.val ∧ win4_2.index t 1 = 4 ∧ win4_2.index t 2 = 0)
    ∧ (win4_3.index t 0 = t.val ∧ win4_3.index t 1 = 4 ∧ win4_3.index t 2 = 0) := by
  decide +kernel

section
variable {X D : ℕ → ℕ → EReal} {x : Vec Ideal S4096x256 .bf16} {d : Vec Ideal S4096x1024 .bf16}

theorem body4 (hd : Has2 d D) (hx : Has2 x X) : Has2 (k4_pay1 d x : S256x1024.Idx → EReal) (byCols 4096 X D) := by
  intro i j
  unfold k4_pay1 byCols
  pointwise
  simp only [hx _ _, hd _ _]
  rw [Finset.sum_range]

theorem body4_2 (hd : Has2 d D) (hx : Has2 x X) : Has3 (k4_pay2 d x : S1x256x1024.Idx → EReal) (fun _ i j => byCols 4096 X D i j) := by
  intro p i j
  unfold k4_pay2
  pointwise
  exact body4 hd hx i j

theorem body4_3 (hd : Has2 d D) (hx : Has2 x X) : Has3 (k4_pay3 d x : S1x256x1024.Idx → EReal) (fun _ i j => byCols 4096 X D i j) := by
  intro p i j
  unfold k4_pay3
  pointwise
  exact body4 hd hx i j

end

theorem block4_0 {X : ℕ → ℕ → EReal} (h : Has2 (V c (Pipeline.arrRef spec4 0) : S4096x1024.Idx → EReal) X) (t : Fin cfg4.N) :
    Has2 (iblk4 V c 0 t : S4096x256.Idx → EReal) (fun r s => X r (t.val * 256 + s)) := by
  intro r s
  unfold iblk4
  rw [View.read_apply]
  exact (has2_at h _).trans (congrArg₂ X (Cert.Mlp.in_first 4096 _ (index4 t).1.1) (Cert.Mlp.in_block 256 _ (index4 t).1.2))

theorem block4_1 {D : ℕ → ℕ → EReal} (h : Has2 (V c (Pipeline.arrRef spec4 1) : S4096x1024.Idx → EReal) D) (t : Fin cfg4.N) :
    Has2 (iblk4 V c 1 t : S4096x1024.Idx → EReal) D := by
  intro r s
  unfold iblk4
  rw [View.read_apply]
  exact (has2_at h _).trans (congrArg₂ D (Cert.Mlp.in_first 4096 _ (index4 t).2.1.1) (Cert.Mlp.in_first 1024 _ (index4 t).2.1.2))

/-- What the call leaves in its block of the first buffer. -/
theorem out4_2_eq (c : Dev nD) (i : grid4.Coords) (arg3 : Memref sig .tc .vmem S4096x256 .bf16) (harg3 : arg3.IsWhole)
    (arg4 : Memref sig .tc .vmem S4096x1024 .bf16) (harg4 : arg4.IsWhole) (arg7 : Memref sig .tc .vmem S1x256x1024 .f32) (harg7 : arg7.IsWhole)
    (arg8 : Memref sig .tc .vmem S1x256x1024 .bf16) (harg8 : arg8.IsWhole) (x0 : Vec Ideal S4096x256 .bf16) (x1 : Vec Ideal S4096x1024 .bf16) :
    out4_A_2 c i arg3 harg3 arg4 harg4 arg7 harg7 arg8 harg8 x0 x1 = k4_pay2 x1 x0 := by
  unfold out4_A_2
  rw [View.read_writes_eq_canon _ _ _ (cover4_A_2 c i arg3 harg3 arg4 harg4 arg7 harg7 arg8 harg8 x0 x1)]
  unfold kernelRun4_A
  dsimp only
  refine (View.canon_unit_zero (S := S1x256x1024) zeros3 _ _).trans ?_
  rw [View.readAt_eq_ld, View.readAt_eq_ld, harg3.read_unread, harg4.read_unread]
  exact congrArg₂ k4_pay2 (View.ld_unit_zero (S := S4096x1024) zeros2 _ _) (View.ld_unit_zero (S := S4096x256) zeros2 _ _)

section
variable {X D : ℕ → ℕ → EReal} (hx : Has2 (V c (Pipeline.arrRef spec4 0) : S4096x1024.Idx → EReal) X)
  (hd : Has2 (V c (Pipeline.arrRef spec4 1) : S4096x1024.Idx → EReal) D)

include hx hd in
/-- What the call writes back to the first buffer at point `t` is the gradient's block. -/
theorem flushed4_2_read (t : Fin cfg4.N) : (dat4 V c).flushed 2 t
    = ((cfg4.win 2).blk t).view.read (Elt Ideal) (fun i : S4x3072x1024.Idx => rows 1024 X D (i 0) (i 1) (i 2)) := by
  have e : Has3 ((dat4 V c).after 2 t : S1x256x1024.Idx → EReal) (fun _ i j => byCols 4096 (fun u i => X u (t.val * 256 + i)) D i j) := by
    rw [after4_2]
    unfold outsAt4
    dsimp only
    rw [out4_2_eq]
    exact body4_2 (block4_1 V c hd t) (block4_0 V c hx t)
  funext y
  rw [View.read_apply]
  refine (has3_at e y).trans ?_
  exact (rows_block 4 X D t _ _ _ _ _ _ (index4 t).2.2.1.1 (index4 t).2.2.1.2.1 (index4 t).2.2.1.2.2 (y 0).isLt).symm

/-- An index is in the block at point `t` when its rows are. -/
theorem mem4_2 (t : Fin cfg4.N) (i : S4x3072x1024.Idx) : i ∈ ((cfg4.win 2).blk t).view.set ↔
    (i 0 : ℕ) = win4_2.index t 0 ∧ win4_2.index t 1 * 256 ≤ (i 1 : ℕ) ∧ (i 1 : ℕ) < win4_2.index t 1 * 256 + 256 := by
  have es : ((cfg4.win 2).blk t).view.set = ((View.whole main_v22_0).slice (win4_2.rect t)).set := rfl
  rw [es, View.set_slice_whole, Rect.mem_set_unit]
  have h2 : (i 2 : ℕ) < 1024 := (i 2).isLt
  constructor
  · intro h
    have a0 : win4_2.index t 0 * 1 ≤ (i 0 : ℕ) ∧ (i 0 : ℕ) < win4_2.index t 0 * 1 + 1 := h 0
    have a1 : win4_2.index t 1 * 256 ≤ (i 1 : ℕ) ∧ (i 1 : ℕ) < win4_2.index t 1 * 256 + 256 := h 1
    exact ⟨by omega, a1⟩
  · rintro ⟨h0, h1⟩ a
    match a with
    | ⟨0, _⟩ =>
      show win4_2.index t 0 * 1 ≤ (i 0 : ℕ) ∧ (i 0 : ℕ) < win4_2.index t 0 * 1 + 1
      omega
    | ⟨1, _⟩ => exact h1
    | ⟨2, _⟩ =>
      show win4_2.index t 2 * 1024 ≤ (i 2 : ℕ) ∧ (i 2 : ℕ) < win4_2.index t 2 * 1024 + 1024
      rw [(index4 t).2.2.1.2.2, Nat.zero_mul, Nat.zero_add]; exact ⟨Nat.zero_le _, h2⟩

include hx hd in
/-- The first buffer after the call: the gradient in the rows it writes, the others as before it. -/
theorem final4_2 : ((dat4 V c).arrAt 2 cfg4.N : S4x3072x1024.Idx → EReal) = fun i =>
    if 1024 ≤ (i 1 : ℕ) ∧ (i 1 : ℕ) < 1280 then rows 1024 X D (i 0) (i 1) (i 2)
    else (V c (Pipeline.arrRef spec4 2) : S4x3072x1024.Idx → EReal) i := by
  funext i
  have h0 : (i 0 : ℕ) < 4 := (i 0).isLt
  split
  · next h =>
    obtain ⟨t, ht⟩ : ∃ t : Fin grid4.N, t.val = (i 0 : ℕ) := ⟨⟨(i 0 : ℕ), by rw [N_4]; omega⟩, rfl⟩
    refine (dat4 V c).arrAt_apply_of_mem 2 (fun i : S4x3072x1024.Idx => rows 1024 X D (i 0) (i 1) (i 2))
      (fun t _ => flushed4_2_read V c hx hd t) cfg4.N t i t.isLt (Gen.flush4_2 t) ?_
    rw [mem4_2, (index4 t).2.2.1.1, (index4 t).2.2.1.2.1]
    omega
  · next h =>
    refine ((dat4 V c).arrAt_apply_of_forall_not_mem 2 cfg4.N i fun t ht _ => ?_).trans (congrFun (A_eq4 V c 2) i)
    rw [mem4_2, (index4 t).2.2.1.1, (index4 t).2.2.1.2.1]
    omega

end

/-- What the call leaves in its block of the second buffer. -/
theorem out4_3_eq (c : Dev nD) (i : grid4.Coords) (arg3 : Memref sig .tc .vmem S4096x256 .bf16) (harg3 : arg3.IsWhole)
    (arg4 : Memref sig .tc .vmem S4096x1024 .bf16) (harg4 : arg4.IsWhole) (arg7 : Memref sig .tc .vmem S1x256x1024 .f32) (harg7 : arg7.IsWhole)
    (arg8 : Memref sig .tc .vmem S1x256x1024 .bf16) (harg8 : arg8.IsWhole) (x0 : Vec Ideal S4096x256 .bf16) (x1 : Vec Ideal S4096x1024 .bf16) :
    out4_A_3 c i arg3 harg3 arg4 harg4 arg7 harg7 arg8 harg8 x0 x1 = k4_pay3 x1 x0 := by
  unfold out4_A_3
  rw [View.read_writes_eq_canon _ _ _ (cover4_A_3 c i arg3 harg3 arg4 harg4 arg7 harg7 arg8 harg8 x0 x1)]
  unfold kernelRun4_A
  dsimp only
  refine (View.canon_unit_zero (S := S1x256x1024) zeros3 _ _).trans ?_
  rw [View.readAt_eq_ld, View.readAt_eq_ld, harg3.read_unread, harg4.read_unread]
  exact congrArg₂ k4_pay3 (View.ld_unit_zero (S := S4096x1024) zeros2 _ _) (View.ld_unit_zero (S := S4096x256) zeros2 _ _)

section
variable {X D : ℕ → ℕ → EReal} (hx : Has2 (V c (Pipeline.arrRef spec4 0) : S4096x1024.Idx → EReal) X)
  (hd : Has2 (V c (Pipeline.arrRef spec4 1) : S4096x1024.Idx → EReal) D)

include hx hd in
/-- What the call writes back to the second buffer at point `t` is the gradient's block. -/
theorem flushed4_3_read (t : Fin cfg4.N) : (dat4 V c).flushed 3 t
    = ((cfg4.win 3).blk t).view.read (Elt Ideal) (fun i : S4x3072x1024.Idx => rows 1024 X D (i 0) (i 1) (i 2)) := by
  have e : Has3 ((dat4 V c).after 3 t : S1x256x1024.Idx → EReal) (fun _ i j => byCols 4096 (fun u i => X u (t.val * 256 + i)) D i j) := by
    rw [after4_3]
    unfold outsAt4
    dsimp only
    rw [out4_3_eq]
    exact body4_3 (block4_1 V c hd t) (block4_0 V c hx t)
  funext y
  rw [View.read_apply]
  refine (has3_at e y).trans ?_
  exact (rows_block 4 X D t _ _ _ _ _ _ (index4 t).2.2.2.1 (index4 t).2.2.2.2.1 (index4 t).2.2.2.2.2 (y 0).isLt).symm

/-- An index is in the block at point `t` when its rows are. -/
theorem mem4_3 (t : Fin cfg4.N) (i : S4x3072x1024.Idx) : i ∈ ((cfg4.win 3).blk t).view.set ↔
    (i 0 : ℕ) = win4_3.index t 0 ∧ win4_3.index t 1 * 256 ≤ (i 1 : ℕ) ∧ (i 1 : ℕ) < win4_3.index t 1 * 256 + 256 := by
  have es : ((cfg4.win 3).blk t).view.set = ((View.whole main_v22_1).slice (win4_3.rect t)).set := rfl
  rw [es, View.set_slice_whole, Rect.mem_set_unit]
  have h2 : (i 2 : ℕ) < 1024 := (i 2).isLt
  constructor
  · intro h
    have a0 : win4_3.index t 0 * 1 ≤ (i 0 : ℕ) ∧ (i 0 : ℕ) < win4_3.index t 0 * 1 + 1 := h 0
    have a1 : win4_3.index t 1 * 256 ≤ (i 1 : ℕ) ∧ (i 1 : ℕ) < win4_3.index t 1 * 256 + 256 := h 1
    exact ⟨by omega, a1⟩
  · rintro ⟨h0, h1⟩ a
    match a with
    | ⟨0, _⟩ =>
      show win4_3.index t 0 * 1 ≤ (i 0 : ℕ) ∧ (i 0 : ℕ) < win4_3.index t 0 * 1 + 1
      omega
    | ⟨1, _⟩ => exact h1
    | ⟨2, _⟩ =>
      show win4_3.index t 2 * 1024 ≤ (i 2 : ℕ) ∧ (i 2 : ℕ) < win4_3.index t 2 * 1024 + 1024
      rw [(index4 t).2.2.2.2.2, Nat.zero_mul, Nat.zero_add]; exact ⟨Nat.zero_le _, h2⟩

include hx hd in
/-- The second buffer after the call: the gradient in the rows it writes, the others as before it. -/
theorem final4_3 : ((dat4 V c).arrAt 3 cfg4.N : S4x3072x1024.Idx → EReal) = fun i =>
    if 1024 ≤ (i 1 : ℕ) ∧ (i 1 : ℕ) < 1280 then rows 1024 X D (i 0) (i 1) (i 2)
    else (V c (Pipeline.arrRef spec4 3) : S4x3072x1024.Idx → EReal) i := by
  funext i
  have h0 : (i 0 : ℕ) < 4 := (i 0).isLt
  split
  · next h =>
    obtain ⟨t, ht⟩ : ∃ t : Fin grid4.N, t.val = (i 0 : ℕ) := ⟨⟨(i 0 : ℕ), by rw [N_4]; omega⟩, rfl⟩
    refine (dat4 V c).arrAt_apply_of_mem 3 (fun i : S4x3072x1024.Idx => rows 1024 X D (i 0) (i 1) (i 2))
      (fun t _ => flushed4_3_read V c hx hd t) cfg4.N t i t.isLt (Gen.flush4_3 t) ?_
    rw [mem4_3, (index4 t).2.2.2.1, (index4 t).2.2.2.2.1]
    omega
  · next h =>
    refine ((dat4 V c).arrAt_apply_of_forall_not_mem 3 cfg4.N i fun t ht _ => ?_).trans (congrFun (A_eq4 V c 3) i)
    rw [mem4_3, (index4 t).2.2.2.1, (index4 t).2.2.2.2.1]
    omega

end

/-! ## The gradient of the convolution branch's weight -/

/-- Every point's blocks. -/
theorem index5 : ∀ t : Fin grid5.N,
    (win5_0.index t 0 = 0 ∧ win5_0.index t 1 = t.val) ∧ (win5_1.index t 0 = 0 ∧ win5_1.index t 1 = 0)
    ∧ (win5_2.index t 0 = t.val ∧ win5_2.index t 1 = 6 ∧ win5_2.index t 2 = 0)
    ∧ (win5_3.index t 0 = t.val ∧ win5_3.index t 1 = 6 ∧ win5_3.index t 2 = 0) := by
  decide +kernel

section
variable {X D : ℕ → ℕ → EReal} {x : Vec Ideal S4096x256 .bf16} {d : Vec Ideal S4096x1024 .bf16}

theorem body5 (hd : Has2 d D) (hx : Has2 x X) : Has2 (k5_pay1 d x : S256x1024.Idx → EReal) (byCols 4096 X D) := by
  intro i j
  unfold k5_pay1 byCols
  pointwise
  simp only [hx _ _, hd _ _]
  rw [Finset.sum_range]

theorem body5_2 (hd : Has2 d D) (hx : Has2 x X) : Has3 (k5_pay2 d x : S1x256x1024.Idx → EReal) (fun _ i j => byCols 4096 X D i j) := by
  intro p i j
  unfold k5_pay2
  pointwise
  exact body5 hd hx i j

theorem body5_3 (hd : Has2 d D) (hx : Has2 x X) : Has3 (k5_pay3 d x : S1x256x1024.Idx → EReal) (fun _ i j => byCols 4096 X D i j) := by
  intro p i j
  unfold k5_pay3
  pointwise
  exact body5 hd hx i j

end

theorem block5_0 {X : ℕ → ℕ → EReal} (h : Has2 (V c (Pipeline.arrRef spec5 0) : S4096x1024.Idx → EReal) X) (t : Fin cfg5.N) :
    Has2 (iblk5 V c 0 t : S4096x256.Idx → EReal) (fun r s => X r (t.val * 256 + s)) := by
  intro r s
  unfold iblk5
  rw [View.read_apply]
  exact (has2_at h _).trans (congrArg₂ X (Cert.Mlp.in_first 4096 _ (index5 t).1.1) (Cert.Mlp.in_block 256 _ (index5 t).1.2))

theorem block5_1 {D : ℕ → ℕ → EReal} (h : Has2 (V c (Pipeline.arrRef spec5 1) : S4096x1024.Idx → EReal) D) (t : Fin cfg5.N) :
    Has2 (iblk5 V c 1 t : S4096x1024.Idx → EReal) D := by
  intro r s
  unfold iblk5
  rw [View.read_apply]
  exact (has2_at h _).trans (congrArg₂ D (Cert.Mlp.in_first 4096 _ (index5 t).2.1.1) (Cert.Mlp.in_first 1024 _ (index5 t).2.1.2))

/-- What the call leaves in its block of the first buffer. -/
theorem out5_2_eq (c : Dev nD) (i : grid5.Coords) (arg3 : Memref sig .tc .vmem S4096x256 .bf16) (harg3 : arg3.IsWhole)
    (arg4 : Memref sig .tc .vmem S4096x1024 .bf16) (harg4 : arg4.IsWhole) (arg7 : Memref sig .tc .vmem S1x256x1024 .f32) (harg7 : arg7.IsWhole)
    (arg8 : Memref sig .tc .vmem S1x256x1024 .bf16) (harg8 : arg8.IsWhole) (x0 : Vec Ideal S4096x256 .bf16) (x1 : Vec Ideal S4096x1024 .bf16) :
    out5_A_2 c i arg3 harg3 arg4 harg4 arg7 harg7 arg8 harg8 x0 x1 = k5_pay2 x1 x0 := by
  unfold out5_A_2
  rw [View.read_writes_eq_canon _ _ _ (cover5_A_2 c i arg3 harg3 arg4 harg4 arg7 harg7 arg8 harg8 x0 x1)]
  unfold kernelRun5_A
  dsimp only
  refine (View.canon_unit_zero (S := S1x256x1024) zeros3 _ _).trans ?_
  rw [View.readAt_eq_ld, View.readAt_eq_ld, harg3.read_unread, harg4.read_unread]
  exact congrArg₂ k5_pay2 (View.ld_unit_zero (S := S4096x1024) zeros2 _ _) (View.ld_unit_zero (S := S4096x256) zeros2 _ _)

section
variable {X D : ℕ → ℕ → EReal} (hx : Has2 (V c (Pipeline.arrRef spec5 0) : S4096x1024.Idx → EReal) X)
  (hd : Has2 (V c (Pipeline.arrRef spec5 1) : S4096x1024.Idx → EReal) D)

include hx hd in
/-- What the call writes back to the first buffer at point `t` is the gradient's block. -/
theorem flushed5_2_read (t : Fin cfg5.N) : (dat5 V c).flushed 2 t
    = ((cfg5.win 2).blk t).view.read (Elt Ideal) (fun i : S4x3072x1024.Idx => rows 1536 X D (i 0) (i 1) (i 2)) := by
  have e : Has3 ((dat5 V c).after 2 t : S1x256x1024.Idx → EReal) (fun _ i j => byCols 4096 (fun u i => X u (t.val * 256 + i)) D i j) := by
    rw [after5_2]
    unfold outsAt5
    dsimp only
    rw [out5_2_eq]
    exact body5_2 (block5_1 V c hd t) (block5_0 V c hx t)
  funext y
  rw [View.read_apply]
  refine (has3_at e y).trans ?_
  exact (rows_block 6 X D t _ _ _ _ _ _ (index5 t).2.2.1.1 (index5 t).2.2.1.2.1 (index5 t).2.2.1.2.2 (y 0).isLt).symm

/-- An index is in the block at point `t` when its rows are. -/
theorem mem5_2 (t : Fin cfg5.N) (i : S4x3072x1024.Idx) : i ∈ ((cfg5.win 2).blk t).view.set ↔
    (i 0 : ℕ) = win5_2.index t 0 ∧ win5_2.index t 1 * 256 ≤ (i 1 : ℕ) ∧ (i 1 : ℕ) < win5_2.index t 1 * 256 + 256 := by
  have es : ((cfg5.win 2).blk t).view.set = ((View.whole main_v23_0).slice (win5_2.rect t)).set := rfl
  rw [es, View.set_slice_whole, Rect.mem_set_unit]
  have h2 : (i 2 : ℕ) < 1024 := (i 2).isLt
  constructor
  · intro h
    have a0 : win5_2.index t 0 * 1 ≤ (i 0 : ℕ) ∧ (i 0 : ℕ) < win5_2.index t 0 * 1 + 1 := h 0
    have a1 : win5_2.index t 1 * 256 ≤ (i 1 : ℕ) ∧ (i 1 : ℕ) < win5_2.index t 1 * 256 + 256 := h 1
    exact ⟨by omega, a1⟩
  · rintro ⟨h0, h1⟩ a
    match a with
    | ⟨0, _⟩ =>
      show win5_2.index t 0 * 1 ≤ (i 0 : ℕ) ∧ (i 0 : ℕ) < win5_2.index t 0 * 1 + 1
      omega
    | ⟨1, _⟩ => exact h1
    | ⟨2, _⟩ =>
      show win5_2.index t 2 * 1024 ≤ (i 2 : ℕ) ∧ (i 2 : ℕ) < win5_2.index t 2 * 1024 + 1024
      rw [(index5 t).2.2.1.2.2, Nat.zero_mul, Nat.zero_add]; exact ⟨Nat.zero_le _, h2⟩

include hx hd in
/-- The first buffer after the call: the gradient in the rows it writes, the others as before it. -/
theorem final5_2 : ((dat5 V c).arrAt 2 cfg5.N : S4x3072x1024.Idx → EReal) = fun i =>
    if 1536 ≤ (i 1 : ℕ) ∧ (i 1 : ℕ) < 1792 then rows 1536 X D (i 0) (i 1) (i 2)
    else (V c (Pipeline.arrRef spec5 2) : S4x3072x1024.Idx → EReal) i := by
  funext i
  have h0 : (i 0 : ℕ) < 4 := (i 0).isLt
  split
  · next h =>
    obtain ⟨t, ht⟩ : ∃ t : Fin grid5.N, t.val = (i 0 : ℕ) := ⟨⟨(i 0 : ℕ), by rw [N_5]; omega⟩, rfl⟩
    refine (dat5 V c).arrAt_apply_of_mem 2 (fun i : S4x3072x1024.Idx => rows 1536 X D (i 0) (i 1) (i 2))
      (fun t _ => flushed5_2_read V c hx hd t) cfg5.N t i t.isLt (Gen.flush5_2 t) ?_
    rw [mem5_2, (index5 t).2.2.1.1, (index5 t).2.2.1.2.1]
    omega
  · next h =>
    refine ((dat5 V c).arrAt_apply_of_forall_not_mem 2 cfg5.N i fun t ht _ => ?_).trans (congrFun (A_eq5 V c 2) i)
    rw [mem5_2, (index5 t).2.2.1.1, (index5 t).2.2.1.2.1]
    omega

end

/-- What the call leaves in its block of the second buffer. -/
theorem out5_3_eq (c : Dev nD) (i : grid5.Coords) (arg3 : Memref sig .tc .vmem S4096x256 .bf16) (harg3 : arg3.IsWhole)
    (arg4 : Memref sig .tc .vmem S4096x1024 .bf16) (harg4 : arg4.IsWhole) (arg7 : Memref sig .tc .vmem S1x256x1024 .f32) (harg7 : arg7.IsWhole)
    (arg8 : Memref sig .tc .vmem S1x256x1024 .bf16) (harg8 : arg8.IsWhole) (x0 : Vec Ideal S4096x256 .bf16) (x1 : Vec Ideal S4096x1024 .bf16) :
    out5_A_3 c i arg3 harg3 arg4 harg4 arg7 harg7 arg8 harg8 x0 x1 = k5_pay3 x1 x0 := by
  unfold out5_A_3
  rw [View.read_writes_eq_canon _ _ _ (cover5_A_3 c i arg3 harg3 arg4 harg4 arg7 harg7 arg8 harg8 x0 x1)]
  unfold kernelRun5_A
  dsimp only
  refine (View.canon_unit_zero (S := S1x256x1024) zeros3 _ _).trans ?_
  rw [View.readAt_eq_ld, View.readAt_eq_ld, harg3.read_unread, harg4.read_unread]
  exact congrArg₂ k5_pay3 (View.ld_unit_zero (S := S4096x1024) zeros2 _ _) (View.ld_unit_zero (S := S4096x256) zeros2 _ _)

section
variable {X D : ℕ → ℕ → EReal} (hx : Has2 (V c (Pipeline.arrRef spec5 0) : S4096x1024.Idx → EReal) X)
  (hd : Has2 (V c (Pipeline.arrRef spec5 1) : S4096x1024.Idx → EReal) D)

include hx hd in
/-- What the call writes back to the second buffer at point `t` is the gradient's block. -/
theorem flushed5_3_read (t : Fin cfg5.N) : (dat5 V c).flushed 3 t
    = ((cfg5.win 3).blk t).view.read (Elt Ideal) (fun i : S4x3072x1024.Idx => rows 1536 X D (i 0) (i 1) (i 2)) := by
  have e : Has3 ((dat5 V c).after 3 t : S1x256x1024.Idx → EReal) (fun _ i j => byCols 4096 (fun u i => X u (t.val * 256 + i)) D i j) := by
    rw [after5_3]
    unfold outsAt5
    dsimp only
    rw [out5_3_eq]
    exact body5_3 (block5_1 V c hd t) (block5_0 V c hx t)
  funext y
  rw [View.read_apply]
  refine (has3_at e y).trans ?_
  exact (rows_block 6 X D t _ _ _ _ _ _ (index5 t).2.2.2.1 (index5 t).2.2.2.2.1 (index5 t).2.2.2.2.2 (y 0).isLt).symm

/-- An index is in the block at point `t` when its rows are. -/
theorem mem5_3 (t : Fin cfg5.N) (i : S4x3072x1024.Idx) : i ∈ ((cfg5.win 3).blk t).view.set ↔
    (i 0 : ℕ) = win5_3.index t 0 ∧ win5_3.index t 1 * 256 ≤ (i 1 : ℕ) ∧ (i 1 : ℕ) < win5_3.index t 1 * 256 + 256 := by
  have es : ((cfg5.win 3).blk t).view.set = ((View.whole main_v23_1).slice (win5_3.rect t)).set := rfl
  rw [es, View.set_slice_whole, Rect.mem_set_unit]
  have h2 : (i 2 : ℕ) < 1024 := (i 2).isLt
  constructor
  · intro h
    have a0 : win5_3.index t 0 * 1 ≤ (i 0 : ℕ) ∧ (i 0 : ℕ) < win5_3.index t 0 * 1 + 1 := h 0
    have a1 : win5_3.index t 1 * 256 ≤ (i 1 : ℕ) ∧ (i 1 : ℕ) < win5_3.index t 1 * 256 + 256 := h 1
    exact ⟨by omega, a1⟩
  · rintro ⟨h0, h1⟩ a
    match a with
    | ⟨0, _⟩ =>
      show win5_3.index t 0 * 1 ≤ (i 0 : ℕ) ∧ (i 0 : ℕ) < win5_3.index t 0 * 1 + 1
      omega
    | ⟨1, _⟩ => exact h1
    | ⟨2, _⟩ =>
      show win5_3.index t 2 * 1024 ≤ (i 2 : ℕ) ∧ (i 2 : ℕ) < win5_3.index t 2 * 1024 + 1024
      rw [(index5 t).2.2.2.2.2, Nat.zero_mul, Nat.zero_add]; exact ⟨Nat.zero_le _, h2⟩

include hx hd in
/-- The second buffer after the call: the gradient in the rows it writes, the others as before it. -/
theorem final5_3 : ((dat5 V c).arrAt 3 cfg5.N : S4x3072x1024.Idx → EReal) = fun i =>
    if 1536 ≤ (i 1 : ℕ) ∧ (i 1 : ℕ) < 1792 then rows 1536 X D (i 0) (i 1) (i 2)
    else (V c (Pipeline.arrRef spec5 3) : S4x3072x1024.Idx → EReal) i := by
  funext i
  have h0 : (i 0 : ℕ) < 4 := (i 0).isLt
  split
  · next h =>
    obtain ⟨t, ht⟩ : ∃ t : Fin grid5.N, t.val = (i 0 : ℕ) := ⟨⟨(i 0 : ℕ), by rw [N_5]; omega⟩, rfl⟩
    refine (dat5 V c).arrAt_apply_of_mem 3 (fun i : S4x3072x1024.Idx => rows 1536 X D (i 0) (i 1) (i 2))
      (fun t _ => flushed5_3_read V c hx hd t) cfg5.N t i t.isLt (Gen.flush5_3 t) ?_
    rw [mem5_3, (index5 t).2.2.2.1, (index5 t).2.2.2.2.1]
    omega
  · next h =>
    refine ((dat5 V c).arrAt_apply_of_forall_not_mem 3 cfg5.N i fun t ht _ => ?_).trans (congrFun (A_eq5 V c 3) i)
    rw [mem5_3, (index5 t).2.2.2.1, (index5 t).2.2.2.2.1]
    omega

end

end Cert.Mix
-- ==== Proof.MixArrays.lean ====
/-
  The output products' first three calls, each a product with one weight and an epilogue: what a call reads of its operands at
  a point of its grid, and the arrays after the grid, whose blocks of rows tile them.
-/
module

public import proofs.«01_k».proof.Proof.MixWeights

@[expose] public section

set_option maxRecDepth 16384

noncomputable section

namespace Cert.Mix

open Idealize.ShloMosaic Idealize.ShloMosaic.TcCoe Idealize.SL.Sem Cert.Kernel5Ideal Cert.Kernel5Ideal.Gen Cert.Reals
open Cert.Mlp (Has2 has2_at in_block in_first)
open Cert.Proj (product)
open Idealize.ShloMosaic.Pipeline (Dat)
open Finset (range)

/-- Row block `n` of every plane of `w` holds one weight's rows. -/
def HasRows (n : ℕ) (w : S4x12x256x1024.Idx → EReal) (f : ℕ → ℕ → EReal) : Prop :=
  ∀ i : S4x12x256x1024.Idx, (i 1 : ℕ) = n → w i = f ((i 0 : ℕ) * 256 + (i 2 : ℕ)) (i 3)

variable (V : (c : Dev nD) → (b : Ref sig .tc) → Buf (Elt Ideal) ((c : Thread nD τ).loc b)) (c : Dev nD)
  {X W A C P B G G' R : ℕ → ℕ → EReal}

/-! ## The attention branch -/

/-- Every point's blocks. -/
theorem index0 : ∀ t : Fin grid0.N,
    (win0_0.index t 0 = t.val ∧ win0_0.index t 1 = 0)
    ∧ (win0_1.index t 0 = 0 ∧ win0_1.index t 1 = 4 ∧ win0_1.index t 2 = 0 ∧ win0_1.index t 3 = 0)
    ∧ (win0_2.index t 0 = t.val ∧ win0_2.index t 1 = 0) := by
  decide +kernel

theorem block0_0 (h : Has2 (V c (Pipeline.arrRef spec0 0) : S4096x1024.Idx → EReal) X) (t : Fin cfg0.N) :
    Has2 (iblk0 V c 0 t : S1024x1024.Idx → EReal) (fun r s => X (t.val * 1024 + r) s) := by
  intro r s
  unfold iblk0
  rw [View.read_apply]
  exact (has2_at h _).trans (congrArg₂ X (in_block 1024 _ ((index0 t).1.1)) (in_first 1024 _ ((index0 t).1.2)))

theorem block0_1 (h : HasRows 4 (V c (Pipeline.arrRef spec0 1) : S4x12x256x1024.Idx → EReal) W) (t : Fin cfg0.N) :
    HasW (iblk0 V c 1 t : S4x1x256x1024.Idx → EReal) W := by
  intro p q r s
  unfold iblk0
  rw [View.read_apply]
  obtain ⟨e0, e1, e2, e3⟩ := (index0 t).2.1
  have hq : (q : ℕ) < 1 := q.isLt
  refine (h _ ?_).trans (congrArg₂ W ?_ (in_first 1024 _ e3))
  · show win0_1.index t 1 * 1 + 1 * (q : ℕ) = 4
    omega
  · exact congrArg₂ (fun a b : ℕ => a * 256 + b) (in_first 4 _ e0) (in_first 256 _ e2)

/-- The attention branch's product, in the rows of one point. -/
theorem after0_2_has (hx : Has2 (V c (Pipeline.arrRef spec0 0) : S4096x1024.Idx → EReal) X) (hw : HasRows 4 (V c (Pipeline.arrRef spec0 1) : S4x12x256x1024.Idx → EReal) W) (t : Fin cfg0.N) :
    Has2 ((dat0 V c).after 2 t : S1024x1024.Idx → EReal) (fun r s => (product 1024 X W) (t.val * 1024 + r) s) := by
  rw [after0_2]
  unfold out0_2
  rw [View.canon_unit_zero (by funext a; fin_cases a <;> rfl)]
  repeat rw [View.ld_unit_zero (by funext a; fin_cases a <;> rfl)]
  exact body0 (block0_1 V c hw t) (block0_0 V c hx t)

/-- The attention branch's product after the call. -/
theorem final0_2 (hx : Has2 (V c (Pipeline.arrRef spec0 0) : S4096x1024.Idx → EReal) X) (hw : HasRows 4 (V c (Pipeline.arrRef spec0 1) : S4x12x256x1024.Idx → EReal) W) :
    ((dat0 V c).arrAt 2 cfg0.N : S4096x1024.Idx → EReal) = fun i => (product 1024 X W) (i 0) (i 1) :=
  (dat0 V c).arrAt_eq_of_cover 2 _ (fun t _ => by
      funext y
      rw [View.read_apply]
      refine (has2_at (after0_2_has V c hx hw t) y).trans ?_
      exact (congrArg₂ (product 1024 X W) (in_block 1024 (y 0).val (index0 t).2.2.1)
        (in_first 1024 (y 1).val (index0 t).2.2.2)).symm)
    fun i => by
      have h0 : (i 0 : ℕ) < 4096 := (i 0).isLt
      have h1 : (i 1 : ℕ) < 1024 := (i 1).isLt
      obtain ⟨t, ht'⟩ : ∃ t : Fin grid0.N, t.val = (i 0 : ℕ) / 1024 := ⟨⟨(i 0 : ℕ) / 1024, by rw [N_0]; omega⟩, rfl⟩
      refine ⟨t, Gen.flush0_2 t, ?_⟩
      have es : ((cfg0.win 2).blk t).view.set = ((View.whole main_v16).slice (win0_2.rect t)).set := rfl
      rw [es, View.set_slice_whole, Rect.mem_set_unit]
      intro a
      have ht := (index0 t).2.2
      match a with
      | ⟨0, _⟩ =>
        show win0_2.index t 0 * 1024 ≤ (i 0 : ℕ) ∧ (i 0 : ℕ) < win0_2.index t 0 * 1024 + 1024
        rw [ht.1]; omega
      | ⟨1, _⟩ =>
        show win0_2.index t 1 * 1024 ≤ (i 1 : ℕ) ∧ (i 1 : ℕ) < win0_2.index t 1 * 1024 + 1024
        rw [ht.2]; omega

/-! ## The convolution branch and the merge -/

/-- Every point's blocks. -/
theorem index1 : ∀ t : Fin grid1.N,
    (win1_0.index t 0 = t.val ∧ win1_0.index t 1 = 0)
    ∧ (win1_1.index t 0 = 0 ∧ win1_1.index t 1 = 6 ∧ win1_1.index t 2 = 0 ∧ win1_1.index t 3 = 0)
    ∧ (win1_2.index t 0 = t.val ∧ win1_2.index t 1 = 2)
    ∧ (win1_3.index t 0 = t.val ∧ win1_3.index t 1 = 3)
    ∧ (win1_4.index t 0 = t.val ∧ win1_4.index t 1 = 0)
    ∧ (win1_5.index t 0 = 0 ∧ win1_5.index t 1 = 0)
    ∧ (win1_6.index t 0 = t.val ∧ win1_6.index t 1 = 0)
    ∧ (win1_7.index t 0 = t.val ∧ win1_7.index t 1 = 0) := by
  decide +kernel

theorem block1_0 (h : Has2 (V c (Pipeline.arrRef spec1 0) : S4096x1024.Idx → EReal) X) (t : Fin cfg1.N) :
    Has2 (iblk1 V c 0 t : S1024x1024.Idx → EReal) (fun r s => X (t.val * 1024 + r) s) := by
  intro r s
  unfold iblk1
  rw [View.read_apply]
  exact (has2_at h _).trans (congrArg₂ X (in_block 1024 _ ((index1 t).1.1)) (in_first 1024 _ ((index1 t).1.2)))

theorem block1_1 (h : HasRows 6 (V c (Pipeline.arrRef spec1 1) : S4x12x256x1024.Idx → EReal) W) (t : Fin cfg1.N) :
    HasW (iblk1 V c 1 t : S4x1x256x1024.Idx → EReal) W := by
  intro p q r s
  unfold iblk1
  rw [View.read_apply]
  obtain ⟨e0, e1, e2, e3⟩ := (index1 t).2.1
  have hq : (q : ℕ) < 1 := q.isLt
  refine (h _ ?_).trans (congrArg₂ W ?_ (in_first 1024 _ e3))
  · show win1_1.index t 1 * 1 + 1 * (q : ℕ) = 6
    omega
  · exact congrArg₂ (fun a b : ℕ => a * 256 + b) (in_first 4 _ e0) (in_first 256 _ e2)

theorem block1_2 (h : Has2 (V c (Pipeline.arrRef spec1 2) : S4096x5120.Idx → EReal) A) (t : Fin cfg1.N) :
    Has2 (iblk1 V c 2 t : S1024x1024.Idx → EReal) (fun r s => A (t.val * 1024 + r) (2 * 1024 + s)) := by
  intro r s
  unfold iblk1
  rw [View.read_apply]
  exact (has2_at h _).trans (congrArg₂ A (in_block 1024 _ ((index1 t).2.2.1.1)) (in_block 1024 _ ((index1 t).2.2.1.2)))

theorem block1_3 (h : Has2 (V c (Pipeline.arrRef spec1 3) : S4096x5120.Idx → EReal) C) (t : Fin cfg1.N) :
    Has2 (iblk1 V c 3 t : S1024x1024.Idx → EReal) (fun r s => C (t.val * 1024 + r) (3 * 1024 + s)) := by
  intro r s
  unfold iblk1
  rw [View.read_apply]
  exact (has2_at h _).trans (congrArg₂ C (in_block 1024 _ ((index1 t).2.2.2.1.1)) (in_block 1024 _ ((index1 t).2.2.2.1.2)))

theorem block1_4 (h : Has2 (V c (Pipeline.arrRef spec1 4) : S4096x1024.Idx → EReal) P) (t : Fin cfg1.N) :
    Has2 (iblk1 V c 4 t : S1024x1024.Idx → EReal) (fun r s => P (t.val * 1024 + r) s) := by
  intro r s
  unfold iblk1
  rw [View.read_apply]
  exact (has2_at h _).trans (congrArg₂ P (in_block 1024 _ ((index1 t).2.2.2.2.1.1)) (in_first 1024 _ ((index1 t).2.2.2.2.1.2)))

theorem block1_5 (h : Has2 (V c (Pipeline.arrRef spec1 5) : S1x1024.Idx → EReal) B) (t : Fin cfg1.N) :
    Has2 (iblk1 V c 5 t : S1x1024.Idx → EReal) B := by
  intro r s
  unfold iblk1
  rw [View.read_apply]
  exact (has2_at h _).trans (congrArg₂ B (in_first 1 _ ((index1 t).2.2.2.2.2.1.1)) (in_first 1024 _ ((index1 t).2.2.2.2.2.1.2)))

/-- The convolution branch's product, in the rows of one point. -/
theorem after1_6_has (hx : Has2 (V c (Pipeline.arrRef spec1 0) : S4096x1024.Idx → EReal) X) (hw : HasRows 6 (V c (Pipeline.arrRef spec1 1) : S4x12x256x1024.Idx → EReal) W) (t : Fin cfg1.N) :
    Has2 ((dat1 V c).after 6 t : S1024x1024.Idx → EReal) (fun r s => (product 1024 X W) (t.val * 1024 + r) s) := by
  rw [after1_6]
  unfold out1_6
  rw [View.canon_unit_zero (by funext a; fin_cases a <;> rfl)]
  repeat rw [View.ld_unit_zero (by funext a; fin_cases a <;> rfl)]
  exact body1_2 (block1_1 V c hw t) (block1_0 V c hx t)

/-- The convolution branch's product after the call. -/
theorem final1_6 (hx : Has2 (V c (Pipeline.arrRef spec1 0) : S4096x1024.Idx → EReal) X) (hw : HasRows 6 (V c (Pipeline.arrRef spec1 1) : S4x12x256x1024.Idx → EReal) W) :
    ((dat1 V c).arrAt 6 cfg1.N : S4096x1024.Idx → EReal) = fun i => (product 1024 X W) (i 0) (i 1) :=
  (dat1 V c).arrAt_eq_of_cover 6 _ (fun t _ => by
      funext y
      rw [View.read_apply]
      refine (has2_at (after1_6_has V c hx hw t) y).trans ?_
      exact (congrArg₂ (product 1024 X W) (in_block 1024 (y 0).val (index1 t).2.2.2.2.2.2.1.1)
        (in_first 1024 (y 1).val (index1 t).2.2.2.2.2.2.1.2)).symm)
    fun i => by
      have h0 : (i 0 : ℕ) < 4096 := (i 0).isLt
      have h1 : (i 1 : ℕ) < 1024 := (i 1).isLt
      obtain ⟨t, ht'⟩ : ∃ t : Fin grid1.N, t.val = (i 0 : ℕ) / 1024 := ⟨⟨(i 0 : ℕ) / 1024, by rw [N_1]; omega⟩, rfl⟩
      refine ⟨t, Gen.flush1_6 t, ?_⟩
      have es : ((cfg1.win 6).blk t).view.set = ((View.whole main_v18_0).slice (win1_6.rect t)).set := rfl
      rw [es, View.set_slice_whole, Rect.mem_set_unit]
      intro a
      have ht := (index1 t).2.2.2.2.2.2.1
      match a with
      | ⟨0, _⟩ =>
        show win1_6.index t 0 * 1024 ≤ (i 0 : ℕ) ∧ (i 0 : ℕ) < win1_6.index t 0 * 1024 + 1024
        rw [ht.1]; omega
      | ⟨1, _⟩ =>
        show win1_6.index t 1 * 1024 ≤ (i 1 : ℕ) ∧ (i 1 : ℕ) < win1_6.index t 1 * 1024 + 1024
        rw [ht.2]; omega

/-- The branches merged under their gates, in the rows of one point. -/
theorem after1_7_has (hx : Has2 (V c (Pipeline.arrRef spec1 0) : S4096x1024.Idx → EReal) X) (hw : HasRows 6 (V c (Pipeline.arrRef spec1 1) : S4x12x256x1024.Idx → EReal) W) (ha : Has2 (V c (Pipeline.arrRef spec1 2) : S4096x5120.Idx → EReal) A) (hc : Has2 (V c (Pipeline.arrRef spec1 3) : S4096x5120.Idx → EReal) C) (hp : Has2 (V c (Pipeline.arrRef spec1 4) : S4096x1024.Idx → EReal) P) (hb : Has2 (V c (Pipeline.arrRef spec1 5) : S1x1024.Idx → EReal) B) (t : Fin cfg1.N) :
    Has2 ((dat1 V c).after 7 t : S1024x1024.Idx → EReal) (fun r s => (merge (fun r s => A r (2048 + s)) (fun r s => C r (3072 + s)) P (fun i j => product 1024 X W i j + B 0 j)) (t.val * 1024 + r) s) := by
  rw [after1_7]
  unfold out1_7
  rw [View.canon_unit_zero (by funext a; fin_cases a <;> rfl)]
  repeat rw [View.ld_unit_zero (by funext a; fin_cases a <;> rfl)]
  exact body1_3 (block1_1 V c hw t) (block1_0 V c hx t) (block1_2 V c ha t) (block1_3 V c hc t) (block1_4 V c hp t) (block1_5 V c hb t)

/-- The branches merged under their gates after the call. -/
theorem final1_7 (hx : Has2 (V c (Pipeline.arrRef spec1 0) : S4096x1024.Idx → EReal) X) (hw : HasRows 6 (V c (Pipeline.arrRef spec1 1) : S4x12x256x1024.Idx → EReal) W) (ha : Has2 (V c (Pipeline.arrRef spec1 2) : S4096x5120.Idx → EReal) A) (hc : Has2 (V c (Pipeline.arrRef spec1 3) : S4096x5120.Idx → EReal) C) (hp : Has2 (V c (Pipeline.arrRef spec1 4) : S4096x1024.Idx → EReal) P) (hb : Has2 (V c (Pipeline.arrRef spec1 5) : S1x1024.Idx → EReal) B) :
    ((dat1 V c).arrAt 7 cfg1.N : S4096x1024.Idx → EReal) = fun i => (merge (fun r s => A r (2048 + s)) (fun r s => C r (3072 + s)) P (fun i j => product 1024 X W i j + B 0 j)) (i 0) (i 1) :=
  (dat1 V c).arrAt_eq_of_cover 7 _ (fun t _ => by
      funext y
      rw [View.read_apply]
      refine (has2_at (after1_7_has V c hx hw ha hc hp hb t) y).trans ?_
      exact (congrArg₂ (merge (fun r s => A r (2048 + s)) (fun r s => C r (3072 + s)) P (fun i j => product 1024 X W i j + B 0 j)) (in_block 1024 (y 0).val (index1 t).2.2.2.2.2.2.2.1)
        (in_first 1024 (y 1).val (index1 t).2.2.2.2.2.2.2.2)).symm)
    fun i => by
      have h0 : (i 0 : ℕ) < 4096 := (i 0).isLt
      have h1 : (i 1 : ℕ) < 1024 := (i 1).isLt
      obtain ⟨t, ht'⟩ : ∃ t : Fin grid1.N, t.val = (i 0 : ℕ) / 1024 := ⟨⟨(i 0 : ℕ) / 1024, by rw [N_1]; omega⟩, rfl⟩
      refine ⟨t, Gen.flush1_7 t, ?_⟩
      have es : ((cfg1.win 7).blk t).view.set = ((View.whole main_v18_1).slice (win1_7.rect t)).set := rfl
      rw [es, View.set_slice_whole, Rect.mem_set_unit]
      intro a
      have ht := (index1 t).2.2.2.2.2.2.2
      match a with
      | ⟨0, _⟩ =>
        show win1_7.index t 0 * 1024 ≤ (i 0 : ℕ) ∧ (i 0 : ℕ) < win1_7.index t 0 * 1024 + 1024
        rw [ht.1]; omega
      | ⟨1, _⟩ =>
        show win1_7.index t 1 * 1024 ≤ (i 1 : ℕ) ∧ (i 1 : ℕ) < win1_7.index t 1 * 1024 + 1024
        rw [ht.2]; omega

/-! ## The mixer's output and the residual sum -/

/-- Every point's blocks. -/
theorem index2 : ∀ t : Fin grid2.N,
    (win2_0.index t 0 = t.val ∧ win2_0.index t 1 = 0)
    ∧ (win2_1.index t 0 = 0 ∧ win2_1.index t 1 = 7 ∧ win2_1.index t 2 = 0 ∧ win2_1.index t 3 = 0)
    ∧ (win2_2.index t 0 = t.val ∧ win2_2.index t 1 = 0)
    ∧ (win2_3.index t 0 = 0 ∧ win2_3.index t 1 = 0)
    ∧ (win2_4.index t 0 = 0 ∧ win2_4.index t 1 = 0)
    ∧ (win2_5.index t 0 = t.val ∧ win2_5.index t 1 = 0)
    ∧ (win2_6.index t 0 = t.val ∧ win2_6.index t 1 = 0)
    ∧ (win2_7.index t 0 = t.val ∧ win2_7.index t 1 = 0) := by
  decide +kernel

theorem block2_0 (h : Has2 (V c (Pipeline.arrRef spec2 0) : S4096x1024.Idx → EReal) X) (t : Fin cfg2.N) :
    Has2 (iblk2 V c 0 t : S512x1024.Idx → EReal) (fun r s => X (t.val * 512 + r) s) := by
  intro r s
  unfold iblk2
  rw [View.read_apply]
  exact (has2_at h _).trans (congrArg₂ X (in_block 512 _ ((index2 t).1.1)) (in_first 1024 _ ((index2 t).1.2)))

theorem block2_1 (h : HasRows 7 (V c (Pipeline.arrRef spec2 1) : S4x12x256x1024.Idx → EReal) W) (t : Fin cfg2.N) :
    HasW (iblk2 V c 1 t : S4x1x256x1024.Idx → EReal) W := by
  intro p q r s
  unfold iblk2
  rw [View.read_apply]
  obtain ⟨e0, e1, e2, e3⟩ := (index2 t).2.1
  have hq : (q : ℕ) < 1 := q.isLt
  refine (h _ ?_).trans (congrArg₂ W ?_ (in_first 1024 _ e3))
  · show win2_1.index t 1 * 1 + 1 * (q : ℕ) = 7
    omega
  · exact congrArg₂ (fun a b : ℕ => a * 256 + b) (in_first 4 _ e0) (in_first 256 _ e2)

theorem block2_2 (h : Has2 (V c (Pipeline.arrRef spec2 2) : S4096x1024.Idx → EReal) R) (t : Fin cfg2.N) :
    Has2 (iblk2 V c 2 t : S512x1024.Idx → EReal) (fun r s => R (t.val * 512 + r) s) := by
  intro r s
  unfold iblk2
  rw [View.read_apply]
  exact (has2_at h _).trans (congrArg₂ R (in_block 512 _ ((index2 t).2.2.1.1)) (in_first 1024 _ ((index2 t).2.2.1.2)))

theorem block2_3 (h : Has2 (V c (Pipeline.arrRef spec2 3) : S1x1024.Idx → EReal) G) (t : Fin cfg2.N) :
    Has2 (iblk2 V c 3 t : S1x1024.Idx → EReal) G := by
  intro r s
  unfold iblk2
  rw [View.read_apply]
  exact (has2_at h _).trans (congrArg₂ G (in_first 1 _ ((index2 t).2.2.2.1.1)) (in_first 1024 _ ((index2 t).2.2.2.1.2)))

theorem block2_4 (h : Has2 (V c (Pipeline.arrRef spec2 4) : S1x1024.Idx → EReal) G') (t : Fin cfg2.N) :
    Has2 (iblk2 V c 4 t : S1x1024.Idx → EReal) G' := by
  intro r s
  unfold iblk2
  rw [View.read_apply]
  exact (has2_at h _).trans (congrArg₂ G' (in_first 1 _ ((index2 t).2.2.2.2.1.1)) (in_first 1024 _ ((index2 t).2.2.2.2.1.2)))

/-- The mixer's product, in the rows of one point. -/
theorem after2_5_has (hx : Has2 (V c (Pipeline.arrRef spec2 0) : S4096x1024.Idx → EReal) X) (hw : HasRows 7 (V c (Pipeline.arrRef spec2 1) : S4x12x256x1024.Idx → EReal) W) (t : Fin cfg2.N) :
    Has2 ((dat2 V c).after 5 t : S512x1024.Idx → EReal) (fun r s => (product 1024 X W) (t.val * 512 + r) s) := by
  rw [after2_5]
  unfold out2_5
  rw [View.canon_unit_zero (by funext a; fin_cases a <;> rfl)]
  repeat rw [View.ld_unit_zero (by funext a; fin_cases a <;> rfl)]
  exact body2_2 (block2_1 V c hw t) (block2_0 V c hx t)

/-- The mixer's product after the call. -/
theorem final2_5 (hx : Has2 (V c (Pipeline.arrRef spec2 0) : S4096x1024.Idx → EReal) X) (hw : HasRows 7 (V c (Pipeline.arrRef spec2 1) : S4x12x256x1024.Idx → EReal) W) :
    ((dat2 V c).arrAt 5 cfg2.N : S4096x1024.Idx → EReal) = fun i => (product 1024 X W) (i 0) (i 1) :=
  (dat2 V c).arrAt_eq_of_cover 5 _ (fun t _ => by
      funext y
      rw [View.read_apply]
      refine (has2_at (after2_5_has V c hx hw t) y).trans ?_
      exact (congrArg₂ (product 1024 X W) (in_block 512 (y 0).val (index2 t).2.2.2.2.2.1.1)
        (in_first 1024 (y 1).val (index2 t).2.2.2.2.2.1.2)).symm)
    fun i => by
      have h0 : (i 0 : ℕ) < 4096 := (i 0).isLt
      have h1 : (i 1 : ℕ) < 1024 := (i 1).isLt
      obtain ⟨t, ht'⟩ : ∃ t : Fin grid2.N, t.val = (i 0 : ℕ) / 512 := ⟨⟨(i 0 : ℕ) / 512, by rw [N_2]; omega⟩, rfl⟩
      refine ⟨t, Gen.flush2_5 t, ?_⟩
      have es : ((cfg2.win 5).blk t).view.set = ((View.whole main_v20_0).slice (win2_5.rect t)).set := rfl
      rw [es, View.set_slice_whole, Rect.mem_set_unit]
      intro a
      have ht := (index2 t).2.2.2.2.2.1
      match a with
      | ⟨0, _⟩ =>
        show win2_5.index t 0 * 512 ≤ (i 0 : ℕ) ∧ (i 0 : ℕ) < win2_5.index t 0 * 512 + 512
        rw [ht.1]; omega
      | ⟨1, _⟩ =>
        show win2_5.index t 1 * 1024 ≤ (i 1 : ℕ) ∧ (i 1 : ℕ) < win2_5.index t 1 * 1024 + 1024
        rw [ht.2]; omega

/-- The residual sum, in the rows of one point. -/
theorem after2_6_has (hx : Has2 (V c (Pipeline.arrRef spec2 0) : S4096x1024.Idx → EReal) X) (hw : HasRows 7 (V c (Pipeline.arrRef spec2 1) : S4x12x256x1024.Idx → EReal) W) (hr : Has2 (V c (Pipeline.arrRef spec2 2) : S4096x1024.Idx → EReal) R) (hg : Has2 (V c (Pipeline.arrRef spec2 3) : S1x1024.Idx → EReal) G) (t : Fin cfg2.N) :
    Has2 ((dat2 V c).after 6 t : S512x1024.Idx → EReal) (fun r s => (fun i j => R i j + norm (product 1024 X W) G i j) (t.val * 512 + r) s) := by
  rw [after2_6]
  unfold out2_6
  rw [View.canon_unit_zero (by funext a; fin_cases a <;> rfl)]
  repeat rw [View.ld_unit_zero (by funext a; fin_cases a <;> rfl)]
  exact body2_3 (block2_1 V c hw t) (block2_0 V c hx t) (block2_2 V c hr t) (block2_3 V c hg t)

/-- The residual sum after the call. -/
theorem final2_6 (hx : Has2 (V c (Pipeline.arrRef spec2 0) : S4096x1024.Idx → EReal) X) (hw : HasRows 7 (V c (Pipeline.arrRef spec2 1) : S4x12x256x1024.Idx → EReal) W) (hr : Has2 (V c (Pipeline.arrRef spec2 2) : S4096x1024.Idx → EReal) R) (hg : Has2 (V c (Pipeline.arrRef spec2 3) : S1x1024.Idx → EReal) G) :
    ((dat2 V c).arrAt 6 cfg2.N : S4096x1024.Idx → EReal) = fun i => (fun i j => R i j + norm (product 1024 X W) G i j) (i 0) (i 1) :=
  (dat2 V c).arrAt_eq_of_cover 6 _ (fun t _ => by
      funext y
      rw [View.read_apply]
      refine (has2_at (after2_6_has V c hx hw hr hg t) y).trans ?_
      exact (congrArg₂ (fun i j => R i j + norm (product 1024 X W) G i j) (in_block 512 (y 0).val (index2 t).2.2.2.2.2.2.1.1)
        (in_first 1024 (y 1).val (index2 t).2.2.2.2.2.2.1.2)).symm)
    fun i => by
      have h0 : (i 0 : ℕ) < 4096 := (i 0).isLt
      have h1 : (i 1 : ℕ) < 1024 := (i 1).isLt
      obtain ⟨t, ht'⟩ : ∃ t : Fin grid2.N, t.val = (i 0 : ℕ) / 512 := ⟨⟨(i 0 : ℕ) / 512, by rw [N_2]; omega⟩, rfl⟩
      refine ⟨t, Gen.flush2_6 t, ?_⟩
      have es : ((cfg2.win 6).blk t).view.set = ((View.whole main_v20_1).slice (win2_6.rect t)).set := rfl
      rw [es, View.set_slice_whole, Rect.mem_set_unit]
      intro a
      have ht := (index2 t).2.2.2.2.2.2.1
      match a with
      | ⟨0, _⟩ =>
        show win2_6.index t 0 * 512 ≤ (i 0 : ℕ) ∧ (i 0 : ℕ) < win2_6.index t 0 * 512 + 512
        rw [ht.1]; omega
      | ⟨1, _⟩ =>
        show win2_6.index t 1 * 1024 ≤ (i 1 : ℕ) ∧ (i 1 : ℕ) < win2_6.index t 1 * 1024 + 1024
        rw [ht.2]; omega

/-- The residual sum, normalised, in the rows of one point. -/
theorem after2_7_has (hx : Has2 (V c (Pipeline.arrRef spec2 0) : S4096x1024.Idx → EReal) X) (hw : HasRows 7 (V c (Pipeline.arrRef spec2 1) : S4x12x256x1024.Idx → EReal) W) (hr : Has2 (V c (Pipeline.arrRef spec2 2) : S4096x1024.Idx → EReal) R) (hg : Has2 (V c (Pipeline.arrRef spec2 3) : S1x1024.Idx → EReal) G) (hg' : Has2 (V c (Pipeline.arrRef spec2 4) : S1x1024.Idx → EReal) G') (t : Fin cfg2.N) :
    Has2 ((dat2 V c).after 7 t : S512x1024.Idx → EReal) (fun r s => (norm (fun i j => R i j + norm (product 1024 X W) G i j) G') (t.val * 512 + r) s) := by
  rw [after2_7]
  unfold out2_7
  rw [View.canon_unit_zero (by funext a; fin_cases a <;> rfl)]
  repeat rw [View.ld_unit_zero (by funext a; fin_cases a <;> rfl)]
  exact body2_4 (block2_1 V c hw t) (block2_0 V c hx t) (block2_2 V c hr t) (block2_3 V c hg t) (block2_4 V c hg' t)

/-- The residual sum, normalised after the call. -/
theorem final2_7 (hx : Has2 (V c (Pipeline.arrRef spec2 0) : S4096x1024.Idx → EReal) X) (hw : HasRows 7 (V c (Pipeline.arrRef spec2 1) : S4x12x256x1024.Idx → EReal) W) (hr : Has2 (V c (Pipeline.arrRef spec2 2) : S4096x1024.Idx → EReal) R) (hg : Has2 (V c (Pipeline.arrRef spec2 3) : S1x1024.Idx → EReal) G) (hg' : Has2 (V c (Pipeline.arrRef spec2 4) : S1x1024.Idx → EReal) G') :
    ((dat2 V c).arrAt 7 cfg2.N : S4096x1024.Idx → EReal) = fun i => (norm (fun i j => R i j + norm (product 1024 X W) G i j) G') (i 0) (i 1) :=
  (dat2 V c).arrAt_eq_of_cover 7 _ (fun t _ => by
      funext y
      rw [View.read_apply]
      refine (has2_at (after2_7_has V c hx hw hr hg hg' t) y).trans ?_
      exact (congrArg₂ (norm (fun i j => R i j + norm (product 1024 X W) G i j) G') (in_block 512 (y 0).val (index2 t).2.2.2.2.2.2.2.1)
        (in_first 1024 (y 1).val (index2 t).2.2.2.2.2.2.2.2)).symm)
    fun i => by
      have h0 : (i 0 : ℕ) < 4096 := (i 0).isLt
      have h1 : (i 1 : ℕ) < 1024 := (i 1).isLt
      obtain ⟨t, ht'⟩ : ∃ t : Fin grid2.N, t.val = (i 0 : ℕ) / 512 := ⟨⟨(i 0 : ℕ) / 512, by rw [N_2]; omega⟩, rfl⟩
      refine ⟨t, Gen.flush2_7 t, ?_⟩
      have es : ((cfg2.win 7).blk t).view.set = ((View.whole main_v20_2).slice (win2_7.rect t)).set := rfl
      rw [es, View.set_slice_whole, Rect.mem_set_unit]
      intro a
      have ht := (index2 t).2.2.2.2.2.2.2
      match a with
      | ⟨0, _⟩ =>
        show win2_7.index t 0 * 512 ≤ (i 0 : ℕ) ∧ (i 0 : ℕ) < win2_7.index t 0 * 512 + 512
        rw [ht.1]; omega
      | ⟨1, _⟩ =>
        show win2_7.index t 1 * 1024 ≤ (i 1 : ℕ) ∧ (i 1 : ℕ) < win2_7.index t 1 * 1024 + 1024
        rw [ht.2]; omega

end Cert.Mix
-- ==== Proof.MixReference.lean ====
/-
  The reference of the output products: plain products, gates, root-mean-square normalisations and the transposed gradients, and
  what each result holds.
-/
module

public import proofs.«01_k».proof.Proof.MixWeights
public import proofs.«01_k».proof.Proof.Gen.Reference5Ideal.Run

@[expose] public section

set_option maxRecDepth 16384

noncomputable section

namespace Cert.Mix

open Cert.Proj (product)

/-! ## The results, as formulas -/

/-- The branches merged under the two halves of the gates. -/
def merged (A P G U Q B : ℕ → ℕ → EReal) : ℕ → ℕ → EReal :=
  merge G (fun r s => G r (1024 + s)) (product 1024 A P) (fun r s => product 1024 U Q r s + B 0 s)

/-- The residual sum. -/
def residual (R M N : ℕ → ℕ → EReal) (r s : ℕ) : EReal := R r s + norm M N r s

/-- A buffer with the three gradients in their rows. -/
def late (A DA U DC M DM : ℕ → ℕ → EReal) (E : ℕ → ℕ → ℕ → EReal) (p r s : ℕ) : EReal :=
  if 1536 ≤ r ∧ r < 1536 + 256 then rows 1536 U DC p r s
  else if 1024 ≤ r ∧ r < 1024 + 256 then rows 1024 A DA p r s
  else if 1792 ≤ r ∧ r < 1792 + 256 then rows 1792 M DM p r s
  else E p r s

namespace Reference

open Idealize.ShloMosaic Idealize.ShloMosaic.TcCoe Idealize.SL.Sem Cert.Reference5Ideal Cert.Reference5Ideal.Gen Cert.Reals
open Cert.Mlp (Has2 Has3)
open Cert.Proj (byCols)
open Finset (range)

variable {X Y G B : ℕ → ℕ → EReal}

/-! ## The parts -/

/-- The product. -/
def mm (a : FVec Ideal S4096x1024 .f32) (w : FVec Ideal S1024x1024 .f32) : FVec Ideal S4096x1024 .f32 :=
  Host.dotGeneral dot_S4096x1024_S1024x1024_S4096x1024_1_0_0_1_n_n none a w

theorem mm_has {a : FVec Ideal S4096x1024 .f32} {w : FVec Ideal S1024x1024 .f32} (ha : Has2 a X) (hw : Has2 w Y) :
    Has2 (mm a w) (product 1024 X Y) := by
  intro i j
  unfold mm product
  pointwise
  simp only [ha _ _, hw _ _]
  rw [Finset.sum_range]

/-- A cast keeps the entries. -/
theorem cast_has {x : FVec Ideal S4096x1024 .f32} (h : Has2 x X) : Has2 (truncf .bf16 x bitsLt_bf16_f32) X := fun i j => h i j

/-- The logistic function of every entry. -/
def logistic (g : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf g)))

theorem logistic_has {g : FVec Ideal S4096x1024 .f32} (hg : Has2 g G) : Has2 (logistic g) (fun r s => gate (G r s)) := by
  intro i j
  unfold logistic gate
  pointwise
  rw [hg i j]

/-- The branches merged under the two halves of the gates, the second with its bias. -/
def both (g : FVec Ideal S4096x2048 .f32) (p q : FVec Ideal S4096x1024 .f32) (b : FVec Ideal S1x1024 .f32) : FVec Ideal S4096x1024 .f32 :=
  addf (mulf (logistic (extractStridedSlice S4096x1024 ![0, 0] g slices_S4096x2048_S4096x1024_0_0)) p)
    (mulf (logistic (extractStridedSlice S4096x1024 ![0, 1024] g slices_S4096x2048_S4096x1024_0_1024))
      (addf q (broadcastInDim S4096x1024 ![0, 1] bcast_S1x1024_S4096x1024_0_1 b)))

theorem both_has {g : FVec Ideal S4096x2048 .f32} {p q : FVec Ideal S4096x1024 .f32} {b : FVec Ideal S1x1024 .f32} (hg : Has2 g G)
    (hp : Has2 p X) (hq : Has2 q Y) (hb : Has2 b B) :
    Has2 (both g p q b) (merge G (fun r s => G r (1024 + s)) X (fun r s => Y r s + B 0 s)) := by
  intro i j
  have e0 : Has2 (extractStridedSlice S4096x1024 ![0, 0] g slices_S4096x2048_S4096x1024_0_0) G := by
    intro i j
    pointwise
    exact hg _ _
  have e1 : Has2 (extractStridedSlice S4096x1024 ![0, 1024] g slices_S4096x2048_S4096x1024_0_1024) (fun r s => G r (1024 + s)) := by
    intro i j
    pointwise
    exact hg _ _
  have h0 := logistic_has e0
  have h1 := logistic_has e1
  unfold both merge
  generalize logistic (extractStridedSlice S4096x1024 ![0, 0] g slices_S4096x2048_S4096x1024_0_0) = s0 at h0 ⊢
  generalize logistic (extractStridedSlice S4096x1024 ![0, 1024] g slices_S4096x2048_S4096x1024_0_1024) = s1 at h1 ⊢
  pointwise
  rw [h0 i j, h1 i j, hp i j, hq i j, hb 0 j]
  rfl

/-- Each row over its root mean square, times a scale. -/
def rms (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (addf (Host.divf
      (broadcastInDim S4096x1 ![0] bcast_S4096_S4096x1_0 (Host.reduceAdd (mulf x x) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 g)

theorem rms_has {x : FVec Ideal S4096x1024 .f32} {g : FVec Ideal S1x1024 .f32} (hx : Has2 x X) (hg : Has2 g G) : Has2 (rms x g) (norm X G) := by
  intro i j
  unfold rms norm
  pointwise
  simp only [hx _ _, hg _ _]
  rw [Finset.sum_range]
  rfl

/-- A weight's gradient: the transposed product with the cotangent, 256 rows to a plane. -/
def grad (d x : FVec Ideal S4096x1024 .f32) : FVec Ideal S4x256x1024 .f32 :=
  shapeCast S4x256x1024 (transpose S1024x1024 [1, 0] (Host.dotGeneral dot_S4096x1024_S4096x1024_S1024x1024_0_0_1_1_n_n none d x)
    transposes_S1024x1024_S1024x1024_1_0) shapeCasts_S1024x1024_S4x256x1024

theorem grad_has {d x : FVec Ideal S4096x1024 .f32} (hd : Has2 d Y) (hx : Has2 x X) :
    Has3 (grad d x) (fun p r s => byCols 4096 X Y (p * 256 + r) s) := by
  intro p r s
  unfold grad byCols
  pointwise
  simp only [hd _ _, hx _ _]
  rw [Finset.sum_range]
  exact Finset.sum_congr rfl fun k _ => mul_comm _ _

/-- A buffer with the three gradients. -/
def lates {ft : FTy} (e : FVec Ideal S4x3072x1024 ft) (a u o : FVec Ideal S4x256x1024 ft) : FVec Ideal S4x3072x1024 ft :=
  concatenate S4x3072x1024 1 [⟨S4x1024x1024, extractStridedSlice S4x1024x1024 ![0, 0, 0] e slices_S4x3072x1024_S4x1024x1024_0_0_0⟩,
    ⟨S4x256x1024, a⟩, ⟨S4x256x1024, extractStridedSlice S4x256x1024 ![0, 1280, 0] e slices_S4x3072x1024_S4x256x1024_0_1280_0⟩, ⟨S4x256x1024, u⟩,
    ⟨S4x256x1024, o⟩, ⟨S4x1024x1024, extractStridedSlice S4x1024x1024 ![0, 2048, 0] e slices_S4x3072x1024_S4x1024x1024_0_2048_0⟩]
    concatenates_S4x1024x1024_S4x256x1024_S4x256x1024_S4x256x1024_S4x256x1024_S4x1024x1024_S4x3072x1024_d1

theorem lates_has {ft : FTy} {e : FVec Ideal S4x3072x1024 ft} {a u o : FVec Ideal S4x256x1024 ft} {E : ℕ → ℕ → ℕ → EReal}
    {A DA U DC M DM : ℕ → ℕ → EReal} (he : Has3 e E) (ha : Has3 a (fun p r s => byCols 4096 A DA (p * 256 + r) s))
    (hu : Has3 u (fun p r s => byCols 4096 U DC (p * 256 + r) s)) (ho : Has3 o (fun p r s => byCols 4096 M DM (p * 256 + r) s)) :
    Has3 (lates e a u o) (late A DA U DC M DM E) := by
  intro p r s
  unfold lates late rows
  pointwise
  simp only [ha _ _ _, hu _ _ _, ho _ _ _, he _ _ _]
  simp only [Nat.sub_sub]
  split_ifs <;> first | (exfalso; omega) | rfl | exact congrArg (fun n => E p n s) (by omega)

/-! ## The results -/

/-- The merged branches. -/
def mid (a : FVec Ideal S4096x1024 .f32) (p : FVec Ideal S1024x1024 .f32) (g : FVec Ideal S4096x2048 .f32) (u : FVec Ideal S4096x1024 .f32)
    (q : FVec Ideal S1024x1024 .f32) (b : FVec Ideal S1x1024 .f32) : FVec Ideal S4096x1024 .f32 := both g (mm a p) (mm u q) b

/-- The residual sum. -/
def total (x m : FVec Ideal S4096x1024 .f32) (n : FVec Ideal S1x1024 .f32) : FVec Ideal S4096x1024 .f32 := addf x (rms m n)

/-- The buffers. -/
def late32 (a da u dc m dm : FVec Ideal S4096x1024 .f32) (e : FVec Ideal S4x3072x1024 .f32) : FVec Ideal S4x3072x1024 .f32 :=
  lates e (grad da a) (grad dc u) (grad dm m)

def late16 (a da u dc m dm : FVec Ideal S4096x1024 .f32) (e : FVec Ideal S4x3072x1024 .bf16) : FVec Ideal S4x3072x1024 .bf16 :=
  lates e (truncf .bf16 (grad da a) bitsLt_bf16_f32) (truncf .bf16 (grad dc u) bitsLt_bf16_f32) (truncf .bf16 (grad dm m) bitsLt_bf16_f32)

theorem mid_has {a u : FVec Ideal S4096x1024 .f32} {p q : FVec Ideal S1024x1024 .f32} {g : FVec Ideal S4096x2048 .f32} {b : FVec Ideal S1x1024 .f32}
    {A P U Q : ℕ → ℕ → EReal} (ha : Has2 a A) (hp : Has2 p P) (hg : Has2 g G) (hu : Has2 u U) (hq : Has2 q Q) (hb : Has2 b B) :
    Has2 (mid a p g u q b) (merged A P G U Q B) := both_has hg (mm_has ha hp) (mm_has hu hq) hb

theorem total_has {x m : FVec Ideal S4096x1024 .f32} {n : FVec Ideal S1x1024 .f32} {M N : ℕ → ℕ → EReal} (hx : Has2 x X) (hm : Has2 m M)
    (hn : Has2 n N) : Has2 (total x m n) (residual X M N) := fun i j => congrArg₂ (· + ·) (hx i j) (rms_has hm hn i j)

theorem late32_has {a da u dc m dm : FVec Ideal S4096x1024 .f32} {e : FVec Ideal S4x3072x1024 .f32} {A DA U DC M DM : ℕ → ℕ → EReal}
    {E : ℕ → ℕ → ℕ → EReal} (ha : Has2 a A) (hda : Has2 da DA) (hu : Has2 u U) (hdc : Has2 dc DC) (hm : Has2 m M) (hdm : Has2 dm DM)
    (he : Has3 e E) : Has3 (late32 a da u dc m dm e) (late A DA U DC M DM E) :=
  lates_has he (grad_has hda ha) (grad_has hdc hu) (grad_has hdm hm)

theorem late16_has {a da u dc m dm : FVec Ideal S4096x1024 .f32} {e : FVec Ideal S4x3072x1024 .bf16} {A DA U DC M DM : ℕ → ℕ → EReal}
    {E : ℕ → ℕ → ℕ → EReal} (ha : Has2 a A) (hda : Has2 da DA) (hu : Has2 u U) (hdc : Has2 dc DC) (hm : Has2 m M) (hdm : Has2 dm DM)
    (he : Has3 e E) : Has3 (late16 a da u dc m dm e) (late A DA U DC M DM E) :=
  lates_has he (fun p r s => grad_has hda ha p r s) (fun p r s => grad_has hdc hu p r s) (fun p r s => grad_has hdm hm p r s)

variable (m : (ℓ : Loc nD τ sig) → Buf (Elt Ideal) ℓ) (ρ : Dev nD → PrngReg)

/-- The reference ends, with each result as above and its arguments as they were. -/
theorem run : θ_run defs (onTc (τ := τ) main) ⟨m, fun _ => 0, ρ⟩ fun r => ∀ c : Dev nD,
    r.2.mem ((c.tc : Thread nD τ).loc main_v55) = truncf .bf16 (mm (m ((c.tc : Thread nD τ).loc main_arg1)) (m ((c.tc : Thread nD τ).loc main_arg2))) bitsLt_bf16_f32
    ∧ r.2.mem ((c.tc : Thread nD τ).loc main_v56) = truncf .bf16 (mm (m ((c.tc : Thread nD τ).loc main_arg4)) (m ((c.tc : Thread nD τ).loc main_arg5))) bitsLt_bf16_f32
    ∧ r.2.mem ((c.tc : Thread nD τ).loc main_v57) = truncf .bf16 (mid (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) bitsLt_bf16_f32
    ∧ r.2.mem ((c.tc : Thread nD τ).loc main_v21) = mm (mid (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))
    ∧ r.2.mem ((c.tc : Thread nD τ).loc main_v34) = total (m ((c.tc : Thread nD τ).loc main_arg0)) (mm (mid (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (m ((c.tc : Thread nD τ).loc main_arg8))
    ∧ r.2.mem ((c.tc : Thread nD τ).loc main_v70) = truncf .bf16 (rms (total (m ((c.tc : Thread nD τ).loc main_arg0)) (mm (mid (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (m ((c.tc : Thread nD τ).loc main_arg8))) (m ((c.tc : Thread nD τ).loc main_arg9))) bitsLt_bf16_f32
    ∧ r.2.mem ((c.tc : Thread nD τ).loc main_v47) = late32 (m ((c.tc : Thread nD τ).loc main_arg1)) (m ((c.tc : Thread nD τ).loc main_arg10)) (m ((c.tc : Thread nD τ).loc main_arg4)) (m ((c.tc : Thread nD τ).loc main_arg11)) (mid (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg12)) (m ((c.tc : Thread nD τ).loc main_arg13))
    ∧ r.2.mem ((c.tc : Thread nD τ).loc main_v54) = late16 (m ((c.tc : Thread nD τ).loc main_arg1)) (m ((c.tc : Thread nD τ).loc main_arg10)) (m ((c.tc : Thread nD τ).loc main_arg4)) (m ((c.tc : Thread nD τ).loc main_arg11)) (mid (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg12)) (m ((c.tc : Thread nD τ).loc main_arg14))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  (θ_run defs _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2.1.trans rfl,
    (h c).2.2.2.2.2.2.2.2⟩) (Value.run m ρ)

end Reference

end Cert.Mix

end
-- ==== Proof.MixChain.lean ====
/-
  The chain of the output products: what each call finds in its operands, and what the results hold at the end.
-/
module

public import proofs.«01_k».proof.Proof.MixArrays
public import proofs.«01_k».proof.Proof.MixReference
public import Idealize.ShloMosaic.Lib.StableHlo.RunRead
public import Idealize.ShloMosaic.Lib.Tactic

@[expose] public section

set_option maxRecDepth 16384

noncomputable section

namespace Cert.Mix

open Idealize.ShloMosaic Idealize.ShloMosaic.TcCoe Idealize.SL.Sem Cert.Kernel5Ideal Cert.Kernel5Ideal.Gen Cert.Reals
open Cert.Mlp (Has2 Has3 has2_at has3_at)
open Cert.Proj (product byCols)
open Finset (range)

variable (m : (ℓ : Loc nD τ sig) → Buf (Elt Ideal) ℓ) (ρ : Dev nD → PrngReg) (c : Dev nD)

/-! ## The arguments -/

abbrev xa : FVec Ideal S4096x1024 .f32 := m ((c.tc : Thread nD τ).loc main_arg0)
abbrev aa : FVec Ideal S4096x1024 .f32 := m ((c.tc : Thread nD τ).loc main_arg1)
abbrev pa : FVec Ideal S1024x1024 .f32 := m ((c.tc : Thread nD τ).loc main_arg2)
abbrev ga : FVec Ideal S4096x2048 .f32 := m ((c.tc : Thread nD τ).loc main_arg3)
abbrev ua : FVec Ideal S4096x1024 .f32 := m ((c.tc : Thread nD τ).loc main_arg4)
abbrev qa : FVec Ideal S1024x1024 .f32 := m ((c.tc : Thread nD τ).loc main_arg5)
abbrev ba : FVec Ideal S1x1024 .f32 := m ((c.tc : Thread nD τ).loc main_arg6)
abbrev oa : FVec Ideal S1024x1024 .f32 := m ((c.tc : Thread nD τ).loc main_arg7)
abbrev na : FVec Ideal S1x1024 .f32 := m ((c.tc : Thread nD τ).loc main_arg8)
abbrev ma : FVec Ideal S1x1024 .f32 := m ((c.tc : Thread nD τ).loc main_arg9)
abbrev daa : FVec Ideal S4096x1024 .f32 := m ((c.tc : Thread nD τ).loc main_arg10)
abbrev dca : FVec Ideal S4096x1024 .f32 := m ((c.tc : Thread nD τ).loc main_arg11)
abbrev doa : FVec Ideal S4096x1024 .f32 := m ((c.tc : Thread nD τ).loc main_arg12)
abbrev ea : FVec Ideal S4x3072x1024 .f32 := m ((c.tc : Thread nD τ).loc main_arg13)
abbrev fa : FVec Ideal S4x3072x1024 .bf16 := m ((c.tc : Thread nD τ).loc main_arg14)

/-! ## The host lines -/

/-- The gates in their two column blocks of the projections' result, zeros in the others. -/
def wide (z a : FVec Ideal S4096x1024 .f32) (g : FVec Ideal S4096x2048 .f32) (b : FVec Ideal S4096x1024 .f32) : FVec Ideal S4096x5120 .f32 :=
  concatenate S4096x5120 1 [⟨S4096x1024, z⟩, ⟨S4096x1024, a⟩, ⟨S4096x2048, g⟩, ⟨S4096x1024, b⟩]
    concatenates_S4096x1024_S4096x1024_S4096x2048_S4096x1024_S4096x5120_d1

/-- The pack's six parts, one after the other in every plane. -/
def join (z : FVec Ideal S4x1024x1024 .f32) (p e q o : FVec Ideal S4x256x1024 .f32) (z' : FVec Ideal S4x1024x1024 .f32) : FVec Ideal S4x3072x1024 .f32 :=
  concatenate S4x3072x1024 1 [⟨S4x1024x1024, z⟩, ⟨S4x256x1024, p⟩, ⟨S4x256x1024, e⟩, ⟨S4x256x1024, q⟩, ⟨S4x256x1024, o⟩, ⟨S4x1024x1024, z'⟩]
    concatenates_S4x1024x1024_S4x256x1024_S4x256x1024_S4x256x1024_S4x256x1024_S4x1024x1024_S4x3072x1024_d1

/-- Zeros. -/
abbrev zeros : FVec Ideal S4096x1024 .f32 := broadcastInDim S4096x1024 ![] bcast_S_S4096x1024 (constant S_ .f32 0x00000000#32)
abbrev zeros4 : FVec Ideal S4x1024x1024 .f32 := broadcastInDim S4x1024x1024 ![] bcast_S_S4x1024x1024 (constant S_ .f32 0x00000000#32)
abbrev zeros256 : FVec Ideal S4x256x1024 .f32 := broadcastInDim S4x256x1024 ![] bcast_S_S4x256x1024 (constant S_ .f32 0x00000000#32)

/-- A weight, 256 rows to a plane. -/
abbrev planes (w : FVec Ideal S1024x1024 .f32) : FVec Ideal S4x256x1024 .f32 := shapeCast S4x256x1024 w shapeCasts_S1024x1024_S4x256x1024

/-- The pack of the three weights, and its blocks of 256 rows. -/
def pack (p q o : FVec Ideal S1024x1024 .f32) : FVec Ideal S4x3072x1024 .bf16 :=
  truncf .bf16 (join zeros4 (planes p) zeros256 (planes q) (planes o) zeros4) bitsLt_bf16_f32

def blocks (p q o : FVec Ideal S1024x1024 .f32) : FVec Ideal S4x12x256x1024 .bf16 :=
  shapeCast S4x12x256x1024 (pack p q o) shapeCasts_S4x3072x1024_S4x12x256x1024

theorem W1_v0 : (W1 m ρ c (Proc.devRef .tc main_v0) : FVec Ideal S4096x1024 .bf16) = truncf .bf16 (aa m c) bitsLt_bf16_f32 := by
  unfold W1
  simp only [hostOps0]
  after_reads_simp

theorem W1_v1 : (W1 m ρ c (Proc.devRef .tc main_v1) : FVec Ideal S4096x1024 .bf16) = truncf .bf16 (ua m c) bitsLt_bf16_f32 := by
  unfold W1
  simp only [hostOps0]
  after_reads_simp

theorem W1_v2 : (W1 m ρ c (Proc.devRef .tc main_v2) : FVec Ideal S4096x1024 .bf16) = truncf .bf16 (daa m c) bitsLt_bf16_f32 := by
  unfold W1
  simp only [hostOps0]
  after_reads_simp

theorem W1_v3 : (W1 m ρ c (Proc.devRef .tc main_v3) : FVec Ideal S4096x1024 .bf16) = truncf .bf16 (dca m c) bitsLt_bf16_f32 := by
  unfold W1
  simp only [hostOps0]
  after_reads_simp

theorem W1_v4 : (W1 m ρ c (Proc.devRef .tc main_v4) : FVec Ideal S4096x1024 .bf16) = truncf .bf16 (doa m c) bitsLt_bf16_f32 := by
  unfold W1
  simp only [hostOps0]
  after_reads_simp

theorem W1_v7 : (W1 m ρ c (Proc.devRef .tc main_v7) : FVec Ideal S4096x5120 .bf16) = truncf .bf16 (wide zeros zeros (ga m c) zeros) bitsLt_bf16_f32 := by
  unfold W1
  simp only [hostOps0]
  after_reads_simp
  rfl

theorem W1_v14 : (W1 m ρ c (Proc.devRef .tc main_v14) : FVec Ideal S4x3072x1024 .bf16) = pack (pa m c) (qa m c) (oa m c) := by
  unfold W1
  simp only [hostOps0]
  after_reads_simp
  rfl

theorem W1_v15 : (W1 m ρ c (Proc.devRef .tc main_v15) : FVec Ideal S4x12x256x1024 .bf16) = blocks (pa m c) (qa m c) (oa m c) := by
  unfold W1
  simp only [hostOps0]
  after_reads_simp
  rfl

/-- The columns of the gates. -/
theorem wide_has {z a b : FVec Ideal S4096x1024 .f32} {g : FVec Ideal S4096x2048 .f32} {Z A G B : ℕ → ℕ → EReal} (hz : Has2 z Z) (ha : Has2 a A)
    (hg : Has2 g G) (hb : Has2 b B) : Has2 (wide z a g b) (fun r s => if s < 1024 then Z r s else if s - 1024 < 1024 then A r (s - 1024)
      else if s - 1024 - 1024 < 2048 then G r (s - 1024 - 1024) else B r (s - 1024 - 1024 - 2048)) := by
  intro i j
  unfold wide
  pointwise
  split
  · exact hz _ _
  · split
    · exact ha _ _
    · split
      · exact hg _ _
      · exact hb _ _

theorem join_has {z z' : FVec Ideal S4x1024x1024 .f32} {p e q o : FVec Ideal S4x256x1024 .f32} {Z P E Q O Z' : ℕ → ℕ → ℕ → EReal} (hz : Has3 z Z)
    (hp : Has3 p P) (he : Has3 e E) (hq : Has3 q Q) (ho : Has3 o O) (hz' : Has3 z' Z') :
    Has3 (join z p e q o z') (fun i r s => if r < 1024 then Z i r s else if r - 1024 < 256 then P i (r - 1024) s
      else if r - 1024 - 256 < 256 then E i (r - 1024 - 256) s else if r - 1024 - 256 - 256 < 256 then Q i (r - 1024 - 256 - 256) s
      else if r - 1024 - 256 - 256 - 256 < 256 then O i (r - 1024 - 256 - 256 - 256) s else Z' i (r - 1024 - 256 - 256 - 256 - 256) s) := by
  intro i r s
  unfold join
  pointwise
  split
  · exact hz _ _ _
  · split
    · exact hp _ _ _
    · split
      · exact he _ _ _
      · split
        · exact hq _ _ _
        · split
          · exact ho _ _ _
          · exact hz' _ _ _

theorem zeros_has : Has2 zeros (fun _ _ => 0) := fun _ _ => Cert.Mlp.ofBits_zero
theorem zeros4_has : Has3 zeros4 (fun _ _ _ => 0) := fun _ _ _ => Cert.Mlp.ofBits_zero
theorem zeros256_has : Has3 zeros256 (fun _ _ _ => 0) := fun _ _ _ => Cert.Mlp.ofBits_zero

theorem planes_has {w : FVec Ideal S1024x1024 .f32} {W : ℕ → ℕ → EReal} (hw : Has2 w W) : Has3 (planes w) (fun p r s => W (p * 256 + r) s) := by
  intro p r s
  pointwise
  exact hw _ _

section
variable {p q o : FVec Ideal S1024x1024 .f32} {P Q O : ℕ → ℕ → EReal} (hp : Has2 p P) (hq : Has2 q Q) (ho : Has2 o O)

/-- The pack at an index. -/
def packed (P Q O : ℕ → ℕ → EReal) (i r s : ℕ) : EReal :=
  if r < 1024 then 0 else if r - 1024 < 256 then P (i * 256 + (r - 1024)) s else if r - 1024 - 256 < 256 then 0
  else if r - 1024 - 256 - 256 < 256 then Q (i * 256 + (r - 1024 - 256 - 256)) s
  else if r - 1024 - 256 - 256 - 256 < 256 then O (i * 256 + (r - 1024 - 256 - 256 - 256)) s else 0

include hp hq ho in
theorem pack_has : Has3 (pack p q o) (packed P Q O) := fun i r s =>
  join_has zeros4_has (planes_has hp) zeros256_has (planes_has hq) (planes_has ho) zeros4_has i r s

include hp hq ho in
/-- Row block `k` of a plane begins at row `256 k` of the pack. -/
theorem blocks_at (i : S4x12x256x1024.Idx) : blocks p q o i = packed P Q O (i 0) ((i 1 : ℕ) * 256 + (i 2 : ℕ)) (i 3) := by
  have h := pack_has hp hq ho
  have e : i = ix4 (i 0) (i 1) (i 2) (i 3) := by funext k; fin_cases k <;> rfl
  have g : ∀ (a : Fin 4) (b : Fin 12) (d : Fin 256) (s : Fin 1024), blocks p q o (ix4 a b d s) = packed P Q O a ((b : ℕ) * 256 + (d : ℕ)) s := by
    intro a b d s
    unfold blocks
    generalize pack p q o = w at h ⊢
    pointwise
    exact h _ _ _
  exact (congrArg _ e).trans (g _ _ _ _)

include hp hq ho in
theorem rows4 : HasRows 4 (blocks p q o) P := by
  intro i hi
  have h2 : (i 2 : ℕ) < 256 := (i 2).isLt
  rw [blocks_at hp hq ho, hi]
  unfold packed
  rw [if_neg (by omega), if_pos (by omega), show 4 * 256 + (i 2 : ℕ) - 1024 = (i 2 : ℕ) by omega]

include hp hq ho in
theorem rows6 : HasRows 6 (blocks p q o) Q := by
  intro i hi
  have h2 : (i 2 : ℕ) < 256 := (i 2).isLt
  rw [blocks_at hp hq ho, hi]
  unfold packed
  rw [if_neg (by omega), if_neg (by omega), if_neg (by omega), if_pos (by omega), show 6 * 256 + (i 2 : ℕ) - 1024 - 256 - 256 = (i 2 : ℕ) by omega]

include hp hq ho in
theorem rows7 : HasRows 7 (blocks p q o) O := by
  intro i hi
  have h2 : (i 2 : ℕ) < 256 := (i 2).isLt
  rw [blocks_at hp hq ho, hi]
  unfold packed
  rw [if_neg (by omega), if_neg (by omega), if_neg (by omega), if_neg (by omega), if_pos (by omega),
    show 7 * 256 + (i 2 : ℕ) - 1024 - 256 - 256 - 256 = (i 2 : ℕ) by omega]

end

variable {R A P G U Q B O N N' DA DC DM : ℕ → ℕ → EReal} {E F : ℕ → ℕ → ℕ → EReal}
variable (hR : Has2 (xa m c) R)
variable (hA : Has2 (aa m c) A)
variable (hP : Has2 (pa m c) P)
variable (hG : Has2 (ga m c) G)
variable (hU : Has2 (ua m c) U)
variable (hQ : Has2 (qa m c) Q)
variable (hB : Has2 (ba m c) B)
variable (hO : Has2 (oa m c) O)
variable (hN : Has2 (na m c) N)
variable (hN' : Has2 (ma m c) N')
variable (hDA : Has2 (daa m c) DA)
variable (hDC : Has2 (dca m c) DC)
variable (hDM : Has2 (doa m c) DM)
variable (hE : Has3 (ea m c) E)
variable (hF : Has3 (fa m c) F)

/-! ## The operands, at an index -/

include hA in
theorem at_v0 : Has2 (W1 m ρ c (Proc.devRef .tc main_v0) : S4096x1024.Idx → EReal) A := by
  rw [W1_v0]
  exact fun i j => hA i j

include hU in
theorem at_v1 : Has2 (W1 m ρ c (Proc.devRef .tc main_v1) : S4096x1024.Idx → EReal) U := by
  rw [W1_v1]
  exact fun i j => hU i j

include hDA in
theorem at_v2 : Has2 (W1 m ρ c (Proc.devRef .tc main_v2) : S4096x1024.Idx → EReal) DA := by
  rw [W1_v2]
  exact fun i j => hDA i j

include hDC in
theorem at_v3 : Has2 (W1 m ρ c (Proc.devRef .tc main_v3) : S4096x1024.Idx → EReal) DC := by
  rw [W1_v3]
  exact fun i j => hDC i j

include hDM in
theorem at_v4 : Has2 (W1 m ρ c (Proc.devRef .tc main_v4) : S4096x1024.Idx → EReal) DM := by
  rw [W1_v4]
  exact fun i j => hDM i j

/-- The columns of the projections' result that hold the gates. -/
def gates (G : ℕ → ℕ → EReal) (r s : ℕ) : EReal := if s < 1024 then 0 else if s - 1024 < 1024 then 0
  else if s - 1024 - 1024 < 2048 then G r (s - 1024 - 1024) else 0

include hG in
theorem at_v7 : Has2 (W1 m ρ c (Proc.devRef .tc main_v7) : S4096x5120.Idx → EReal) (gates G) := by
  rw [W1_v7]
  exact fun i j => wide_has zeros_has zeros_has hG zeros_has i j

/-- The two gates of one entry. -/
theorem merge_gates (X Y : ℕ → ℕ → EReal) (r s : ℕ) (hs : s < 1024) :
    merge (fun r s => gates G r (2048 + s)) (fun r s => gates G r (3072 + s)) X Y r s = merge G (fun r s => G r (1024 + s)) X Y r s := by
  have g0 : gates G r (2048 + s) = G r s := by
    unfold gates
    rw [if_neg (by omega), if_neg (by omega), if_pos (by omega), show 2048 + s - 1024 - 1024 = s by omega]
  have g1 : gates G r (3072 + s) = G r (1024 + s) := by
    unfold gates
    rw [if_neg (by omega), if_neg (by omega), if_pos (by omega), show 3072 + s - 1024 - 1024 = 1024 + s by omega]
  unfold merge
  beta_reduce
  rw [g0, g1]

/-! ## The calls, in order -/

theorem kept3_v1 : W3 m ρ c (Proc.devRef .tc main_v1) = W1 m ρ c (Proc.devRef .tc main_v1) :=
  ((W3_of m ρ c main_v1 (by decide +kernel)).trans (W2_of m ρ c main_v1 (by decide +kernel)))

theorem kept3_v7 : W3 m ρ c (Proc.devRef .tc main_v7) = W1 m ρ c (Proc.devRef .tc main_v7) :=
  ((W3_of m ρ c main_v7 (by decide +kernel)).trans (W2_of m ρ c main_v7 (by decide +kernel)))

theorem kept2_v14 : W2 m ρ c (Proc.devRef .tc main_v14) = W1 m ρ c (Proc.devRef .tc main_v14) :=
  (W2_of m ρ c main_v14 (by decide +kernel))

theorem kept3_v16 : W3 m ρ c (Proc.devRef .tc main_v16) = W2 m ρ c (Proc.devRef .tc main_v16) :=
  (W3_of m ρ c main_v16 (by decide +kernel))

theorem kept3_arg6 : W3 m ρ c (Proc.devRef .tc main_arg6) = W0 m ρ c (Proc.devRef .tc main_arg6) :=
  ((W3_of m ρ c main_arg6 (by decide +kernel)).trans ((W2_of m ρ c main_arg6 (by decide +kernel)).trans (W1_of m ρ c main_arg6 (by decide +kernel))))

theorem kept4_v14 : W4 m ρ c (Proc.devRef .tc main_v14) = W1 m ρ c (Proc.devRef .tc main_v14) :=
  ((W4_of m ρ c main_v14 (by decide +kernel)).trans ((W3_of m ρ c main_v14 (by decide +kernel)).trans (W2_of m ρ c main_v14 (by decide +kernel))))

theorem kept5_v18_1 : W5 m ρ c (Proc.devRef .tc main_v18_1) = W4 m ρ c (Proc.devRef .tc main_v18_1) :=
  (W5_of m ρ c main_v18_1 (by decide +kernel))

theorem kept5_arg0 : W5 m ρ c (Proc.devRef .tc main_arg0) = W0 m ρ c (Proc.devRef .tc main_arg0) :=
  ((W5_of m ρ c main_arg0 (by decide +kernel)).trans ((W4_of m ρ c main_arg0 (by decide +kernel)).trans ((W3_of m ρ c main_arg0 (by decide +kernel)).trans ((W2_of m ρ c main_arg0 (by decide +kernel)).trans (W1_of m ρ c main_arg0 (by decide +kernel))))))

theorem kept5_arg8 : W5 m ρ c (Proc.devRef .tc main_arg8) = W0 m ρ c (Proc.devRef .tc main_arg8) :=
  ((W5_of m ρ c main_arg8 (by decide +kernel)).trans ((W4_of m ρ c main_arg8 (by decide +kernel)).trans ((W3_of m ρ c main_arg8 (by decide +kernel)).trans ((W2_of m ρ c main_arg8 (by decide +kernel)).trans (W1_of m ρ c main_arg8 (by decide +kernel))))))

theorem kept5_arg9 : W5 m ρ c (Proc.devRef .tc main_arg9) = W0 m ρ c (Proc.devRef .tc main_arg9) :=
  ((W5_of m ρ c main_arg9 (by decide +kernel)).trans ((W4_of m ρ c main_arg9 (by decide +kernel)).trans ((W3_of m ρ c main_arg9 (by decide +kernel)).trans ((W2_of m ρ c main_arg9 (by decide +kernel)).trans (W1_of m ρ c main_arg9 (by decide +kernel))))))

theorem kept7_v18_1 : W7 m ρ c (Proc.devRef .tc main_v18_1) = W4 m ρ c (Proc.devRef .tc main_v18_1) :=
  ((W7_of m ρ c main_v18_1 (by decide +kernel)).trans ((W6_of m ρ c main_v18_1 (by decide +kernel)).trans (W5_of m ρ c main_v18_1 (by decide +kernel))))

theorem kept7_v4 : W7 m ρ c (Proc.devRef .tc main_v4) = W1 m ρ c (Proc.devRef .tc main_v4) :=
  ((W7_of m ρ c main_v4 (by decide +kernel)).trans ((W6_of m ρ c main_v4 (by decide +kernel)).trans ((W5_of m ρ c main_v4 (by decide +kernel)).trans ((W4_of m ρ c main_v4 (by decide +kernel)).trans ((W3_of m ρ c main_v4 (by decide +kernel)).trans (W2_of m ρ c main_v4 (by decide +kernel)))))))

theorem kept6_arg13 : W6 m ρ c (Proc.devRef .tc main_arg13) = W0 m ρ c (Proc.devRef .tc main_arg13) :=
  ((W6_of m ρ c main_arg13 (by decide +kernel)).trans ((W5_of m ρ c main_arg13 (by decide +kernel)).trans ((W4_of m ρ c main_arg13 (by decide +kernel)).trans ((W3_of m ρ c main_arg13 (by decide +kernel)).trans ((W2_of m ρ c main_arg13 (by decide +kernel)).trans (W1_of m ρ c main_arg13 (by decide +kernel)))))))

theorem kept6_arg14 : W6 m ρ c (Proc.devRef .tc main_arg14) = W0 m ρ c (Proc.devRef .tc main_arg14) :=
  ((W6_of m ρ c main_arg14 (by decide +kernel)).trans ((W5_of m ρ c main_arg14 (by decide +kernel)).trans ((W4_of m ρ c main_arg14 (by decide +kernel)).trans ((W3_of m ρ c main_arg14 (by decide +kernel)).trans ((W2_of m ρ c main_arg14 (by decide +kernel)).trans (W1_of m ρ c main_arg14 (by decide +kernel)))))))

theorem kept9_v0 : W9 m ρ c (Proc.devRef .tc main_v0) = W1 m ρ c (Proc.devRef .tc main_v0) :=
  ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans (W2_of m ρ c main_v0 (by decide +kernel)))))))))

theorem kept9_v2 : W9 m ρ c (Proc.devRef .tc main_v2) = W1 m ρ c (Proc.devRef .tc main_v2) :=
  ((W9_of m ρ c main_v2 (by decide +kernel)).trans ((W8_of m ρ c main_v2 (by decide +kernel)).trans ((W7_of m ρ c main_v2 (by decide +kernel)).trans ((W6_of m ρ c main_v2 (by decide +kernel)).trans ((W5_of m ρ c main_v2 (by decide +kernel)).trans ((W4_of m ρ c main_v2 (by decide +kernel)).trans ((W3_of m ρ c main_v2 (by decide +kernel)).trans (W2_of m ρ c main_v2 (by decide +kernel)))))))))

theorem kept11_v1 : W11 m ρ c (Proc.devRef .tc main_v1) = W1 m ρ c (Proc.devRef .tc main_v1) :=
  ((W11_of m ρ c main_v1 (by decide +kernel)).trans ((W10_of m ρ c main_v1 (by decide +kernel)).trans ((W9_of m ρ c main_v1 (by decide +kernel)).trans ((W8_of m ρ c main_v1 (by decide +kernel)).trans ((W7_of m ρ c main_v1 (by decide +kernel)).trans ((W6_of m ρ c main_v1 (by decide +kernel)).trans ((W5_of m ρ c main_v1 (by decide +kernel)).trans ((W4_of m ρ c main_v1 (by decide +kernel)).trans ((W3_of m ρ c main_v1 (by decide +kernel)).trans (W2_of m ρ c main_v1 (by decide +kernel)))))))))))

theorem kept11_v3 : W11 m ρ c (Proc.devRef .tc main_v3) = W1 m ρ c (Proc.devRef .tc main_v3) :=
  ((W11_of m ρ c main_v3 (by decide +kernel)).trans ((W10_of m ρ c main_v3 (by decide +kernel)).trans ((W9_of m ρ c main_v3 (by decide +kernel)).trans ((W8_of m ρ c main_v3 (by decide +kernel)).trans ((W7_of m ρ c main_v3 (by decide +kernel)).trans ((W6_of m ρ c main_v3 (by decide +kernel)).trans ((W5_of m ρ c main_v3 (by decide +kernel)).trans ((W4_of m ρ c main_v3 (by decide +kernel)).trans ((W3_of m ρ c main_v3 (by decide +kernel)).trans (W2_of m ρ c main_v3 (by decide +kernel)))))))))))

theorem kept12_v16 : W12 m ρ c (Proc.devRef .tc main_v16) = W2 m ρ c (Proc.devRef .tc main_v16) :=
  ((W12_of m ρ c main_v16 (by decide +kernel)).trans ((W11_of m ρ c main_v16 (by decide +kernel)).trans ((W10_of m ρ c main_v16 (by decide +kernel)).trans ((W9_of m ρ c main_v16 (by decide +kernel)).trans ((W8_of m ρ c main_v16 (by decide +kernel)).trans ((W7_of m ρ c main_v16 (by decide +kernel)).trans ((W6_of m ρ c main_v16 (by decide +kernel)).trans ((W5_of m ρ c main_v16 (by decide +kernel)).trans ((W4_of m ρ c main_v16 (by decide +kernel)).trans (W3_of m ρ c main_v16 (by decide +kernel)))))))))))

theorem kept12_v18_0 : W12 m ρ c (Proc.devRef .tc main_v18_0) = W4 m ρ c (Proc.devRef .tc main_v18_0) :=
  ((W12_of m ρ c main_v18_0 (by decide +kernel)).trans ((W11_of m ρ c main_v18_0 (by decide +kernel)).trans ((W10_of m ρ c main_v18_0 (by decide +kernel)).trans ((W9_of m ρ c main_v18_0 (by decide +kernel)).trans ((W8_of m ρ c main_v18_0 (by decide +kernel)).trans ((W7_of m ρ c main_v18_0 (by decide +kernel)).trans ((W6_of m ρ c main_v18_0 (by decide +kernel)).trans (W5_of m ρ c main_v18_0 (by decide +kernel)))))))))

theorem kept12_v18_1 : W12 m ρ c (Proc.devRef .tc main_v18_1) = W4 m ρ c (Proc.devRef .tc main_v18_1) :=
  ((W12_of m ρ c main_v18_1 (by decide +kernel)).trans ((W11_of m ρ c main_v18_1 (by decide +kernel)).trans ((W10_of m ρ c main_v18_1 (by decide +kernel)).trans ((W9_of m ρ c main_v18_1 (by decide +kernel)).trans ((W8_of m ρ c main_v18_1 (by decide +kernel)).trans ((W7_of m ρ c main_v18_1 (by decide +kernel)).trans ((W6_of m ρ c main_v18_1 (by decide +kernel)).trans (W5_of m ρ c main_v18_1 (by decide +kernel)))))))))

theorem kept12_v20_0 : W12 m ρ c (Proc.devRef .tc main_v20_0) = W6 m ρ c (Proc.devRef .tc main_v20_0) :=
  ((W12_of m ρ c main_v20_0 (by decide +kernel)).trans ((W11_of m ρ c main_v20_0 (by decide +kernel)).trans ((W10_of m ρ c main_v20_0 (by decide +kernel)).trans ((W9_of m ρ c main_v20_0 (by decide +kernel)).trans ((W8_of m ρ c main_v20_0 (by decide +kernel)).trans (W7_of m ρ c main_v20_0 (by decide +kernel)))))))

theorem kept12_v20_1 : W12 m ρ c (Proc.devRef .tc main_v20_1) = W6 m ρ c (Proc.devRef .tc main_v20_1) :=
  ((W12_of m ρ c main_v20_1 (by decide +kernel)).trans ((W11_of m ρ c main_v20_1 (by decide +kernel)).trans ((W10_of m ρ c main_v20_1 (by decide +kernel)).trans ((W9_of m ρ c main_v20_1 (by decide +kernel)).trans ((W8_of m ρ c main_v20_1 (by decide +kernel)).trans (W7_of m ρ c main_v20_1 (by decide +kernel)))))))

theorem kept12_v20_2 : W12 m ρ c (Proc.devRef .tc main_v20_2) = W6 m ρ c (Proc.devRef .tc main_v20_2) :=
  ((W12_of m ρ c main_v20_2 (by decide +kernel)).trans ((W11_of m ρ c main_v20_2 (by decide +kernel)).trans ((W10_of m ρ c main_v20_2 (by decide +kernel)).trans ((W9_of m ρ c main_v20_2 (by decide +kernel)).trans ((W8_of m ρ c main_v20_2 (by decide +kernel)).trans (W7_of m ρ c main_v20_2 (by decide +kernel)))))))

theorem W3_v17 : (W3 m ρ c (Proc.devRef .tc main_v17) : FVec Ideal S4x12x256x1024 .bf16) = blocks (pa m c) (qa m c) (oa m c) := by
  have h : (W3 m ρ c (Proc.devRef .tc main_v17) : FVec Ideal S4x12x256x1024 .bf16)
      = shapeCast S4x12x256x1024 (W2 m ρ c (Proc.devRef .tc main_v14) : FVec Ideal S4x3072x1024 .bf16) shapeCasts_S4x3072x1024_S4x12x256x1024 := by
    unfold W3
    simp only [hostOps1]
    after_reads_simp
    rfl
  rw [h, kept2_v14, W1_v14]
  rfl

theorem W5_v19 : (W5 m ρ c (Proc.devRef .tc main_v19) : FVec Ideal S4x12x256x1024 .bf16) = blocks (pa m c) (qa m c) (oa m c) := by
  have h : (W5 m ρ c (Proc.devRef .tc main_v19) : FVec Ideal S4x12x256x1024 .bf16)
      = shapeCast S4x12x256x1024 (W4 m ρ c (Proc.devRef .tc main_v14) : FVec Ideal S4x3072x1024 .bf16) shapeCasts_S4x3072x1024_S4x12x256x1024 := by
    unfold W5
    simp only [hostOps2]
    after_reads_simp
    rfl
  rw [h, kept4_v14, W1_v14]
  rfl

include hA hP hQ hO in
/-- The first call leaves the attention branch's product. -/
theorem W2_v16 : (W2 m ρ c (Proc.devRef .tc main_v16) : S4096x1024.Idx → EReal) = fun i => product 1024 A P (i 0) (i 1) :=
  (W2_arr m ρ c 2).trans (final0_2 (V1 m ρ) c (at_v0 m ρ c hA)
    (by rw [show (V1 m ρ c (Pipeline.arrRef spec0 1) : S4x12x256x1024.Idx → EReal) = _ from W1_v15 m ρ c]; exact rows4 hP hQ hO))

include hP hQ hO in
theorem in1_w : HasRows 6 (V3 m ρ c (Pipeline.arrRef spec1 1) : S4x12x256x1024.Idx → EReal) Q := by
  rw [show (V3 m ρ c (Pipeline.arrRef spec1 1) : S4x12x256x1024.Idx → EReal) = _ from W3_v17 m ρ c]; exact rows6 hP hQ hO

include hU in
theorem in1_x : Has2 (V3 m ρ c (Pipeline.arrRef spec1 0) : S4096x1024.Idx → EReal) U := by
  rw [show (V3 m ρ c (Pipeline.arrRef spec1 0) : S4096x1024.Idx → EReal) = _ from kept3_v1 m ρ c]; exact at_v1 m ρ c hU

include hU hP hQ hO in
/-- The second call leaves the convolution branch's product. -/
theorem W4_v18_0 : (W4 m ρ c (Proc.devRef .tc main_v18_0) : S4096x1024.Idx → EReal) = fun i => product 1024 U Q (i 0) (i 1) :=
  (W4_arr m ρ c 6).trans (final1_6 (V3 m ρ) c (in1_x m ρ c hU) (in1_w m ρ c hP hQ hO))

include hA hP hG hU hQ hB hO in
/-- The second call leaves both branches merged. -/
theorem W4_v18_1 : (W4 m ρ c (Proc.devRef .tc main_v18_1) : S4096x1024.Idx → EReal) = fun i => merged A P G U Q B (i 0) (i 1) := by
  have h := (W4_arr m ρ c 7).trans (final1_7 (V3 m ρ) c (X := U) (W := Q) (A := gates G) (C := gates G) (P := product 1024 A P) (B := B)
    (in1_x m ρ c hU) (in1_w m ρ c hP hQ hO)
    (by rw [show (V3 m ρ c (Pipeline.arrRef spec1 2) : S4096x5120.Idx → EReal) = _ from kept3_v7 m ρ c]; exact at_v7 m ρ c hG)
    (by rw [show (V3 m ρ c (Pipeline.arrRef spec1 3) : S4096x5120.Idx → EReal) = _ from kept3_v7 m ρ c]; exact at_v7 m ρ c hG)
    (by rw [show (V3 m ρ c (Pipeline.arrRef spec1 4) : S4096x1024.Idx → EReal) = _ from (kept3_v16 m ρ c).trans (W2_v16 m ρ c hA hP hQ hO)]; exact fun _ _ => rfl)
    (by rw [show (V3 m ρ c (Pipeline.arrRef spec1 5) : S1x1024.Idx → EReal) = _ from kept3_arg6 m ρ c]; exact hB))
  refine h.trans ?_
  funext i
  exact merge_gates _ _ (i 0) (i 1) (i 1).isLt

include hA hP hG hU hQ hB hO in
theorem at_v18_1 : Has2 (W4 m ρ c (Proc.devRef .tc main_v18_1) : S4096x1024.Idx → EReal) (merged A P G U Q B) := by
  rw [W4_v18_1 m ρ c hA hP hG hU hQ hB hO]
  exact fun _ _ => rfl

include hP hQ hO in
theorem in2_w : HasRows 7 (V5 m ρ c (Pipeline.arrRef spec2 1) : S4x12x256x1024.Idx → EReal) O := by
  rw [show (V5 m ρ c (Pipeline.arrRef spec2 1) : S4x12x256x1024.Idx → EReal) = _ from W5_v19 m ρ c]; exact rows7 hP hQ hO

include hA hP hG hU hQ hB hO in
theorem in2_x : Has2 (V5 m ρ c (Pipeline.arrRef spec2 0) : S4096x1024.Idx → EReal) (merged A P G U Q B) := by
  rw [show (V5 m ρ c (Pipeline.arrRef spec2 0) : S4096x1024.Idx → EReal) = _ from kept5_v18_1 m ρ c]
  exact at_v18_1 m ρ c hA hP hG hU hQ hB hO

include hR in
theorem in2_r : Has2 (V5 m ρ c (Pipeline.arrRef spec2 2) : S4096x1024.Idx → EReal) R := by
  rw [show (V5 m ρ c (Pipeline.arrRef spec2 2) : S4096x1024.Idx → EReal) = _ from kept5_arg0 m ρ c]; exact hR

include hN in
theorem in2_g : Has2 (V5 m ρ c (Pipeline.arrRef spec2 3) : S1x1024.Idx → EReal) N := by
  rw [show (V5 m ρ c (Pipeline.arrRef spec2 3) : S1x1024.Idx → EReal) = _ from kept5_arg8 m ρ c]; exact hN

include hN' in
theorem in2_g' : Has2 (V5 m ρ c (Pipeline.arrRef spec2 4) : S1x1024.Idx → EReal) N' := by
  rw [show (V5 m ρ c (Pipeline.arrRef spec2 4) : S1x1024.Idx → EReal) = _ from kept5_arg9 m ρ c]; exact hN'

/-! ## The results -/

include hA hP hQ hO in
theorem result0 : (W12 m ρ c (Proc.devRef .tc main_v16) : S4096x1024.Idx → EReal) = fun i => product 1024 A P (i 0) (i 1) :=
  (kept12_v16 m ρ c).trans (W2_v16 m ρ c hA hP hQ hO)

include hU hP hQ hO in
theorem result1 : (W12 m ρ c (Proc.devRef .tc main_v18_0) : S4096x1024.Idx → EReal) = fun i => product 1024 U Q (i 0) (i 1) :=
  (kept12_v18_0 m ρ c).trans (W4_v18_0 m ρ c hP hU hQ hO)

include hA hP hG hU hQ hB hO in
theorem result2 : (W12 m ρ c (Proc.devRef .tc main_v18_1) : S4096x1024.Idx → EReal) = fun i => merged A P G U Q B (i 0) (i 1) :=
  (kept12_v18_1 m ρ c).trans (W4_v18_1 m ρ c hA hP hG hU hQ hB hO)

include hA hP hG hU hQ hB hO in
theorem result3 : (W12 m ρ c (Proc.devRef .tc main_v20_0) : S4096x1024.Idx → EReal) = fun i => product 1024 (merged A P G U Q B) O (i 0) (i 1) :=
  (kept12_v20_0 m ρ c).trans ((W6_arr m ρ c 5).trans (final2_5 (V5 m ρ) c (in2_x m ρ c hA hP hG hU hQ hB hO) (in2_w m ρ c hP hQ hO)))

include hR hA hP hG hU hQ hB hO hN in
theorem result4 : (W12 m ρ c (Proc.devRef .tc main_v20_1) : S4096x1024.Idx → EReal)
    = fun i => residual R (product 1024 (merged A P G U Q B) O) N (i 0) (i 1) :=
  (kept12_v20_1 m ρ c).trans ((W6_arr m ρ c 6).trans (final2_6 (V5 m ρ) c (in2_x m ρ c hA hP hG hU hQ hB hO) (in2_w m ρ c hP hQ hO)
    (in2_r m ρ c hR) (in2_g m ρ c hN)))

include hR hA hP hG hU hQ hB hO hN hN' in
theorem result5 : (W12 m ρ c (Proc.devRef .tc main_v20_2) : S4096x1024.Idx → EReal)
    = fun i => norm (residual R (product 1024 (merged A P G U Q B) O) N) N' (i 0) (i 1) :=
  (kept12_v20_2 m ρ c).trans ((W6_arr m ρ c 7).trans (final2_7 (V5 m ρ) c (in2_x m ρ c hA hP hG hU hQ hB hO) (in2_w m ρ c hP hQ hO)
    (in2_r m ρ c hR) (in2_g m ρ c hN) (in2_g' m ρ c hN')))

/-! ## The buffers -/

theorem W7_v21_0 : (W7 m ρ c (Proc.devRef .tc main_v21_0) : S4x3072x1024.Idx → EReal) = W6 m ρ c (Proc.devRef .tc main_arg13) := by
  unfold W7
  simp only [hostOps3]
  after_reads_simp
  rfl

theorem W9_v22_0 : (W9 m ρ c (Proc.devRef .tc main_v22_0) : S4x3072x1024.Idx → EReal) = W8 m ρ c (Proc.devRef .tc main_v21_0) := by
  unfold W9
  simp only [hostOps4]
  after_reads_simp
  rfl

theorem W11_v23_0 : (W11 m ρ c (Proc.devRef .tc main_v23_0) : S4x3072x1024.Idx → EReal) = W10 m ρ c (Proc.devRef .tc main_v22_0) := by
  unfold W11
  simp only [hostOps5]
  after_reads_simp
  rfl

include hA hP hG hU hQ hB hO hDA hDC hDM hE in
theorem result6 : (W12 m ρ c (Proc.devRef .tc main_v23_0) : S4x3072x1024.Idx → EReal)
    = fun i => late A DA U DC (merged A P G U Q B) DM E (i 0) (i 1) (i 2) := by
  have h3 := (W8_arr m ρ c 2).trans (final3_2 (V7 m ρ) c (X := merged A P G U Q B) (D := DM)
    (by rw [show (V7 m ρ c (Pipeline.arrRef spec3 0) : S4096x1024.Idx → EReal) = _ from kept7_v18_1 m ρ c]; exact at_v18_1 m ρ c hA hP hG hU hQ hB hO)
    (by rw [show (V7 m ρ c (Pipeline.arrRef spec3 1) : S4096x1024.Idx → EReal) = _ from kept7_v4 m ρ c]; exact at_v4 m ρ c hDM))
  have h4 := (W10_arr m ρ c 2).trans (final4_2 (V9 m ρ) c (X := A) (D := DA)
    (by rw [show (V9 m ρ c (Pipeline.arrRef spec4 0) : S4096x1024.Idx → EReal) = _ from kept9_v0 m ρ c]; exact at_v0 m ρ c hA)
    (by rw [show (V9 m ρ c (Pipeline.arrRef spec4 1) : S4096x1024.Idx → EReal) = _ from kept9_v2 m ρ c]; exact at_v2 m ρ c hDA))
  have h5 := (W12_arr m ρ c 2).trans (final5_2 (V11 m ρ) c (X := U) (D := DC)
    (by rw [show (V11 m ρ c (Pipeline.arrRef spec5 0) : S4096x1024.Idx → EReal) = _ from kept11_v1 m ρ c]; exact at_v1 m ρ c hU)
    (by rw [show (V11 m ρ c (Pipeline.arrRef spec5 1) : S4096x1024.Idx → EReal) = _ from kept11_v3 m ρ c]; exact at_v3 m ρ c hDC))
  have g5 : (V11 m ρ c (Pipeline.arrRef spec5 2) : S4x3072x1024.Idx → EReal) = _ := (W11_v23_0 m ρ c).trans h4
  have g4 : (V9 m ρ c (Pipeline.arrRef spec4 2) : S4x3072x1024.Idx → EReal) = _ := (W9_v22_0 m ρ c).trans h3
  have g3 : (V7 m ρ c (Pipeline.arrRef spec3 2) : S4x3072x1024.Idx → EReal) = _ := (W7_v21_0 m ρ c).trans ((kept6_arg13 m ρ c).trans
    (show (ea m c : S4x3072x1024.Idx → EReal) = fun i => E (i 0) (i 1) (i 2) from funext fun i => has3_at hE i))
  rw [g5, g4, g3] at h5
  exact h5

theorem W7_v21_1 : (W7 m ρ c (Proc.devRef .tc main_v21_1) : S4x3072x1024.Idx → EReal) = W6 m ρ c (Proc.devRef .tc main_arg14) := by
  unfold W7
  simp only [hostOps3]
  after_reads_simp
  rfl

theorem W9_v22_1 : (W9 m ρ c (Proc.devRef .tc main_v22_1) : S4x3072x1024.Idx → EReal) = W8 m ρ c (Proc.devRef .tc main_v21_1) := by
  unfold W9
  simp only [hostOps4]
  after_reads_simp
  rfl

theorem W11_v23_1 : (W11 m ρ c (Proc.devRef .tc main_v23_1) : S4x3072x1024.Idx → EReal) = W10 m ρ c (Proc.devRef .tc main_v22_1) := by
  unfold W11
  simp only [hostOps5]
  after_reads_simp
  rfl

include hA hP hG hU hQ hB hO hDA hDC hDM hF in
theorem result7 : (W12 m ρ c (Proc.devRef .tc main_v23_1) : S4x3072x1024.Idx → EReal)
    = fun i => late A DA U DC (merged A P G U Q B) DM F (i 0) (i 1) (i 2) := by
  have h3 := (W8_arr m ρ c 3).trans (final3_3 (V7 m ρ) c (X := merged A P G U Q B) (D := DM)
    (by rw [show (V7 m ρ c (Pipeline.arrRef spec3 0) : S4096x1024.Idx → EReal) = _ from kept7_v18_1 m ρ c]; exact at_v18_1 m ρ c hA hP hG hU hQ hB hO)
    (by rw [show (V7 m ρ c (Pipeline.arrRef spec3 1) : S4096x1024.Idx → EReal) = _ from kept7_v4 m ρ c]; exact at_v4 m ρ c hDM))
  have h4 := (W10_arr m ρ c 3).trans (final4_3 (V9 m ρ) c (X := A) (D := DA)
    (by rw [show (V9 m ρ c (Pipeline.arrRef spec4 0) : S4096x1024.Idx → EReal) = _ from kept9_v0 m ρ c]; exact at_v0 m ρ c hA)
    (by rw [show (V9 m ρ c (Pipeline.arrRef spec4 1) : S4096x1024.Idx → EReal) = _ from kept9_v2 m ρ c]; exact at_v2 m ρ c hDA))
  have h5 := (W12_arr m ρ c 3).trans (final5_3 (V11 m ρ) c (X := U) (D := DC)
    (by rw [show (V11 m ρ c (Pipeline.arrRef spec5 0) : S4096x1024.Idx → EReal) = _ from kept11_v1 m ρ c]; exact at_v1 m ρ c hU)
    (by rw [show (V11 m ρ c (Pipeline.arrRef spec5 1) : S4096x1024.Idx → EReal) = _ from kept11_v3 m ρ c]; exact at_v3 m ρ c hDC))
  have g5 : (V11 m ρ c (Pipeline.arrRef spec5 3) : S4x3072x1024.Idx → EReal) = _ := (W11_v23_1 m ρ c).trans h4
  have g4 : (V9 m ρ c (Pipeline.arrRef spec4 3) : S4x3072x1024.Idx → EReal) = _ := (W9_v22_1 m ρ c).trans h3
  have g3 : (V7 m ρ c (Pipeline.arrRef spec3 3) : S4x3072x1024.Idx → EReal) = _ := (W7_v21_1 m ρ c).trans ((kept6_arg14 m ρ c).trans
    (show (fa m c : S4x3072x1024.Idx → EReal) = fun i => F (i 0) (i 1) (i 2) from funext fun i => has3_at hF i))
  rw [g5, g4, g3] at h5
  exact h5

end Cert.Mix
-- ==== Proof.ProjLines.lean ====
/-
  The layouts of the projections' operands and results, and the products of arrays so laid out.
-/
module

public import proofs.«01_k».proof.Proof.ProjArrays
public import Idealize.ShloMosaic.Lib.StableHlo.RunRead
public import Idealize.ShloMosaic.Lib.Tactic

@[expose] public section

set_option maxRecDepth 16384

noncomputable section

namespace Cert.Proj

open Idealize.ShloMosaic Idealize.ShloMosaic.TcCoe Idealize.SL.Sem Cert.Kernel4Ideal Cert.Kernel4Ideal.Gen Cert.Reals
open Cert.Mlp (Has2 has2_at)
open Finset (range)

/-! ## Layouts, as formulas -/

/-- The first 704 of 4800 columns last, 320 zeros behind them. -/
def turned (f : ℕ → ℕ → EReal) (r s : ℕ) : EReal := if s < 4096 then f r (704 + s) else if s - 4096 < 704 then f r (s - 4096) else 0

/-- Eight heads of 192 columns, 64 zeros behind each. -/
def heads (f : ℕ → ℕ → EReal) (r s : ℕ) : EReal := if s % 256 < 192 then f r (s / 256 * 192 + s % 256) else 0

/-- Two matrices of 1024 columns side by side. -/
def sides (f g : ℕ → ℕ → EReal) (r s : ℕ) : EReal := if s < 1024 then f r s else g r (s - 1024)

/-- A sum over the heads' padded columns is the sum over the heads' columns. -/
theorem sum_heads (f : ℕ → EReal) (n : ℕ) :
    ∑ s ∈ range (n * 256), (if s % 256 < 192 then f (s / 256 * 192 + s % 256) else 0) = ∑ s ∈ range (n * 192), f s := by
  induction n with
  | zero => rfl
  | succ n ih =>
    rw [Nat.succ_mul, Nat.succ_mul, Finset.sum_range_add, Finset.sum_range_add, ih]
    refine congrArg _ ?_
    rw [show (256 : ℕ) = 192 + 64 from rfl, Finset.sum_range_add]
    have h0 : ∑ x ∈ range 64, (if (n * (192 + 64) + (192 + x)) % (192 + 64) < 192
        then f ((n * (192 + 64) + (192 + x)) / (192 + 64) * 192 + (n * (192 + 64) + (192 + x)) % (192 + 64)) else 0) = 0 := by
      refine Finset.sum_eq_zero fun x hx => ?_
      have := Finset.mem_range.mp hx
      rw [if_neg (by omega)]
    rw [h0, add_zero]
    refine Finset.sum_congr rfl fun x hx => ?_
    have := Finset.mem_range.mp hx
    rw [if_pos (by omega)]
    exact congrArg f (by omega)

variable (X Y Z U : ℕ → ℕ → EReal)

/-- The product with a weight's turned columns. -/
theorem byRows_turned (n : ℕ) : byRows n X (fun s k => turned Y k s) = turned (product n X Y) := by
  funext r s
  unfold byRows turned product
  beta_reduce
  split
  · rfl
  · split
    · rfl
    · simp only [mul_zero, Finset.sum_const_zero]

/-- The product with a weight's padded heads. -/
theorem product_heads (n : ℕ) : product n X (heads Y) = heads (product n X Y) := by
  funext r s
  unfold product heads
  split
  · rfl
  · simp only [mul_zero, Finset.sum_const_zero]

/-- The product with two weights side by side. -/
theorem product_sides (n : ℕ) : product n X (sides Y Z) = sides (product n X Y) (product n X Z) := by
  funext r s
  unfold product sides
  split <;> rfl

/-- The product of a matrix's columns with padded heads'. -/
theorem byCols_heads (n : ℕ) : byCols n X (heads Y) = heads (byCols n X Y) := by
  funext r s
  unfold byCols heads
  split
  · rfl
  · simp only [mul_zero, Finset.sum_const_zero]

/-- The product of padded heads. -/
theorem byRows_heads : byRows 2048 (heads X) (heads Y) = byRows 1536 X Y := by
  funext r s
  unfold byRows heads
  refine Eq.trans (Finset.sum_congr rfl fun k _ => ?_) (sum_heads (fun k => X r k * Y s k) 8)
  split
  · rfl
  · rw [mul_zero]

/-- The product of a matrix's columns with two matrices'. -/
theorem byCols_sides (n : ℕ) : byCols n X (sides Y Z) = sides (byCols n X Y) (byCols n X Z) := by
  funext r s
  unfold byCols sides
  split <;> rfl

/-- The product of two pairs side by side is the sum of the two products. -/
theorem byRows_sides (r s : ℕ) : byRows 2048 (sides X Y) (sides Z U) r s = byRows 1024 Y U r s + byRows 1024 X Z r s := by
  unfold byRows sides
  rw [show (2048 : ℕ) = 1024 + 1024 from rfl, Finset.sum_range_add, add_comm]
  refine congrArg₂ (· + ·) (Finset.sum_congr rfl fun k _ => ?_) (Finset.sum_congr rfl fun k hk => ?_)
  · rw [if_neg (by omega), if_neg (by omega), Nat.add_sub_cancel_left]
  · rw [if_pos (Finset.mem_range.mp hk), if_pos (Finset.mem_range.mp hk)]

/-- The product of turned columns with a matrix's. -/
theorem byCols_turned (n : ℕ) (r s : ℕ) : byCols n (turned X) Y r s = turned (fun s r => byCols n X Y r s) s r := by
  unfold byCols turned
  split
  · rfl
  · split
    · rfl
    · simp only [zero_mul, Finset.sum_const_zero]

theorem byCols_comm (n : ℕ) (r s : ℕ) : byCols n X Y r s = byCols n Y X s r :=
  Finset.sum_congr rfl fun _ _ => mul_comm _ _

/-! ## The arrays so laid out -/

/-- Padded heads, of 384 rows. -/
def heads384 (a : FVec Ideal S384x1536 .f32) : FVec Ideal S384x2048 .f32 :=
  shapeCast S384x2048 (concatenate S384x8x256 2 [⟨S384x8x192, shapeCast S384x8x192 a shapeCasts_S384x1536_S384x8x192⟩,
    ⟨S384x8x64, broadcastInDim S384x8x64 ![] bcast_S_S384x8x64 (constant S_ .f32 0x00000000#32)⟩]
    concatenates_S384x8x192_S384x8x64_S384x8x256_d2) shapeCasts_S384x8x256_S384x2048

theorem heads384_has {a : FVec Ideal S384x1536 .f32} {f : ℕ → ℕ → EReal} (h : Has2 a f) : Has2 (heads384 a) (heads f) := by
  intro i j
  unfold heads384 heads
  pointwise
  split
  · exact h _ _
  · rfl

/-- Padded heads, of 4096 rows. -/
def heads4096 (a : FVec Ideal S4096x1536 .f32) : FVec Ideal S4096x2048 .f32 :=
  shapeCast S4096x2048 (concatenate S4096x8x256 2 [⟨S4096x8x192, shapeCast S4096x8x192 a shapeCasts_S4096x1536_S4096x8x192⟩,
    ⟨S4096x8x64, broadcastInDim S4096x8x64 ![] bcast_S_S4096x8x64 (constant S_ .f32 0x00000000#32)⟩]
    concatenates_S4096x8x192_S4096x8x64_S4096x8x256_d2) shapeCasts_S4096x8x256_S4096x2048

theorem heads4096_has {a : FVec Ideal S4096x1536 .f32} {f : ℕ → ℕ → EReal} (h : Has2 a f) : Has2 (heads4096 a) (heads f) := by
  intro i j
  unfold heads4096 heads
  pointwise
  split
  · exact h _ _
  · rfl

/-- Two matrices side by side, of 256 rows. -/
def sides256 (a b : FVec Ideal S256x1024 .f32) : FVec Ideal S256x2048 .f32 :=
  concatenate S256x2048 1 [⟨S256x1024, a⟩, ⟨S256x1024, b⟩] concatenates_S256x1024_S256x1024_S256x2048_d1

theorem sides256_has {a b : FVec Ideal S256x1024 .f32} {f g : ℕ → ℕ → EReal} (ha : Has2 a f) (hb : Has2 b g) :
    Has2 (sides256 a b) (sides f g) := by
  intro i j
  unfold sides256 sides
  pointwise
  split
  · exact ha _ _
  · exact hb _ _

/-- Two matrices side by side, of 4096 rows. -/
def sides4096 (a b : FVec Ideal S4096x1024 .f32) : FVec Ideal S4096x2048 .f32 :=
  concatenate S4096x2048 1 [⟨S4096x1024, a⟩, ⟨S4096x1024, b⟩] concatenates_S4096x1024_S4096x1024_S4096x2048_d1

theorem sides4096_has {a b : FVec Ideal S4096x1024 .f32} {f g : ℕ → ℕ → EReal} (ha : Has2 a f) (hb : Has2 b g) :
    Has2 (sides4096 a b) (sides f g) := by
  intro i j
  unfold sides4096 sides
  pointwise
  split
  · exact ha _ _
  · exact hb _ _

/-- Turned columns. -/
def turnedCols (a : FVec Ideal S4096x4800 .f32) : FVec Ideal S4096x5120 .f32 :=
  concatenate S4096x5120 1 [⟨S4096x4096, extractStridedSlice S4096x4096 ![0, 704] a slices_S4096x4800_S4096x4096_0_704⟩,
    ⟨S4096x704, extractStridedSlice S4096x704 ![0, 0] a slices_S4096x4800_S4096x704_0_0⟩,
    ⟨S4096x320, broadcastInDim S4096x320 ![] bcast_S_S4096x320 (constant S_ .f32 0x00000000#32)⟩]
    concatenates_S4096x4096_S4096x704_S4096x320_S4096x5120_d1

theorem turnedCols_has {a : FVec Ideal S4096x4800 .f32} {f : ℕ → ℕ → EReal} (h : Has2 a f) : Has2 (turnedCols a) (turned f) := by
  intro i j
  unfold turnedCols turned
  pointwise
  split
  · exact h _ _
  · split
    · exact h _ _
    · rfl

/-- Three groups of rows, one below the other. -/
def below (a : FVec Ideal S4096x1024 .f32) (b : FVec Ideal S704x1024 .f32) (d : FVec Ideal S320x1024 .f32) : FVec Ideal S5120x1024 .f32 :=
  concatenate S5120x1024 0 [⟨S4096x1024, a⟩, ⟨S704x1024, b⟩, ⟨S320x1024, d⟩] concatenates_S4096x1024_S704x1024_S320x1024_S5120x1024_d0

theorem below_has {a : FVec Ideal S4096x1024 .f32} {b : FVec Ideal S704x1024 .f32} {d : FVec Ideal S320x1024 .f32} {f g h : ℕ → ℕ → EReal}
    (ha : Has2 a f) (hb : Has2 b g) (hd : Has2 d h) :
    Has2 (below a b d) (fun r s => if r < 4096 then f r s else if r - 4096 < 704 then g (r - 4096) s else h (r - 4096 - 704) s) := by
  intro i j
  unfold below
  pointwise
  split
  · exact ha _ _
  · split
    · exact hb _ _
    · exact hd _ _

/-- A weight's columns as turned rows. -/
def turnedRows (a : FVec Ideal S1024x4800 .f32) : FVec Ideal S5120x1024 .f32 :=
  below (extractStridedSlice S4096x1024 ![704, 0] (transpose S4800x1024 [1, 0] a transposes_S1024x4800_S4800x1024_1_0)
      slices_S4800x1024_S4096x1024_704_0)
    (extractStridedSlice S704x1024 ![0, 0] (transpose S4800x1024 [1, 0] a transposes_S1024x4800_S4800x1024_1_0)
      slices_S4800x1024_S704x1024_0_0)
    (broadcastInDim S320x1024 ![] bcast_S_S320x1024 (constant S_ .f32 0x00000000#32))

theorem turnedRows_has {a : FVec Ideal S1024x4800 .f32} {f : ℕ → ℕ → EReal} (h : Has2 a f) :
    Has2 (turnedRows a) (fun s k => turned f k s) := by
  refine below_has (f := fun s k => f k (704 + s)) (g := fun s k => f k s) (h := fun _ _ => 0) ?_ ?_ ?_
  · intro i j
    pointwise
    exact h _ _
  · intro i j
    pointwise
    exact h _ _
  · intro i j
    pointwise

end Cert.Proj

end
-- ==== Proof.ProjChain.lean ====
/-
  The chain of the eight projections: what each call finds in its operands, and what the results hold at the end.
-/
module

public import proofs.«01_k».proof.Proof.ProjLines

@[expose] public section

set_option maxRecDepth 16384

noncomputable section

namespace Cert.Proj

open Idealize.ShloMosaic Idealize.ShloMosaic.TcCoe Idealize.SL.Sem Cert.Kernel4Ideal Cert.Kernel4Ideal.Gen Cert.Reals
open Cert.Mlp (Has2 has2_at)
open Finset (range)

variable (m : (ℓ : Loc nD τ sig) → Buf (Elt Ideal) ℓ) (ρ : Dev nD → PrngReg) (c : Dev nD)

/-! ## The arguments -/

abbrev ha : FVec Ideal S4096x1024 .f32 := m ((c.tc : Thread nD τ).loc main_arg0)
abbrev wa : FVec Ideal S1024x4800 .f32 := m ((c.tc : Thread nD τ).loc main_arg1)
abbrev cqa : FVec Ideal S4096x384 .f32 := m ((c.tc : Thread nD τ).loc main_arg2)
abbrev wqa : FVec Ideal S384x1536 .f32 := m ((c.tc : Thread nD τ).loc main_arg3)
abbrev cka : FVec Ideal S4096x256 .f32 := m ((c.tc : Thread nD τ).loc main_arg4)
abbrev wka : FVec Ideal S256x1024 .f32 := m ((c.tc : Thread nD τ).loc main_arg5)
abbrev wva : FVec Ideal S256x1024 .f32 := m ((c.tc : Thread nD τ).loc main_arg6)
abbrev dqa : FVec Ideal S4096x1536 .f32 := m ((c.tc : Thread nD τ).loc main_arg7)
abbrev dka : FVec Ideal S4096x1024 .f32 := m ((c.tc : Thread nD τ).loc main_arg8)
abbrev dva : FVec Ideal S4096x1024 .f32 := m ((c.tc : Thread nD τ).loc main_arg9)
abbrev dza : FVec Ideal S4096x4800 .f32 := m ((c.tc : Thread nD τ).loc main_arg10)

/-! ## The host lines -/

theorem W1_v0 : (W1 m ρ c (Proc.devRef .tc main_v0) : FVec Ideal S4096x1024 .bf16) = truncf .bf16 (ha m c) bitsLt_bf16_f32 := by
  unfold W1
  simp only [hostOps0]
  after_reads_simp

theorem W1_v1 : (W1 m ρ c (Proc.devRef .tc main_v1) : FVec Ideal S4096x384 .bf16) = truncf .bf16 (cqa m c) bitsLt_bf16_f32 := by
  unfold W1
  simp only [hostOps0]
  after_reads_simp

theorem W1_v2 : (W1 m ρ c (Proc.devRef .tc main_v2) : FVec Ideal S4096x256 .bf16) = truncf .bf16 (cka m c) bitsLt_bf16_f32 := by
  unfold W1
  simp only [hostOps0]
  after_reads_simp

theorem W1_v8 : (W1 m ρ c (Proc.devRef .tc main_v8) : FVec Ideal S5120x1024 .bf16) = truncf .bf16 (turnedRows (wa m c)) bitsLt_bf16_f32 := by
  unfold W1
  simp only [hostOps0]
  after_reads_simp
  rfl

theorem W1_v13 : (W1 m ρ c (Proc.devRef .tc main_v13) : FVec Ideal S384x2048 .bf16) = truncf .bf16 (heads384 (wqa m c)) bitsLt_bf16_f32 := by
  unfold W1
  simp only [hostOps0]
  after_reads_simp
  rfl

theorem W1_v15 : (W1 m ρ c (Proc.devRef .tc main_v15) : FVec Ideal S256x2048 .bf16) = truncf .bf16 (sides256 (wka m c) (wva m c)) bitsLt_bf16_f32 := by
  unfold W1
  simp only [hostOps0]
  after_reads_simp
  rfl

theorem W1_v20 : (W1 m ρ c (Proc.devRef .tc main_v20) : FVec Ideal S4096x2048 .bf16) = truncf .bf16 (heads4096 (dqa m c)) bitsLt_bf16_f32 := by
  unfold W1
  simp only [hostOps0]
  after_reads_simp
  rfl

theorem W1_v22 : (W1 m ρ c (Proc.devRef .tc main_v22) : FVec Ideal S4096x2048 .bf16) = truncf .bf16 (sides4096 (dka m c) (dva m c)) bitsLt_bf16_f32 := by
  unfold W1
  simp only [hostOps0]
  after_reads_simp
  rfl

theorem W1_v27 : (W1 m ρ c (Proc.devRef .tc main_v27) : FVec Ideal S4096x5120 .bf16) = truncf .bf16 (turnedCols (dza m c)) bitsLt_bf16_f32 := by
  unfold W1
  simp only [hostOps0]
  after_reads_simp
  rfl

variable {H W C Q E K V DQ DK DV DZ : ℕ → ℕ → EReal}
variable (hH : Has2 (ha m c) H)
variable (hW : Has2 (wa m c) W)
variable (hC : Has2 (cqa m c) C)
variable (hQ : Has2 (wqa m c) Q)
variable (hE : Has2 (cka m c) E)
variable (hK : Has2 (wka m c) K)
variable (hV : Has2 (wva m c) V)
variable (hDQ : Has2 (dqa m c) DQ)
variable (hDK : Has2 (dka m c) DK)
variable (hDV : Has2 (dva m c) DV)
variable (hDZ : Has2 (dza m c) DZ)

/-! ## The operands, at an index -/

include hH in
theorem at_v0 : Has2 (W1 m ρ c (Proc.devRef .tc main_v0) : S4096x1024.Idx → EReal) H := by
  rw [W1_v0]
  exact fun i j => hH i j

include hC in
theorem at_v1 : Has2 (W1 m ρ c (Proc.devRef .tc main_v1) : S4096x384.Idx → EReal) C := by
  rw [W1_v1]
  exact fun i j => hC i j

include hE in
theorem at_v2 : Has2 (W1 m ρ c (Proc.devRef .tc main_v2) : S4096x256.Idx → EReal) E := by
  rw [W1_v2]
  exact fun i j => hE i j

include hW in
theorem at_v8 : Has2 (W1 m ρ c (Proc.devRef .tc main_v8) : S5120x1024.Idx → EReal) (fun s k => turned W k s) := by
  rw [W1_v8]
  exact fun i j => (turnedRows_has hW) i j

include hQ in
theorem at_v13 : Has2 (W1 m ρ c (Proc.devRef .tc main_v13) : S384x2048.Idx → EReal) (heads Q) := by
  rw [W1_v13]
  exact fun i j => (heads384_has hQ) i j

include hK hV in
theorem at_v15 : Has2 (W1 m ρ c (Proc.devRef .tc main_v15) : S256x2048.Idx → EReal) (sides K V) := by
  rw [W1_v15]
  exact fun i j => (sides256_has hK hV) i j

include hDQ in
theorem at_v20 : Has2 (W1 m ρ c (Proc.devRef .tc main_v20) : S4096x2048.Idx → EReal) (heads DQ) := by
  rw [W1_v20]
  exact fun i j => (heads4096_has hDQ) i j

include hDK hDV in
theorem at_v22 : Has2 (W1 m ρ c (Proc.devRef .tc main_v22) : S4096x2048.Idx → EReal) (sides DK DV) := by
  rw [W1_v22]
  exact fun i j => (sides4096_has hDK hDV) i j

include hDZ in
theorem at_v27 : Has2 (W1 m ρ c (Proc.devRef .tc main_v27) : S4096x5120.Idx → EReal) (turned DZ) := by
  rw [W1_v27]
  exact fun i j => (turnedCols_has hDZ) i j

/-! ## The results -/

include hH hW in
theorem result0 : (W9 m ρ c (Proc.devRef .tc main_v29) : S4096x5120.Idx → EReal) = fun i => (turned (product 1024 H W)) (i 0) (i 1) := by
  have ha : Has2 (V1 m ρ c (Pipeline.arrRef spec0 0) : S4096x1024.Idx → EReal) H := at_v0 m ρ c hH
  have hb : Has2 (V1 m ρ c (Pipeline.arrRef spec0 1) : S5120x1024.Idx → EReal) (fun s k => turned W k s) := at_v8 m ρ c hW
  rw [← show byRows 1024 H (fun s k => turned W k s) = turned (product 1024 H W) from byRows_turned H W 1024]
  exact (((((((W9_of m ρ c main_v29 (by decide +kernel)).trans (W8_of m ρ c main_v29 (by decide +kernel))).trans (W7_of m ρ c main_v29 (by decide +kernel))).trans (W6_of m ρ c main_v29 (by decide +kernel))).trans (W5_of m ρ c main_v29 (by decide +kernel))).trans (W4_of m ρ c main_v29 (by decide +kernel))).trans (W3_of m ρ c main_v29 (by decide +kernel))).trans
    ((W2_arr m ρ c 2).trans (final0 (V1 m ρ) c ha hb))

include hC hQ in
theorem result1 : (W9 m ρ c (Proc.devRef .tc main_v30) : S4096x2048.Idx → EReal) = fun i => (heads (product 384 C Q)) (i 0) (i 1) := by
  have ha : Has2 (V2 m ρ c (Pipeline.arrRef spec1 0) : S4096x384.Idx → EReal) C := by
    rw [show (V2 m ρ c (Pipeline.arrRef spec1 0) : S4096x384.Idx → EReal) = W1 m ρ c (Proc.devRef .tc main_v1) from
      W2_of m ρ c main_v1 (by decide +kernel)]
    exact at_v1 m ρ c hC
  have hb : Has2 (V2 m ρ c (Pipeline.arrRef spec1 1) : S384x2048.Idx → EReal) (heads Q) := by
    rw [show (V2 m ρ c (Pipeline.arrRef spec1 1) : S384x2048.Idx → EReal) = W1 m ρ c (Proc.devRef .tc main_v13) from
      W2_of m ρ c main_v13 (by decide +kernel)]
    exact at_v13 m ρ c hQ
  rw [← show product 384 C (heads Q) = heads (product 384 C Q) from product_heads C Q 384]
  exact ((((((W9_of m ρ c main_v30 (by decide +kernel)).trans (W8_of m ρ c main_v30 (by decide +kernel))).trans (W7_of m ρ c main_v30 (by decide +kernel))).trans (W6_of m ρ c main_v30 (by decide +kernel))).trans (W5_of m ρ c main_v30 (by decide +kernel))).trans (W4_of m ρ c main_v30 (by decide +kernel))).trans
    ((W3_arr m ρ c 2).trans (final1 (V2 m ρ) c ha hb))

include hE hK hV in
theorem result2 : (W9 m ρ c (Proc.devRef .tc main_v31) : S4096x2048.Idx → EReal) = fun i => (sides (product 256 E K) (product 256 E V)) (i 0) (i 1) := by
  have ha : Has2 (V3 m ρ c (Pipeline.arrRef spec2 0) : S4096x256.Idx → EReal) E := by
    rw [show (V3 m ρ c (Pipeline.arrRef spec2 0) : S4096x256.Idx → EReal) = W1 m ρ c (Proc.devRef .tc main_v2) from
      (W3_of m ρ c main_v2 (by decide +kernel)).trans (W2_of m ρ c main_v2 (by decide +kernel))]
    exact at_v2 m ρ c hE
  have hb : Has2 (V3 m ρ c (Pipeline.arrRef spec2 1) : S256x2048.Idx → EReal) (sides K V) := by
    rw [show (V3 m ρ c (Pipeline.arrRef spec2 1) : S256x2048.Idx → EReal) = W1 m ρ c (Proc.devRef .tc main_v15) from
      (W3_of m ρ c main_v15 (by decide +kernel)).trans (W2_of m ρ c main_v15 (by decide +kernel))]
    exact at_v15 m ρ c hK hV
  rw [← show product 256 E (sides K V) = sides (product 256 E K) (product 256 E V) from product_sides E K V 256]
  exact (((((W9_of m ρ c main_v31 (by decide +kernel)).trans (W8_of m ρ c main_v31 (by decide +kernel))).trans (W7_of m ρ c main_v31 (by decide +kernel))).trans (W6_of m ρ c main_v31 (by decide +kernel))).trans (W5_of m ρ c main_v31 (by decide +kernel))).trans
    ((W4_arr m ρ c 2).trans (final2 (V3 m ρ) c ha hb))

include hC hDQ in
theorem result3 : (W9 m ρ c (Proc.devRef .tc main_v32) : S384x2048.Idx → EReal) = fun i => (heads (byCols 4096 C DQ)) (i 0) (i 1) := by
  have ha : Has2 (V4 m ρ c (Pipeline.arrRef spec3 0) : S4096x384.Idx → EReal) C := by
    rw [show (V4 m ρ c (Pipeline.arrRef spec3 0) : S4096x384.Idx → EReal) = W1 m ρ c (Proc.devRef .tc main_v1) from
      ((W4_of m ρ c main_v1 (by decide +kernel)).trans (W3_of m ρ c main_v1 (by decide +kernel))).trans (W2_of m ρ c main_v1 (by decide +kernel))]
    exact at_v1 m ρ c hC
  have hb : Has2 (V4 m ρ c (Pipeline.arrRef spec3 1) : S4096x2048.Idx → EReal) (heads DQ) := by
    rw [show (V4 m ρ c (Pipeline.arrRef spec3 1) : S4096x2048.Idx → EReal) = W1 m ρ c (Proc.devRef .tc main_v20) from
      ((W4_of m ρ c main_v20 (by decide +kernel)).trans (W3_of m ρ c main_v20 (by decide +kernel))).trans (W2_of m ρ c main_v20 (by decide +kernel))]
    exact at_v20 m ρ c hDQ
  rw [← show byCols 4096 C (heads DQ) = heads (byCols 4096 C DQ) from byCols_heads C DQ 4096]
  exact ((((W9_of m ρ c main_v32 (by decide +kernel)).trans (W8_of m ρ c main_v32 (by decide +kernel))).trans (W7_of m ρ c main_v32 (by decide +kernel))).trans (W6_of m ρ c main_v32 (by decide +kernel))).trans
    ((W5_arr m ρ c 2).trans (final3 (V4 m ρ) c ha hb))

include hDQ hQ in
theorem result4 : (W9 m ρ c (Proc.devRef .tc main_v33) : S4096x384.Idx → EReal) = fun i => (byRows 1536 DQ Q) (i 0) (i 1) := by
  have ha : Has2 (V5 m ρ c (Pipeline.arrRef spec4 0) : S4096x2048.Idx → EReal) (heads DQ) := by
    rw [show (V5 m ρ c (Pipeline.arrRef spec4 0) : S4096x2048.Idx → EReal) = W1 m ρ c (Proc.devRef .tc main_v20) from
      (((W5_of m ρ c main_v20 (by decide +kernel)).trans (W4_of m ρ c main_v20 (by decide +kernel))).trans (W3_of m ρ c main_v20 (by decide +kernel))).trans (W2_of m ρ c main_v20 (by decide +kernel))]
    exact at_v20 m ρ c hDQ
  have hb : Has2 (V5 m ρ c (Pipeline.arrRef spec4 1) : S384x2048.Idx → EReal) (heads Q) := by
    rw [show (V5 m ρ c (Pipeline.arrRef spec4 1) : S384x2048.Idx → EReal) = W1 m ρ c (Proc.devRef .tc main_v13) from
      (((W5_of m ρ c main_v13 (by decide +kernel)).trans (W4_of m ρ c main_v13 (by decide +kernel))).trans (W3_of m ρ c main_v13 (by decide +kernel))).trans (W2_of m ρ c main_v13 (by decide +kernel))]
    exact at_v13 m ρ c hQ
  rw [← show byRows 2048 (heads DQ) (heads Q) = byRows 1536 DQ Q from byRows_heads DQ Q]
  exact (((W9_of m ρ c main_v33 (by decide +kernel)).trans (W8_of m ρ c main_v33 (by decide +kernel))).trans (W7_of m ρ c main_v33 (by decide +kernel))).trans
    ((W6_arr m ρ c 2).trans (final4 (V5 m ρ) c ha hb))

include hE hDK hDV in
theorem result5 : (W9 m ρ c (Proc.devRef .tc main_v34) : S256x2048.Idx → EReal) = fun i => (sides (byCols 4096 E DK) (byCols 4096 E DV)) (i 0) (i 1) := by
  have ha : Has2 (V6 m ρ c (Pipeline.arrRef spec5 0) : S4096x256.Idx → EReal) E := by
    rw [show (V6 m ρ c (Pipeline.arrRef spec5 0) : S4096x256.Idx → EReal) = W1 m ρ c (Proc.devRef .tc main_v2) from
      ((((W6_of m ρ c main_v2 (by decide +kernel)).trans (W5_of m ρ c main_v2 (by decide +kernel))).trans (W4_of m ρ c main_v2 (by decide +kernel))).trans (W3_of m ρ c main_v2 (by decide +kernel))).trans (W2_of m ρ c main_v2 (by decide +kernel))]
    exact at_v2 m ρ c hE
  have hb : Has2 (V6 m ρ c (Pipeline.arrRef spec5 1) : S4096x2048.Idx → EReal) (sides DK DV) := by
    rw [show (V6 m ρ c (Pipeline.arrRef spec5 1) : S4096x2048.Idx → EReal) = W1 m ρ c (Proc.devRef .tc main_v22) from
      ((((W6_of m ρ c main_v22 (by decide +kernel)).trans (W5_of m ρ c main_v22 (by decide +kernel))).trans (W4_of m ρ c main_v22 (by decide +kernel))).trans (W3_of m ρ c main_v22 (by decide +kernel))).trans (W2_of m ρ c main_v22 (by decide +kernel))]
    exact at_v22 m ρ c hDK hDV
  rw [← show byCols 4096 E (sides DK DV) = sides (byCols 4096 E DK) (byCols 4096 E DV) from byCols_sides E DK DV 4096]
  exact ((W9_of m ρ c main_v34 (by decide +kernel)).trans (W8_of m ρ c main_v34 (by decide +kernel))).trans
    ((W7_arr m ρ c 2).trans (final5 (V6 m ρ) c ha hb))

include hDK hDV hK hV in
theorem result6 : (W9 m ρ c (Proc.devRef .tc main_v35) : S4096x256.Idx → EReal) = fun i => (fun r s => byRows 1024 DV V r s + byRows 1024 DK K r s) (i 0) (i 1) := by
  have ha : Has2 (V7 m ρ c (Pipeline.arrRef spec6 0) : S4096x2048.Idx → EReal) (sides DK DV) := by
    rw [show (V7 m ρ c (Pipeline.arrRef spec6 0) : S4096x2048.Idx → EReal) = W1 m ρ c (Proc.devRef .tc main_v22) from
      (((((W7_of m ρ c main_v22 (by decide +kernel)).trans (W6_of m ρ c main_v22 (by decide +kernel))).trans (W5_of m ρ c main_v22 (by decide +kernel))).trans (W4_of m ρ c main_v22 (by decide +kernel))).trans (W3_of m ρ c main_v22 (by decide +kernel))).trans (W2_of m ρ c main_v22 (by decide +kernel))]
    exact at_v22 m ρ c hDK hDV
  have hb : Has2 (V7 m ρ c (Pipeline.arrRef spec6 1) : S256x2048.Idx → EReal) (sides K V) := by
    rw [show (V7 m ρ c (Pipeline.arrRef spec6 1) : S256x2048.Idx → EReal) = W1 m ρ c (Proc.devRef .tc main_v15) from
      (((((W7_of m ρ c main_v15 (by decide +kernel)).trans (W6_of m ρ c main_v15 (by decide +kernel))).trans (W5_of m ρ c main_v15 (by decide +kernel))).trans (W4_of m ρ c main_v15 (by decide +kernel))).trans (W3_of m ρ c main_v15 (by decide +kernel))).trans (W2_of m ρ c main_v15 (by decide +kernel))]
    exact at_v15 m ρ c hK hV
  rw [← show byRows 2048 (sides DK DV) (sides K V) = fun r s => byRows 1024 DV V r s + byRows 1024 DK K r s from funext fun r => funext fun s => byRows_sides DK DV K V r s]
  exact (W9_of m ρ c main_v35 (by decide +kernel)).trans
    ((W8_arr m ρ c 2).trans (final6 (V7 m ρ) c ha hb))

include hDZ hH in
theorem result7 : (W9 m ρ c (Proc.devRef .tc main_v36) : S5120x1024.Idx → EReal) = fun i => (fun r s => turned (fun s r => byCols 4096 DZ H r s) s r) (i 0) (i 1) := by
  have ha : Has2 (V8 m ρ c (Pipeline.arrRef spec7 0) : S4096x5120.Idx → EReal) (turned DZ) := by
    rw [show (V8 m ρ c (Pipeline.arrRef spec7 0) : S4096x5120.Idx → EReal) = W1 m ρ c (Proc.devRef .tc main_v27) from
      ((((((W8_of m ρ c main_v27 (by decide +kernel)).trans (W7_of m ρ c main_v27 (by decide +kernel))).trans (W6_of m ρ c main_v27 (by decide +kernel))).trans (W5_of m ρ c main_v27 (by decide +kernel))).trans (W4_of m ρ c main_v27 (by decide +kernel))).trans (W3_of m ρ c main_v27 (by decide +kernel))).trans (W2_of m ρ c main_v27 (by decide +kernel))]
    exact at_v27 m ρ c hDZ
  have hb : Has2 (V8 m ρ c (Pipeline.arrRef spec7 1) : S4096x1024.Idx → EReal) H := by
    rw [show (V8 m ρ c (Pipeline.arrRef spec7 1) : S4096x1024.Idx → EReal) = W1 m ρ c (Proc.devRef .tc main_v0) from
      ((((((W8_of m ρ c main_v0 (by decide +kernel)).trans (W7_of m ρ c main_v0 (by decide +kernel))).trans (W6_of m ρ c main_v0 (by decide +kernel))).trans (W5_of m ρ c main_v0 (by decide +kernel))).trans (W4_of m ρ c main_v0 (by decide +kernel))).trans (W3_of m ρ c main_v0 (by decide +kernel))).trans (W2_of m ρ c main_v0 (by decide +kernel))]
    exact at_v0 m ρ c hH
  rw [← show byCols 4096 (turned DZ) H = fun r s => turned (fun s r => byCols 4096 DZ H r s) s r from funext fun r => funext fun s => byCols_turned DZ H 4096 r s]
  exact (W9_arr m ρ c 2).trans (final7 (V8 m ρ) c ha hb)

end Cert.Proj

end
-- ==== Proof.ProjReference.lean ====
/-
  The reference's eight results at an index: what the products and their transposed derivatives give, laid out as the
  kernel's arrays are.
-/
module

public import proofs.«01_k».proof.Proof.ProjLines
public import proofs.«01_k».proof.Proof.Gen.Reference4Ideal.Run

@[expose] public section

set_option maxRecDepth 16384

noncomputable section

namespace Cert.Proj.Reference

open Idealize.ShloMosaic Idealize.ShloMosaic.TcCoe Idealize.SL.Sem Cert.Reference4Ideal Cert.Reference4Ideal.Gen Cert.Reals
open Cert.Mlp (Has2 has2_at)
open Finset (range)

/-- Turned columns of a gradient. -/
def turned1024 (a : FVec Ideal S1024x4800 .f32) : FVec Ideal S1024x5120 .f32 :=
  concatenate S1024x5120 1 [⟨S1024x4096, extractStridedSlice S1024x4096 ![0, 704] a slices_S1024x4800_S1024x4096_0_704⟩,
    ⟨S1024x704, extractStridedSlice S1024x704 ![0, 0] a slices_S1024x4800_S1024x704_0_0⟩,
    ⟨S1024x320, broadcastInDim S1024x320 ![] bcast_S_S1024x320 (constant S_ .f32 0x00000000#32)⟩]
    concatenates_S1024x4096_S1024x704_S1024x320_S1024x5120_d1

theorem turned1024_has {a : FVec Ideal S1024x4800 .f32} {f : ℕ → ℕ → EReal} (h : Has2 a f) : Has2 (turned1024 a) (turned f) := by
  intro i j
  unfold turned1024 turned
  pointwise
  split
  · exact h _ _
  · split
    · exact h _ _
    · rfl

/-! ## The products -/

def in0 (a : FVec Ideal S4096x1024 .f32) (b : FVec Ideal S1024x4800 .f32) : FVec Ideal S4096x4800 .f32 :=
  Host.dotGeneral dot_S4096x1024_S1024x4800_S4096x4800_1_0_0_1_n_n none a b

theorem in0_has {a : FVec Ideal S4096x1024 .f32} {b : FVec Ideal S1024x4800 .f32} {X Y : ℕ → ℕ → EReal} (ha : Has2 a X) (hb : Has2 b Y) :
    Has2 (in0 a b) (product 1024 X Y) := by
  intro i j
  unfold in0 product
  pointwise
  simp only [ha _ _, hb _ _]
  rw [Finset.sum_range]

def q0 (a : FVec Ideal S4096x384 .f32) (b : FVec Ideal S384x1536 .f32) : FVec Ideal S4096x1536 .f32 :=
  Host.dotGeneral dot_S4096x384_S384x1536_S4096x1536_1_0_0_1_n_n none a b

theorem q0_has {a : FVec Ideal S4096x384 .f32} {b : FVec Ideal S384x1536 .f32} {X Y : ℕ → ℕ → EReal} (ha : Has2 a X) (hb : Has2 b Y) :
    Has2 (q0 a b) (product 384 X Y) := by
  intro i j
  unfold q0 product
  pointwise
  simp only [ha _ _, hb _ _]
  rw [Finset.sum_range]

def kv0 (a : FVec Ideal S4096x256 .f32) (b : FVec Ideal S256x1024 .f32) : FVec Ideal S4096x1024 .f32 :=
  Host.dotGeneral dot_S4096x256_S256x1024_S4096x1024_1_0_0_1_n_n none a b

theorem kv0_has {a : FVec Ideal S4096x256 .f32} {b : FVec Ideal S256x1024 .f32} {X Y : ℕ → ℕ → EReal} (ha : Has2 a X) (hb : Has2 b Y) :
    Has2 (kv0 a b) (product 256 X Y) := by
  intro i j
  unfold kv0 product
  pointwise
  simp only [ha _ _, hb _ _]
  rw [Finset.sum_range]

def dcq0 (a : FVec Ideal S4096x1536 .f32) (b : FVec Ideal S384x1536 .f32) : FVec Ideal S4096x384 .f32 :=
  Host.dotGeneral dot_S4096x1536_S384x1536_S4096x384_1_1_0_0_n_n none a b

theorem dcq0_has {a : FVec Ideal S4096x1536 .f32} {b : FVec Ideal S384x1536 .f32} {X Y : ℕ → ℕ → EReal} (ha : Has2 a X) (hb : Has2 b Y) :
    Has2 (dcq0 a b) (byRows 1536 X Y) := by
  intro i j
  unfold dcq0 byRows
  pointwise
  simp only [ha _ _, hb _ _]
  rw [Finset.sum_range]

def dckv0 (a : FVec Ideal S4096x1024 .f32) (b : FVec Ideal S256x1024 .f32) : FVec Ideal S4096x256 .f32 :=
  Host.dotGeneral dot_S4096x1024_S256x1024_S4096x256_1_1_0_0_n_n none a b

theorem dckv0_has {a : FVec Ideal S4096x1024 .f32} {b : FVec Ideal S256x1024 .f32} {X Y : ℕ → ℕ → EReal} (ha : Has2 a X) (hb : Has2 b Y) :
    Has2 (dckv0 a b) (byRows 1024 X Y) := by
  intro i j
  unfold dckv0 byRows
  pointwise
  simp only [ha _ _, hb _ _]
  rw [Finset.sum_range]

def dwq0 (a : FVec Ideal S4096x1536 .f32) (b : FVec Ideal S4096x384 .f32) : FVec Ideal S384x1536 .f32 :=
  transpose S384x1536 [1, 0] (Host.dotGeneral dot_S4096x1536_S4096x384_S1536x384_0_0_1_1_n_n none a b) transposes_S1536x384_S384x1536_1_0

theorem dwq0_has {a : FVec Ideal S4096x1536 .f32} {b : FVec Ideal S4096x384 .f32} {X Y : ℕ → ℕ → EReal} (ha : Has2 a X) (hb : Has2 b Y) :
    Has2 (dwq0 a b) (fun r s => byCols 4096 X Y s r) := by
  intro i j
  unfold dwq0 byCols
  pointwise
  simp only [ha _ _, hb _ _]
  rw [Finset.sum_range]

def dwkv0 (a : FVec Ideal S4096x1024 .f32) (b : FVec Ideal S4096x256 .f32) : FVec Ideal S256x1024 .f32 :=
  transpose S256x1024 [1, 0] (Host.dotGeneral dot_S4096x1024_S4096x256_S1024x256_0_0_1_1_n_n none a b) transposes_S1024x256_S256x1024_1_0

theorem dwkv0_has {a : FVec Ideal S4096x1024 .f32} {b : FVec Ideal S4096x256 .f32} {X Y : ℕ → ℕ → EReal} (ha : Has2 a X) (hb : Has2 b Y) :
    Has2 (dwkv0 a b) (fun r s => byCols 4096 X Y s r) := by
  intro i j
  unfold dwkv0 byCols
  pointwise
  simp only [ha _ _, hb _ _]
  rw [Finset.sum_range]

def dwin0 (a : FVec Ideal S4096x4800 .f32) (b : FVec Ideal S4096x1024 .f32) : FVec Ideal S1024x4800 .f32 :=
  transpose S1024x4800 [1, 0] (Host.dotGeneral dot_S4096x4800_S4096x1024_S4800x1024_0_0_1_1_n_n none a b) transposes_S4800x1024_S1024x4800_1_0

theorem dwin0_has {a : FVec Ideal S4096x4800 .f32} {b : FVec Ideal S4096x1024 .f32} {X Y : ℕ → ℕ → EReal} (ha : Has2 a X) (hb : Has2 b Y) :
    Has2 (dwin0 a b) (fun r s => byCols 4096 X Y s r) := by
  intro i j
  unfold dwin0 byCols
  pointwise
  simp only [ha _ _, hb _ _]
  rw [Finset.sum_range]

/-! ## The results -/

variable (h : FVec Ideal S4096x1024 .f32)
variable (w : FVec Ideal S1024x4800 .f32)
variable (cq : FVec Ideal S4096x384 .f32)
variable (wq : FVec Ideal S384x1536 .f32)
variable (ck : FVec Ideal S4096x256 .f32)
variable (wk : FVec Ideal S256x1024 .f32)
variable (wv : FVec Ideal S256x1024 .f32)
variable (dq : FVec Ideal S4096x1536 .f32)
variable (dk : FVec Ideal S4096x1024 .f32)
variable (dv : FVec Ideal S4096x1024 .f32)
variable (dz : FVec Ideal S4096x4800 .f32)

def out0 : FVec Ideal S4096x5120 .bf16 :=
  truncf .bf16 (turnedCols (in0 h w)) bitsLt_bf16_f32

def out1 : FVec Ideal S4096x2048 .bf16 :=
  truncf .bf16 (heads4096 (q0 cq wq)) bitsLt_bf16_f32

def out2 : FVec Ideal S4096x2048 .bf16 :=
  truncf .bf16 (sides4096 (kv0 ck wk) (kv0 ck wv)) bitsLt_bf16_f32

def out3 : FVec Ideal S384x2048 .f32 :=
  heads384 (dwq0 dq cq)

def out4 : FVec Ideal S4096x384 .bf16 :=
  truncf .bf16 (dcq0 dq wq) bitsLt_bf16_f32

def out5 : FVec Ideal S256x2048 .f32 :=
  sides256 (dwkv0 dk ck) (dwkv0 dv ck)

def out6 : FVec Ideal S4096x256 .bf16 :=
  truncf .bf16 (addf (dckv0 dv wv) (dckv0 dk wk)) bitsLt_bf16_f32

def out7 : FVec Ideal S5120x1024 .f32 :=
  transpose S5120x1024 [1, 0] (turned1024 (dwin0 dz h)) transposes_S1024x5120_S5120x1024_1_0

variable {h : FVec Ideal S4096x1024 .f32}
  {w : FVec Ideal S1024x4800 .f32}
  {cq : FVec Ideal S4096x384 .f32}
  {wq : FVec Ideal S384x1536 .f32}
  {ck : FVec Ideal S4096x256 .f32}
  {wk : FVec Ideal S256x1024 .f32}
  {wv : FVec Ideal S256x1024 .f32}
  {dq : FVec Ideal S4096x1536 .f32}
  {dk : FVec Ideal S4096x1024 .f32}
  {dv : FVec Ideal S4096x1024 .f32}
  {dz : FVec Ideal S4096x4800 .f32}
variable {H W C Q E K V DQ DK DV DZ : ℕ → ℕ → EReal}
variable (hH : Has2 h H)
variable (hW : Has2 w W)
variable (hC : Has2 cq C)
variable (hQ : Has2 wq Q)
variable (hE : Has2 ck E)
variable (hK : Has2 wk K)
variable (hV : Has2 wv V)
variable (hDQ : Has2 dq DQ)
variable (hDK : Has2 dk DK)
variable (hDV : Has2 dv DV)
variable (hDZ : Has2 dz DZ)

include hH hW in
theorem out0_has : Has2 (out0 h w) (turned (product 1024 H W)) := by
  unfold out0
  exact fun i j => turnedCols_has (in0_has hH hW) i j

include hC hQ in
theorem out1_has : Has2 (out1 cq wq) (heads (product 384 C Q)) := by
  unfold out1
  exact fun i j => heads4096_has (q0_has hC hQ) i j

include hE hK hV in
theorem out2_has : Has2 (out2 ck wk wv) (sides (product 256 E K) (product 256 E V)) := by
  unfold out2
  exact fun i j => sides4096_has (kv0_has hE hK) (kv0_has hE hV) i j

include hC hDQ in
theorem out3_has : Has2 (out3 cq dq) (heads (byCols 4096 C DQ)) := by
  unfold out3
  rw [show byCols 4096 C DQ = fun r s => byCols 4096 DQ C s r from funext fun r => funext fun s => byCols_comm C DQ 4096 r s]
  exact fun i j => heads384_has (dwq0_has hDQ hC) i j

include hQ hDQ in
theorem out4_has : Has2 (out4 wq dq) (byRows 1536 DQ Q) := by
  unfold out4
  exact fun i j => dcq0_has hDQ hQ i j

include hE hDK hDV in
theorem out5_has : Has2 (out5 ck dk dv) (sides (byCols 4096 E DK) (byCols 4096 E DV)) := by
  unfold out5
  rw [show byCols 4096 E DK = fun r s => byCols 4096 DK E s r from funext fun r => funext fun s => byCols_comm E DK 4096 r s,
    show byCols 4096 E DV = fun r s => byCols 4096 DV E s r from funext fun r => funext fun s => byCols_comm E DV 4096 r s]
  exact fun i j => sides256_has (dwkv0_has hDK hE) (dwkv0_has hDV hE) i j

include hK hV hDK hDV in
theorem out6_has : Has2 (out6 wk wv dk dv) (fun r s => byRows 1024 DV V r s + byRows 1024 DK K r s) := by
  unfold out6
  exact fun i j => congrArg₂ (· + ·) (dckv0_has hDV hV i j) (dckv0_has hDK hK i j)

include hH hDZ in
theorem out7_has : Has2 (out7 h dz) (fun r s => turned (fun s r => byCols 4096 DZ H r s) s r) := by
  unfold out7
  intro i j
  pointwise
  exact turned1024_has (dwin0_has hDZ hH) j i

variable (m : (ℓ : Loc nD τ sig) → Buf (Elt Ideal) ℓ) (ρ : Dev nD → PrngReg)

theorem run : θ_run defs (onTc (τ := τ) main) ⟨m, fun _ => 0, ρ⟩ fun r => ∀ c : Dev nD,
    r.2.mem ((c.tc : Thread nD τ).loc main_v20) = out0 (m ((c.tc : Thread nD τ).loc main_arg0)) (m ((c.tc : Thread nD τ).loc main_arg1))
    ∧ r.2.mem ((c.tc : Thread nD τ).loc main_v25) = out1 (m ((c.tc : Thread nD τ).loc main_arg2)) (m ((c.tc : Thread nD τ).loc main_arg3))
    ∧ r.2.mem ((c.tc : Thread nD τ).loc main_v27) = out2 (m ((c.tc : Thread nD τ).loc main_arg4)) (m ((c.tc : Thread nD τ).loc main_arg5)) (m ((c.tc : Thread nD τ).loc main_arg6))
    ∧ r.2.mem ((c.tc : Thread nD τ).loc main_v31) = out3 (m ((c.tc : Thread nD τ).loc main_arg2)) (m ((c.tc : Thread nD τ).loc main_arg7))
    ∧ r.2.mem ((c.tc : Thread nD τ).loc main_v32) = out4 (m ((c.tc : Thread nD τ).loc main_arg3)) (m ((c.tc : Thread nD τ).loc main_arg7))
    ∧ r.2.mem ((c.tc : Thread nD τ).loc main_v33) = out5 (m ((c.tc : Thread nD τ).loc main_arg4)) (m ((c.tc : Thread nD τ).loc main_arg8)) (m ((c.tc : Thread nD τ).loc main_arg9))
    ∧ r.2.mem ((c.tc : Thread nD τ).loc main_v34) = out6 (m ((c.tc : Thread nD τ).loc main_arg5)) (m ((c.tc : Thread nD τ).loc main_arg6)) (m ((c.tc : Thread nD τ).loc main_arg8)) (m ((c.tc : Thread nD τ).loc main_arg9))
    ∧ r.2.mem ((c.tc : Thread nD τ).loc main_v39) = out7 (m ((c.tc : Thread nD τ).loc main_arg0)) (m ((c.tc : Thread nD τ).loc main_arg10))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  (θ_run defs _ _).mono (fun _ h c => ⟨(h c).1.trans rfl, (h c).2.1.trans rfl, (h c).2.2.1.trans rfl, (h c).2.2.2.1.trans rfl,
    (h c).2.2.2.2.1.trans rfl, (h c).2.2.2.2.2.1.trans rfl, (h c).2.2.2.2.2.2.1.trans rfl, (h c).2.2.2.2.2.2.2.1.trans rfl,
    (h c).2.2.2.2.2.2.2.2⟩) (Value.run m ρ)

end Cert.Proj.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.Reference2Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference3Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Pre_finite_fwd
public import proofs.«01_k».proof.Proof.Gen.Reference4Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference5Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Agree
public import proofs.«01_k».proof.Proof.Finite
public import proofs.«01_k».proof.Proof.MlpRun
public import proofs.«01_k».proof.Proof.MlpReference
public import proofs.«01_k».proof.Proof.FwdAgree
public import proofs.«01_k».proof.Proof.ProjRun
public import proofs.«01_k».proof.Proof.MixRun
public import proofs.«01_k».proof.Proof.MixChain
public import proofs.«01_k».proof.Proof.ProjChain
public import proofs.«01_k».proof.Proof.ProjReference
public import Idealize.ShloMosaic.Adequacy
public import Idealize.ShloMosaic.Init

@[expose] public section

noncomputable section

namespace Cert.Proof

open Idealize.ShloMosaic Idealize.SL.Sem Cert.Reals Cert.Values

/-- Where every argument is finite, every argument holds real numbers. -/
theorem reals [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    (∃ f, Is3 (Cert.KernelIdeal.Lines.qn m c) f) ∧ (∃ f, Is3 (Cert.KernelIdeal.Lines.qr m c) f) ∧ (∃ f, Is3 (Cert.KernelIdeal.Lines.kn m c) f)
      ∧ (∃ f, Is2 (Cert.KernelIdeal.Lines.kr m c) f) ∧ (∃ f, Is3 (Cert.KernelIdeal.Lines.vv m c) f) ∧ ∃ f, Is2 (Cert.KernelIdeal.Lines.ct m c) f :=
  Cert.Finite.of_fn _ _ _ _ _ _ (h c)

/-- The reference's three results are the arrays the call writes. -/
theorem reference_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hs : ∀ c, Cert.Agree.Same m c m') (hr : Cert.Pre_KernelIdeal_finite (hPre_finite := Cert.Pre_finite.Gen.facts) m) (c : Dev Cert.KernelIdeal.nD) :
    Cert.ReferenceIdeal.Value.res_main_v80 m' c = (Cert.KernelIdeal.Gen.dats m 0 c).arrAt 5 Cert.KernelIdeal.cfg0.N
      ∧ Cert.ReferenceIdeal.Value.res_main_v83 m' c = (Cert.KernelIdeal.Gen.dats m 0 c).arrAt 6 Cert.KernelIdeal.cfg0.N
      ∧ Cert.ReferenceIdeal.Value.res_main_v86 m' c = (Cert.KernelIdeal.Gen.dats m 0 c).arrAt 7 Cert.KernelIdeal.cfg0.N := by
  obtain ⟨⟨_, h0⟩, ⟨_, h1⟩, ⟨_, h2⟩, ⟨_, h3⟩, ⟨_, h4⟩, ⟨_, h5⟩⟩ := @reals Cert.Pre_finite.Gen.facts m hr c
  exact ⟨(Cert.Agree.agree_dq (hs c) h0 h1 h2 h3 h4 h5).symm, (Cert.Agree.agree_dk (hs c) h0 h1 h2 h3 h4 h5).symm,
    (Cert.Agree.agree_dv (hs c) h0 h1 h2 h3 h4 h5).symm⟩

/-- The call's program and the reference end with the same three arrays on every device. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hag
  have key := reference_results m m' (fun c => ⟨(hag c).1, (hag c).2.1, (hag c).2.2.1, (hag c).2.2.2.1, (hag c).2.2.2.2.1, (hag c).2.2.2.2.2⟩) hpre
  refine ⟨_, _, _, Cert.KernelIdeal.Value.run_blocks m ρ, (θ_run _ _ _).mono (fun _ h c => ?_) (Cert.ReferenceIdeal.Value.run m' ρ')⟩
  exact ⟨(h c).1.trans (key c).1, (h c).2.1.trans (key c).2.1, (h c).2.2.1.trans (key c).2.2, (h c).2.2.2⟩

/-- The reference ends, with its arguments as they were; it has no semaphores. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run m ρ)

/-! ## The MLP -/

open Cert.Mlp

/-- Every array of two axes is a function of two numbers. -/
theorem has2_of {n k : ℕ} (x : (⟨2, ![n, k]⟩ : Shape).Idx → EReal) : ∃ f, Has2 x f :=
  ⟨fun i j => if h : i < n ∧ j < k then x (ix2 ⟨i, h.1⟩ ⟨j, h.2⟩) else 0, fun i j => by simp [i.isLt, j.isLt]⟩

/-- Every array of three axes is a function of three numbers. -/
theorem has3_of {n k l : ℕ} (x : (⟨3, ![n, k, l]⟩ : Shape).Idx → EReal) : ∃ f, Has3 x f :=
  ⟨fun i j s => if h : i < n ∧ j < k ∧ s < l then x (ix3 ⟨i, h.1⟩ ⟨j, h.2.1⟩ ⟨s, h.2.2⟩) else 0,
    fun i j s => by simp [i.isLt, j.isLt, s.isLt]⟩

/-- Two arrays of three axes that are the same function are the same array. -/
theorem has3_eq {n k l : ℕ} {x y : (⟨3, ![n, k, l]⟩ : Shape).Idx → EReal} {f : ℕ → ℕ → ℕ → EReal} (hx : Has3 x f) (hy : Has3 y f) : x = y :=
  funext fun i => by rw [has3_at hx i, has3_at hy i]

/-- The four calls and the reference end with the same two buffers on every device. -/
theorem mlp : Cert.algebraic_Kernel2Ideal_Reference2Ideal (hKernel2Ideal := Cert.Kernel2Ideal.Gen.facts)
    (hReference2Ideal := Cert.Reference2Ideal.Gen.facts) := by
  intro m ρ m' ρ' _ hag
  refine ⟨_, _, (θ_run _ _ _).mono (fun _ h => h.1) (Cert.Mlp.run m ρ), (θ_run _ _ _).mono (fun _ h c => ?_) (Cert.Mlp.Reference.run m' ρ')⟩
  obtain ⟨e0, e1, e2, e3, e4, e5⟩ := hag c
  obtain ⟨X, hX⟩ := has2_of (xa m c)
  obtain ⟨A, hA⟩ := has2_of (wa m c)
  obtain ⟨B, hB⟩ := has2_of (wb m c)
  obtain ⟨D, hD⟩ := has2_of (da m c)
  obtain ⟨E, hE⟩ := has3_of (ea m c)
  obtain ⟨E', hE'⟩ := has3_of (eb m c)
  have h0 := (h c).1
  have h1 := (h c).2.1
  rw [e0, e1, e2, e3, e4] at h0
  rw [e0, e1, e2, e3, e5] at h1
  exact ⟨h0.trans (has3_eq (Cert.Mlp.Reference.out0_has hX hA hB hD hE) (result0 m ρ c hX hA hB hD hE)),
    h1.trans (has3_eq (Cert.Mlp.Reference.out1_has hX hA hB hD hE') (result1 m ρ c hX hA hB hD hE')), (h c).2.2⟩

/-- The MLP's reference ends, with its arguments as they were; it has no semaphores. -/
theorem mlp_reference_frame : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Mlp.Reference.run m ρ)

/-! ## The attention's forward call -/

/-- The forward call and its reference end with the same two arrays on every device. -/
theorem forward : Cert.algebraic_Kernel3Ideal_Reference3Ideal_pre_finite_fwd (hKernel3Ideal := Cert.Kernel3Ideal.Gen.facts)
    (hReference3Ideal := Cert.Reference3Ideal.Gen.facts) (hPre_finite_fwd := Cert.Pre_finite_fwd.Gen.facts) := by
  letI : Cert.Pre_finite_fwd.Facts := Cert.Pre_finite_fwd.Gen.facts
  intro m ρ m' ρ' hpre hag
  refine ⟨_, _, Cert.Kernel3Ideal.Value.run_blocks m ρ, (θ_run _ _ _).mono (fun _ h c => ?_) (Cert.Fwd.reference_run m' ρ')⟩
  obtain ⟨e0, e1, e2, e3, e4⟩ := hag c
  have h0 := (h c).1
  have h1 := (h c).2.1
  unfold Cert.Fwd.refSeen at h0 h1
  rw [e0, e1, e2, e3] at h0 h1
  rw [e4] at h0
  exact ⟨h0.trans (Cert.Fwd.agree m c (hpre c)).1, h1.trans (Cert.Fwd.agree m c (hpre c)).2, (h c).2.2⟩

/-- The forward call's reference ends, with its arguments as they were; it has no semaphores. -/
theorem forward_reference_frame : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Fwd.reference_run m ρ)

/-! ## The projections -/

/-- An array of two axes that reads as a function is that function. -/
theorem has2_eq {A B : ℕ} {x : (⟨2, ![A, B]⟩ : Shape).Idx → EReal} {f : ℕ → ℕ → EReal} (hx : Has2 x f) : x = fun i => f (i 0) (i 1) :=
  funext fun i => has2_at hx i

open Cert.Proj in
/-- The eight projections and the reference end with the same arrays on every device. -/
theorem projections : Cert.algebraic_Kernel4Ideal_Reference4Ideal (hKernel4Ideal := Cert.Kernel4Ideal.Gen.facts)
    (hReference4Ideal := Cert.Reference4Ideal.Gen.facts) := by
  intro m ρ m' ρ' _ hag
  refine ⟨_, _, _, _, _, _, _, _, (θ_run _ _ _).mono (fun _ h => h.1) (Cert.Proj.run m ρ),
    (θ_run _ _ _).mono (fun _ h c => ?_) (Cert.Proj.Reference.run m' ρ')⟩
  obtain ⟨e0, e1, e2, e3, e4, e5, e6, e7, e8, e9, e10⟩ := hag c
  obtain ⟨h0, h1, h2, h3, h4, h5, h6, h7, hargs⟩ := h c
  obtain ⟨H, hH⟩ := has2_of (Cert.Proj.ha m c)
  obtain ⟨W, hW⟩ := has2_of (Cert.Proj.wa m c)
  obtain ⟨C, hC⟩ := has2_of (Cert.Proj.cqa m c)
  obtain ⟨Q, hQ⟩ := has2_of (Cert.Proj.wqa m c)
  obtain ⟨E, hE⟩ := has2_of (Cert.Proj.cka m c)
  obtain ⟨K, hK⟩ := has2_of (Cert.Proj.wka m c)
  obtain ⟨V, hV⟩ := has2_of (Cert.Proj.wva m c)
  obtain ⟨DQ, hDQ⟩ := has2_of (Cert.Proj.dqa m c)
  obtain ⟨DK, hDK⟩ := has2_of (Cert.Proj.dka m c)
  obtain ⟨DV, hDV⟩ := has2_of (Cert.Proj.dva m c)
  obtain ⟨DZ, hDZ⟩ := has2_of (Cert.Proj.dza m c)
  rw [e0, e1] at h0
  rw [e2, e3] at h1
  rw [e4, e5, e6] at h2
  rw [e2, e7] at h3
  rw [e3, e7] at h4
  rw [e4, e8, e9] at h5
  rw [e5, e6, e8, e9] at h6
  rw [e0, e10] at h7
  exact ⟨h0.trans ((has2_eq (Cert.Proj.Reference.out0_has hH hW)).trans (Cert.Proj.result0 m ρ c hH hW).symm),
    h1.trans ((has2_eq (Cert.Proj.Reference.out1_has hC hQ)).trans (Cert.Proj.result1 m ρ c hC hQ).symm),
    h2.trans ((has2_eq (Cert.Proj.Reference.out2_has hE hK hV)).trans (Cert.Proj.result2 m ρ c hE hK hV).symm),
    h3.trans ((has2_eq (Cert.Proj.Reference.out3_has hC hDQ)).trans (Cert.Proj.result3 m ρ c hC hDQ).symm),
    h4.trans ((has2_eq (Cert.Proj.Reference.out4_has hQ hDQ)).trans (Cert.Proj.result4 m ρ c hQ hDQ).symm),
    h5.trans ((has2_eq (Cert.Proj.Reference.out5_has hE hDK hDV)).trans (Cert.Proj.result5 m ρ c hE hDK hDV).symm),
    h6.trans ((has2_eq (Cert.Proj.Reference.out6_has hK hV hDK hDV)).trans (Cert.Proj.result6 m ρ c hK hV hDK hDV).symm),
    h7.trans ((has2_eq (Cert.Proj.Reference.out7_has hH hDZ)).trans (Cert.Proj.result7 m ρ c hH hDZ).symm),
    hargs⟩

/-- The projections' reference ends, with its arguments as they were; it has no semaphores. -/
theorem projections_reference_frame : Cert.quiescent_Reference4Ideal (hReference4Ideal := Cert.Reference4Ideal.Gen.facts) := fun m ρ _ =>
  (θ_run Cert.Reference4Ideal.defs _ _).mono
    (fun r h => ⟨fun c => (h c).2.2.2.2.2.2.2.2, sem_eq_zero_of_no_sems (by decide) r.2⟩) (Cert.Proj.Reference.run m ρ)

set_option maxHeartbeats 4000000 in
/-- The kernel's output products and their reference leave the same results. -/
theorem mixer : Cert.algebraic_Kernel5Ideal_Reference5Ideal (hKernel5Ideal := Cert.Kernel5Ideal.Gen.facts)
    (hReference5Ideal := Cert.Reference5Ideal.Gen.facts) := by
  intro m ρ m' ρ' _ hag
  refine ⟨_, _, _, _, _, _, _, _, (θ_run _ _ _).mono (fun _ h => h.1) (Cert.Mix.run m ρ),
    (θ_run _ _ _).mono (fun _ h c => ?_) (Cert.Mix.Reference.run m' ρ')⟩
  obtain ⟨e0, e1, e2, e3, e4, e5, e6, e7, e8, e9, e10, e11, e12, e13, e14⟩ := hag c
  obtain ⟨h0, h1, h2, h3, h4, h5, h6, h7, hargs⟩ := h c
  obtain ⟨R, hR⟩ := has2_of (Cert.Mix.xa m c)
  obtain ⟨A, hA⟩ := has2_of (Cert.Mix.aa m c)
  obtain ⟨P, hP⟩ := has2_of (Cert.Mix.pa m c)
  obtain ⟨G, hG⟩ := has2_of (Cert.Mix.ga m c)
  obtain ⟨U, hU⟩ := has2_of (Cert.Mix.ua m c)
  obtain ⟨Q, hQ⟩ := has2_of (Cert.Mix.qa m c)
  obtain ⟨B, hB⟩ := has2_of (Cert.Mix.ba m c)
  obtain ⟨O, hO⟩ := has2_of (Cert.Mix.oa m c)
  obtain ⟨N, hN⟩ := has2_of (Cert.Mix.na m c)
  obtain ⟨N', hN'⟩ := has2_of (Cert.Mix.ma m c)
  obtain ⟨DA, hDA⟩ := has2_of (Cert.Mix.daa m c)
  obtain ⟨DC, hDC⟩ := has2_of (Cert.Mix.dca m c)
  obtain ⟨DM, hDM⟩ := has2_of (Cert.Mix.doa m c)
  obtain ⟨E, hE⟩ := has3_of (Cert.Mix.ea m c)
  obtain ⟨F, hF⟩ := has3_of (Cert.Mix.fa m c)
  rw [e1, e2] at h0
  rw [e4, e5] at h1
  rw [e1, e2, e3, e4, e5, e6] at h2
  rw [e1, e2, e3, e4, e5, e6, e7] at h3
  rw [e0, e1, e2, e3, e4, e5, e6, e7, e8] at h4
  rw [e0, e1, e2, e3, e4, e5, e6, e7, e8, e9] at h5
  rw [e1, e2, e3, e4, e5, e6, e10, e11, e12, e13] at h6
  rw [e1, e2, e3, e4, e5, e6, e10, e11, e12, e14] at h7
  have hM := Cert.Mix.Reference.mid_has hA hP hG hU hQ hB
  have hS := Cert.Mix.Reference.total_has hR (Cert.Mix.Reference.mm_has hM hO) hN
  exact ⟨h0.trans ((has2_eq (Cert.Mix.Reference.cast_has (Cert.Mix.Reference.mm_has hA hP))).trans (Cert.Mix.result0 m ρ c hA hP hQ hO).symm),
    h1.trans ((has2_eq (Cert.Mix.Reference.cast_has (Cert.Mix.Reference.mm_has hU hQ))).trans (Cert.Mix.result1 m ρ c hP hU hQ hO).symm),
    h2.trans ((has2_eq (Cert.Mix.Reference.cast_has hM)).trans (Cert.Mix.result2 m ρ c hA hP hG hU hQ hB hO).symm),
    h3.trans ((has2_eq (Cert.Mix.Reference.mm_has hM hO)).trans (Cert.Mix.result3 m ρ c hA hP hG hU hQ hB hO).symm),
    h4.trans ((has2_eq hS).trans (Cert.Mix.result4 m ρ c hR hA hP hG hU hQ hB hO hN).symm),
    h5.trans ((has2_eq (Cert.Mix.Reference.cast_has (Cert.Mix.Reference.rms_has hS hN'))).trans (Cert.Mix.result5 m ρ c hR hA hP hG hU hQ hB hO hN hN').symm),
    h6.trans ((funext fun i => has3_at (Cert.Mix.Reference.late32_has hA hDA hU hDC hM hDM hE) i).trans
      (Cert.Mix.result6 m ρ c hA hP hG hU hQ hB hO hDA hDC hDM hE).symm),
    h7.trans ((funext fun i => has3_at (Cert.Mix.Reference.late16_has hA hDA hU hDC hM hDM hF) i).trans
      (Cert.Mix.result7 m ρ c hA hP hG hU hQ hB hO hDA hDC hDM hF).symm),
    hargs⟩

/-- The output products' reference ends, with its arguments as they were; it has no semaphores. -/
theorem mixer_reference_frame : Cert.quiescent_Reference5Ideal (hReference5Ideal := Cert.Reference5Ideal.Gen.facts) := fun m ρ _ =>
  (θ_run Cert.Reference5Ideal.defs _ _).mono
    (fun r h => ⟨fun c => (h c).2.2.2.2.2.2.2.2, sem_eq_zero_of_no_sems (by decide) r.2⟩) (Cert.Mix.Reference.run m ρ)

/-- The claims of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite_fwd.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, mlp_reference_frame,
  fun m ρ _ => Cert.Kernel3.Gen.frame m ρ, fun m ρ _ => Cert.Kernel3Ideal.Gen.frame m ρ, fun m ρ _ => Cert.Kernel3Ideal.Gen.frame m ρ,
  forward_reference_frame, fun m ρ _ => forward_reference_frame m ρ trivial,
  fun m ρ _ => Cert.Kernel4.Gen.frame m ρ, fun m ρ _ => Cert.Kernel4Ideal.Gen.frame m ρ, projections_reference_frame,
  fun m ρ _ => Cert.Kernel5.Gen.frame m ρ, fun m ρ _ => Cert.Kernel5Ideal.Gen.frame m ρ, mixer_reference_frame,
  trivial, algebraic, trivial, mlp,
  ⟨IdealRules.named_const.statement Cert.Kernel3Ideal.κ "masked" .f32 0xF149F2CA#32 ⊥ rfl,
    IdealRules.named_const.statement Cert.Kernel3Ideal.κ "per_ln2" .f32 0x3FB8AA3B#32 (((Real.log 2)⁻¹ : ℝ) : EReal) rfl⟩,
  forward, trivial, projections, trivial, mixer⟩

end Cert.Proof

end
